-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_target_words : Cert.Pre_target_words.Facts] (m : (ℓ : Loc Cert.Kernel2.nD Cert.Kernel2.τ Cert.Kernel2.sig) → Buf (Elt Bits) ℓ) : Prop :=
  ∀ c : Dev Cert.Kernel2.nD,
    (Cert.Pre_target_words.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))) = (fun _ => 1#1)

def Pre_Kernel2Ideal [hPre_target_words : Cert.Pre_target_words.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_target_words.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_target_words [hPre_target_words : Cert.Pre_target_words.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_target_words.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel3 [hPre_source_words : Cert.Pre_source_words.Facts] (m : (ℓ : Loc Cert.Kernel3.nD Cert.Kernel3.τ Cert.Kernel3.sig) → Buf (Elt Bits) ℓ) : Prop :=
  ∀ c : Dev Cert.Kernel3.nD,
    (Cert.Pre_source_words.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_source_words : Cert.Pre_source_words.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_source_words.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_source_words [hPre_source_words : Cert.Pre_source_words.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_source_words.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_target_words : Cert.Pre_target_words.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] [hPre_target_words : Cert.Pre_target_words.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_target_words [hReference2Ideal : Cert.Reference2Ideal.Facts] [hPre_target_words : Cert.Pre_target_words.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_target_words m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel3 [hKernel3 : Cert.Kernel3.Facts] [hPre_source_words : Cert.Pre_source_words.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_source_words : Cert.Pre_source_words.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_source_words [hReference3Ideal : Cert.Reference3Ideal.Facts] [hPre_source_words : Cert.Pre_source_words.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_source_words m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_target_words : Cert.Pre_target_words.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel3_Kernel3Ideal : Prop :=
  True

def algebraic_Kernel3Ideal_Reference3Ideal [hKernel3Ideal : Cert.Kernel3Ideal.Facts] [hReference3Ideal : Cert.Reference3Ideal.Facts] [hPre_source_words : Cert.Pre_source_words.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v24_4) = v1 c
          ∧ r.2.mem ((c.tc : Thread Cert.Reference5Ideal.nD Cert.Reference5Ideal.τ).loc Cert.Reference5Ideal.main_v24_5) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hPre_target_words : Cert.Pre_target_words.Facts) (hPre_source_words : Cert.Pre_source_words.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_target_words := hPre_target_words)
    ∧ quiescent_Kernel2Ideal (hKernel2Ideal := hKernel2Ideal) (hPre_target_words := hPre_target_words)
    ∧ quiescent_Reference2Ideal (hReference2Ideal := hReference2Ideal)
    ∧ quiescent_Reference2Ideal_pre_target_words (hReference2Ideal := hReference2Ideal) (hPre_target_words := hPre_target_words)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel3 (hKernel3 := hKernel3) (hPre_source_words := hPre_source_words)
    ∧ quiescent_Kernel3Ideal (hKernel3Ideal := hKernel3Ideal) (hPre_source_words := hPre_source_words)
    ∧ quiescent_Reference3Ideal (hReference3Ideal := hReference3Ideal)
    ∧ quiescent_Reference3Ideal_pre_source_words (hReference3Ideal := hReference3Ideal) (hPre_source_words := hPre_source_words)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_target_words := hPre_target_words)
    ∧ preserves_Kernel4_Kernel4Ideal
    ∧ algebraic_Kernel4Ideal_Reference4Ideal (hKernel4Ideal := hKernel4Ideal) (hReference4Ideal := hReference4Ideal)
    ∧ preserves_Kernel3_Kernel3Ideal
    ∧ algebraic_Kernel3Ideal_Reference3Ideal (hKernel3Ideal := hKernel3Ideal) (hReference3Ideal := hReference3Ideal) (hPre_source_words := hPre_source_words)
    ∧ preserves_Kernel5_Kernel5Ideal
    ∧ algebraic_Kernel5Ideal_Reference5Ideal (hKernel5Ideal := hKernel5Ideal) (hReference5Ideal := hReference5Ideal)
-- ==== Pre_source_words.lean ====
abbrev S32x64 : Shape := ⟨2, ![32, 64]⟩
abbrev S50265x768 : Shape := ⟨2, ![50265, 768]⟩
abbrev S512x768 : Shape := ⟨2, ![512, 768]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : IVec S32x64 32) (main_arg1 : FVec F S50265x768 .f32) (main_arg2 : FVec F S512x768 .f32) (main_arg3 : FVec F S512 .f32) (main_arg4 : FVec F S1024x512 .f32) (main_arg5 : FVec F S1024 .f32) (main_arg6 : FVec F S1024x512 .f32) (main_arg7 : FVec F S1024 .f32) : IVec S32x64 1 :=
  let main_c : IVec S_ 32 := constantI S_ 32 0#32
  let main_v0 : IVec S32x64 32 := broadcastInDim S32x64 ![] bcast_S_S32x64 main_c
  let main_v1 : IVec S32x64 1 := cmpi .sge main_arg0 main_v0
  let main_c_0 : IVec S_ 32 := constantI S_ 32 50265#32
  let main_v2 : IVec S32x64 32 := broadcastInDim S32x64 ![] bcast_S_S32x64 main_c_0
  let main_v3 : IVec S32x64 1 := cmpi .slt main_arg0 main_v2
  let main_v4 : IVec S32x64 1 := andi main_v1 main_v3
  main_v4
-- ==== Pre_target_words.lean ====
abbrev S32x65 : Shape := ⟨2, ![32, 65]⟩
abbrev S32000x512 : Shape := ⟨2, ![32000, 512]⟩
abbrev S64x32x512 : Shape := ⟨3, ![64, 32, 512]⟩
abbrev S32 : Shape := ⟨1, ![32]⟩
abbrev S512x1536 : Shape := ⟨2, ![512, 1536]⟩
abbrev S512 : Shape := ⟨1, ![512]⟩
abbrev S512x1024 : Shape := ⟨2, ![512, 1024]⟩
abbrev S2048x512 : Shape := ⟨2, ![2048, 512]⟩
abbrev S2048 : Shape := ⟨1, ![2048]⟩
abbrev S32x512 : Shape := ⟨2, ![32, 512]⟩
abbrev S_ : Shape := ⟨0, ![]⟩

class Facts : Prop where
  bcast_S_S32x65 : S_.BroadcastsInDim S32x65 (![] : Fin 0 → Fin S32x65.rank)

variable [Facts]

def fn {F : FTy → Type} [FloatOps F] (main_arg0 : IVec S32x65 32) (main_arg1 : FVec F S32000x512 .f32) (main_arg2 : FVec F S64x32x512 .f32) (main_arg3 : IVec S32 32) (main_arg4 : FVec F S512x1536 .f32) (main_arg5 : FVec F S512 .f32) (main_arg6 : FVec F S512 .f32) (main_arg7 : FVec F S512x1024 .f32) (main_arg8 : FVec F S512 .f32) (main_arg9 : FVec F S2048x512 .f32) (main_arg10 : FVec F S2048x512 .f32) (main_arg11 : FVec F S2048 .f32) (main_arg12 : FVec F S32x512 .f32) (main_arg13 : FVec F S32x512 .f32) : IVec S32x65 1 :=
  let main_c : IVec S_ 32 := constantI S_ 32 0#32
  let main_v0 : IVec S32x65 32 := broadcastInDim S32x65 ![] bcast_S_S32x65 main_c
  let main_v1 : IVec S32x65 1 := cmpi .sge main_arg0 main_v0
  let main_c_0 : IVec S_ 32 := constantI S_ 32 32000#32
  let main_v2 : IVec S32x65 32 := broadcastInDim S32x65 ![] bcast_S_S32x65 main_c_0
  let main_v3 : IVec S32x65 1 := cmpi .slt main_arg0 main_v2
  let main_v4 : IVec S32x65 1 := andi main_v1 main_v3
  main_v4
-- ==== Kernel.lean ====
abbrev S2048x512 : Shape := ⟨2, ![2048, 512]⟩
abbrev S512x32000 : Shape := ⟨2, ![512, 32000]⟩
abbrev S1x32000 : Shape := ⟨2, ![1, 32000]⟩
abbrev S2048x32000 : Shape := ⟨2, ![2048, 32000]⟩
abbrev S64x512 : Shape := ⟨2, ![64, 512]⟩
abbrev S64x32000 : Shape := ⟨2, ![64, 32000]⟩
abbrev S64x1 : Shape := ⟨2, ![64, 1]⟩
abbrev S64x4000 : Shape := ⟨2, ![64, 4000]⟩
abbrev S64 : Shape := ⟨1, ![64]⟩

abbrev nBuf : Space → Nat
  | .hbm => 4
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x32000, .bf16⟩
  | .hbm, ⟨2, _⟩ => ⟨S1x32000, .f32⟩
  | .hbm, ⟨3, _⟩ => ⟨S2048x32000, .f32⟩
  | .local _ .vmem, ⟨0, _⟩ => ⟨S64x512, .bf16⟩
  | .local _ .vmem, ⟨1, _⟩ => ⟨S64x512, .bf16⟩
  | .local _ .vmem, ⟨2, _⟩ => ⟨S512x32000, .bf16⟩
  | .local _ .vmem, ⟨3, _⟩ => ⟨S1x32000, .f32⟩
  | .local _ .vmem, ⟨4, _⟩ => ⟨S64x32000, .f32⟩
  | .local _ .vmem, ⟨5, _⟩ => ⟨S64x32000, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2048x512 : Shape := ⟨2, ![2048, 512]⟩
abbrev S512x32000 : Shape := ⟨2, ![512, 32000]⟩
abbrev S1x32000 : Shape := ⟨2, ![1, 32000]⟩
abbrev S2048x32000 : Shape := ⟨2, ![2048, 32000]⟩
abbrev S_ : Shape := ⟨0, ![]⟩
abbrev S2048 : Shape := ⟨1, ![2048]⟩
abbrev S2048x1 : Shape := ⟨2, ![2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32000, .bf16⟩
  | .hbm, ⟨2, _⟩ => ⟨S1x32000, .f32⟩
  | .hbm, ⟨3, _⟩ => ⟨S2048x512, .f32⟩
  | .hbm, ⟨4, _⟩ => ⟨S512x32000, .f32⟩
  | .hbm, ⟨5, _⟩ => ⟨S2048x32000, .f32⟩
  | .hbm, ⟨6, _⟩ => ⟨S2048x32000, .f32⟩
  | .hbm, ⟨7, _⟩ => ⟨S2048x32000, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048x1, .f32⟩
  | .hbm, ⟨14, _⟩ => ⟨S2048x32000, .f32⟩
  | .hbm, ⟨15, _⟩ => ⟨S2048x32000, .f32⟩
  | .hbm, ⟨16, _⟩ => ⟨S2048x32000, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S2048x1, .f32⟩
  | .hbm, ⟨21, _⟩ => ⟨S2048x32000, .f32⟩
  | .hbm, ⟨22, _⟩ => ⟨S2048x32000, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v5 : Ref sig .tc := ⟨.hbm, 22, rfl⟩

abbrev nD : Nat := 1
abbrev τ : Topo := Topo.v7x

variable {F : FTy → Type} [FloatOps F]
-- ==== Kernel2.lean ====
abbrev S32x65 : Shape := ⟨2, ![32, 65]⟩
abbrev S32000x512 : Shape := ⟨2, ![32000, 512]⟩
abbrev S64x32x512 : Shape := ⟨3, ![64, 32, 512]⟩
abbrev S32 : Shape := ⟨1, ![32]⟩
abbrev S512x1536 : Shape := ⟨2, ![512, 1536]⟩
abbrev S512 : Shape := ⟨1, ![512]⟩
abbrev S512x1024 : Shape := ⟨2, ![512, 1024]⟩
abbrev S2048x512 : Shape := ⟨2, ![2048, 512]⟩
abbrev S2048 : Shape := ⟨1, ![2048]⟩
abbrev S32x512 : Shape := ⟨2, ![32, 512]⟩
abbrev S_ : Shape := ⟨0, ![]⟩
abbrev S32x1 : Shape := ⟨2, ![32, 1]⟩
abbrev S32x63 : Shape := ⟨2, ![32, 63]⟩
abbrev S32x64 : Shape := ⟨2, ![32, 64]⟩
abbrev S64x32 : Shape := ⟨2, ![64, 32]⟩
abbrev S1x32 : Shape := ⟨2, ![1, 32]⟩
abbrev S1024x512 : Shape := ⟨2, ![1024, 512]⟩
abbrev S512x512 : Shape := ⟨2, ![512, 512]⟩
abbrev S1x512 : Shape := ⟨2, ![1, 512]⟩
abbrev S512x2048 : Shape := ⟨2, ![512, 2048]⟩
abbrev S1024x2048 : Shape := ⟨2, ![1024, 2048]⟩
abbrev S1x2048 : Shape := ⟨2, ![1, 2048]⟩
abbrev S1 : Shape := ⟨1, ![1]⟩
abbrev S32x1024 : Shape := ⟨2, ![32, 1024]⟩
abbrev S1x32x512 : Shape := ⟨3, ![1, 32, 512]⟩
abbrev S1x1x512 : Shape := ⟨3, ![1, 1, 512]⟩
abbrev S64x32x1 : Shape := ⟨3, ![64, 32, 1]⟩
abbrev S32x2048 : Shape := ⟨2, ![32, 2048]⟩

abbrev nBuf : Space → Nat
  | .hbm => 37
  | .vmem => 15
  | .smem => 1
  | _ => 0

abbrev bufTy : (tb : Table) → Fin (tcTables nBuf tb) → BufTy
  | .hbm, ⟨0, _⟩ => ⟨S32x65, .i32⟩
  | .hbm, ⟨1, _⟩ => ⟨S32000x512, .f32⟩
  | .hbm, ⟨2, _⟩ => ⟨S64x32x512, .f32⟩
  | .hbm, ⟨3, _⟩ => ⟨S32, .i32⟩
  | .hbm, ⟨4, _⟩ => ⟨S512x1536, .f32⟩
  | .hbm, ⟨5, _⟩ => ⟨S512, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S2048x512, .f32⟩
  | .hbm, ⟨10, _⟩ => ⟨S2048x512, .f32⟩
  | .hbm, ⟨11, _⟩ => ⟨S2048, .f32⟩
  | .hbm, ⟨12, _⟩ => ⟨S32x512, .f32⟩
  | .hbm, ⟨13, _⟩ => ⟨S32x512, .f32⟩
  | .hbm, ⟨14, _⟩ => ⟨S_, .i32⟩
  | .hbm, ⟨15, _⟩ => ⟨S32x1, .i32⟩
  | .hbm, ⟨16, _⟩ => ⟨S32x63, .i32⟩
  | .hbm, ⟨17, _⟩ => ⟨S32x64, .i32⟩
  | .hbm, ⟨18, _⟩ => ⟨S64x32, .i32⟩
  | .hbm, ⟨19, _⟩ => ⟨S2048, .i32⟩
  | .hbm, ⟨20, _⟩ => ⟨S1x32, .i32⟩
  | .hbm, ⟨21, _⟩ => ⟨S512x1024, .f32⟩
  | .hbm, ⟨22, _⟩ => ⟨S1024x512, .f32⟩
  | .hbm, ⟨23, _⟩ => ⟨S1024x512, .bf16⟩
  | .hbm, ⟨24, _⟩ => ⟨S512x512, .f32⟩
  | .hbm, ⟨25, _⟩ => ⟨S512x512, .f32⟩
  | .hbm, ⟨26, _⟩ => ⟨S1x512, .f32⟩
  | .hbm, ⟨27, _⟩ => ⟨S1x512, .f32⟩
  | .hbm, ⟨28, _⟩ => ⟨S1024x512, .f32⟩
  | .hbm, ⟨29, _⟩ => ⟨S1024x512, .bf16⟩
  | .hbm, ⟨30, _⟩ => ⟨S1x512, .f32⟩
  | .hbm, ⟨31, _⟩ => ⟨S512x2048, .f32⟩
  | .hbm, ⟨32, _⟩ => ⟨S512x2048, .f32⟩
  | .hbm, ⟨33, _⟩ => ⟨S1024x2048, .f32⟩
  | .hbm, ⟨34, _⟩ => ⟨S1024x2048, .bf16⟩
  | .hbm, ⟨35, _⟩ => ⟨S1x2048, .f32⟩
  | .hbm, ⟨36, _⟩ => ⟨S64x32x512, .bf16⟩
  | .local _ .vmem, ⟨0, _⟩ => ⟨S64x32x512, .f32⟩
  | .local _ .vmem, ⟨1, _⟩ => ⟨S1x32, .i32⟩
  | .local _ .vmem, ⟨2, _⟩ => ⟨S512x512, .f32⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1x512, .f32⟩
  | .local _ .vmem, ⟨8, _⟩ => ⟨S1024x2048, .bf16⟩
  | .local _ .vmem, ⟨9, _⟩ => ⟨S1x2048, .f32⟩
  | .local _ .vmem, ⟨10, _⟩ => ⟨S32x512, .f32⟩
  | .local _ .vmem, ⟨11, _⟩ => ⟨S32x512, .f32⟩
  | .local _ .vmem, ⟨12, _⟩ => ⟨S64x32x512, .bf16⟩
  | .local _ .vmem, ⟨13, _⟩ => ⟨S64x32x512, .f32⟩
  | .local _ .vmem, ⟨14, _⟩ => ⟨S2048x512, .f32⟩
  | .local _ .smem, ⟨0, _⟩ => ⟨S2048, .i32⟩
  | _, _ => ⟨S32x65, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2048_i32 : BitVec 32 := 2048#32
  let v0 : BitVec 32 := Scalar.addi c0_i32 c2048_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg18 : BitVec 32 := Scf.iv c0_i32 c1_i32 k0_t1
  let v23 : Index := Scalar.indexCast arg18
  ![v23.toNat]
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c0_i32_22 : BitVec 32 := 0#32
  ![arg18.toNat, 0]
def k0_off3 (v24 : BitVec 32) : Fin 2 → Nat :=
  let c0_i32_23 : BitVec 32 := 0#32
  ![v24.toNat, 0]

def k0_chk1 (v24 : BitVec 32) : Prop :=
  (∀ a, (k0_off3 v24) a + S1x512.size a ≤ S32000x512.size a)
theorem k0_off3_inb : ∀ (v24 : BitVec 32) (k0_hw1 : k0_chk1 v24), ∀ a, (k0_off3 v24) a + S1x512.size a ≤ S32000x512.size a := fun v24 k0_hw1 => k0_hw1

@[reducible] def k0_t2_loop : Scf.Loop 32 :=
  let c0_i32_8 : BitVec 32 := 0#32
  let c2048_i32_9 : BitVec 32 := 2048#32
  let v10 : BitVec 32 := Scalar.addi c0_i32_8 c2048_i32_9
  let c1_i32_10 : BitVec 32 := 1#32
  ⟨c0_i32_8, v10, c1_i32_10⟩
@[reducible] def k0_t3_loop : Scf.Loop 32 :=
  let c0_i32_19 : BitVec 32 := 0#32
  let c64_i32 : BitVec 32 := 64#32
  let v21 : BitVec 32 := Scalar.addi c0_i32_19 c64_i32
  let c1_i32_20 : BitVec 32 := 1#32
  ⟨c0_i32_19, v21, c1_i32_20⟩
def k0_mult1 (k0_t3 : Fin k0_t3_loop.trips) : BitVec 32 :=
  let c0_i32_19 : BitVec 32 := 0#32
  let c1_i32_20 : BitVec 32 := 1#32
  let arg18 : BitVec 32 := Scf.iv c0_i32_19 c1_i32_20 k0_t3
  let c32_i32 : BitVec 32 := 32#32
  let v23 : BitVec 32 := Scalar.muli arg18 c32_i32
  v23
def k0_off4 (k0_t3 : Fin k0_t3_loop.trips) : Fin 2 → Nat :=
  let c0_i32_19 : BitVec 32 := 0#32
  let c1_i32_20 : BitVec 32 := 1#32
  let arg18 : BitVec 32 := Scf.iv c0_i32_19 c1_i32_20 k0_t3
  let c32_i32 : BitVec 32 := 32#32
  let v23 : BitVec 32 := Scalar.muli arg18 c32_i32
  let v24 : BitVec 32 := v23
  let v25 : Index := Scalar.indexCast v24
  let c0_22 : Index := 0#32
  ![v25.toNat, 0]
def k0_off5 (k0_t3 : Fin k0_t3_loop.trips) : Fin 3 → Nat :=
  let c0_i32_19 : BitVec 32 := 0#32
  let c1_i32_20 : BitVec 32 := 1#32
  let arg18 : BitVec 32 := Scf.iv c0_i32_19 c1_i32_20 k0_t3
  let v96 : Index := Scalar.indexCast arg18
  let c0_50 : Index := 0#32
  let c0_51 : Index := 0#32
  ![v96.toNat, 0, 0]
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x32x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference2Ideal.lean ====
abbrev S32x65 : Shape := ⟨2, ![32, 65]⟩
abbrev S32000x512 : Shape := ⟨2, ![32000, 512]⟩
abbrev S64x32x512 : Shape := ⟨3, ![64, 32, 512]⟩
abbrev S32 : Shape := ⟨1, ![32]⟩
abbrev S512x1536 : Shape := ⟨2, ![512, 1536]⟩
abbrev S512 : Shape := ⟨1, ![512]⟩
abbrev S512x1024 : Shape := ⟨2, ![512, 1024]⟩
abbrev S2048x512 : Shape := ⟨2, ![2048, 512]⟩
abbrev S2048 : Shape := ⟨1, ![2048]⟩
abbrev S32x512 : Shape := ⟨2, ![32, 512]⟩
abbrev S32x64x512 : Shape := ⟨3, ![32, 64, 512]⟩
abbrev S512x512 : Shape := ⟨2, ![512, 512]⟩
abbrev S64 : Shape := ⟨1, ![64]⟩
abbrev S1x64 : Shape := ⟨2, ![1, 64]⟩
abbrev S32x1 : Shape := ⟨2, ![32, 1]⟩
abbrev S32x64 : Shape := ⟨2, ![32, 64]⟩
abbrev S_ : Shape := ⟨0, ![]⟩
abbrev S32x63 : Shape := ⟨2, ![32, 63]⟩
abbrev S64x32 : Shape := ⟨2, ![64, 32]⟩
abbrev S1x32 : Shape := ⟨2, ![1, 32]⟩
abbrev S32x1024 : Shape := ⟨2, ![32, 1024]⟩
abbrev S1024x512 : Shape := ⟨2, ![1024, 512]⟩
abbrev S1x512 : Shape := ⟨2, ![1, 512]⟩
abbrev S32x1x512 : Shape := ⟨3, ![32, 1, 512]⟩
abbrev S512x2048 : Shape := ⟨2, ![512, 2048]⟩
abbrev S32x2048 : Shape := ⟨2, ![32, 2048]⟩
abbrev S1x2048 : Shape := ⟨2, ![1, 2048]⟩
abbrev S1x32x512 : Shape := ⟨3, ![1, 32, 512]⟩

abbrev nBuf : Space → Nat
  | .hbm => 152
  | .vmem => 0
  | .smem => 0
  | _ => 0

abbrev hbmTy0_0 (i : Nat) : BufTy := match i % 128 with
  | 0 => ⟨S32x65, .i32⟩
  | 1 => ⟨S32000x512, .f32⟩
  | 2 => ⟨S64x32x512, .f32⟩
  | 3 => ⟨S32, .i32⟩
  | 4 => ⟨S512x1536, .f32⟩
  | 5 => ⟨S512, .f32⟩
  | 6 => ⟨S512, .f32⟩
  | 7 => ⟨S512x1024, .f32⟩
  | 8 => ⟨S512, .f32⟩
  | 9 => ⟨S2048x512, .f32⟩
  | 10 => ⟨S2048x512, .f32⟩
  | 11 => ⟨S2048, .f32⟩
  | 12 => ⟨S32x512, .f32⟩
  | 13 => ⟨S32x512, .f32⟩
  | 14 => ⟨S32x64x512, .f32⟩
  | 15 => ⟨S512x1024, .f32⟩
  | 16 => ⟨S512x512, .f32⟩
  | 17 => ⟨S512x512, .f32⟩
  | 18 => ⟨S32x64x512, .f32⟩
  | 19 => ⟨S64, .i32⟩
  | 20 => ⟨S1x64, .i32⟩
  | 21 => ⟨S32x1, .i32⟩
  | 22 => ⟨S32x64, .i32⟩
  | 23 => ⟨S32x64, .i32⟩
  | 24 => ⟨S32x64, .i1⟩
  | 25 => ⟨S_, .i32⟩
  | 26 => ⟨S32x1, .i32⟩
  | 27 => ⟨S32x63, .i32⟩
  | 28 => ⟨S32x64, .i32⟩
  | 29 => ⟨S64x32, .i32⟩
  | 30 => ⟨S_, .f32⟩
  | 31 => ⟨S64x32x512, .f32⟩
  | 32 => ⟨S_, .i32⟩
  | 33 => ⟨S64x32, .i32⟩
  | 34 => ⟨S32000x512, .f32⟩
  | 35 => ⟨S512x1024, .f32⟩
  | 36 => ⟨S512, .f32⟩
  | 37 => ⟨S32x64x512, .f32⟩
  | 38 => ⟨S512, .f32⟩
  | 39 => ⟨S32x64, .i1⟩
  | 40 => ⟨S32x64x512, .f32⟩
  | 41 => ⟨S512x1024, .f32⟩
  | 42 => ⟨S512, .f32⟩
  | 43 => ⟨S2048x512, .f32⟩
  | 44 => ⟨S2048x512, .f32⟩
  | 45 => ⟨S2048, .f32⟩
  | 46 => ⟨S_, .i32⟩
  | 47 => ⟨S32x512, .f32⟩
  | 48 => ⟨S32x512, .f32⟩
  | 49 => ⟨S64x32x512, .f32⟩
  | 50 => ⟨S_, .i32⟩
  | 51 => ⟨S_, .i1⟩
  | 52 => ⟨S_, .i32⟩
  | 53 => ⟨S1x32, .i32⟩
  | 54 => ⟨S32, .i32⟩
  | 55 => ⟨S_, .i32⟩
  | 56 => ⟨S32, .i32⟩
  | 57 => ⟨S32, .i1⟩
  | 58 => ⟨S_, .i32⟩
  | 59 => ⟨S32, .i32⟩
  | 60 => ⟨S32, .i32⟩
  | 61 => ⟨S32, .i32⟩
  | 62 => ⟨S32x1, .i32⟩
  | 63 => ⟨S32x512, .f32⟩
  | 64 => ⟨S32x1024, .f32⟩
  | 65 => ⟨S1024x512, .f32⟩
  | 66 => ⟨S32x512, .f32⟩
  | 67 => ⟨S1x512, .f32⟩
  | 68 => ⟨S32x512, .f32⟩
  | 69 => ⟨S32x512, .f32⟩
  | 70 => ⟨S32x1x512, .f32⟩
  | 71 => ⟨S32x64x512, .f32⟩
  | 72 => ⟨S32x64x512, .f32⟩
  | 73 => ⟨S32x64x512, .f32⟩
  | 74 => ⟨S32x64, .f32⟩
  | 75 => ⟨S_, .f32⟩
  | 76 => ⟨S_, .f32⟩
  | 77 => ⟨S32x64, .f32⟩
  | 78 => ⟨S32x64, .f32⟩
  | 79 => ⟨S_, .f32⟩
  | 80 => ⟨S32, .f32⟩
  | 81 => ⟨S_, .f32⟩
  | 82 => ⟨S32, .f32⟩
  | 83 => ⟨S32, .f32⟩
  | 84 => ⟨S32x1, .f32⟩
  | 85 => ⟨S32x64, .f32⟩
  | 86 => ⟨S32x64, .f32⟩
  | 87 => ⟨S32x64, .f32⟩
  | 88 => ⟨S_, .f32⟩
  | 89 => ⟨S32, .f32⟩
  | 90 => ⟨S32x1, .f32⟩
  | 91 => ⟨S32x64, .f32⟩
  | 92 => ⟨S32x64, .f32⟩
  | 93 => ⟨S32x512, .f32⟩
  | 94 => ⟨S32x1024, .f32⟩
  | 95 => ⟨S1024x512, .f32⟩
  | 96 => ⟨S32x512, .f32⟩
  | 97 => ⟨S1x512, .f32⟩
  | 98 => ⟨S32x512, .f32⟩
  | 99 => ⟨S32x512, .f32⟩
  | 100 => ⟨S_, .f32⟩
  | 101 => ⟨S32x512, .f32⟩
  | 102 => ⟨S32x512, .f32⟩
  | 103 => ⟨S512x2048, .f32⟩
  | 104 => ⟨S32x2048, .f32⟩
  | 105 => ⟨S512x2048, .f32⟩
  | 106 => ⟨S32x2048, .f32⟩
  | 107 => ⟨S32x2048, .f32⟩
  | 108 => ⟨S1x2048, .f32⟩
  | 109 => ⟨S32x2048, .f32⟩
  | 110 => ⟨S32x2048, .f32⟩
  | 111 => ⟨S32x512, .f32⟩
  | 112 => ⟨S32x512, .f32⟩
  | 113 => ⟨S32x512, .f32⟩
  | 114 => ⟨S32x512, .f32⟩
  | 115 => ⟨S32x512, .f32⟩
  | 116 => ⟨S32x512, .f32⟩
  | 117 => ⟨S_, .f32⟩
  | 118 => ⟨S32x512, .f32⟩
  | 119 => ⟨S32x512, .f32⟩
  | 120 => ⟨S_, .f32⟩
  | 121 => ⟨S32x512, .f32⟩
  | 122 => ⟨S32x512, .f32⟩
  | 123 => ⟨S32x512, .f32⟩
  | 124 => ⟨S32x512, .f32⟩
  | 125 => ⟨S32x512, .f32⟩
  | 126 => ⟨S_, .f32⟩
  | 127 => ⟨S32x512, .f32⟩
  | _ => ⟨S32x65, .i32⟩

abbrev hbmTy0_1 (i : Nat) : BufTy := match i % 128 with
  | 0 => ⟨S32x512, .f32⟩
  | 1 => ⟨S_, .f32⟩
  | 2 => ⟨S32x512, .f32⟩
  | 3 => ⟨S32x512, .f32⟩
  | 4 => ⟨S32x512, .f32⟩
  | 5 => ⟨S32x512, .f32⟩
  | 6 => ⟨S32x512, .f32⟩
  | 7 => ⟨S32x512, .f32⟩
  | 8 => ⟨S32x512, .f32⟩
  | 9 => ⟨S_, .f32⟩
  | 10 => ⟨S32x512, .f32⟩
  | 11 => ⟨S32x512, .f32⟩
  | 12 => ⟨S_, .f32⟩
  | 13 => ⟨S32x512, .f32⟩
  | 14 => ⟨S32x512, .f32⟩
  | 15 => ⟨S32x512, .f32⟩
  | 16 => ⟨S32x512, .f32⟩
  | 17 => ⟨S1x32x512, .f32⟩
  | 18 => ⟨S_, .i32⟩
  | 19 => ⟨S_, .i32⟩
  | 20 => ⟨S64x32x512, .f32⟩
  | 21 => ⟨S_, .i32⟩
  | 22 => ⟨S_, .i32⟩
  | 23 => ⟨S64x32x512, .bf16⟩
  | _ => ⟨S32x65, .i32⟩

abbrev hbmTy (i : Nat) : BufTy := match i / 128 with
  | 0 => hbmTy0_0 i
  | 1 => hbmTy0_1 i
  | _ => ⟨S32x65, .i32⟩

abbrev bufTy : (tb : Table) → Fin (tcTables nBuf tb) → BufTy
  | .hbm, ⟨i, _⟩ => hbmTy i
  | _, _ => ⟨S32x65, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_c_0 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev main_v16_5 : Ref sig .tc := ⟨.hbm, 38, rfl⟩
abbrev main_v16_6 : Ref sig .tc := ⟨.hbm, 39, rfl⟩
abbrev main_v16_7 : Ref sig .tc := ⟨.hbm, 40, rfl⟩
abbrev main_v16_8 : Ref sig .tc := ⟨.hbm, 41, rfl⟩
abbrev main_v16_9 : Ref sig .tc := ⟨.hbm, 42, rfl⟩
abbrev main_v16_10 : Ref sig .tc := ⟨.hbm, 43, rfl⟩
abbrev main_v16_11 : Ref sig .tc := ⟨.hbm, 44, rfl⟩
abbrev main_v16_12 : Ref sig .tc := ⟨.hbm, 45, rfl⟩
abbrev main_v16_13 : Ref sig .tc := ⟨.hbm, 46, rfl⟩
abbrev main_v16_14 : Ref sig .tc := ⟨.hbm, 47, rfl⟩
abbrev main_v16_15 : Ref sig .tc := ⟨.hbm, 48, rfl⟩
abbrev main_v16_16 : Ref sig .tc := ⟨.hbm, 49, rfl⟩
abbrev main_while0c_c_17 : Ref sig .tc := ⟨.hbm, 50, rfl⟩
abbrev main_while0c_v18 : Ref sig .tc := ⟨.hbm, 51, rfl⟩
abbrev main_while0b_call0_c : Ref sig .tc := ⟨.hbm, 52, rfl⟩
abbrev main_while0b_call0_v0 : Ref sig .tc := ⟨.hbm, 53, rfl⟩
abbrev main_while0b_v18 : Ref sig .tc := ⟨.hbm, 54, rfl⟩
abbrev main_while0b_c_17 : Ref sig .tc := ⟨.hbm, 55, rfl⟩
abbrev main_while0b_v19 : Ref sig .tc := ⟨.hbm, 56, rfl⟩
abbrev main_while0b_v20 : Ref sig .tc := ⟨.hbm, 57, rfl⟩
abbrev main_while0b_c_18 : Ref sig .tc := ⟨.hbm, 58, rfl⟩
abbrev main_while0b_v21 : Ref sig .tc := ⟨.hbm, 59, rfl⟩
abbrev main_while0b_v22 : Ref sig .tc := ⟨.hbm, 60, rfl⟩
abbrev main_while0b_v23 : Ref sig .tc := ⟨.hbm, 61, rfl⟩
abbrev main_while0b_v24 : Ref sig .tc := ⟨.hbm, 62, rfl⟩
abbrev main_while0b_v25 : Ref sig .tc := ⟨.hbm, 63, rfl⟩
abbrev main_while0b_v26 : Ref sig .tc := ⟨.hbm, 64, rfl⟩
abbrev main_while0b_v27 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_cst_19 : Ref sig .tc := ⟨.hbm, 75, rfl⟩
abbrev main_while0b_call1_v0 : Ref sig .tc := ⟨.hbm, 76, rfl⟩
abbrev main_while0b_call1_v1 : Ref sig .tc := ⟨.hbm, 77, rfl⟩
abbrev main_while0b_v37 : Ref sig .tc := ⟨.hbm, 78, rfl⟩
abbrev main_while0b_cst_20 : Ref sig .tc := ⟨.hbm, 79, rfl⟩
abbrev main_while0b_v38 : Ref sig .tc := ⟨.hbm, 80, rfl⟩
abbrev main_while0b_cst_21 : Ref sig .tc := ⟨.hbm, 81, rfl⟩
abbrev main_while0b_v39 : Ref sig .tc := ⟨.hbm, 82, rfl⟩
abbrev main_while0b_v40 : Ref sig .tc := ⟨.hbm, 83, rfl⟩
abbrev main_while0b_v41 : Ref sig .tc := ⟨.hbm, 84, rfl⟩
abbrev main_while0b_v42 : Ref sig .tc := ⟨.hbm, 85, rfl⟩
abbrev main_while0b_v43 : Ref sig .tc := ⟨.hbm, 86, rfl⟩
abbrev main_while0b_v44 : Ref sig .tc := ⟨.hbm, 87, rfl⟩
abbrev main_while0b_cst_22 : Ref sig .tc := ⟨.hbm, 88, rfl⟩
abbrev main_while0b_v45 : Ref sig .tc := ⟨.hbm, 89, rfl⟩
abbrev main_while0b_v46 : Ref sig .tc := ⟨.hbm, 90, rfl⟩
abbrev main_while0b_v47 : Ref sig .tc := ⟨.hbm, 91, rfl⟩
abbrev main_while0b_v48 : Ref sig .tc := ⟨.hbm, 92, rfl⟩
abbrev main_while0b_v49 : Ref sig .tc := ⟨.hbm, 93, rfl⟩
abbrev main_while0b_v50 : Ref sig .tc := ⟨.hbm, 94, rfl⟩
abbrev main_while0b_v51 : Ref sig .tc := ⟨.hbm, 95, rfl⟩
abbrev main_while0b_v52 : Ref sig .tc := ⟨.hbm, 96, rfl⟩
abbrev main_while0b_v53 : Ref sig .tc := ⟨.hbm, 97, rfl⟩
abbrev main_while0b_v54 : Ref sig .tc := ⟨.hbm, 98, rfl⟩
abbrev main_while0b_v55 : Ref sig .tc := ⟨.hbm, 99, rfl⟩
abbrev main_while0b_call2_cst : Ref sig .tc := ⟨.hbm, 100, rfl⟩
abbrev main_while0b_call2_v0 : Ref sig .tc := ⟨.hbm, 101, rfl⟩
abbrev main_while0b_v56 : Ref sig .tc := ⟨.hbm, 102, rfl⟩
abbrev main_while0b_v57 : Ref sig .tc := ⟨.hbm, 103, rfl⟩
abbrev main_while0b_v58 : Ref sig .tc := ⟨.hbm, 104, rfl⟩
abbrev main_while0b_v59 : Ref sig .tc := ⟨.hbm, 105, rfl⟩
abbrev main_while0b_v60 : Ref sig .tc := ⟨.hbm, 106, rfl⟩
abbrev main_while0b_v61 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_cst_23 : Ref sig .tc := ⟨.hbm, 117, rfl⟩
abbrev main_while0b_v71 : Ref sig .tc := ⟨.hbm, 118, rfl⟩
abbrev main_while0b_v72 : Ref sig .tc := ⟨.hbm, 119, rfl⟩
abbrev main_while0b_cst_24 : Ref sig .tc := ⟨.hbm, 120, rfl⟩
abbrev main_while0b_v73 : Ref sig .tc := ⟨.hbm, 121, rfl⟩
abbrev main_while0b_v74 : Ref sig .tc := ⟨.hbm, 122, rfl⟩
abbrev main_while0b_v75 : Ref sig .tc := ⟨.hbm, 123, rfl⟩
abbrev main_while0b_v76 : Ref sig .tc := ⟨.hbm, 124, rfl⟩
abbrev main_while0b_v77 : Ref sig .tc := ⟨.hbm, 125, rfl⟩
abbrev main_while0b_cst_25 : Ref sig .tc := ⟨.hbm, 126, rfl⟩
abbrev main_while0b_v78 : Ref sig .tc := ⟨.hbm, 127, rfl⟩
abbrev main_while0b_v79 : Ref sig .tc := ⟨.hbm, 128, rfl⟩
abbrev main_while0b_cst_26 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_v85 : Ref sig .tc := ⟨.hbm, 135, rfl⟩
abbrev main_while0b_v86 : Ref sig .tc := ⟨.hbm, 136, rfl⟩
abbrev main_while0b_cst_27 : Ref sig .tc := ⟨.hbm, 137, rfl⟩
abbrev main_while0b_v87 : Ref sig .tc := ⟨.hbm, 138, rfl⟩
abbrev main_while0b_v88 : Ref sig .tc := ⟨.hbm, 139, rfl⟩
abbrev main_while0b_cst_28 : Ref sig .tc := ⟨.hbm, 140, rfl⟩
abbrev main_while0b_v89 : Ref sig .tc := ⟨.hbm, 141, rfl⟩
abbrev main_while0b_v90 : Ref sig .tc := ⟨.hbm, 142, rfl⟩
abbrev main_while0b_v91 : Ref sig .tc := ⟨.hbm, 143, rfl⟩
abbrev main_while0b_v92 : Ref sig .tc := ⟨.hbm, 144, rfl⟩
abbrev main_while0b_call3_v0 : Ref sig .tc := ⟨.hbm, 145, rfl⟩
abbrev main_while0b_call3_c : Ref sig .tc := ⟨.hbm, 146, rfl⟩
abbrev main_while0b_call3_c_0 : Ref sig .tc := ⟨.hbm, 147, rfl⟩
abbrev main_while0b_v93 : Ref sig .tc := ⟨.hbm, 148, rfl⟩
abbrev main_while0b_c_29 : Ref sig .tc := ⟨.hbm, 149, rfl⟩
abbrev main_while0b_v94 : Ref sig .tc := ⟨.hbm, 150, rfl⟩
abbrev main_v17 : Ref sig .tc := ⟨.hbm, 151, rfl⟩

abbrev nD : Nat := 1
abbrev τ : Topo := Topo.v7x

variable {F : FTy → Type} [FloatOps F]

abbrev main_while0_count : Scf.Loop 32 := ⟨0#32, 64#32, 1#32⟩
-- ==== Kernel4.lean ====
abbrev S32000x512 : Shape := ⟨2, ![32000, 512]⟩
abbrev S512x32000 : Shape := ⟨2, ![512, 32000]⟩
abbrev S3200x512 : Shape := ⟨2, ![3200, 512]⟩
abbrev S512x3200 : Shape := ⟨2, ![512, 3200]⟩

abbrev nBuf : Space → Nat
  | .hbm => 2
  | .vmem => 4
  | .smem => 0
  | _ => 0

abbrev bufTy : (tb : Table) → Fin (tcTables nBuf tb) → BufTy
  | .hbm, ⟨0, _⟩ => ⟨S32000x512, .f32⟩
  | .hbm, ⟨1, _⟩ => ⟨S512x32000, .bf16⟩
  | .local _ .vmem, ⟨0, _⟩ => ⟨S3200x512, .f32⟩
  | .local _ .vmem, ⟨1, _⟩ => ⟨S3200x512, .f32⟩
  | .local _ .vmem, ⟨2, _⟩ => ⟨S512x3200, .bf16⟩
  | .local _ .vmem, ⟨3, _⟩ => ⟨S512x3200, .bf16⟩
  | _, _ => ⟨S32000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3200x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S32000x512 : Shape := ⟨2, ![32000, 512]⟩
abbrev S512x32000 : Shape := ⟨2, ![512, 32000]⟩

abbrev nBuf : Space → Nat
  | .hbm => 3
  | .vmem => 0
  | .smem => 0
  | _ => 0

abbrev bufTy : (tb : Table) → Fin (tcTables nBuf tb) → BufTy
  | .hbm, ⟨0, _⟩ => ⟨S32000x512, .f32⟩
  | .hbm, ⟨1, _⟩ => ⟨S512x32000, .f32⟩
  | .hbm, ⟨2, _⟩ => ⟨S512x32000, .bf16⟩
  | _, _ => ⟨S32000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel3.lean ====
abbrev S32x64 : Shape := ⟨2, ![32, 64]⟩
abbrev S50265x768 : Shape := ⟨2, ![50265, 768]⟩
abbrev S512x768 : Shape := ⟨2, ![512, 768]⟩
abbrev S512 : Shape := ⟨1, ![512]⟩
abbrev S1024x512 : Shape := ⟨2, ![1024, 512]⟩
abbrev S1024 : Shape := ⟨1, ![1024]⟩
abbrev S64x32 : Shape := ⟨2, ![64, 32]⟩
abbrev S2048 : Shape := ⟨1, ![2048]⟩
abbrev S768x512 : Shape := ⟨2, ![768, 512]⟩
abbrev S1x512 : Shape := ⟨2, ![1, 512]⟩
abbrev S512x1024 : Shape := ⟨2, ![512, 1024]⟩
abbrev S512x2048 : Shape := ⟨2, ![512, 2048]⟩
abbrev S1x2048 : Shape := ⟨2, ![1, 2048]⟩
abbrev S2x2048x1024 : Shape := ⟨3, ![2, 2048, 1024]⟩
abbrev S2x128x1024 : Shape := ⟨3, ![2, 128, 1024]⟩
abbrev S128x768 : Shape := ⟨2, ![128, 768]⟩
abbrev S_ : Shape := ⟨0, ![]⟩
abbrev S1 : Shape := ⟨1, ![1]⟩
abbrev S1x768 : Shape := ⟨2, ![1, 768]⟩
abbrev S128x512 : Shape := ⟨2, ![128, 512]⟩
abbrev S128x2048 : Shape := ⟨2, ![128, 2048]⟩
abbrev S128x1024 : Shape := ⟨2, ![128, 1024]⟩
abbrev S1x128x1024 : Shape := ⟨3, ![1, 128, 1024]⟩

abbrev nBuf : Space → Nat
  | .hbm => 18
  | .vmem => 7
  | .smem => 1
  | _ => 0

abbrev bufTy : (tb : Table) → Fin (tcTables nBuf tb) → BufTy
  | .hbm, ⟨0, _⟩ => ⟨S32x64, .i32⟩
  | .hbm, ⟨1, _⟩ => ⟨S50265x768, .f32⟩
  | .hbm, ⟨2, _⟩ => ⟨S512x768, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S1024x512, .f32⟩
  | .hbm, ⟨7, _⟩ => ⟨S1024, .f32⟩
  | .hbm, ⟨8, _⟩ => ⟨S64x32, .i32⟩
  | .hbm, ⟨9, _⟩ => ⟨S2048, .i32⟩
  | .hbm, ⟨10, _⟩ => ⟨S768x512, .f32⟩
  | .hbm, ⟨11, _⟩ => ⟨S1x512, .f32⟩
  | .hbm, ⟨12, _⟩ => ⟨S512x1024, .f32⟩
  | .hbm, ⟨13, _⟩ => ⟨S512x1024, .f32⟩
  | .hbm, ⟨14, _⟩ => ⟨S512x2048, .f32⟩
  | .hbm, ⟨15, _⟩ => ⟨S2048, .f32⟩
  | .hbm, ⟨16, _⟩ => ⟨S1x2048, .f32⟩
  | .hbm, ⟨17, _⟩ => ⟨S2x2048x1024, .f32⟩
  | .local _ .vmem, ⟨0, _⟩ => ⟨S768x512, .f32⟩
  | .local _ .vmem, ⟨1, _⟩ => ⟨S1x512, .f32⟩
  | .local _ .vmem, ⟨2, _⟩ => ⟨S512x2048, .f32⟩
  | .local _ .vmem, ⟨3, _⟩ => ⟨S1x2048, .f32⟩
  | .local _ .vmem, ⟨4, _⟩ => ⟨S2x128x1024, .f32⟩
  | .local _ .vmem, ⟨5, _⟩ => ⟨S2x128x1024, .f32⟩
  | .local _ .vmem, ⟨6, _⟩ => ⟨S128x768, .f32⟩
  | .local _ .smem, ⟨0, _⟩ => ⟨S2048, .i32⟩
  | _, _ => ⟨S32x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c128_i32_0 : BitVec 32 := 128#32
  let v1 : BitVec 32 := Scalar.addi c0_i32 c128_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k0_t1
  let v26 : BitVec 32 := Scalar.addi v0 arg10
  let v27 : Index := Scalar.indexCast v26
  ![v27.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_20 : BitVec 32 := 0#32
  ![arg10.toNat, 0]
def k0_off3 (v28 : BitVec 32) : Fin 2 → Nat :=
  let c0_i32_21 : BitVec 32 := 0#32
  ![v28.toNat, 0]

def k0_chk1 (v28 : BitVec 32) : Prop :=
  (∀ a, (k0_off3 v28) a + S1x768.size a ≤ S50265x768.size a)
theorem k0_off3_inb : ∀ (v28 : BitVec 32) (k0_hw1 : k0_chk1 v28), ∀ a, (k0_off3 v28) a + S1x768.size a ≤ S50265x768.size a := fun v28 k0_hw1 => k0_hw1

@[reducible] def k0_t2_loop : Scf.Loop 32 :=
  let c0_i32_2 : BitVec 32 := 0#32
  let c128_i32_3 : BitVec 32 := 128#32
  let v2 : BitVec 32 := Scalar.addi c0_i32_2 c128_i32_3
  let c1_i32_4 : BitVec 32 := 1#32
  ⟨c0_i32_2, v2, c1_i32_4⟩
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32x64 : Shape := ⟨2, ![32, 64]⟩
abbrev S50265x768 : Shape := ⟨2, ![50265, 768]⟩
abbrev S512x768 : Shape := ⟨2, ![512, 768]⟩
abbrev S512 : Shape := ⟨1, ![512]⟩
abbrev S1024x512 : Shape := ⟨2, ![1024, 512]⟩
abbrev S1024 : Shape := ⟨1, ![1024]⟩
abbrev S_ : Shape := ⟨0, ![]⟩
abbrev S32x64x1 : Shape := ⟨3, ![32, 64, 1]⟩
abbrev S32x64x768 : Shape := ⟨3, ![32, 64, 768]⟩
abbrev S768x512 : Shape := ⟨2, ![768, 512]⟩
abbrev S32x64x512 : Shape := ⟨3, ![32, 64, 512]⟩
abbrev S1x1x512 : Shape := ⟨3, ![1, 1, 512]⟩
abbrev S512x1024 : Shape := ⟨2, ![512, 1024]⟩
abbrev S32x64x1024 : Shape := ⟨3, ![32, 64, 1024]⟩
abbrev S1x1x1024 : Shape := ⟨3, ![1, 1, 1024]⟩
abbrev S1x32x64x1024 : Shape := ⟨4, ![1, 32, 64, 1024]⟩
abbrev S2x32x64x1024 : Shape := ⟨4, ![2, 32, 64, 1024]⟩
abbrev S2x64x32x1024 : Shape := ⟨4, ![2, 64, 32, 1024]⟩
abbrev S2x2048x1024 : Shape := ⟨3, ![2, 2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S32x64, .i32⟩
  | .hbm, ⟨1, _⟩ => ⟨S50265x768, .f32⟩
  | .hbm, ⟨2, _⟩ => ⟨S512x768, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S1024x512, .f32⟩
  | .hbm, ⟨7, _⟩ => ⟨S1024, .f32⟩
  | .hbm, ⟨8, _⟩ => ⟨S_, .i32⟩
  | .hbm, ⟨9, _⟩ => ⟨S32x64, .i32⟩
  | .hbm, ⟨10, _⟩ => ⟨S32x64, .i1⟩
  | .hbm, ⟨11, _⟩ => ⟨S_, .i32⟩
  | .hbm, ⟨12, _⟩ => ⟨S32x64, .i32⟩
  | .hbm, ⟨13, _⟩ => ⟨S32x64, .i32⟩
  | .hbm, ⟨14, _⟩ => ⟨S32x64, .i32⟩
  | .hbm, ⟨15, _⟩ => ⟨S32x64x1, .i32⟩
  | .hbm, ⟨16, _⟩ => ⟨S32x64x768, .f32⟩
  | .hbm, ⟨17, _⟩ => ⟨S768x512, .f32⟩
  | .hbm, ⟨18, _⟩ => ⟨S32x64x512, .f32⟩
  | .hbm, ⟨19, _⟩ => ⟨S1x1x512, .f32⟩
  | .hbm, ⟨20, _⟩ => ⟨S32x64x512, .f32⟩
  | .hbm, ⟨21, _⟩ => ⟨S32x64x512, .f32⟩
  | .hbm, ⟨22, _⟩ => ⟨S512x1024, .f32⟩
  | .hbm, ⟨23, _⟩ => ⟨S32x64x1024, .f32⟩
  | .hbm, ⟨24, _⟩ => ⟨S1x1x1024, .f32⟩
  | .hbm, ⟨25, _⟩ => ⟨S32x64x1024, .f32⟩
  | .hbm, ⟨26, _⟩ => ⟨S32x64x1024, .f32⟩
  | .hbm, ⟨27, _⟩ => ⟨S512x1024, .f32⟩
  | .hbm, ⟨28, _⟩ => ⟨S32x64x1024, .f32⟩
  | .hbm, ⟨29, _⟩ => ⟨S1x1x1024, .f32⟩
  | .hbm, ⟨30, _⟩ => ⟨S32x64x1024, .f32⟩
  | .hbm, ⟨31, _⟩ => ⟨S32x64x1024, .f32⟩
  | .hbm, ⟨32, _⟩ => ⟨S1x32x64x1024, .f32⟩
  | .hbm, ⟨33, _⟩ => ⟨S1x32x64x1024, .f32⟩
  | .hbm, ⟨34, _⟩ => ⟨S2x32x64x1024, .f32⟩
  | .hbm, ⟨35, _⟩ => ⟨S2x64x32x1024, .f32⟩
  | .hbm, ⟨36, _⟩ => ⟨S2x2048x1024, .f32⟩
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel5.lean ====
abbrev S2x2048x1024 : Shape := ⟨3, ![2, 2048, 1024]⟩
abbrev S1024x256 : Shape := ⟨2, ![1024, 256]⟩
abbrev S32 : Shape := ⟨1, ![32]⟩
abbrev S256x1024 : Shape := ⟨2, ![256, 1024]⟩
abbrev S1x256x1024 : Shape := ⟨3, ![1, 256, 1024]⟩
abbrev S2x256x1024 : Shape := ⟨3, ![2, 256, 1024]⟩
abbrev S32x1 : Shape := ⟨2, ![32, 1]⟩
abbrev S2x64x32x1024 : Shape := ⟨4, ![2, 64, 32, 1024]⟩
abbrev S2x64x32x256 : Shape := ⟨4, ![2, 64, 32, 256]⟩
abbrev S2x32x256 : Shape := ⟨3, ![2, 32, 256]⟩
abbrev S1x64x32x1024 : Shape := ⟨4, ![1, 64, 32, 1024]⟩
abbrev S1x64x32x256 : Shape := ⟨4, ![1, 64, 32, 256]⟩
abbrev S1x32x256 : Shape := ⟨3, ![1, 32, 256]⟩
abbrev S32x256 : Shape := ⟨2, ![32, 256]⟩
abbrev S1x1x32x1024 : Shape := ⟨4, ![1, 1, 32, 1024]⟩
abbrev S1x32x1024 : Shape := ⟨3, ![1, 32, 1024]⟩
abbrev S32x1024 : Shape := ⟨2, ![32, 1024]⟩
abbrev S1x1x32x256 : Shape := ⟨4, ![1, 1, 32, 256]⟩

abbrev nBuf : Space → Nat
  | .hbm => 14
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024x256, .f32⟩
  | .hbm, ⟨2, _⟩ => ⟨S1024x256, .f32⟩
  | .hbm, ⟨3, _⟩ => ⟨S32, .i32⟩
  | .hbm, ⟨4, _⟩ => ⟨S256x1024, .f32⟩
  | .hbm, ⟨5, _⟩ => ⟨S256x1024, .f32⟩
  | .hbm, ⟨6, _⟩ => ⟨S1x256x1024, .f32⟩
  | .hbm, ⟨7, _⟩ => ⟨S1x256x1024, .f32⟩
  | .hbm, ⟨8, _⟩ => ⟨S2x256x1024, .f32⟩
  | .hbm, ⟨9, _⟩ => ⟨S32x1, .i32⟩
  | .hbm, ⟨10, _⟩ => ⟨S2x64x32x1024, .f32⟩
  | .hbm, ⟨11, _⟩ => ⟨S2x64x32x256, .f32⟩
  | .hbm, ⟨12, _⟩ => ⟨S2x32x256, .f32⟩
  | .hbm, ⟨13, _⟩ => ⟨S2x32x256, .f32⟩
  | .local _ .vmem, ⟨0, _⟩ => ⟨S1x64x32x1024, .f32⟩
  | .local _ .vmem, ⟨1, _⟩ => ⟨S1x64x32x1024, .f32⟩
  | .local _ .vmem, ⟨2, _⟩ => ⟨S1x256x1024, .f32⟩
  | .local _ .vmem, ⟨3, _⟩ => ⟨S1x256x1024, .f32⟩
  | .local _ .vmem, ⟨4, _⟩ => ⟨S32x1, .i32⟩
  | .local _ .vmem, ⟨5, _⟩ => ⟨S1x64x32x256, .f32⟩
  | .local _ .vmem, ⟨6, _⟩ => ⟨S1x64x32x256, .f32⟩
  | .local _ .vmem, ⟨7, _⟩ => ⟨S1x32x256, .f32⟩
  | .local _ .vmem, ⟨8, _⟩ => ⟨S1x32x256, .f32⟩
  | .local _ .vmem, ⟨9, _⟩ => ⟨S1x32x256, .f32⟩
  | .local _ .vmem, ⟨10, _⟩ => ⟨S1x32x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c64_i32 : BitVec 32 := 64#32
  let v5 : BitVec 32 := Scalar.addi c0_i32 c64_i32
  let c1_i32 : BitVec 32 := 1#32
  ⟨c0_i32, v5, c1_i32⟩
def k0_off1 (i : grid0.Coords) (k0_t1 : Fin k0_t1_loop.trips) : Fin 4 → Nat :=
  let c0_12 : Index := 0#32
  let arg0 : BitVec 32 := BitVec.ofNat 32 (i 0).val
  let c0_i32_11 : BitVec 32 := 0#32
  let v13 : BitVec 1 := Scalar.cmpi .eq arg0 c0_i32_11
  let c0_i32 : BitVec 32 := 0#32
  let c1_i32 : BitVec 32 := 1#32
  let arg7 : BitVec 32 := Scf.iv c0_i32 c1_i32 k0_t1
  let c63_i32 : BitVec 32 := 63#32
  let v14 : BitVec 32 := Scalar.subi c63_i32 arg7
  let v15 : BitVec 32 := Scalar.select v13 arg7 v14
  let v16 : Index := Scalar.indexCast v15
  let c0_13 : Index := 0#32
  let c0_14 : Index := 0#32
  ![0, v16.toNat, 0, 0]
def k0_off2 (i : grid0.Coords) (k0_t1 : Fin k0_t1_loop.trips) : Fin 4 → Nat :=
  let c0_17 : Index := 0#32
  let arg0 : BitVec 32 := BitVec.ofNat 32 (i 0).val
  let c0_i32_11 : BitVec 32 := 0#32
  let v13 : BitVec 1 := Scalar.cmpi .eq arg0 c0_i32_11
  let c0_i32 : BitVec 32 := 0#32
  let c1_i32 : BitVec 32 := 1#32
  let arg7 : BitVec 32 := Scf.iv c0_i32 c1_i32 k0_t1
  let c63_i32 : BitVec 32 := 63#32
  let v14 : BitVec 32 := Scalar.subi c63_i32 arg7
  let v15 : BitVec 32 := Scalar.select v13 arg7 v14
  let v42 : Index := Scalar.indexCast v15
  let c0_18 : Index := 0#32
  let c0_19 : Index := 0#32
  ![0, v42.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2x2048x1024 : Shape := ⟨3, ![2, 2048, 1024]⟩
abbrev S1024x256 : Shape := ⟨2, ![1024, 256]⟩
abbrev S32 : Shape := ⟨1, ![32]⟩
abbrev S2x64x32x1024 : Shape := ⟨4, ![2, 64, 32, 1024]⟩
abbrev S64 : Shape := ⟨1, ![64]⟩
abbrev S64x1 : Shape := ⟨2, ![64, 1]⟩
abbrev S1x32 : Shape := ⟨2, ![1, 32]⟩
abbrev S64x32 : Shape := ⟨2, ![64, 32]⟩
abbrev S1x64x32x1024 : Shape := ⟨4, ![1, 64, 32, 1024]⟩
abbrev S64x32x1024 : Shape := ⟨3, ![64, 32, 1024]⟩
abbrev S64x1x32x1024 : Shape := ⟨4, ![64, 1, 32, 1024]⟩
abbrev S64x2x32x1024 : Shape := ⟨4, ![64, 2, 32, 1024]⟩
abbrev S64x1x32 : Shape := ⟨3, ![64, 1, 32]⟩
abbrev S64x2x32 : Shape := ⟨3, ![64, 2, 32]⟩
abbrev S1x1024x256 : Shape := ⟨3, ![1, 1024, 256]⟩
abbrev S2x1024x256 : Shape := ⟨3, ![2, 1024, 256]⟩
abbrev S_ : Shape := ⟨0, ![]⟩
abbrev S2x32x256 : Shape := ⟨3, ![2, 32, 256]⟩
abbrev S64x2x32x256 : Shape := ⟨4, ![64, 2, 32, 256]⟩
abbrev S1x2x32x1024 : Shape := ⟨4, ![1, 2, 32, 1024]⟩
abbrev S2x32x1024 : Shape := ⟨3, ![2, 32, 1024]⟩
abbrev S1x2x32 : Shape := ⟨3, ![1, 2, 32]⟩
abbrev S2x32 : Shape := ⟨2, ![2, 32]⟩
abbrev S2x32x1 : Shape := ⟨3, ![2, 32, 1]⟩
abbrev S1x2x32x256 : Shape := ⟨4, ![1, 2, 32, 256]⟩
abbrev S64x1x32x256 : Shape := ⟨4, ![64, 1, 32, 256]⟩
abbrev S64x32x256 : Shape := ⟨3, ![64, 32, 256]⟩
abbrev S1x64x32x256 : Shape := ⟨4, ![1, 64, 32, 256]⟩
abbrev S2x64x32x256 : Shape := ⟨4, ![2, 64, 32, 256]⟩

abbrev nBuf : Space → Nat
  | .hbm => 109
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x256, .f32⟩
  | .hbm, ⟨2, _⟩ => ⟨S1024x256, .f32⟩
  | .hbm, ⟨3, _⟩ => ⟨S32, .i32⟩
  | .hbm, ⟨4, _⟩ => ⟨S2x64x32x1024, .f32⟩
  | .hbm, ⟨5, _⟩ => ⟨S64, .i32⟩
  | .hbm, ⟨6, _⟩ => ⟨S64x1, .i32⟩
  | .hbm, ⟨7, _⟩ => ⟨S1x32, .i32⟩
  | .hbm, ⟨8, _⟩ => ⟨S64x32, .i32⟩
  | .hbm, ⟨9, _⟩ => ⟨S64x32, .i32⟩
  | .hbm, ⟨10, _⟩ => ⟨S64x32, .i1⟩
  | .hbm, ⟨11, _⟩ => ⟨S1x64x32x1024, .f32⟩
  | .hbm, ⟨12, _⟩ => ⟨S64x32x1024, .f32⟩
  | .hbm, ⟨13, _⟩ => ⟨S1x64x32x1024, .f32⟩
  | .hbm, ⟨14, _⟩ => ⟨S1x64x32x1024, .f32⟩
  | .hbm, ⟨15, _⟩ => ⟨S64x32x1024, .f32⟩
  | .hbm, ⟨16, _⟩ => ⟨S64x1x32x1024, .f32⟩
  | .hbm, ⟨17, _⟩ => ⟨S64x1x32x1024, .f32⟩
  | .hbm, ⟨18, _⟩ => ⟨S64x2x32x1024, .f32⟩
  | .hbm, ⟨19, _⟩ => ⟨S64x32, .i1⟩
  | .hbm, ⟨20, _⟩ => ⟨S64x1x32, .i1⟩
  | .hbm, ⟨21, _⟩ => ⟨S64x1x32, .i1⟩
  | .hbm, ⟨22, _⟩ => ⟨S64x2x32, .i1⟩
  | .hbm, ⟨23, _⟩ => ⟨S1x1024x256, .f32⟩
  | .hbm, ⟨24, _⟩ => ⟨S1x1024x256, .f32⟩
  | .hbm, ⟨25, _⟩ => ⟨S2x1024x256, .f32⟩
  | .hbm, ⟨26, _⟩ => ⟨S_, .f32⟩
  | .hbm, ⟨27, _⟩ => ⟨S2x32x256, .f32⟩
  | .hbm, ⟨28, _⟩ => ⟨S_, .f32⟩
  | .hbm, ⟨29, _⟩ => ⟨S64x2x32x256, .f32⟩
  | .hbm, ⟨30, _⟩ => ⟨S_, .i32⟩
  | .hbm, ⟨31, _⟩ => ⟨S64x2x32x1024, .f32⟩
  | .hbm, ⟨32, _⟩ => ⟨S64x2x32, .i1⟩
  | .hbm, ⟨33, _⟩ => ⟨S2x1024x256, .f32⟩
  | .hbm, ⟨34, _⟩ => ⟨S_, .i32⟩
  | .hbm, ⟨35, _⟩ => ⟨S2x32x256, .f32⟩
  | .hbm, ⟨36, _⟩ => ⟨S2x32x256, .f32⟩
  | .hbm, ⟨37, _⟩ => ⟨S64x2x32x256, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x2x32x1024, .f32⟩
  | .hbm, ⟨44, _⟩ => ⟨S2x32x1024, .f32⟩
  | .hbm, ⟨45, _⟩ => ⟨S_, .i32⟩
  | .hbm, ⟨46, _⟩ => ⟨S_, .i32⟩
  | .hbm, ⟨47, _⟩ => ⟨S1x2x32, .i1⟩
  | .hbm, ⟨48, _⟩ => ⟨S2x32, .i1⟩
  | .hbm, ⟨49, _⟩ => ⟨S2x32x1024, .f32⟩
  | .hbm, ⟨50, _⟩ => ⟨S2x32x1024, .f32⟩
  | .hbm, ⟨51, _⟩ => ⟨S2x32x256, .f32⟩
  | .hbm, ⟨52, _⟩ => ⟨S2x32x256, .f32⟩
  | .hbm, ⟨53, _⟩ => ⟨S2x32x256, .f32⟩
  | .hbm, ⟨54, _⟩ => ⟨S2x32x256, .f32⟩
  | .hbm, ⟨55, _⟩ => ⟨S2x32x256, .f32⟩
  | .hbm, ⟨56, _⟩ => ⟨S2x32x256, .f32⟩
  | .hbm, ⟨57, _⟩ => ⟨S_, .f32⟩
  | .hbm, ⟨58, _⟩ => ⟨S2x32x256, .f32⟩
  | .hbm, ⟨59, _⟩ => ⟨S2x32x256, .f32⟩
  | .hbm, ⟨60, _⟩ => ⟨S_, .f32⟩
  | .hbm, ⟨61, _⟩ => ⟨S2x32x256, .f32⟩
  | .hbm, ⟨62, _⟩ => ⟨S2x32x256, .f32⟩
  | .hbm, ⟨63, _⟩ => ⟨S2x32x256, .f32⟩
  | .hbm, ⟨64, _⟩ => ⟨S2x32x256, .f32⟩
  | .hbm, ⟨65, _⟩ => ⟨S2x32x256, .f32⟩
  | .hbm, ⟨66, _⟩ => ⟨S_, .f32⟩
  | .hbm, ⟨67, _⟩ => ⟨S2x32x256, .f32⟩
  | .hbm, ⟨68, _⟩ => ⟨S2x32x256, .f32⟩
  | .hbm, ⟨69, _⟩ => ⟨S_, .f32⟩
  | .hbm, ⟨70, _⟩ => ⟨S2x32x256, .f32⟩
  | .hbm, ⟨71, _⟩ => ⟨S2x32x256, .f32⟩
  | .hbm, ⟨72, _⟩ => ⟨S2x32x256, .f32⟩
  | .hbm, ⟨73, _⟩ => ⟨S2x32x256, .f32⟩
  | .hbm, ⟨74, _⟩ => ⟨S2x32x256, .f32⟩
  | .hbm, ⟨75, _⟩ => ⟨S2x32x256, .f32⟩
  | .hbm, ⟨76, _⟩ => ⟨S2x32x256, .f32⟩
  | .hbm, ⟨77, _⟩ => ⟨S_, .f32⟩
  | .hbm, ⟨78, _⟩ => ⟨S2x32x256, .f32⟩
  | .hbm, ⟨79, _⟩ => ⟨S2x32x256, .f32⟩
  | .hbm, ⟨80, _⟩ => ⟨S_, .f32⟩
  | .hbm, ⟨81, _⟩ => ⟨S2x32x256, .f32⟩
  | .hbm, ⟨82, _⟩ => ⟨S2x32x256, .f32⟩
  | .hbm, ⟨83, _⟩ => ⟨S2x32x256, .f32⟩
  | .hbm, ⟨84, _⟩ => ⟨S2x32x256, .f32⟩
  | .hbm, ⟨85, _⟩ => ⟨S2x32x1, .i1⟩
  | .hbm, ⟨86, _⟩ => ⟨S2x32x256, .i1⟩
  | .hbm, ⟨87, _⟩ => ⟨S2x32x256, .f32⟩
  | .hbm, ⟨88, _⟩ => ⟨S2x32x256, .i1⟩
  | .hbm, ⟨89, _⟩ => ⟨S2x32x256, .f32⟩
  | .hbm, ⟨90, _⟩ => ⟨S_, .f32⟩
  | .hbm, ⟨91, _⟩ => ⟨S2x32x256, .f32⟩
  | .hbm, ⟨92, _⟩ => ⟨S2x32x256, .i1⟩
  | .hbm, ⟨93, _⟩ => ⟨S2x32x256, .f32⟩
  | .hbm, ⟨94, _⟩ => ⟨S1x2x32x256, .f32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S64x2x32x256, .f32⟩
  | .hbm, ⟨99, _⟩ => ⟨S_, .i32⟩
  | .hbm, ⟨100, _⟩ => ⟨S_, .i32⟩
  | .hbm, ⟨101, _⟩ => ⟨S64x1x32x256, .f32⟩
  | .hbm, ⟨102, _⟩ => ⟨S64x32x256, .f32⟩
  | .hbm, ⟨103, _⟩ => ⟨S64x1x32x256, .f32⟩
  | .hbm, ⟨104, _⟩ => ⟨S64x1x32x256, .f32⟩
  | .hbm, ⟨105, _⟩ => ⟨S64x32x256, .f32⟩
  | .hbm, ⟨106, _⟩ => ⟨S1x64x32x256, .f32⟩
  | .hbm, ⟨107, _⟩ => ⟨S1x64x32x256, .f32⟩
  | .hbm, ⟨108, _⟩ => ⟨S2x64x32x256, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_c : Ref sig .tc := ⟨.hbm, 30, rfl⟩
abbrev main_v24_0 : Ref sig .tc := ⟨.hbm, 31, rfl⟩
abbrev main_v24_1 : Ref sig .tc := ⟨.hbm, 32, rfl⟩
abbrev main_v24_2 : Ref sig .tc := ⟨.hbm, 33, rfl⟩
abbrev main_v24_3 : Ref sig .tc := ⟨.hbm, 34, rfl⟩
abbrev main_v24_4 : Ref sig .tc := ⟨.hbm, 35, rfl⟩
abbrev main_v24_5 : Ref sig .tc := ⟨.hbm, 36, rfl⟩
abbrev main_v24_6 : Ref sig .tc := ⟨.hbm, 37, rfl⟩
abbrev main_while0c_c_7 : Ref sig .tc := ⟨.hbm, 38, rfl⟩
abbrev main_while0c_v33 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_v0 : Ref sig .tc := ⟨.hbm, 43, rfl⟩
abbrev main_while0b_v33 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_v0 : Ref sig .tc := ⟨.hbm, 47, rfl⟩
abbrev main_while0b_v34 : Ref sig .tc := ⟨.hbm, 48, rfl⟩
abbrev main_while0b_v35 : Ref sig .tc := ⟨.hbm, 49, rfl⟩
abbrev main_while0b_v36 : Ref sig .tc := ⟨.hbm, 50, rfl⟩
abbrev main_while0b_v37 : Ref sig .tc := ⟨.hbm, 51, rfl⟩
abbrev main_while0b_v38 : Ref sig .tc := ⟨.hbm, 52, rfl⟩
abbrev main_while0b_v39 : Ref sig .tc := ⟨.hbm, 53, rfl⟩
abbrev main_while0b_v40 : Ref sig .tc := ⟨.hbm, 54, rfl⟩
abbrev main_while0b_v41 : Ref sig .tc := ⟨.hbm, 55, rfl⟩
abbrev main_while0b_v42 : Ref sig .tc := ⟨.hbm, 56, rfl⟩
abbrev main_while0b_cst_7 : Ref sig .tc := ⟨.hbm, 57, rfl⟩
abbrev main_while0b_v43 : Ref sig .tc := ⟨.hbm, 58, rfl⟩
abbrev main_while0b_v44 : Ref sig .tc := ⟨.hbm, 59, rfl⟩
abbrev main_while0b_cst_8 : Ref sig .tc := ⟨.hbm, 60, rfl⟩
abbrev main_while0b_v45 : Ref sig .tc := ⟨.hbm, 61, rfl⟩
abbrev main_while0b_v46 : Ref sig .tc := ⟨.hbm, 62, rfl⟩
abbrev main_while0b_v47 : Ref sig .tc := ⟨.hbm, 63, rfl⟩
abbrev main_while0b_v48 : Ref sig .tc := ⟨.hbm, 64, rfl⟩
abbrev main_while0b_v49 : Ref sig .tc := ⟨.hbm, 65, rfl⟩
abbrev main_while0b_cst_9 : Ref sig .tc := ⟨.hbm, 66, rfl⟩
abbrev main_while0b_v50 : Ref sig .tc := ⟨.hbm, 67, rfl⟩
abbrev main_while0b_v51 : Ref sig .tc := ⟨.hbm, 68, rfl⟩
abbrev main_while0b_cst_10 : Ref sig .tc := ⟨.hbm, 69, rfl⟩
abbrev main_while0b_v52 : Ref sig .tc := ⟨.hbm, 70, rfl⟩
abbrev main_while0b_v53 : Ref sig .tc := ⟨.hbm, 71, rfl⟩
abbrev main_while0b_v54 : Ref sig .tc := ⟨.hbm, 72, rfl⟩
abbrev main_while0b_v55 : Ref sig .tc := ⟨.hbm, 73, rfl⟩
abbrev main_while0b_v56 : Ref sig .tc := ⟨.hbm, 74, rfl⟩
abbrev main_while0b_v57 : Ref sig .tc := ⟨.hbm, 75, rfl⟩
abbrev main_while0b_v58 : Ref sig .tc := ⟨.hbm, 76, rfl⟩
abbrev main_while0b_cst_11 : Ref sig .tc := ⟨.hbm, 77, rfl⟩
abbrev main_while0b_v59 : Ref sig .tc := ⟨.hbm, 78, rfl⟩
abbrev main_while0b_v60 : Ref sig .tc := ⟨.hbm, 79, rfl⟩
abbrev main_while0b_cst_12 : Ref sig .tc := ⟨.hbm, 80, rfl⟩
abbrev main_while0b_v61 : Ref sig .tc := ⟨.hbm, 81, rfl⟩
abbrev main_while0b_v62 : Ref sig .tc := ⟨.hbm, 82, rfl⟩
abbrev main_while0b_v63 : Ref sig .tc := ⟨.hbm, 83, rfl⟩
abbrev main_while0b_v64 : Ref sig .tc := ⟨.hbm, 84, rfl⟩
abbrev main_while0b_v65 : Ref sig .tc := ⟨.hbm, 85, rfl⟩
abbrev main_while0b_call2_v0 : Ref sig .tc := ⟨.hbm, 86, rfl⟩
abbrev main_while0b_v66 : Ref sig .tc := ⟨.hbm, 87, rfl⟩
abbrev main_while0b_call3_v0 : Ref sig .tc := ⟨.hbm, 88, rfl⟩
abbrev main_while0b_v67 : Ref sig .tc := ⟨.hbm, 89, rfl⟩
abbrev main_while0b_cst_13 : Ref sig .tc := ⟨.hbm, 90, rfl⟩
abbrev main_while0b_v68 : Ref sig .tc := ⟨.hbm, 91, rfl⟩
abbrev main_while0b_call4_v0 : Ref sig .tc := ⟨.hbm, 92, rfl⟩
abbrev main_while0b_v69 : Ref sig .tc := ⟨.hbm, 93, rfl⟩
abbrev main_while0b_call5_v0 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_v70 : Ref sig .tc := ⟨.hbm, 98, rfl⟩
abbrev main_while0b_c_14 : Ref sig .tc := ⟨.hbm, 99, rfl⟩
abbrev main_while0b_v71 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩

abbrev nD : Nat := 1
abbrev τ : Topo := Topo.v7x

variable {F : FTy → Type} [FloatOps F]

abbrev main_while0_count : Scf.Loop 32 := ⟨0#32, 64#32, 1#32⟩
-- ==== Proof.LogSoftmax.lean ====
/- The logarithm of a softmax over the extended reals: subtracting an attained upper bound of the
   row before exponentiating does not change the result. -/
module

public import Idealize.ShloMosaic.PureOps.Ideal
public import Idealize.ShloMosaic.Lib.Pointwise

@[expose] public section

noncomputable section

namespace Cert.Proof.LogSoftmax

open Idealize.ShloMosaic

/-- The logarithm of the softmax of a row, entry `v`, without any shift. -/
def plain {n : ℕ} (l : Fin n → EReal) (v : Fin n) : EReal :=
  l v - Ideal.log (∑ j, Ideal.exp (l j))

theorem bot_sub' (x : EReal) : (⊥ : EReal) - x = ⊥ := by
  rw [sub_eq_add_neg, EReal.bot_add]

theorem sub_top' (x : EReal) : x - (⊤ : EReal) = ⊥ := by
  rw [sub_eq_add_neg, EReal.neg_top, EReal.add_bot]

theorem exp_nonneg' (x : EReal) : 0 ≤ Ideal.exp x := by
  induction x with
  | bot => exact le_rfl
  | top => exact le_top
  | coe r => exact EReal.coe_nonneg.mpr (Real.exp_pos r).le

theorem sum_exp_top {n : ℕ} (l : Fin n → EReal) (i : Fin n) (h : l i = ⊤) :
    ∑ j, Ideal.exp (l j) = ⊤ := by
  have h1 : Ideal.exp (l i) ≤ ∑ j, Ideal.exp (l j) :=
    Finset.single_le_sum (f := fun j => Ideal.exp (l j)) (fun j _ => exp_nonneg' _) (Finset.mem_univ i)
  rw [h] at h1
  exact top_le_iff.mp h1

theorem exp_bot : Ideal.exp ⊥ = 0 := rfl

theorem exp_coe (r : ℝ) : Ideal.exp (r : EReal) = ((Real.exp r : ℝ) : EReal) := rfl

/-- The real number that the exponential of a value below the top is. -/
def expReal (x : EReal) : ℝ := if x = ⊥ then 0 else Real.exp x.toReal

theorem exp_eq (x : EReal) (h : x ≠ ⊤) : Ideal.exp x = (expReal x : EReal) := by
  induction x with
  | bot => simp [expReal, exp_bot, exp_coe]
  | top => exact absurd rfl h
  | coe r => simp [expReal, exp_bot, exp_coe]

theorem exp_sub_eq (x : EReal) (M : ℝ) (h : x ≠ ⊤) :
    Ideal.exp (x - (M : EReal)) = ((expReal x * Real.exp (-M) : ℝ) : EReal) := by
  induction x with
  | bot => simp [expReal, bot_sub', exp_bot]
  | top => exact absurd rfl h
  | coe r =>
    rw [← EReal.coe_sub, exp_coe, sub_eq_add_neg, Real.exp_add]
    simp [expReal]

theorem expReal_nonneg (x : EReal) : 0 ≤ expReal x := by
  unfold expReal; split
  · exact le_rfl
  · exact (Real.exp_pos _).le

theorem sum_coe {n : ℕ} (f : Fin n → ℝ) : ∑ j, (f j : EReal) = ((∑ j, f j : ℝ) : EReal) := by
  induction (Finset.univ : Finset (Fin n)) using Finset.induction_on with
  | empty => simp
  | insert a s ha ih => rw [Finset.sum_insert ha, Finset.sum_insert ha, ih, EReal.coe_add]

/-- The shifted form is the plain one, for any shift that bounds the row and is one of its entries. -/
theorem shift {n : ℕ} (l : Fin n → EReal) (M : EReal) (hle : ∀ j, l j ≤ M) (hat : ∃ j, l j = M) (v : Fin n) :
    (l v - M) - Ideal.log (∑ j, Ideal.exp (l j - M)) = plain l v := by
  unfold plain
  obtain ⟨i, hi⟩ := hat
  induction M with
  | bot =>
    have hv : l v = ⊥ := le_bot_iff.mp (hle v)
    rw [hv, bot_sub', bot_sub', bot_sub']
  | top => rw [sum_exp_top l i hi, sub_top', bot_sub']; exact (sub_top' _).symm
  | coe M =>
    have hne : ∀ j, l j ≠ ⊤ := fun j hj => by
      have := hle j; rw [hj] at this; exact absurd (top_le_iff.mp this) (EReal.coe_ne_top M)
    have hS : 0 < ∑ j, expReal (l j) := by
      refine Finset.sum_pos' (fun j _ => expReal_nonneg _) ⟨i, Finset.mem_univ i, ?_⟩
      rw [hi]; simp [expReal, Real.exp_pos]
    rw [Finset.sum_congr rfl fun j _ => exp_sub_eq (l j) M (hne j),
      Finset.sum_congr rfl fun j _ => exp_eq (l j) (hne j), sum_coe, sum_coe, ← Finset.sum_mul]
    have h1 : Ideal.log ((((∑ j, expReal (l j)) * Real.exp (-M) : ℝ)) : EReal)
        = ((Real.log (∑ j, expReal (l j)) - M : ℝ) : EReal) := by
      show (if _ then _ else _) = _
      rw [if_neg (not_le.mpr (mul_pos hS (Real.exp_pos _))), Real.log_mul hS.ne' (Real.exp_pos _).ne', Real.log_exp,
        sub_eq_add_neg]
    have h2 : Ideal.log (((∑ j, expReal (l j) : ℝ)) : EReal) = ((Real.log (∑ j, expReal (l j)) : ℝ) : EReal) := by
      show (if _ then _ else _) = _
      rw [if_neg (not_le.mpr hS)]
    rw [h1, h2]
    have hx := hne v
    generalize l v = x at hx
    induction x with
    | bot => simp [bot_sub']
    | top => exact absurd rfl hx
    | coe r => rw [← EReal.coe_sub, ← EReal.coe_sub, ← EReal.coe_sub]; congr 1; ring

/-- A maximum folded over a row from below everything bounds the row and, the row not being empty, is one of its entries. -/
theorem fold_max {n : ℕ} (l : Fin (n + 1) → EReal) :
    (∀ j, l j ≤ Finset.univ.fold max ⊥ l) ∧ ∃ j, l j = Finset.univ.fold max ⊥ l := by
  have key : Finset.univ.fold max ⊥ l = Finset.univ.sup l := rfl
  rw [key]
  refine ⟨fun j => Finset.le_sup (Finset.mem_univ j), ?_⟩
  obtain ⟨j, -, hj⟩ := Finset.exists_mem_eq_sup Finset.univ Finset.univ_nonempty l
  exact ⟨j, hj.symm⟩

/-- The logarithm of the softmax as it is usually computed, with the row's maximum taken off first. -/
theorem shifted_max {n : ℕ} (l : Fin (n + 1) → EReal) (v : Fin (n + 1)) :
    (l v - max ⊥ (Finset.univ.fold max ⊥ l))
        - Ideal.log (∑ j, Ideal.exp (l j - max ⊥ (Finset.univ.fold max ⊥ l))) = plain l v := by
  rw [max_eq_right bot_le]
  exact shift l _ (fold_max l).1 (fold_max l).2 v

end Cert.Proof.LogSoftmax

end
-- ==== Proof.Block.lean ====
/- What one block of the projection holds after its body. -/
module

public import proofs.«01_k».proof.Proof.Gen.KernelIdeal.Value
public import proofs.«01_k».proof.Proof.LogSoftmax
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Proj

open Idealize.ShloMosaic Cert.KernelIdeal Cert.KernelIdeal.Gen
open Idealize.ShloMosaic.Pipeline

variable (m : (ℓ : Loc nD τ sig) → Buf (Elt Ideal) ℓ)

/-- One logit: a row of the states against a column of the vocabulary matrix, plus the bias. -/
def logit (h : FVec Ideal S2048x512 .bf16) (w : FVec Ideal S512x32000 .bf16) (b : FVec Ideal S1x32000 .f32)
    (r : Fin 2048) (v : Fin 32000) : EReal :=
  (∑ k : Fin 512, h (ix2 r k) * w (ix2 k v)) + b (ix2 0 v)

/-- The same within one block of rows. -/
def blockLogit (h : Vec Ideal S64x512 .bf16) (w : Vec Ideal S512x32000 .bf16) (b : Vec Ideal S1x32000 .f32)
    (r : Fin 64) (v : Fin 32000) : EReal :=
  (∑ k : Fin 512, h (ix2 r k) * w (ix2 k v)) + b (ix2 0 v)

/-- The projection's result, element by element. -/
def G (h : FVec Ideal S2048x512 .bf16) (w : FVec Ideal S512x32000 .bf16) (b : FVec Ideal S1x32000 .f32) :
    FVec Ideal S2048x32000 .f32 :=
  fun i => LogSoftmax.plain (logit h w b (i 0)) (i 1)

/-- A sum over `n` lanes cut after the first `a` of them. -/
theorem sum_cut (a b n : ℕ) (h : a + b = n) (f : Fin n → EReal) :
    ∑ i : Fin n, f i = (∑ i : Fin a, f ⟨i, by omega⟩) + ∑ j : Fin b, f ⟨a + j, by omega⟩ := by
  subst h
  exact Fin.sum_univ_add f

/-- The logarithm of the sum of a row's exponentials, as the block's eight loads of 4000 lanes give it. -/
def logTotal (Z : Vec Ideal S64x32000 .f32) : FVec Ideal S64x1 .f32 :=
  k0_pay9 (F := Ideal) (k0_pay7 (View.ld Z (Rect.unit ![0, 0] ![64, 4000] inb_S64x32000_S64x4000_0_0)) (View.ld Z (Rect.unit ![0, 4000] ![64, 4000] inb_S64x32000_S64x4000_0_4000)) (View.ld Z (Rect.unit ![0, 8000] ![64, 4000] inb_S64x32000_S64x4000_0_8000)) (View.ld Z (Rect.unit ![0, 12000] ![64, 4000] inb_S64x32000_S64x4000_0_12000))) (k0_pay8 (View.ld Z (Rect.unit ![0, 16000] ![64, 4000] inb_S64x32000_S64x4000_0_16000))) (View.ld Z (Rect.unit ![0, 20000] ![64, 4000] inb_S64x32000_S64x4000_0_20000)) (View.ld Z (Rect.unit ![0, 24000] ![64, 4000] inb_S64x32000_S64x4000_0_24000)) (View.ld Z (Rect.unit ![0, 28000] ![64, 4000] inb_S64x32000_S64x4000_0_28000))

theorem logTotal_apply (Z : Vec Ideal S64x32000 .f32) (r : Fin 64) (z : Fin 1) :
    logTotal Z (ix2 r z) = Ideal.log (∑ v : Fin 32000, Ideal.exp (Z (ix2 r v))) := by
  rw [sum_cut 28000 4000 32000 rfl, sum_cut 24000 4000 28000 rfl, sum_cut 20000 4000 24000 rfl, sum_cut 16000 4000 20000 rfl,
    sum_cut 12000 4000 16000 rfl, sum_cut 8000 4000 12000 rfl, sum_cut 4000 4000 8000 rfl]
  pointwise [logTotal, k0_pay9, k0_pay8, k0_pay7]

/-- What one block holds: the logarithm of the softmax of its rows of logits. -/
theorem block (c : Dev nD) (i : grid0.Coords) (arg1 : Memref sig .tc .vmem S64x512 .bf16) (harg1 : arg1.IsWhole) (arg2 : Memref sig .tc .vmem S512x32000 .bf16) (harg2 : arg2.IsWhole) (arg3 : Memref sig .tc .vmem S1x32000 .f32) (harg3 : arg3.IsWhole) (arg4 : Memref sig .tc .vmem S64x32000 .f32) (harg4 : arg4.IsWhole)
    (x0 : Vec Ideal S64x512 .bf16) (x1 : Vec Ideal S512x32000 .bf16) (x2 : Vec Ideal S1x32000 .f32) (y : S64x32000.Idx) :
    out0_A_3 (F := Ideal) c i arg1 harg1 arg2 harg2 arg3 harg3 arg4 harg4 x0 x1 x2 y
      = LogSoftmax.plain (blockLogit x0 x1 x2 (y 0)) (y 1) := by
  have hZ : ∀ (r : Fin 64) (v : Fin 32000), k0_pay6 x0 x1 x2 (ix2 r v)
      = blockLogit x0 x1 x2 r v := fun r v => by pointwise [k0_pay6, blockLogit]
  frame_open
  simp (disch := decide) only [↓ View.readCov_skip, ↓ View.readCov_cons_toLoadRect, ↓ View.readCov_fill]
  frame_out
  generalize k0_pay6 x0 x1 x2 = Z at hZ ⊢
  refine (View.canon_append_of_piecesOf (fun j : S64x32000.Idx => Z j - logTotal Z (ix2 (j 0) 0)) [_] [_, _, _, _, _, _, _, _]
    ⟨fun x => ?_, fun x => ?_, fun x => ?_, fun x => ?_, fun x => ?_, fun x => ?_, fun x => ?_, fun x => ?_, trivial⟩ y
    (View.cover_of_tiledL _ ![64, 4000] (by sl_kernel_rfl) y)).trans ?_
  case refine_9 =>
    idx_vars y
    show Z (ix2 _ _) - logTotal Z (ix2 _ _) = _
    rw [logTotal_apply]
    unfold LogSoftmax.plain
    simp only [hZ]
  all_goals
    first | unfold k0_pay1 | unfold k0_pay2 | unfold k0_pay3 | unfold k0_pay4 | unfold k0_pay5 | unfold k0_pay10 | unfold k0_pay11 | unfold k0_pay12
    pointwise []
    refine congrArg₂ (· - ·) (congrArg Z ?_) (congrArg (logTotal Z) ?_)
    all_goals
      blk_ext

/-- The array after the run. -/
theorem array (c : Dev nD) :
    (dats m 0 c).arrAt 3 (cfgs 0).N
      = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold outsAt0
  rw [block]
  have idx : ∀ t : Fin grid0.N, win0_0.index t = ![(grid0.coords t 0).val, 0] ∧ win0_1.index t = ![0, 0] ∧ win0_2.index t = ![0, 0]
      ∧ win0_3.index t = ![(grid0.coords t 0).val, 0] := by decide +kernel
  have h : ∀ v : Fin 32000, blockLogit (iblk m c 0 t) (iblk m c 1 t) (iblk m c 2 t) (y 0) v
      = logit (m ((c.tc : Thread nD τ).loc main_arg0)) (m ((c.tc : Thread nD τ).loc main_arg1)) (m ((c.tc : Thread nD τ).loc main_arg2))
          ((win0_3.blk t).view.emb y 0) v := fun v => by
    unfold logit blockLogit
    blk_point [iblk, V, idx t]
  have e : (win0_3.blk t).view.emb y 1 = y 1 := by
    refine Fin.ext ?_
    blk_simp [idx t]
  unfold G
  rw [funext h, e]

end Cert.Proof.Proj

end
-- ==== Proof.RefValue.lean ====
/- The reference's result, element by element. -/
module

public import proofs.«01_k».proof.Proof.Gen.ReferenceIdeal.Run
public import proofs.«01_k».proof.Proof.Block
public import Idealize.ShloMosaic.Lib.Tactic.CleanTypes

@[expose] public section

set_option maxRecDepth 16384

noncomputable section

namespace Cert.Proof.Proj

open Idealize.ShloMosaic Cert.ReferenceIdeal Cert.ReferenceIdeal.Gen

/-- The reference's logits. -/
def refLogits (h : FVec Ideal S2048x512 .bf16) (w : FVec Ideal S512x32000 .bf16) (b : FVec Ideal S1x32000 .f32) :
    FVec Ideal S2048x32000 .f32 :=
  addf (Host.dotGeneral dot_S2048x512_S512x32000_S2048x32000_1_0_0_1_n_n none (extf .f32 h bitsLt_bf16_f32) (extf .f32 w bitsLt_bf16_f32))
    (broadcastInDim S2048x32000 ![0, 1] bcast_S1x32000_S2048x32000_0_1 b)

theorem refLogits_apply (h : FVec Ideal S2048x512 .bf16) (w : FVec Ideal S512x32000 .bf16) (b : FVec Ideal S1x32000 .f32)
    (r : Fin 2048) (v : Fin 32000) : refLogits h w b (ix2 r v) = logit h w b r v := by
  pointwise [refLogits, logit]

/-- The maximum of each row. -/
def rowMax (L : FVec Ideal S2048x32000 .f32) : FVec Ideal S2048 .f32 :=
  Host.reduce FloatOps.maximumf L (constant S_ .f32 0xFF800000#32) reducesTo_S2048x32000_S2048_d1 h_S_

theorem rowMax_apply (L : FVec Ideal S2048x32000 .f32) (r : Fin 2048) :
    rowMax L (ix1 r) = Finset.univ.fold max (Ideal.ofBits .f32 0xFF800000#32) fun v : Fin 32000 => L (ix2 r v) := by
  pointwise [rowMax]

/-- The sum of each row. -/
def rowSum (L : FVec Ideal S2048x32000 .f32) : FVec Ideal S2048 .f32 :=
  Host.reduceAdd L (constant S_ .f32 0x00000000#32) reducesTo_S2048x32000_S2048_d1 h_S_

theorem rowSum_apply (L : FVec Ideal S2048x32000 .f32) (r : Fin 2048) :
    rowSum L (ix1 r) = ∑ v : Fin 32000, L (ix2 r v) := by
  pointwise [rowSum]

/-- A column of row values, one per row, spread along the rows and held above the bottom. -/
def spreadMax (X : FVec Ideal S2048 .f32) : FVec Ideal S2048x32000 .f32 :=
  broadcastInDim S2048x32000 ![0, 1] bcast_S2048x1_S2048x32000_0_1 (broadcastInDim S2048x1 ![0] bcast_S2048_S2048x1_0
    (maximumf (broadcastInDim S2048 ![] bcast_S_S2048 (constant S_ .f32 0xFF800000#32)) X))

theorem ofBits_bot : Ideal.ofBits .f32 0xFF800000#32 = ⊥ := by
  first | rfl | simp [Ideal.ofBits, Ideal.ieee]

theorem spreadMax_apply (X : FVec Ideal S2048 .f32) (r : Fin 2048) (v : Fin 32000) :
    spreadMax X (ix2 r v) = max ⊥ (X (ix1 r)) := by
  rw [← ofBits_bot]
  pointwise [spreadMax]

/-- The shifted logits less the logarithm of a row total. -/
def shiftedLess (L M : FVec Ideal S2048x32000 .f32) (T : FVec Ideal S2048 .f32) : FVec Ideal S2048x32000 .f32 :=
  subf (subf L M) (broadcastInDim S2048x32000 ![0, 1] bcast_S2048x1_S2048x32000_0_1 (Host.log (broadcastInDim S2048x1 ![0] bcast_S2048_S2048x1_0 T)))

theorem shiftedLess_apply (L M : FVec Ideal S2048x32000 .f32) (T : FVec Ideal S2048 .f32) (r : Fin 2048) (v : Fin 32000) :
    shiftedLess L M T (ix2 r v) = (L (ix2 r v) - M (ix2 r v)) - Ideal.log (T (ix1 r)) := by
  pointwise [shiftedLess]

theorem expLess_apply (L M : FVec Ideal S2048x32000 .f32) (j : S2048x32000.Idx) :
    Host.exp (subf L M) j = Ideal.exp (L j - M j) := by
  pointwise []

/-- The reference's logarithm of the softmax of an array of logits, with the row maximum taken off. -/
def refSoft (L : FVec Ideal S2048x32000 .f32) : FVec Ideal S2048x32000 .f32 :=
  shiftedLess L (spreadMax (rowMax L)) (rowSum (Host.exp (subf L (spreadMax (rowMax L)))))

theorem refSoft_apply (L : FVec Ideal S2048x32000 .f32) (r : Fin 2048) (v : Fin 32000) :
    refSoft L (ix2 r v) = LogSoftmax.plain (fun v => L (ix2 r v)) v := by
  unfold refSoft
  rw [shiftedLess_apply, rowSum_apply]
  simp only [expLess_apply, spreadMax_apply]
  rw [rowMax_apply, ofBits_bot]
  exact LogSoftmax.shifted_max (n := 31999) (fun v => L (ix2 r v)) v

theorem ref_eq (h : FVec Ideal S2048x512 .bf16) (w : FVec Ideal S512x32000 .bf16) (b : FVec Ideal S1x32000 .f32) :
    refSoft (refLogits h w b) = G h w b := by
  funext i
  idx_vars i
  rw [refSoft_apply]
  unfold G
  congr 1
  funext v
  exact refLogits_apply h w b _ v

end Cert.Proof.Proj

end
-- ==== Proof.Dec.Issue.lean ====
module

public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel2Ideal.Dec

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The embedding table left in its place, the gathered rows, and the cell the row copies count on. -/
abbrev table : Memref sig .tc .hbm S32000x512 .f32 := Memref.whole main_arg1
abbrev rows : Memref sig .tc .vmem S2048x512 .f32 := Memref.whole cc0_scratch1
abbrev cell : SemLoc sig := SemLoc.dma cc0_scratch2.sem

/-- Row `k` of the gathered rows, as the copies name it. -/
def dstRow (k : Fin k0_t1_loop.trips) : Memref sig .tc .vmem S1x512 .f32 :=
  rows.slice (Rect.unit (s := S2048x512) (k0_off2 k) S1x512.size (k0_off2_inb k)) (fun _ => rfl)
/-- The table's row a word names. -/
def srcRow (v : BitVec 32) (h : k0_chk1 v) : Memref sig .tc .hbm S1x512 .f32 :=
  table.slice (Rect.unit (s := S32000x512) (k0_off3 v) S1x512.size (k0_off3_inb v h)) (fun _ => rfl)

variable (c : Dev nD) (arg0 : Memref sig .tc .smem S2048 .i32) (harg0 : arg0.IsWhole)
  (arg2 : Memref sig .tc .vmem S64x32x512 .f32) (harg2 : arg2.IsWhole) (arg3 : Memref sig .tc .vmem S1x32 .i32) (harg3 : arg3.IsWhole)
  (arg4 : Memref sig .tc .vmem S512x512 .f32) (harg4 : arg4.IsWhole) (arg5 : Memref sig .tc .vmem S1024x512 .bf16) (harg5 : arg5.IsWhole)
  (arg6 : Memref sig .tc .vmem S1x512 .f32) (harg6 : arg6.IsWhole) (arg7 : Memref sig .tc .vmem S1x512 .f32) (harg7 : arg7.IsWhole)
  (arg8 : Memref sig .tc .vmem S1024x512 .bf16) (harg8 : arg8.IsWhole) (arg9 : Memref sig .tc .vmem S1x512 .f32) (harg9 : arg9.IsWhole)
  (arg10 : Memref sig .tc .vmem S1024x2048 .bf16) (harg10 : arg10.IsWhole) (arg11 : Memref sig .tc .vmem S1x2048 .f32) (harg11 : arg11.IsWhole)
  (arg12 : Memref sig .tc .vmem S32x512 .f32) (harg12 : arg12.IsWhole) (arg13 : Memref sig .tc .vmem S32x512 .f32) (harg13 : arg13.IsWhole)
  (arg14 : Memref sig .tc .vmem S64x32x512 .bf16) (harg14 : arg14.IsWhole) (arg15 : Memref sig .tc .vmem S64x32x512 .f32) (harg15 : arg15.IsWhole)
  (f0 : BufTy.Contents (Elt F) arg0.view.ty) (fe : Buf (Elt F) (table.view.loc (c : Thread nD τ)))

/-- The number of rows copied. -/
abbrev T1 : ℕ := k0_t1_loop.trips

/-- The word trip `k` reads. -/
abbrev word (k : Fin T1) : BitVec 32 :=
  arg0.view.readAt (Elt F) (Rect.unit (s := S2048) (k0_off1 k) S1.size (k0_off1_inb k)).toLoadRect f0
    (Shape.Idx.first (show 0 < S1.numel by rw [numel1_S1]; exact Nat.one_pos))

variable (hw : ∀ k, k0_chk1 (word arg0 f0 k))

/-- Row `k` of the gathered rows before its copy has landed: at some contents. -/
abbrev rowFree (k : Fin T1) : sProp 𝕄 :=
  iprop(∃ g, (dstRow k).view.loc (c : Thread nD τ) ↦[(dstRow k).view.set]{fullShare} g)
/-- The table's row that copy `k` reads, under the copy's own share. -/
abbrev srcTok (k : Fin T1) : sProp 𝕄 :=
  (srcRow _ (hw k)).view.loc (c : Thread nD τ) ↦[(srcRow _ (hw k)).view.set]{Transfers.shareTokN fullShare k.val} fe
/-- What copy `k` delivers: its row written with the table's row its word names, and that row's share back. -/
abbrev landed (k : Fin T1) : sProp 𝕄 :=
  iprop(((dstRow k).view.loc (c : Thread nD τ) ↦[(dstRow k).view.set]{fullShare}
      (dstRow k).view.writes (Elt F) (dstRow k).view.junk [⟨Rect.whole S1x512, ReadAs.same.apply ((srcRow _ (hw k)).view.read (Elt F) fe)⟩])
    ∗ srcTok c arg0 f0 fe hw k)

/-- One row's amount on the cell. -/
abbrev NN : ℕ := (dstRow ⟨0, by decide +kernel⟩).view.amount cell

abbrev batch (j u : ℕ) : sProp 𝕄 :=
  Transfers.Batch (countersEmb (U := Pipeline.UD sig nD τ)) (c : Thread nD τ) cell () NN (landed c arg0 f0 fe hw) j u

/-- Before trip `k` of the issuing loop. -/
def issueAt (k : ℕ) (_ : Unit) : sProp 𝕄 :=
  iprop((arg0.view.loc (c : Thread nD τ) ↦[arg0.view.set]{fullShare} f0) ∗ batch c arg0 f0 fe hw k 0
    ∗ bigSep (Ring.rangeSet T1 k T1) (rowFree (F := F) c) ∗ bigSep (Ring.rangeSet T1 k T1) (srcTok c arg0 f0 fe hw))

theorem issue_step (k : Fin T1) (acc : Unit) :
    issueAt c arg0 f0 fe hw k acc ⊢ wp frame (wpE (defs₀ (F := F)) Variants.none (c : Thread nD τ) none) Set.univ
      (k0_t1_body arg0 harg0 table (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 rows (Memref.isWhole_whole _) cc0_scratch2 k acc)
      (issueAt c arg0 f0 fe hw (k.val + 1)) := by
  have hk := k.isLt
  have hwk := hw k
  unfold issueAt
  rw [Ring.bigSep_rangeSet_head (Φ := rowFree (F := F) c) hk hk, Ring.bigSep_rangeSet_head (Φ := srcTok c arg0 f0 fe hw) hk hk]
  unfold rowFree
  unfold k0_t1_body
  iintro ⟨H0, HB, ⟨⟨%gk, Hd⟩, Hds⟩, Hs, Hss⟩
  sl_exec
  sl_step
  isplitl [H0]; · iexact H0
  isplitl [HB]; · iexact HB
  isplitl [Hds]; · iexact Hds
  iexact Hss

end Cert.Kernel2Ideal.Dec

end
-- ==== Proof.Dec.Drain.lean ====
module

public import proofs.«01_k».proof.Proof.Dec.Issue
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel2Ideal.Dec

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (arg0 : Memref sig .tc .smem S2048 .i32) (harg0 : arg0.IsWhole)
  (arg2 : Memref sig .tc .vmem S64x32x512 .f32) (harg2 : arg2.IsWhole) (arg3 : Memref sig .tc .vmem S1x32 .i32) (harg3 : arg3.IsWhole)
  (arg4 : Memref sig .tc .vmem S512x512 .f32) (harg4 : arg4.IsWhole) (arg5 : Memref sig .tc .vmem S1024x512 .bf16) (harg5 : arg5.IsWhole)
  (arg6 : Memref sig .tc .vmem S1x512 .f32) (harg6 : arg6.IsWhole) (arg7 : Memref sig .tc .vmem S1x512 .f32) (harg7 : arg7.IsWhole)
  (arg8 : Memref sig .tc .vmem S1024x512 .bf16) (harg8 : arg8.IsWhole) (arg9 : Memref sig .tc .vmem S1x512 .f32) (harg9 : arg9.IsWhole)
  (arg10 : Memref sig .tc .vmem S1024x2048 .bf16) (harg10 : arg10.IsWhole) (arg11 : Memref sig .tc .vmem S1x2048 .f32) (harg11 : arg11.IsWhole)
  (arg12 : Memref sig .tc .vmem S32x512 .f32) (harg12 : arg12.IsWhole) (arg13 : Memref sig .tc .vmem S32x512 .f32) (harg13 : arg13.IsWhole)
  (arg14 : Memref sig .tc .vmem S64x32x512 .bf16) (harg14 : arg14.IsWhole) (arg15 : Memref sig .tc .vmem S64x32x512 .f32) (harg15 : arg15.IsWhole)
  (f0 : BufTy.Contents (Elt F) arg0.view.ty) (fe : Buf (Elt F) (table.view.loc (c : Thread nD τ)))

variable (hw : ∀ k, k0_chk1 (word arg0 f0 k))

theorem trips1 : T1 = 2048 := by decide +kernel
theorem trips2 : k0_t2_loop.trips = 2048 := by decide +kernel
theorem NN_pos : 0 < NN := by decide +kernel

/-- Before trip `k` of the waiting loop: every copy issued and `k` rows' amount waited for; after the last trip, every
row delivered. -/
def drainAt (k : ℕ) (_ : Unit) : sProp 𝕄 :=
  iprop(⌜k ≤ k0_t2_loop.trips⌝ ∗ (∃ W, owes (c : Thread nD τ) 0 W)
    ∗ (if k < k0_t2_loop.trips then batch c arg0 f0 fe hw T1 (k * NN)
       else iprop(semVal ((c : Thread nD τ), cell) 0 ∗ bigSep Finset.univ (landed c arg0 f0 fe hw))))

theorem drain_step (k : Fin k0_t2_loop.trips) (acc : Unit) :
    drainAt c arg0 f0 fe hw k acc ⊢ wp frame (wpE (defs₀ (F := F)) Variants.none (c : Thread nD τ) none) Set.univ
      (k0_t2_body arg0 harg0 table (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 rows (Memref.isWhole_whole _) cc0_scratch2 k acc)
      (drainAt c arg0 f0 fe hw (k.val + 1)) := by
  have hk : k.val < k0_t2_loop.trips := k.isLt
  have h1 := trips1
  have h2 := trips2
  have hN := NN_pos
  unfold drainAt
  simp only [if_pos hk]
  rcases Nat.lt_or_ge (k.val + 1) k0_t2_loop.trips with hl | hl
  · simp only [if_pos hl]
    iintro ⟨-, ⟨%W, HO⟩, HB⟩
    unfold k0_t2_body
    dsimp only
    have hu : k.val * NN + NN < NN * T1 := by
      rw [← Nat.succ_mul, Nat.mul_comm NN]; exact Nat.mul_lt_mul_of_pos_right (by omega) hN
    iapply (Transfers.wp_waitBatch (countersEmb (U := Pipeline.UD sig nD τ)) Variants.none (c : Thread nD τ) none () (N := NN) (by rfl) hu) $$ [HB HO]
    · isplitl [HB]; · iexact HB
      iexact HO
    iintro ⟨HB, HO⟩
    dsimp only [Prog.bind]
    sl_step
    isplitr; · ipureintro; omega
    isplitl [HO]; · iexists _; iexact HO
    rw [Nat.succ_mul]
    iexact HB
  · simp only [if_neg (Nat.not_lt.mpr hl)]
    iintro ⟨-, ⟨%W, HO⟩, HB⟩
    unfold k0_t2_body
    dsimp only
    have hu : k.val * NN + NN = NN * T1 := by
      rw [← Nat.succ_mul, Nat.mul_comm NN, show k.val.succ = T1 by omega]
    iapply (Transfers.wp_waitBatchLast (countersEmb (U := Pipeline.UD sig nD τ)) Variants.none (c : Thread nD τ) none () (N := NN) (by rfl) hN hu) $$ [HB HO]
    · isplitl [HB]; · iexact HB
      iexact HO
    iintro ⟨HD, Hc, HO⟩
    dsimp only [Prog.bind]
    sl_step
    isplitr; · ipureintro; omega
    isplitl [HO]; · iexists _; iexact HO
    isplitl [Hc]; · iexact Hc
    iexact HD

end Cert.Kernel2Ideal.Dec

end
-- ==== Proof.Dec.Split.lean ====
module

public import proofs.«01_k».proof.Proof.Dec.Drain
public import Idealize.ShloMosaic.Lib.Pointwise
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel2Ideal.Dec

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (arg0 : Memref sig .tc .smem S2048 .i32)
  (f0 : BufTy.Contents (Elt F) arg0.view.ty) (fe : Buf (Elt F) (table.view.loc (c : Thread nD τ)))

/-- The rows gathered: row `k` is the table's row the `k`-th word names. -/
def gathered : Vec F S2048x512 .f32 := fun y =>
  (show Vec F S32000x512 .f32 from fe) (ix2 ⟨(word arg0 f0 ⟨(y 0).val, lt_of_lt_of_eq (y 0).isLt trips1.symm⟩).toNat % 32000, Nat.mod_lt _ (by decide)⟩ (y 1))

variable (hw : ∀ k, k0_chk1 (word arg0 f0 k))

/-- Where row `k`'s element lies. -/
def dstAt (k : Fin T1) (x : S1x512.Idx) : S2048x512.Idx := (dstRow k).view.emb x

theorem dst_emb0 (k : Fin T1) (x : S1x512.Idx) : (dstAt k x 0).val = k.val := by
  have h0 : k0_off2 k 0 = k.val := by rw [k0_off2_eq]; rfl
  show k0_off2 k 0 + 1 * (x 0).val = k.val
  have : (x 0).val < 1 := (x 0).isLt
  omega

theorem dst_emb1 (k : Fin T1) (x : S1x512.Idx) : (dstAt k x 1).val = (x 1).val := by
  have h0 : k0_off2 k 1 = 0 := by rw [k0_off2_eq]; rfl
  show k0_off2 k 1 + 1 * (x 1).val = (x 1).val
  omega

/-- The elements of row `k`. -/
abbrev dstSet (k : Fin T1) : Finset S2048x512.Idx := (dstRow k).view.set

theorem dst_disjoint (k k' : Fin T1) (h : k ≠ k') : Disjoint (dstSet k) (dstSet k') := by
  rw [Finset.disjoint_left]
  intro y hy hy'
  obtain ⟨x, -, rfl⟩ := Finset.mem_map.1 hy
  obtain ⟨x', -, hx⟩ := Finset.mem_map.1 hy'
  have h1 := dst_emb0 k x
  have h2 := dst_emb0 k' x'
  rw [show dstAt k' x' = dstAt k x from hx] at h2
  exact h (Fin.ext (h1.symm.trans h2))

theorem dst_cover : Finset.univ.biUnion dstSet = Finset.univ := by
  ext y
  simp only [Finset.mem_biUnion, Finset.mem_univ, true_and, iff_true]
  refine ⟨⟨(y 0).val, lt_of_lt_of_eq (y 0).isLt trips1.symm⟩, Finset.mem_map.2 ⟨(ix2 0 (y 1) : S1x512.Idx), Finset.mem_univ _, ?_⟩⟩
  funext a
  refine Fin.ext ?_
  match a with
  | 0 => exact dst_emb0 _ _
  | 1 => exact dst_emb1 _ _

theorem rows_split :
    (iprop(∃ f, rows.view.loc (c : Thread nD τ) ↦{fullShare} f) : sProp 𝕄)
      ⊢ bigSep (Ring.rangeSet T1 0 T1) (rowFree (F := F) c) := by
  rw [Ring.rangeSet_univ]
  iintro ⟨%f, H⟩
  ihave H2 := (Entails.of_eq (Ring.pointsTo_blocks (ℓ := rows.view.loc (c : Thread nD τ)) dstSet dst_disjoint dst_cover f)) $$ H
  have hm : (bigSep Finset.univ (fun k => (rows.view.loc (c : Thread nD τ) ↦[dstSet k]{fullShare} f : sProp 𝕄))) ⊢ bigSep Finset.univ (rowFree (F := F) c) :=
    BI.bigSep_mono fun k _ => by
      show (rows.view.loc (c : Thread nD τ) ↦[dstSet k]{fullShare} f : sProp 𝕄) ⊢ iprop(∃ g, (dstRow k).view.loc (c : Thread nD τ) ↦[(dstRow k).view.set]{fullShare} g)
      iintro H; iexists f; iexact H
  iapply hm; iexact H2

/-- What of the table no copy reads. -/
def tableRest : sProp 𝕄 :=
  iprop((table.view.loc (c : Thread nD τ) ↦{Transfers.shareDrop fullShare T1} fe)
    ∗ bigSep Finset.univ (fun k : Fin T1 => (table.view.loc (c : Thread nD τ) ↦[Finset.univ \ (srcRow _ (hw k)).view.set]{Transfers.shareTokN fullShare k.val} fe : sProp 𝕄)))

theorem table_tokens :
    (bigSep (Finset.range T1) (fun i => (table.view.loc (c : Thread nD τ) ↦{Transfers.shareTokN fullShare i} fe : sProp 𝕄)))
      = bigSep Finset.univ (fun k : Fin T1 => (table.view.loc (c : Thread nD τ) ↦{Transfers.shareTokN fullShare k.val} fe : sProp 𝕄)) := by
  rw [← Ring.rangeSet_univ]
  exact (Ring.bigSep_rangeSet_eq_range (NB := T1) (lo := 0) (hi := T1) le_rfl _ fun k h => by
    show _ = (table.view.loc (c : Thread nD τ) ↦{Transfers.shareTokN fullShare (0 + k)} fe : sProp 𝕄)
    rw [Nat.zero_add]).symm

theorem token_rows :
    bigSep Finset.univ (fun k : Fin T1 => (table.view.loc (c : Thread nD τ) ↦{Transfers.shareTokN fullShare k.val} fe : sProp 𝕄))
      ⊣⊢ iprop(bigSep Finset.univ (srcTok c arg0 f0 fe hw) ∗ bigSep Finset.univ (fun k : Fin T1 => (table.view.loc (c : Thread nD τ) ↦[Finset.univ \ (srcRow _ (hw k)).view.set]{Transfers.shareTokN fullShare k.val} fe : sProp 𝕄))) := by
  constructor
  · refine (BI.bigSep_mono fun k _ => ?_).trans (Entails.of_eq (BI.bigSep_sep' _ _ _))
    exact (pointsTo_split_subset (Finset.subset_univ (srcRow _ (hw k)).view.set)).1
  · refine (Entails.of_eq (BI.bigSep_sep' _ _ _).symm).trans (BI.bigSep_mono fun k _ => ?_)
    exact (pointsTo_split_subset (Finset.subset_univ (srcRow _ (hw k)).view.set)).2

theorem table_split :
    (table.view.loc (c : Thread nD τ) ↦{fullShare} fe : sProp 𝕄)
      ⊢ iprop(bigSep (Ring.rangeSet T1 0 T1) (srcTok c arg0 f0 fe hw) ∗ tableRest c arg0 f0 fe hw) := by
  rw [Ring.rangeSet_univ]
  unfold tableRest
  iintro H
  ihave H2 := (Transfers.pointsTo_toks_range fullShare T1).1 $$ H
  icases H2 with ⟨Hd, Ht⟩
  ihave Ht2 := (Entails.of_eq (table_tokens c fe)) $$ Ht
  ihave Ht4 := (token_rows c arg0 f0 fe hw).1 $$ Ht2
  icases Ht4 with ⟨Ha, Hb⟩
  isplitl [Ha]; · iexact Ha
  isplitl [Hd]; · iexact Hd
  iexact Hb

theorem table_join :
    iprop(bigSep Finset.univ (srcTok c arg0 f0 fe hw) ∗ tableRest c arg0 f0 fe hw)
      ⊢ (table.view.loc (c : Thread nD τ) ↦{fullShare} fe : sProp 𝕄) := by
  unfold tableRest
  iintro ⟨Ha, Hd, Hb⟩
  iapply (Transfers.pointsTo_toks_range fullShare T1).2
  isplitl [Hd]; · iexact Hd
  iapply (Entails.of_eq (table_tokens c fe).symm)
  iapply (token_rows c arg0 f0 fe hw).2
  isplitl [Ha]; · iexact Ha
  iexact Hb

include hw in
theorem word_lt (k : Fin T1) : (word arg0 f0 k).toNat < 32000 := by
  have h := hw k 0
  have h2 : k0_off3 (word arg0 f0 k) 0 = (word arg0 f0 k).toNat := rfl
  have h3 : S1x512.size 0 = 1 := rfl
  have h4 : S32000x512.size 0 = 32000 := rfl
  omega

theorem gathered_at (k : Fin T1) (x : S1x512.Idx) :
    gathered c arg0 f0 fe (dstAt k x) = (srcRow _ (hw k)).view.read (Elt F) fe x := by
  have hx : (x 0).val < 1 := (x 0).isLt
  have hlt := word_lt arg0 f0 hw k
  have hk : (⟨(dstAt k x 0).val, lt_of_lt_of_eq (dstAt k x 0).isLt trips1.symm⟩ : Fin T1) = k := Fin.ext (dst_emb0 k x)
  have h1 := dst_emb1 k x
  have hn := congrArg (fun q => (word arg0 f0 q).toNat) hk
  refine congrArg (show Vec F S32000x512 .f32 from fe) (funext fun a => Fin.ext ?_)
  match a with
  | 0 =>
    show (word arg0 f0 ⟨(dstAt k x 0).val, _⟩).toNat % 32000 = (word arg0 f0 k).toNat + 1 * (x 0).val
    refine (congrArg (· % 32000) hn).trans ?_
    show (word arg0 f0 k).toNat % 32000 = _
    rw [Nat.mod_eq_of_lt hlt]; omega
  | 1 =>
    show (dstAt k x 1).val = 0 + 1 * (x 1).val
    rw [h1]; omega

theorem row_written (k : Fin T1) (w : S1x512.Idx → Elt F .f32) (x : S1x512.Idx) :
    (dstRow k).view.writes (Elt F) (dstRow k).view.junk [⟨Rect.whole S1x512, w⟩] (dstAt k x) = w x := by
  have h := congrFun (View.read_writes_whole (dstRow k).view (dstRow k).view.junk w) x
  rw [View.read_apply] at h
  exact (eq_of_heq (cast_heq _ _)).symm.trans h

theorem landed_row (k : Fin T1) :
    ∀ i ∈ dstSet k, (dstRow k).view.writes (Elt F) (dstRow k).view.junk [⟨Rect.whole S1x512, ReadAs.same.apply ((srcRow _ (hw k)).view.read (Elt F) fe)⟩] i
      = gathered c arg0 f0 fe i := by
  intro i hi
  obtain ⟨x, -, rfl⟩ := Finset.mem_map.1 hi
  exact (row_written k _ x).trans (gathered_at c arg0 f0 fe hw k x).symm

theorem landed_join :
    bigSep Finset.univ (landed c arg0 f0 fe hw)
      ⊢ iprop((rows.view.loc (c : Thread nD τ) ↦{fullShare} (gathered c arg0 f0 fe : Buf (Elt F) (rows.view.loc (c : Thread nD τ)))) ∗ bigSep Finset.univ (srcTok c arg0 f0 fe hw) : sProp 𝕄) := by
  iintro H
  ihave H2 := (Entails.of_eq (BI.bigSep_sep' _ _ _)) $$ H
  icases H2 with ⟨Ha, Hb⟩
  isplitl [Ha]
  · iapply (Entails.of_eq (Ring.pointsTo_blocks (ℓ := rows.view.loc (c : Thread nD τ)) dstSet dst_disjoint dst_cover _).symm)
    iapply (Entails.of_eq (BI.bigSep_congr fun k _ => pointsTo_congr (landed_row c arg0 f0 fe hw k)))
    iexact Ha
  iexact Hb

end Cert.Kernel2Ideal.Dec

end
-- ==== Proof.Dec.Steps.lean ====
module

public import proofs.«01_k».proof.Proof.Dec.Issue
public import Idealize.ShloMosaic.Lib.Pointwise
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel2Ideal.Dec

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Every operand a decoder step reads besides its state and its row of embeddings. -/
structure Wts (F : FTy → Type) [FloatOps F] where
  mask : IVec S64x32 1
  va : FVec F S512 .f32
  wq : Vec F S1024x512 .bf16
  bq : Vec F S1x512 .f32
  ep : Vec F S64x32x512 .f32
  enc : Vec F S64x32x512 .f32
  wc : Vec F S1024x512 .bf16
  bc : Vec F S1x512 .f32
  wd : Vec F S1024x2048 .bf16
  bd : Vec F S1x2048 .f32

namespace Wts
variable (W : Wts F)

/-- The input of the combining product: a step's embeddings beside its attention's context. -/
def mix (G : Vec F S32x512 .f32) (s : Vec F S32x512 .f32 × Vec F S32x512 .f32) : FVec F S32x1024 .bf16 :=
  k0_pay8 W.mask W.va s.1 s.2 G W.wq W.bq W.ep W.enc
/-- The state after one step. -/
def next (G : Vec F S32x512 .f32) (s : Vec F S32x512 .f32 × Vec F S32x512 .f32) : Vec F S32x512 .f32 × Vec F S32x512 .f32 :=
  (k0_pay6 s.1 s.2 (W.mix G s) W.wc W.bc W.wd W.bd, k0_pay5 s.1 s.2 (W.mix G s) W.wc W.bc W.wd W.bd)
/-- The row one step writes. -/
def row (G : Vec F S32x512 .f32) (s : Vec F S32x512 .f32 × Vec F S32x512 .f32) : Vec F S1x32x512 .bf16 :=
  k0_pay7 s.1 s.2 (W.mix G s) W.wc W.bc W.wd W.bd

/-- The state before step `k`. -/
def state (G : ℕ → Vec F S32x512 .f32) (s0 : Vec F S32x512 .f32 × Vec F S32x512 .f32) : ℕ → Vec F S32x512 .f32 × Vec F S32x512 .f32
  | 0 => s0
  | k + 1 => W.next (G k) (state G s0 k)

/-- Every step's row. -/
def out (G : ℕ → Vec F S32x512 .f32) (s0 : Vec F S32x512 .f32 × Vec F S32x512 .f32) : Vec F S64x32x512 .bf16 :=
  fun y => W.row (G (y 0).val) (W.state G s0 (y 0).val) (ix3 0 (y 1) (y 2))
end Wts

/-- Step `k`'s rows of the gathered ones. -/
def rowsOf (g : Vec F S2048x512 .f32) (k : ℕ) : Vec F S32x512 .f32 :=
  fun y => g (ix2 ⟨(32 * k + (y 0).val) % 2048, Nat.mod_lt _ (by decide)⟩ (y 1))

variable (c : Dev nD) (arg0 : Memref sig .tc .smem S2048 .i32) (harg0 : arg0.IsWhole)
  (arg2 : Memref sig .tc .vmem S64x32x512 .f32) (harg2 : arg2.IsWhole) (arg3 : Memref sig .tc .vmem S1x32 .i32) (harg3 : arg3.IsWhole)
  (arg4 : Memref sig .tc .vmem S512x512 .f32) (harg4 : arg4.IsWhole) (arg5 : Memref sig .tc .vmem S1024x512 .bf16) (harg5 : arg5.IsWhole)
  (arg6 : Memref sig .tc .vmem S1x512 .f32) (harg6 : arg6.IsWhole) (arg7 : Memref sig .tc .vmem S1x512 .f32) (harg7 : arg7.IsWhole)
  (arg8 : Memref sig .tc .vmem S1024x512 .bf16) (harg8 : arg8.IsWhole) (arg9 : Memref sig .tc .vmem S1x512 .f32) (harg9 : arg9.IsWhole)
  (arg10 : Memref sig .tc .vmem S1024x2048 .bf16) (harg10 : arg10.IsWhole) (arg11 : Memref sig .tc .vmem S1x2048 .f32) (harg11 : arg11.IsWhole)
  (arg12 : Memref sig .tc .vmem S32x512 .f32) (harg12 : arg12.IsWhole) (arg13 : Memref sig .tc .vmem S32x512 .f32) (harg13 : arg13.IsWhole)
  (arg14 : Memref sig .tc .vmem S64x32x512 .bf16) (harg14 : arg14.IsWhole) (arg15 : Memref sig .tc .vmem S64x32x512 .f32) (harg15 : arg15.IsWhole)

variable (f2 : BufTy.Contents (Elt F) arg2.view.ty) (v11 : Vec F S1x32 .i32) (f5 : BufTy.Contents (Elt F) arg5.view.ty)
  (f6 : BufTy.Contents (Elt F) arg6.view.ty) (v16 : Vec F S1x512 .f32) (f8 : BufTy.Contents (Elt F) arg8.view.ty)
  (f9 : BufTy.Contents (Elt F) arg9.view.ty) (f10 : BufTy.Contents (Elt F) arg10.view.ty) (f11 : BufTy.Contents (Elt F) arg11.view.ty)
  (f15 : BufTy.Contents (Elt F) arg15.view.ty) (fG : Buf (Elt F) (rows.view.loc (c : Thread nD τ)))
  (s0 : Vec F S32x512 .f32 × Vec F S32x512 .f32)

/-- The operands as the kernel's buffers hold them. -/
abbrev wts : Wts F where
  mask := k0_pay2 v11
  va := k0_pay3 v16
  wq := arg5.view.readAt (Elt F) (Rect.unit ![0, 0] S1024x512.size inb_S1024x512_S1024x512_0_0).toLoadRect f5
  bq := arg6.view.readAt (Elt F) (Rect.unit ![0, 0] S1x512.size inb_S1x512_S1x512_0_0).toLoadRect f6
  ep := arg15.view.readAt (Elt F) (Rect.unit ![0, 0, 0] S64x32x512.size inb_S64x32x512_S64x32x512_0_0_0).toLoadRect f15
  enc := arg2.view.readAt (Elt F) (Rect.unit ![0, 0, 0] S64x32x512.size inb_S64x32x512_S64x32x512_0_0_0).toLoadRect f2
  wc := arg8.view.readAt (Elt F) (Rect.unit ![0, 0] S1024x512.size inb_S1024x512_S1024x512_0_0).toLoadRect f8
  bc := arg9.view.readAt (Elt F) (Rect.unit ![0, 0] S1x512.size inb_S1x512_S1x512_0_0).toLoadRect f9
  wd := arg10.view.readAt (Elt F) (Rect.unit ![0, 0] S1024x2048.size inb_S1024x2048_S1024x2048_0_0).toLoadRect f10
  bd := arg11.view.readAt (Elt F) (Rect.unit ![0, 0] S1x2048.size inb_S1x2048_S1x2048_0_0).toLoadRect f11

/-- The gathered rows as a vector. -/
abbrev gath : Vec F S2048x512 .f32 := rows.view.read (Elt F) fG

theorem read_rows (k : Fin k0_t3_loop.trips) :
    rows.view.readAt (Elt F) (Rect.unit (s := S2048x512) (k0_off4 k) S32x512.size (k0_off4_inb k)).toLoadRect fG = rowsOf (gath c fG) k.val := by
  have hk : k.val < 64 := Nat.lt_of_lt_of_le k.isLt k0_t3_abs.2.1
  funext y
  have h0 : k0_off4 k 0 = 32 * k.val := by rw [k0_off4_eq]; rfl
  have h1 : k0_off4 k 1 = 0 := by rw [k0_off4_eq]; rfl
  have hy := (y 0).isLt
  refine congrArg (gath c fG) (funext fun a => Fin.ext ?_)
  match a with
  | 0 =>
    show k0_off4 k 0 + 1 * (y 0).val = (32 * k.val + (y 0).val) % 2048
    rw [h0, Nat.mod_eq_of_lt (by have : (y 0).val < 32 := hy; omega)]; omega
  | 1 =>
    show k0_off4 k 1 + 1 * (y 1).val = (y 1).val
    omega

/-- The rows the loop leaves. -/
abbrev outV : Vec F S64x32x512 .bf16 :=
  (wts arg2 arg5 arg6 arg8 arg9 arg10 arg11 arg15 f2 v11 f5 f6 v16 f8 f9 f10 f11 f15).out (rowsOf (gath c fG)) s0
abbrev stateAt (k : ℕ) : Vec F S32x512 .f32 × Vec F S32x512 .f32 :=
  (wts arg2 arg5 arg6 arg8 arg9 arg10 arg11 arg15 f2 v11 f5 f6 v16 f8 f9 f10 f11 f15).state (rowsOf (gath c fG)) s0 k

/-- Before step `k`: the state so far, and the rows written so far. -/
def stepsAt (k : ℕ) (acc : Vec F S32x512 .f32 × Vec F S32x512 .f32) : sProp 𝕄 :=
  iprop((arg2.view.loc (c : Thread nD τ) ↦[arg2.view.set]{fullShare} f2)
    ∗ (arg5.view.loc (c : Thread nD τ) ↦[arg5.view.set]{fullShare} f5)
    ∗ (arg6.view.loc (c : Thread nD τ) ↦[arg6.view.set]{fullShare} f6)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11)
    ∗ (arg15.view.loc (c : Thread nD τ) ↦[arg15.view.set]{fullShare} f15)
    ∗ (rows.view.loc (c : Thread nD τ) ↦{fullShare} fG)
    ∗ ⌜acc = stateAt c arg2 arg5 arg6 arg8 arg9 arg10 arg11 arg15 f2 v11 f5 f6 v16 f8 f9 f10 f11 f15 fG s0 k⌝
    ∗ (∃ f14, (arg14.view.loc (c : Thread nD τ) ↦[arg14.view.set]{fullShare} f14)
      ∗ ⌜∀ y : S64x32x512.Idx, (y 0).val < k → arg14.view.read (Elt F) f14 y
          = outV c arg2 arg5 arg6 arg8 arg9 arg10 arg11 arg15 f2 v11 f5 f6 v16 f8 f9 f10 f11 f15 fG s0 y⌝))

theorem rows_written (k : Fin k0_t3_loop.trips) (f14 : BufTy.Contents (Elt F) arg14.view.ty) (w : Vec F S1x32x512 .bf16)
    (v : Vec F S64x32x512 .bf16) (hf : ∀ y : S64x32x512.Idx, (y 0).val < k.val → arg14.view.read (Elt F) f14 y = v y)
    (hw : ∀ y : S64x32x512.Idx, (y 0).val = k.val → w (ix3 0 (y 1) (y 2)) = v y) :
    ∀ y : S64x32x512.Idx, (y 0).val < k.val + 1 →
      arg14.view.read (Elt F) (arg14.view.writes (Elt F) f14 [⟨Rect.unit (s := S64x32x512) (k0_off5 k) S1x32x512.size (k0_off5_inb k), w⟩]) y = v y := by
  have h0 : k0_off5 k 0 = k.val := by rw [k0_off5_eq]; rfl
  have h1 : k0_off5 k 1 = 0 := by rw [k0_off5_eq]; rfl
  have h2 : k0_off5 k 2 = 0 := by rw [k0_off5_eq]; rfl
  intro y hy
  rcases Nat.lt_or_ge (y 0).val k.val with hl | hl
  · rw [View.writes_cons, View.read_slice_write_of_not_mem]
    · exact hf y hl
    · intro hm
      obtain ⟨x, -, hx⟩ := Finset.mem_map.1 hm
      have h3 : k0_off5 k 0 + 1 * (x 0).val = (y 0).val := congrArg (fun z : S64x32x512.Idx => (z 0).val) hx
      omega
  · have hk : (y 0).val = k.val := by omega
    have hy : (Rect.unit (s := S64x32x512) (k0_off5 k) S1x32x512.size (k0_off5_inb k)).emb (ix3 0 (y 1) (y 2) : S1x32x512.Idx) = y := by
      funext a
      refine Fin.ext ?_
      match a with
      | 0 => show k0_off5 k 0 + 1 * 0 = (y 0).val; omega
      | 1 => show k0_off5 k 1 + 1 * (y 1).val = (y 1).val; omega
      | 2 => show k0_off5 k 2 + 1 * (y 2).val = (y 2).val; omega
    exact (congrArg _ hy.symm).trans ((View.read_writes_cons_emb _ _ _ _ _ _).trans (hw y hk))

theorem steps_step (k : Fin k0_t3_loop.trips) (acc : Vec F S32x512 .f32 × Vec F S32x512 .f32) :
  stepsAt c arg2 arg5 arg6 arg8 arg9 arg10 arg11 arg14 arg15 f2 v11 f5 f6 v16 f8 f9 f10 f11 f15 fG s0 k acc
   ⊢ wp frame (wpE (defs₀ (F := F)) Variants.none (c : Thread nD τ) none) Set.univ
      (k0_t3_body arg0 harg0 table (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 rows (Memref.isWhole_whole _) cc0_scratch2 v11 v16 k acc)
      (stepsAt c arg2 arg5 arg6 arg8 arg9 arg10 arg11 arg14 arg15 f2 v11 f5 f6 v16 f8 f9 f10 f11 f15 fG s0 (k.val + 1)) := by
  have hk : k.val < 64 := Nat.lt_of_lt_of_le k.isLt k0_t3_abs.2.1
  unfold stepsAt
  unfold k0_t3_body
  iintro ⟨H2, H5, H6, H8, H9, H10, H11, H15, HG, %hacc, ⟨%f14, H14, %hf⟩⟩
  sl_exec
  sl_step
  isplitl [H2]; · iexact H2
  isplitl [H5]; · iexact H5
  isplitl [H6]; · iexact H6
  isplitl [H8]; · iexact H8
  isplitl [H9]; · iexact H9
  isplitl [H10]; · iexact H10
  isplitl [H11]; · iexact H11
  isplitl [H15]; · iexact H15
  isplitl [HG]; · iexact HG
  subst hacc
  unfold steps_step.sl.r
  rw [read_rows c fG k]
  isplitr; · ipureintro; rfl
  iexists _
  isplitl [H14]; · iexact H14
  ipureintro
  refine rows_written arg14 k f14 _ _ hf fun y hy => ?_
  show _ = Wts.row _ (rowsOf _ (y 0).val) (Wts.state _ _ _ (y 0).val) _
  rw [hy]
  rfl

end Cert.Kernel2Ideal.Dec

end
-- ==== Proof.Dec.Run.lean ====
module

public import proofs.«01_k».proof.Proof.Dec.Split
public import proofs.«01_k».proof.Proof.Dec.Steps
public import Idealize.ShloMosaic.Lib.Pointwise
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel2Ideal.Dec

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (arg0 : Memref sig .tc .smem S2048 .i32) (harg0 : arg0.IsWhole)
  (arg2 : Memref sig .tc .vmem S64x32x512 .f32) (harg2 : arg2.IsWhole) (arg3 : Memref sig .tc .vmem S1x32 .i32) (harg3 : arg3.IsWhole)
  (arg4 : Memref sig .tc .vmem S512x512 .f32) (harg4 : arg4.IsWhole) (arg5 : Memref sig .tc .vmem S1024x512 .bf16) (harg5 : arg5.IsWhole)
  (arg6 : Memref sig .tc .vmem S1x512 .f32) (harg6 : arg6.IsWhole) (arg7 : Memref sig .tc .vmem S1x512 .f32) (harg7 : arg7.IsWhole)
  (arg8 : Memref sig .tc .vmem S1024x512 .bf16) (harg8 : arg8.IsWhole) (arg9 : Memref sig .tc .vmem S1x512 .f32) (harg9 : arg9.IsWhole)
  (arg10 : Memref sig .tc .vmem S1024x2048 .bf16) (harg10 : arg10.IsWhole) (arg11 : Memref sig .tc .vmem S1x2048 .f32) (harg11 : arg11.IsWhole)
  (arg12 : Memref sig .tc .vmem S32x512 .f32) (harg12 : arg12.IsWhole) (arg13 : Memref sig .tc .vmem S32x512 .f32) (harg13 : arg13.IsWhole)
  (arg14 : Memref sig .tc .vmem S64x32x512 .bf16) (harg14 : arg14.IsWhole) (arg15 : Memref sig .tc .vmem S64x32x512 .f32) (harg15 : arg15.IsWhole)
  (f0 : BufTy.Contents (Elt F) arg0.view.ty) (fe : Buf (Elt F) (table.view.loc (c : Thread nD τ)))

variable (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)

/-- What the kernel leaves in its result, as a vector of the operands' contents. -/
def decoded : Vec F S64x32x512 .bf16 :=
  Wts.out ({ mask := k0_pay2 (arg3.view.readAt (Elt F) (Rect.unit ![0, 0] S1x32.size inb_S1x32_S1x32_0_0).toLoadRect f3), va := k0_pay3 (arg7.view.readAt (Elt F) (Rect.unit ![0, 0] S1x512.size inb_S1x512_S1x512_0_0).toLoadRect f7), wq := (arg5.view.readAt (Elt F) (Rect.unit ![0, 0] S1024x512.size inb_S1024x512_S1024x512_0_0).toLoadRect f5), bq := (arg6.view.readAt (Elt F) (Rect.unit ![0, 0] S1x512.size inb_S1x512_S1x512_0_0).toLoadRect f6),
             ep := k0_pay1 (arg2.view.readAt (Elt F) (Rect.unit ![0, 0, 0] S64x32x512.size inb_S64x32x512_S64x32x512_0_0_0).toLoadRect f2) (arg4.view.readAt (Elt F) (Rect.unit ![0, 0] S512x512.size inb_S512x512_S512x512_0_0).toLoadRect f4), enc := (arg2.view.readAt (Elt F) (Rect.unit ![0, 0, 0] S64x32x512.size inb_S64x32x512_S64x32x512_0_0_0).toLoadRect f2), wc := (arg8.view.readAt (Elt F) (Rect.unit ![0, 0] S1024x512.size inb_S1024x512_S1024x512_0_0).toLoadRect f8), bc := (arg9.view.readAt (Elt F) (Rect.unit ![0, 0] S1x512.size inb_S1x512_S1x512_0_0).toLoadRect f9), wd := (arg10.view.readAt (Elt F) (Rect.unit ![0, 0] S1024x2048.size inb_S1024x2048_S1024x2048_0_0).toLoadRect f10), bd := (arg11.view.readAt (Elt F) (Rect.unit ![0, 0] S1x2048.size inb_S1x2048_S1x2048_0_0).toLoadRect f11) } : Wts F)
    (rowsOf (gathered c arg0 f0 fe)) ((arg12.view.readAt (Elt F) (Rect.unit ![0, 0] S32x512.size inb_S32x512_S32x512_0_0).toLoadRect f12), (arg13.view.readAt (Elt F) (Rect.unit ![0, 0] S32x512.size inb_S32x512_S32x512_0_0).toLoadRect f13))

theorem trips3 : k0_t3_loop.trips = 64 := by decide +kernel

theorem ep_read (f : BufTy.Contents (Elt F) arg15.view.ty) (w : Vec F S64x32x512 .f32) :
    (arg15.view.readAt (Elt F) (Rect.unit ![0, 0, 0] S64x32x512.size inb_S64x32x512_S64x32x512_0_0_0).toLoadRect (arg15.view.writes (Elt F) f [⟨Rect.unit ![0, 0, 0] S64x32x512.size inb_S64x32x512_S64x32x512_0_0_0, w⟩])) = w :=
  funext fun x => View.read_writes_cons_emb _ _ _ _ _ x

theorem gath_eq (g : Vec F S2048x512 .f32) : gath c (g : Buf (Elt F) (rows.view.loc (c : Thread nD τ))) = g :=
  View.read_whole cc0_scratch1 g

variable {c arg0 arg2 arg3 arg4 arg5 arg6 arg7 arg8 arg9 arg10 arg11 arg12 arg13 arg15 f0 fe f2 f3 f4 f5 f6 f7 f8 f9 f10 f11 f12 f13} in
theorem decoded_eq {v3 : Vec F S1x32 .i32} {v7 : Vec F S1x512 .f32} {v12 v13 : Vec F S32x512 .f32} {fE : BufTy.Contents (Elt F) arg15.view.ty}
    {G : Buf (Elt F) (rows.view.loc (c : Thread nD τ))}
    (h3 : (arg3.view.readAt (Elt F) (Rect.unit ![0, 0] S1x32.size inb_S1x32_S1x32_0_0).toLoadRect f3) = v3) (h7 : (arg7.view.readAt (Elt F) (Rect.unit ![0, 0] S1x512.size inb_S1x512_S1x512_0_0).toLoadRect f7) = v7) (h12 : (arg12.view.readAt (Elt F) (Rect.unit ![0, 0] S32x512.size inb_S32x512_S32x512_0_0).toLoadRect f12) = v12) (h13 : (arg13.view.readAt (Elt F) (Rect.unit ![0, 0] S32x512.size inb_S32x512_S32x512_0_0).toLoadRect f13) = v13) (hE : (arg15.view.writes (Elt F) arg15.view.junk [⟨Rect.unit ![0, 0, 0] S64x32x512.size inb_S64x32x512_S64x32x512_0_0_0, k0_pay1 (arg2.view.readAt (Elt F) (Rect.unit ![0, 0, 0] S64x32x512.size inb_S64x32x512_S64x32x512_0_0_0).toLoadRect f2) (arg4.view.readAt (Elt F) (Rect.unit ![0, 0] S512x512.size inb_S512x512_S512x512_0_0).toLoadRect f4)⟩]) = fE)
    (hG : (gathered c arg0 f0 fe : Buf (Elt F) (rows.view.loc (c : Thread nD τ))) = G) :
    outV c arg2 arg5 arg6 arg8 arg9 arg10 arg11 arg15 f2 v3 f5 f6 v7 f8 f9 f10 f11 fE G (v12, v13)
      = decoded c arg0 arg2 arg3 arg4 arg5 arg6 arg7 arg8 arg9 arg10 arg11 arg12 arg13 f0 fe f2 f3 f4 f5 f6 f7 f8 f9 f10 f11 f12 f13 := by
  have hg : gath c G = gathered c arg0 f0 fe := by rw [← hG]; exact gath_eq c _
  have he : (arg15.view.readAt (Elt F) (Rect.unit ![0, 0, 0] S64x32x512.size inb_S64x32x512_S64x32x512_0_0_0).toLoadRect fE) = k0_pay1 (arg2.view.readAt (Elt F) (Rect.unit ![0, 0, 0] S64x32x512.size inb_S64x32x512_S64x32x512_0_0_0).toLoadRect f2) (arg4.view.readAt (Elt F) (Rect.unit ![0, 0] S512x512.size inb_S512x512_S512x512_0_0).toLoadRect f4) := by rw [← hE]; exact ep_read arg15 _ _
  unfold decoded outV wts
  rw [hg, he, h3, h7, h12, h13]

theorem pt_storable (ℓ : Loc nD τ sig) (I : Finset (Idx ℓ)) (q : PosShare TreeShare) (f : Buf (Elt F) ℓ) :
    Storable (upEmb : UEmb _ 𝕄) (ℓ ↦[I]{q} f : sProp 𝕄) := inferInstance

theorem landed_storable (hw : ∀ k, k0_chk1 (word arg0 f0 k)) (k : Fin T1) : Storable (upEmb : UEmb _ 𝕄) (landed c arg0 f0 fe hw k) := by
  have h2 : Storable (upEmb : UEmb _ 𝕄) (srcTok c arg0 f0 fe hw k) := pt_storable ((srcRow _ (hw k)).view.loc (c : Thread nD τ)) _ _ _
  exact Storable.sep _ _ _

set_option maxHeartbeats 600000 in
theorem run (hw : ∀ k, k0_chk1 (word arg0 f0 k)) (W : Waits sig Unit) (f14 : BufTy.Contents (Elt F) arg14.view.ty) (f15 : BufTy.Contents (Elt F) arg15.view.ty) :
    (iprop((arg0.view.loc (c : Thread nD τ) ↦[arg0.view.set]{fullShare} f0) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ (table.view.loc (c : Thread nD τ) ↦{fullShare} fe) ∗ (arg14.view.loc (c : Thread nD τ) ↦[arg14.view.set]{fullShare} f14) ∗ (arg15.view.loc (c : Thread nD τ) ↦[arg15.view.set]{fullShare} f15)
      ∗ (∃ g, rows.view.loc (c : Thread nD τ) ↦{fullShare} g) ∗ semVal ((c : Thread nD τ), cell) 0 ∗ owes (c : Thread nD τ) 0 W) : sProp 𝕄)
    ⊢ wp frame (wpE (defs₀ (F := F)) Variants.none (c : Thread nD τ) none) Set.univ (cc0_attn_decoder arg0 harg0 table (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 rows (Memref.isWhole_whole _) cc0_scratch2)
      (fun _ => iprop((arg0.view.loc (c : Thread nD τ) ↦[arg0.view.set]{fullShare} f0) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ (table.view.loc (c : Thread nD τ) ↦{fullShare} fe)
      ∗ (∃ g, (arg14.view.loc (c : Thread nD τ) ↦[arg14.view.set]{fullShare} g) ∗ ⌜arg14.view.read (Elt F) g = decoded c arg0 arg2 arg3 arg4 arg5 arg6 arg7 arg8 arg9 arg10 arg11 arg12 arg13 f0 fe f2 f3 f4 f5 f6 f7 f8 f9 f10 f11 f12 f13⌝) ∗ (∃ g, (arg15.view.loc (c : Thread nD τ) ↦[arg15.view.set]{fullShare} g))
      ∗ (∃ g, rows.view.loc (c : Thread nD τ) ↦{fullShare} g) ∗ semVal ((c : Thread nD τ), cell) 0 ∗ (∃ W, owes (c : Thread nD τ) 0 W))) := by
  haveI hst : ∀ k, Storable (upEmb : UEmb _ 𝕄) (landed c arg0 f0 fe hw k) := landed_storable c arg0 f0 fe hw
  iintro ⟨H0, H2, H3, H4, H5, H6, H7, H8, H9, H10, H11, H12, H13, HT, H14, H15, HR, Hc, HO⟩
  ihave HR2 := (rows_split c) $$ HR
  ihave HT2 := (table_split c arg0 f0 fe hw) $$ HT
  icases HT2 with ⟨HS, HTr⟩
  imod (Transfers.batch_alloc' (Lvl := ℕ) (countersEmb (U := Pipeline.UD sig nD τ)) (c : Thread nD τ) () NN (landed c arg0 f0 fe hw) (sm := cell) (E := Set.univ)) $$ Hc with HB
  sl_unfold [cc0_attn_decoder]
  sl_respell [cc0_attn_decoder_skel]
  sl_for (issueAt c arg0 f0 fe hw) $$ [H0 HB HR2 HS]
  · intro k acc; exact issue_step c arg0 harg0 arg2 harg2 arg3 harg3 arg4 harg4 arg5 harg5 arg6 harg6 arg7 harg7 arg8 harg8 arg9 harg9 arg10 harg10 arg11 harg11 arg12 harg12 arg13 harg13 arg14 harg14 arg15 harg15 f0 fe hw k acc
  · unfold issueAt
    isplitl [H0]; · iexact H0
    isplitl [HB]; · iexact HB
    isplitl [HR2]; · iexact HR2
    iexact HS
  iintro %acc HI
  ihave HI2 := (show issueAt c arg0 f0 fe hw T1 acc ⊢ iprop((arg0.view.loc (c : Thread nD τ) ↦[arg0.view.set]{fullShare} f0) ∗ batch c arg0 f0 fe hw T1 0) from by
    unfold issueAt; iintro ⟨H0, HB, -, -⟩; isplitl [H0] <;> iassumption) $$ HI
  icases HI2 with ⟨H0, HB⟩
  sl_exec
  sl_for (drainAt c arg0 f0 fe hw) $$ [HB HO]
  · intro k acc; exact drain_step c arg0 harg0 arg2 harg2 arg3 harg3 arg4 harg4 arg5 harg5 arg6 harg6 arg7 harg7 arg8 harg8 arg9 harg9 arg10 harg10 arg11 harg11 arg12 harg12 arg13 harg13 arg14 harg14 arg15 harg15 f0 fe hw k acc
  · unfold drainAt
    rw [if_pos (by rw [trips2]; decide)]
    isplitr; · ipureintro; omega
    isplitl [HO]; · iexists _; iexact HO
    rw [Nat.zero_mul]
    iexact HB
  iintro %acc2 HI
  ihave HI2 := (show drainAt c arg0 f0 fe hw k0_t2_loop.trips acc2 ⊢ iprop((∃ W, owes (c : Thread nD τ) 0 W) ∗ semVal ((c : Thread nD τ), cell) 0 ∗ bigSep Finset.univ (landed c arg0 f0 fe hw)) from by
    unfold drainAt; rw [if_neg (Nat.lt_irrefl _)]; iintro ⟨-, HO, Hc, HD⟩
    isplitl [HO]; · iexact HO
    isplitl [Hc] <;> iassumption) $$ HI
  icases HI2 with ⟨HO, Hc, HD⟩
  ihave HD2 := (landed_join c arg0 f0 fe hw) $$ HD
  icases HD2 with ⟨HG, HS⟩
  ihave HT := (table_join c arg0 f0 fe hw) $$ [HS HTr]
  · isplitl [HS] <;> iassumption
  sl_exec
  unfold run.sl.H15_1
  generalize h3 : (arg3.view.readAt (Elt F) (Rect.unit ![0, 0] S1x32.size inb_S1x32_S1x32_0_0).toLoadRect f3) = v3
  generalize h7 : (arg7.view.readAt (Elt F) (Rect.unit ![0, 0] S1x512.size inb_S1x512_S1x512_0_0).toLoadRect f7) = v7
  generalize h12 : (arg12.view.readAt (Elt F) (Rect.unit ![0, 0] S32x512.size inb_S32x512_S32x512_0_0).toLoadRect f12) = v12
  generalize h13 : (arg13.view.readAt (Elt F) (Rect.unit ![0, 0] S32x512.size inb_S32x512_S32x512_0_0).toLoadRect f13) = v13
  generalize hE : (arg15.view.writes (Elt F) arg15.view.junk [⟨Rect.unit ![0, 0, 0] S64x32x512.size inb_S64x32x512_S64x32x512_0_0_0, k0_pay1 (arg2.view.readAt (Elt F) (Rect.unit ![0, 0, 0] S64x32x512.size inb_S64x32x512_S64x32x512_0_0_0).toLoadRect f2) (arg4.view.readAt (Elt F) (Rect.unit ![0, 0] S512x512.size inb_S512x512_S512x512_0_0).toLoadRect f4)⟩]) = fE
  generalize hG : (gathered c arg0 f0 fe : Buf (Elt F) (rows.view.loc (c : Thread nD τ))) = G
  sl_for (stepsAt c arg2 arg5 arg6 arg8 arg9 arg10 arg11 arg14 arg15 f2 v3 f5 f6 v7 f8 f9 f10 f11 fE G (v12, v13)) $$ [H2 H5 H6 H8 H9 H10 H11 H14 H15 HG]
  · intro k acc

    exact steps_step c arg0 harg0 arg2 harg2 arg3 harg3 arg4 harg4 arg5 harg5 arg6 harg6 arg7 harg7 arg8 harg8 arg9 harg9 arg10 harg10 arg11 harg11 arg12 harg12 arg13 harg13 arg14 harg14 arg15 harg15 f2 v3 f5 f6 v7 f8 f9 f10 f11 fE G (v12, v13) k acc
  · unfold stepsAt
    isplitl [H2]; · iexact H2
    isplitl [H5]; · iexact H5
    isplitl [H6]; · iexact H6
    isplitl [H8]; · iexact H8
    isplitl [H9]; · iexact H9
    isplitl [H10]; · iexact H10
    isplitl [H11]; · iexact H11
    isplitl [H15]; · iexact H15
    isplitl [HG]; · iexact HG
    isplitr; · ipureintro; rfl
    iexists _
    isplitl [H14]; · iexact H14
    ipureintro
    intro y hy; exact absurd hy (Nat.not_lt_zero _)
  iintro %acc3 HI
  unfold stepsAt
  icases HI with ⟨H2, H5, H6, H8, H9, H10, H11, H15, HG, -, ⟨%g14, H14, %h14⟩⟩
  sl_exec
  sl_step
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13

  isplitl [HT]; · iexact HT
  isplitl [H14]
  · iexists _
    isplitl [H14]; · iexact H14
    ipureintro
    funext y
    refine (h14 y (lt_of_lt_of_eq (y 0).isLt trips3.symm)).trans ?_
    exact congrFun (decoded_eq (f0 := f0) (fe := fe) (arg3 := arg3) (f3 := f3) (arg4 := arg4) (f4 := f4) (arg7 := arg7) (f7 := f7) (arg12 := arg12) (f12 := f12) (arg13 := arg13) (f13 := f13) h3 h7 h12 h13 hE hG) y
  isplitl [H15]; · iexists _; iexact H15
  isplitl [HG]; · iexists _; iexact HG
  isplitl [Hc]; · iexact Hc
  iexact HO

end Cert.Kernel2Ideal.Dec

end
-- ==== Proof.Dec.Frame.lean ====
module

public import proofs.«01_k».proof.Proof.Dec.Run
public import Idealize.ShloMosaic.Lib.Pointwise
public import Idealize.ShloMosaic.Lib.VecWindow
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel2Ideal.Dec

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The result as a vector of the operands' vectors -/

/-- The table's rows the words name, one below the other. -/
def gatherV (tok : Vec F S2048 .i32) (tab : Vec F S32000x512 .f32) : Vec F S2048x512 .f32 := fun y =>
  tab (ix2 ⟨(show BitVec 32 from tok (ix1 (y 0))).toNat % 32000, Nat.mod_lt _ (by decide)⟩ (y 1))

/-- The decoder's rows from its operands. -/
def decV (tok : Vec F S2048 .i32) (tab : Vec F S32000x512 .f32)
    (v2 : Vec F S64x32x512 .f32) (v3 : Vec F S1x32 .i32) (v4 : Vec F S512x512 .f32) (v5 : Vec F S1024x512 .bf16) (v6 : Vec F S1x512 .f32) (v7 : Vec F S1x512 .f32) (v8 : Vec F S1024x512 .bf16) (v9 : Vec F S1x512 .f32) (v10 : Vec F S1024x2048 .bf16) (v11 : Vec F S1x2048 .f32) (v12 : Vec F S32x512 .f32) (v13 : Vec F S32x512 .f32) : Vec F S64x32x512 .bf16 :=
  Wts.out ({ mask := k0_pay2 v3, va := k0_pay3 v7, wq := v5, bq := v6, ep := k0_pay1 v2 v4, enc := v2, wc := v8, bc := v9, wd := v10, bd := v11 } : Wts F)
    (rowsOf (gatherV tok tab)) (v12, v13)

theorem off1_eq : ∀ k : Fin T1, k0_off1 k 0 = k.val := by decide +kernel

theorem chk_of_lt (v : BitVec 32) (h : v.toNat < 32000) : k0_chk1 v := by
  intro a
  have h2 : k0_off3 v 0 = v.toNat := rfl
  have h3 : S1x512.size 0 = 1 := rfl
  have h4 : S32000x512.size 0 = 32000 := rfl
  have h5 : k0_off3 v 1 = 0 := rfl
  have h6 : S1x512.size 1 = 512 := rfl
  have h7 : S32000x512.size 1 = 512 := rfl
  fin_cases a
  · show k0_off3 v 0 + S1x512.size 0 ≤ S32000x512.size 0; omega
  · show k0_off3 v 1 + S1x512.size 1 ≤ S32000x512.size 1; omega

variable (c : Dev nD)
  (arg0 : Memref sig .tc .smem S2048 .i32)
  (arg2 : Memref sig .tc .vmem S64x32x512 .f32)
  (arg3 : Memref sig .tc .vmem S1x32 .i32)
  (arg4 : Memref sig .tc .vmem S512x512 .f32)
  (arg5 : Memref sig .tc .vmem S1024x512 .bf16)
  (arg6 : Memref sig .tc .vmem S1x512 .f32)
  (arg7 : Memref sig .tc .vmem S1x512 .f32)
  (arg8 : Memref sig .tc .vmem S1024x512 .bf16)
  (arg9 : Memref sig .tc .vmem S1x512 .f32)
  (arg10 : Memref sig .tc .vmem S1024x2048 .bf16)
  (arg11 : Memref sig .tc .vmem S1x2048 .f32)
  (arg12 : Memref sig .tc .vmem S32x512 .f32)
  (arg13 : Memref sig .tc .vmem S32x512 .f32)
  (f0 : BufTy.Contents (Elt F) arg0.view.ty) (fe : Buf (Elt F) (table.view.loc (c : Thread nD τ)))
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)

theorem word_eq (k : Fin T1) : word arg0 f0 k = arg0.view.read (Elt F) f0 (ix1 ⟨k.val, lt_of_lt_of_eq k.isLt trips1⟩) := by
  refine congrArg (arg0.view.read (Elt F) f0) (funext fun a => Fin.ext ?_)
  obtain rfl : a = 0 := Subsingleton.elim _ _
  show k0_off1 k 0 + 1 * 0 = k.val
  rw [off1_eq]; omega

theorem gathered_eq : gathered c arg0 f0 fe = gatherV (arg0.view.read (Elt F) f0) fe := by
  funext y
  unfold gathered gatherV
  refine congrArg (fun n => (show Vec F S32000x512 .f32 from fe) (ix2 n (y 1))) (Fin.ext ?_)
  show (word arg0 f0 _).toNat % 32000 = _
  rw [word_eq]
  rfl

theorem decoded_vec : decoded c arg0 arg2 arg3 arg4 arg5 arg6 arg7 arg8 arg9 arg10 arg11 arg12 arg13 f0 fe f2 f3 f4 f5 f6 f7 f8 f9 f10 f11 f12 f13 = decV (arg0.view.read (Elt F) f0) fe (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) := by
  unfold decoded decV
  rw [gathered_eq, View.readAt_full arg2.view f2, View.readAt_full arg3.view f3, View.readAt_full arg4.view f4, View.readAt_full arg5.view f5, View.readAt_full arg6.view f6, View.readAt_full arg7.view f7, View.readAt_full arg8.view f8, View.readAt_full arg9.view f9, View.readAt_full arg10.view f10, View.readAt_full arg11.view f11, View.readAt_full arg12.view f12, View.readAt_full arg13.view f13]

theorem run_owns (arg14 : Memref sig .tc .vmem S64x32x512 .bf16) (harg14 : arg14.IsWhole) (arg15 : Memref sig .tc .vmem S64x32x512 .f32) (harg15 : arg15.IsWhole)
    (harg0 : arg0.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole)
    (x0 : Vec F S2048 .i32) (x2 : Vec F S64x32x512 .f32) (x3 : Vec F S1x32 .i32) (x4 : Vec F S512x512 .f32) (x5 : Vec F S1024x512 .bf16) (x6 : Vec F S1x512 .f32) (x7 : Vec F S1x512 .f32) (x8 : Vec F S1024x512 .bf16) (x9 : Vec F S1x512 .f32) (x10 : Vec F S1024x2048 .bf16) (x11 : Vec F S1x2048 .f32) (x12 : Vec F S32x512 .f32) (x13 : Vec F S32x512 .f32) (hp : ∀ y, (show BitVec 32 from x0 y).toNat < 32000) (W : Waits sig Unit) (x14 : Vec F S64x32x512 .bf16) (x15 : Vec F S64x32x512 .f32) :
    (iprop(owns (c : Thread nD τ) arg0 fullShare x0 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
      ∗ (table.view.loc (c : Thread nD τ) ↦{fullShare} fe) ∗ owns (c : Thread nD τ) arg14 fullShare x14 ∗ owns (c : Thread nD τ) arg15 fullShare x15
      ∗ (∃ g, rows.view.loc (c : Thread nD τ) ↦{fullShare} g) ∗ semVal ((c : Thread nD τ), cell) 0 ∗ owes (c : Thread nD τ) 0 W) : sProp 𝕄)
    ⊢ wp frame (wpE (defs₀ (F := F)) Variants.none (c : Thread nD τ) none) Set.univ (cc0_attn_decoder arg0 harg0 table (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 rows (Memref.isWhole_whole _) cc0_scratch2)
      (fun _ => iprop(owns (c : Thread nD τ) arg0 fullShare x0 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
      ∗ (table.view.loc (c : Thread nD τ) ↦{fullShare} fe) ∗ owns (c : Thread nD τ) arg14 fullShare (decV x0 fe x2 x3 x4 x5 x6 x7 x8 x9 x10 x11 x12 x13) ∗ (∃ d, owns (c : Thread nD τ) arg15 fullShare d)
      ∗ (∃ g, rows.view.loc (c : Thread nD τ) ↦{fullShare} g) ∗ semVal ((c : Thread nD τ), cell) 0 ∗ (∃ W, owes (c : Thread nD τ) 0 W))) := by
  unfold owns
  iintro ⟨⟨%e0, %h0, H0⟩, ⟨%e2, %h2, H2⟩, ⟨%e3, %h3, H3⟩, ⟨%e4, %h4, H4⟩, ⟨%e5, %h5, H5⟩, ⟨%e6, %h6, H6⟩, ⟨%e7, %h7, H7⟩, ⟨%e8, %h8, H8⟩, ⟨%e9, %h9, H9⟩, ⟨%e10, %h10, H10⟩, ⟨%e11, %h11, H11⟩, ⟨%e12, %h12, H12⟩, ⟨%e13, %h13, H13⟩, HT, ⟨%e14, -, H14⟩, ⟨%e15, -, H15⟩, HR, Hq, HW⟩
  have hw : ∀ k, k0_chk1 (word arg0 e0 k) := fun k => chk_of_lt _ (by
    rw [word_eq, h0]; exact hp _)
  iapply (wp_wand_r frame (wpE (defs₀ (F := F)) Variants.none (c : Thread nD τ) none) Set.univ (Q := _))
  isplitl
  · iapply (run c arg0 harg0 arg2 harg2 arg3 harg3 arg4 harg4 arg5 harg5 arg6 harg6 arg7 harg7 arg8 harg8 arg9 harg9 arg10 harg10 arg11 harg11 arg12 harg12 arg13 harg13 arg14 harg14 arg15 harg15 e0 fe e2 e3 e4 e5 e6 e7 e8 e9 e10 e11 e12 e13 hw W e14 e15)
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HT]; · iexact HT
    isplitl [H14]; · iexact H14
    isplitl [H15]; · iexact H15
    isplitl [HR]; · iexact HR
    isplitl [Hq]; · iexact Hq
    iexact HW
  iintro %u ⟨H0, H2, H3, H4, H5, H6, H7, H8, H9, H10, H11, H12, H13, HT, ⟨%g, H14, %hg⟩, ⟨%g1, H15⟩, HR, Hq, HW⟩
  isplitl [H0]
  · iexists e0; isplitr; · ipureintro; exact h0
    iexact H0
  isplitl [H2]
  · iexists e2; isplitr; · ipureintro; exact h2
    iexact H2
  isplitl [H3]
  · iexists e3; isplitr; · ipureintro; exact h3
    iexact H3
  isplitl [H4]
  · iexists e4; isplitr; · ipureintro; exact h4
    iexact H4
  isplitl [H5]
  · iexists e5; isplitr; · ipureintro; exact h5
    iexact H5
  isplitl [H6]
  · iexists e6; isplitr; · ipureintro; exact h6
    iexact H6
  isplitl [H7]
  · iexists e7; isplitr; · ipureintro; exact h7
    iexact H7
  isplitl [H8]
  · iexists e8; isplitr; · ipureintro; exact h8
    iexact H8
  isplitl [H9]
  · iexists e9; isplitr; · ipureintro; exact h9
    iexact H9
  isplitl [H10]
  · iexists e10; isplitr; · ipureintro; exact h10
    iexact H10
  isplitl [H11]
  · iexists e11; isplitr; · ipureintro; exact h11
    iexact H11
  isplitl [H12]
  · iexists e12; isplitr; · ipureintro; exact h12
    iexact H12
  isplitl [H13]
  · iexists e13; isplitr; · ipureintro; exact h13
    iexact H13
  isplitl [HT]; · iexact HT
  isplitl [H14]
  · iexists g; isplitr
    · ipureintro
      rw [hg, decoded_vec, h0, h2, h3, h4, h5, h6, h7, h8, h9, h10, h11, h12, h13]
    iexact H14
  isplitl [H15]
  · iexists _; iexists g1; isplitr; · ipureintro; rfl
    iexact H15
  isplitl [HR]; · iexact HR
  isplitl [Hq]; · iexact Hq
  iexact HW

variable (m : (ℓ : Loc nD τ sig) → Buf (Elt F) ℓ) (ρ : Dev nD → PrngReg)

/-! ## The host operations before the call -/

/-- The buffers' contents at the call: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [List.Forall]
    repeat' apply And.intro
    all_goals exact fun hm => StableHlo.devRef_ne_of_ne (by decide) (Finset.mem_singleton.mp hm)))
theorem V_main_arg1 (c : Dev nD) : V m c main_arg1 = m ((c : Thread nD τ).loc main_arg1) :=
  StableHlo.after_of_forall_not_mem (b := Proc.devRef .tc main_arg1) _ _ (List.forall_iff_forall_mem.mp (by
    simp only [List.Forall]
    repeat' apply And.intro
    all_goals exact fun hm => StableHlo.devRef_ne_of_ne (by decide) (Finset.mem_singleton.mp hm)))
theorem V_main_arg2 (c : Dev nD) : V m c main_arg2 = m ((c : Thread nD τ).loc main_arg2) :=
  StableHlo.after_of_forall_not_mem (b := Proc.devRef .tc main_arg2) _ _ (List.forall_iff_forall_mem.mp (by
    simp only [List.Forall]
    repeat' apply And.intro
    all_goals exact fun hm => StableHlo.devRef_ne_of_ne (by decide) (Finset.mem_singleton.mp hm)))
theorem V_main_arg3 (c : Dev nD) : V m c main_arg3 = m ((c : Thread nD τ).loc main_arg3) :=
  StableHlo.after_of_forall_not_mem (b := Proc.devRef .tc main_arg3) _ _ (List.forall_iff_forall_mem.mp (by
    simp only [List.Forall]
    repeat' apply And.intro
    all_goals exact fun hm => StableHlo.devRef_ne_of_ne (by decide) (Finset.mem_singleton.mp hm)))
theorem V_main_arg4 (c : Dev nD) : V m c main_arg4 = m ((c : Thread nD τ).loc main_arg4) :=
  StableHlo.after_of_forall_not_mem (b := Proc.devRef .tc main_arg4) _ _ (List.forall_iff_forall_mem.mp (by
    simp only [List.Forall]
    repeat' apply And.intro
    all_goals exact fun hm => StableHlo.devRef_ne_of_ne (by decide) (Finset.mem_singleton.mp hm)))
theorem V_main_arg5 (c : Dev nD) : V m c main_arg5 = m ((c : Thread nD τ).loc main_arg5) :=
  StableHlo.after_of_forall_not_mem (b := Proc.devRef .tc main_arg5) _ _ (List.forall_iff_forall_mem.mp (by
    simp only [List.Forall]
    repeat' apply And.intro
    all_goals exact fun hm => StableHlo.devRef_ne_of_ne (by decide) (Finset.mem_singleton.mp hm)))
theorem V_main_arg6 (c : Dev nD) : V m c main_arg6 = m ((c : Thread nD τ).loc main_arg6) :=
  StableHlo.after_of_forall_not_mem (b := Proc.devRef .tc main_arg6) _ _ (List.forall_iff_forall_mem.mp (by
    simp only [List.Forall]
    repeat' apply And.intro
    all_goals exact fun hm => StableHlo.devRef_ne_of_ne (by decide) (Finset.mem_singleton.mp hm)))
theorem V_main_arg7 (c : Dev nD) : V m c main_arg7 = m ((c : Thread nD τ).loc main_arg7) :=
  StableHlo.after_of_forall_not_mem (b := Proc.devRef .tc main_arg7) _ _ (List.forall_iff_forall_mem.mp (by
    simp only [List.Forall]
    repeat' apply And.intro
    all_goals exact fun hm => StableHlo.devRef_ne_of_ne (by decide) (Finset.mem_singleton.mp hm)))
theorem V_main_arg8 (c : Dev nD) : V m c main_arg8 = m ((c : Thread nD τ).loc main_arg8) :=
  StableHlo.after_of_forall_not_mem (b := Proc.devRef .tc main_arg8) _ _ (List.forall_iff_forall_mem.mp (by
    simp only [List.Forall]
    repeat' apply And.intro
    all_goals exact fun hm => StableHlo.devRef_ne_of_ne (by decide) (Finset.mem_singleton.mp hm)))
theorem V_main_arg9 (c : Dev nD) : V m c main_arg9 = m ((c : Thread nD τ).loc main_arg9) :=
  StableHlo.after_of_forall_not_mem (b := Proc.devRef .tc main_arg9) _ _ (List.forall_iff_forall_mem.mp (by
    simp only [List.Forall]
    repeat' apply And.intro
    all_goals exact fun hm => StableHlo.devRef_ne_of_ne (by decide) (Finset.mem_singleton.mp hm)))
theorem V_main_arg10 (c : Dev nD) : V m c main_arg10 = m ((c : Thread nD τ).loc main_arg10) :=
  StableHlo.after_of_forall_not_mem (b := Proc.devRef .tc main_arg10) _ _ (List.forall_iff_forall_mem.mp (by
    simp only [List.Forall]
    repeat' apply And.intro
    all_goals exact fun hm => StableHlo.devRef_ne_of_ne (by decide) (Finset.mem_singleton.mp hm)))
theorem V_main_arg11 (c : Dev nD) : V m c main_arg11 = m ((c : Thread nD τ).loc main_arg11) :=
  StableHlo.after_of_forall_not_mem (b := Proc.devRef .tc main_arg11) _ _ (List.forall_iff_forall_mem.mp (by
    simp only [List.Forall]
    repeat' apply And.intro
    all_goals exact fun hm => StableHlo.devRef_ne_of_ne (by decide) (Finset.mem_singleton.mp hm)))
theorem V_main_arg12 (c : Dev nD) : V m c main_arg12 = m ((c : Thread nD τ).loc main_arg12) :=
  StableHlo.after_of_forall_not_mem (b := Proc.devRef .tc main_arg12) _ _ (List.forall_iff_forall_mem.mp (by
    simp only [List.Forall]
    repeat' apply And.intro
    all_goals exact fun hm => StableHlo.devRef_ne_of_ne (by decide) (Finset.mem_singleton.mp hm)))
theorem V_main_arg13 (c : Dev nD) : V m c main_arg13 = m ((c : Thread nD τ).loc main_arg13) :=
  StableHlo.after_of_forall_not_mem (b := Proc.devRef .tc main_arg13) _ _ (List.forall_iff_forall_mem.mp (by
    simp only [List.Forall]
    repeat' apply And.intro
    all_goals exact fun hm => StableHlo.devRef_ne_of_ne (by decide) (Finset.mem_singleton.mp hm)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the launch hands the kernel -/

abbrev osem0 : Fin 1 → SemLoc sig := fun _ => cell
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), cell) 0 := by
  rw [Pipeline.ownSems0_eq_of_list c osem0 [0] (by decide) (by decide)]; rfl

def H0 : Finset (Ref sig .tc) := {main_arg1}
theorem H0_sub : H0 ⊆ Pipeline.restRefs sig spec0 := by decide
theorem tablePt_eq (c : Dev nD) :
    (bigSep H0 (fun b => ((c : Thread nD τ).loc b) ↦{fullShare} V m c b) : sProp 𝕄)
      = (table.view.loc (c : Thread nD τ) ↦{fullShare} V m c main_arg1) := by
  rw [BI.bigSep_eq_bigSepL_of_eq [main_arg1] (by decide) (by decide)]; rfl

theorem PhiD_eq (c : Dev nD) :
    (Pipeline.ΦD osem0 spec0 H0 (V m) c : sProp 𝕄)
      = iprop(iprop((∃ d, owns (c : Thread nD τ) (Memref.whole cc0_scratch0) fullShare d) ∗ (∃ f : Buf (Elt F) ((c : Thread nD τ).loc cc0_scratch1), ((c : Thread nD τ).loc cc0_scratch1) ↦{fullShare} f))
          ∗ (∃ r, prngReg c r) ∗ semVal ((c : Thread nD τ), cell) 0
          ∗ (table.view.loc (c : Thread nD τ) ↦{fullShare} V m c main_arg1)) := by
  rw [Pipeline.ΦD_eq, scopedRest0_eq, ownSems00_eq, tablePt_eq]
  simp only [owns_whole]; try rfl

/-- The result's block. -/
def outAt (c : Dev nD) (t : Fin cfg0.N) : Vec F S64x32x512 .bf16 :=
  decV (iblk m c 0 t) (V m c main_arg1) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = outAt m c t := by dsimp only [dats]
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d
theorem before0_4 (c : Dev nD) (t : Fin cfg0.N) (d) : (dats m 0 c).before 4 t d = iblk m c 4 t :=
  (dats m 0 c).before_in_eq_fetched 4 rfl (fun _ => rfl) (fun _ _ _ => rfl) (fun _ => rfl) t d
theorem before0_5 (c : Dev nD) (t : Fin cfg0.N) (d) : (dats m 0 c).before 5 t d = iblk m c 5 t :=
  (dats m 0 c).before_in_eq_fetched 5 rfl (fun _ => rfl) (fun _ _ _ => rfl) (fun _ => rfl) t d
theorem before0_6 (c : Dev nD) (t : Fin cfg0.N) (d) : (dats m 0 c).before 6 t d = iblk m c 6 t :=
  (dats m 0 c).before_in_eq_fetched 6 rfl (fun _ => rfl) (fun _ _ _ => rfl) (fun _ => rfl) t d
theorem before0_7 (c : Dev nD) (t : Fin cfg0.N) (d) : (dats m 0 c).before 7 t d = iblk m c 7 t :=
  (dats m 0 c).before_in_eq_fetched 7 rfl (fun _ => rfl) (fun _ _ _ => rfl) (fun _ => rfl) t d
theorem before0_8 (c : Dev nD) (t : Fin cfg0.N) (d) : (dats m 0 c).before 8 t d = iblk m c 8 t :=
  (dats m 0 c).before_in_eq_fetched 8 rfl (fun _ => rfl) (fun _ _ _ => rfl) (fun _ => rfl) t d
theorem before0_9 (c : Dev nD) (t : Fin cfg0.N) (d) : (dats m 0 c).before 9 t d = iblk m c 9 t :=
  (dats m 0 c).before_in_eq_fetched 9 rfl (fun _ => rfl) (fun _ _ _ => rfl) (fun _ => rfl) t d
theorem before0_10 (c : Dev nD) (t : Fin cfg0.N) (d) : (dats m 0 c).before 10 t d = iblk m c 10 t :=
  (dats m 0 c).before_in_eq_fetched 10 rfl (fun _ => rfl) (fun _ _ _ => rfl) (fun _ => rfl) t d
theorem before0_11 (c : Dev nD) (t : Fin cfg0.N) (d) : (dats m 0 c).before 11 t d = iblk m c 11 t :=
  (dats m 0 c).before_in_eq_fetched 11 rfl (fun _ => rfl) (fun _ _ _ => rfl) (fun _ => rfl) t d
theorem before0_12 (c : Dev nD) (t : Fin cfg0.N) (d) : (dats m 0 c).before 12 t d = iblk m c 12 t :=
  (dats m 0 c).before_in_eq_fetched 12 rfl (fun _ => rfl) (fun _ _ _ => rfl) (fun _ => rfl) t d

theorem defs₀_row (t : Fin cfg0.N) :
    defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The words the kernel reads name rows of the table. -/
def WordsOk : Prop := ∀ (c : Dev nD) (t : Fin cfg0.N) (y : S2048.Idx), (show BitVec 32 from iblk m c 0 t y).toNat < 32000

theorem sound_body (hp : WordsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl, after0_0, after0_1, after0_2, after0_3, after0_4, after0_5, after0_6, after0_7, after0_8, after0_9, after0_10, after0_11, after0_12, after0_13]
  rw [show (dats m 0 c).Φ t.castSucc = Pipeline.ΦD osem0 spec0 H0 (V m) c from rfl, PhiD_eq]
  unfold Dat.owesAt Pipeline.owesWithin
  rw [show (dats m 0 c).owed t.castSucc = 0 from rfl, show (dats m 0 c).owed t.succ = 0 from rfl]
  iintro ⟨⟨⟨⟨%s0, HS0⟩, HS1⟩, Hg, Hq, HT⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (wp_wand_r frame (wpE (defs₀ (F := F)) Variants.none (c : Thread nD τ) none) Set.univ (Q := _))
  isplitr [Hg]
  · iapply (run_owns c (st0_0 t) (st0_1 t) (st0_2 t) (st0_3 t) (st0_4 t) (st0_5 t) (st0_6 t) (st0_7 t) (st0_8 t) (st0_9 t) (st0_10 t) (st0_11 t) (st0_12 t) (V m c main_arg1) (st0_13 t) (hstage0_13 0) (Memref.whole cc0_scratch0) (Memref.isWhole_whole _) (hstage0_0 0) (hstage0_1 0) (hstage0_2 0) (hstage0_3 0) (hstage0_4 0) (hstage0_5 0) (hstage0_6 0) (hstage0_7 0) (hstage0_8 0) (hstage0_9 0) (hstage0_10 0) (hstage0_11 0) (hstage0_12 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (hp c t) W _ s0)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HT]; · iexact HT
    isplitl [H13]; · iexact H13
    isplitl [HS0]; · iexact HS0
    isplitl [HS1]; · iexact HS1
    isplitl [Hq]; · iexact Hq
    iexact HW
  iintro %u ⟨H0, H1, H2, H3, H4, H5, H6, H7, H8, H9, H10, H11, H12, HT, H13, HS0, HS1, Hq, ⟨%W2, HW⟩⟩
  isplitl [HS0 HS1 Hg Hq HT]
  · isplitl [HS0 HS1]
    · isplitl [HS0]; · iexact HS0
      iexact HS1
    isplitl [Hg]; · iexact Hg
    isplitl [Hq]; · iexact Hq
    iexact HT
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (hp : WordsOk m) (c : Dev nD) : BodyObligation (dats (F := F) m 0 c) (defs₀ (F := F)) Variants.none () Set.univ := fun t => by
  rw [bigSep_W0, bigSep_W0, defs₀_row]
  exact triple_restated (sound_body m hp c t) rfl .rfl fun _ => .rfl

set_option backward.isDefEq.respectTransparency.types false in
theorem run_main (hp : WordsOk m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hp c).loose) (hshare := fun c => (dats m 0 c).share_full fun _ => rfl)
    (howed := fun _ _ => rfl) (V := V m) (hmain := hmain m Variants.none) (hA := A_eq m)
    (hin := fun _ => .rfl) (hout := fun _ => .rfl)

/-- Every execution ends with the argument arrays as they were, the result's array at what the write-back left, and every
    semaphore counter at zero. -/
theorem outcome (hp : WordsOk m) : θ_run defs (onTc (τ := τ) (main (F := F))) ⟨m, fun _ => 0, ρ⟩ (fun r => (∀ c : Dev nD,
      r.2.mem ((c.tc : Thread nD τ).loc main_v21) = (dats m 0 c).arrAt 13 (Fin.last cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r (h : _ ∧ _) => ⟨fun c => ⟨(h.1 c).1 13,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).1 1).trans (((dats m 0 c).arrAt_in 1 rfl _).trans ((A_eq m c 1).trans (V_main_arg2 m c))),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).1 11).trans (((dats m 0 c).arrAt_in 11 rfl _).trans ((A_eq m c 11).trans (V_main_arg12 m c))),
    ((h.1 c).1 12).trans (((dats m 0 c).arrAt_in 12 rfl _).trans ((A_eq m c 12).trans (V_main_arg13 m c)))⟩, h.2⟩) (run_main m ρ hp)

end Cert.Kernel2Ideal.Dec

end
-- ==== Proof.Dec.Words.lean ====
/- The token words the decoder's copies read lie among the rows of the table. -/
module

public import proofs.«01_k».proof.Proof.Dec.Frame
public import proofs.«01_k».proof.Defs
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.Kernel2Ideal.Dec

open Cert.Kernel2Ideal Cert.Kernel2Ideal.Gen
open Idealize.ShloMosaic
open Idealize.ShloMosaic.TcCoe
open Idealize.ShloMosaic.Pipeline
open Idealize.ShloMosaic.StableHlo (after)

variable (X : Valuation τ sig (Elt Ideal))

theorem tok_at (t : Fin 64) (b : Fin 32) : (after hostOps0 X main_v4 : IVec S2048 32) (ix1 ⟨32 * t.val + b.val, by omega⟩)
    = if h : t.val = 0 then 1#32 else (X main_arg0 : IVec S32x65 32) (ix2 b ⟨t.val, by omega⟩) := by
  unfold hostOps0
  after_reads_at
  after_reads_simp
  pointwise
  by_cases h : t.val = 0
  · rw [dif_pos (show t.val < 1 by omega), dif_pos h]
  · rw [dif_neg (show ¬ t.val < 1 by omega), dif_neg h]
    refine congrArg (fun n : Fin 65 => (X main_arg0 : IVec S32x65 32) (ix2 b n)) (Fin.ext ?_)
    show 1 + (t.val - 1) = t.val
    omega

/-- A word in range, as the precondition's two comparisons say. -/
theorem token_lt (w : BitVec 32) (h : IntOp.andi (IntOp.cmpi .sge w 0#32) (IntOp.cmpi .slt w 32000#32) = 1#1) : w.toNat < 32000 := by
  have h1 : ((0#32).sle w && w.slt 32000#32) = true := by
    revert h
    show BitVec.ofBool ((0#32).sle w) &&& BitVec.ofBool (w.slt 32000#32) = 1#1 → _
    cases (0#32).sle w <;> cases w.slt 32000#32 <;> decide
  have h2 := (Bool.and_eq_true _ _).mp h1
  have h3 := BitVec.sle_iff_toInt_le.mp h2.1
  have h4 := BitVec.slt_iff_toInt_lt.mp h2.2
  have e0 : (0#32 : BitVec 32).toInt = 0 := rfl
  have e1 : (32000#32 : BitVec 32).toInt = 32000 := rfl
  rw [e0] at h3
  rw [e1] at h4
  have e2 := BitVec.toInt_eq_toNat_cond w
  have h5 := w.isLt
  split at e2 <;> omega

theorem arg_lt [Cert.Pre_target_words.Facts] (m : (ℓ : Loc nD τ sig) → Buf (Elt Ideal) ℓ) (hp : Cert.Pre_Kernel2Ideal m) (c : Dev nD) (b : Fin 32) (j : Fin 65) :
    ((m ((c : Thread nD τ).loc main_arg0) : IVec S32x65 32) (ix2 b j) : BitVec 32).toNat < 32000 := by
  have h : Cert.Pre_target_words.fn (F := Ideal) (m ((c : Thread nD τ).loc main_arg0)) _ _ _ _ _ _ _ _ _ _ _ _ _ = fun _ => 1#1 := hp c
  exact token_lt _ (congrFun h (ix2 b j))

variable (m : (ℓ : Loc nD τ sig) → Buf (Elt Ideal) ℓ)

theorem blk0_eq (c : Dev nD) (t : Fin cfg0.N) (y : S2048.Idx) : (iblk m c 0 t : IVec S2048 32) y = (V m c main_v4 : IVec S2048 32) y := by
  have idx : win0_0.index t = fun _ => 0 := by rw [fin_N0 t]; decide +kernel
  blk_point [iblk, V, idx]

theorem V_tok (c : Dev nD) (t : Fin 64) (b : Fin 32) : (V m c main_v4 : IVec S2048 32) (ix1 ⟨32 * t.val + b.val, by omega⟩)
    = if h : t.val = 0 then 1#32 else (m ((c : Thread nD τ).loc main_arg0) : IVec S32x65 32) (ix2 b ⟨t.val, by omega⟩) :=
  tok_at (fun b => m (c, b)) t b

theorem wordsOk [Cert.Pre_target_words.Facts] (hp : Cert.Pre_Kernel2Ideal m) : WordsOk m := by
  intro c t y
  obtain ⟨k, rfl⟩ : ∃ k : Fin 2048, y = ix1 k := ⟨y 0, by funext a; fin_cases a; rfl⟩
  rw [blk0_eq]
  have e : (ix1 k : S2048.Idx) = ix1 ⟨32 * (k.val / 32) + k.val % 32, by omega⟩ := congrArg ix1 (Fin.ext (Nat.div_add_mod k.val 32).symm)
  rw [e, V_tok m c ⟨k.val / 32, by omega⟩ ⟨k.val % 32, by omega⟩]
  split
  · decide
  · exact arg_lt m hp c _ _

end Cert.Kernel2Ideal.Dec

end
-- ==== Proof.Dec.Host.lean ====
/- The decoder's operands, read at an index of the arguments. -/
module

public import proofs.«01_k».proof.Proof.Gen.Kernel2Ideal.Launch
public import Idealize.ShloMosaic.Lib.StableHlo.ReadAt
public import Idealize.ShloMosaic.Lib.Pointwise

@[expose] public section

set_option maxRecDepth 16384

noncomputable section

namespace Cert.Kernel2Ideal.Dec

open Cert.Kernel2Ideal Cert.Kernel2Ideal.Gen
open Idealize.ShloMosaic
open Idealize.ShloMosaic.TcCoe
open Idealize.ShloMosaic.StableHlo (after)

variable (X : Valuation τ sig (Elt Ideal))

theorem lens_at (b : Fin 32) : (after hostOps0 X main_v5 : IVec S1x32 32) (ix2 0 b) = (X main_arg3 : IVec S32 32) (ix1 b) := by
  unfold hostOps0
  after_reads_at

theorem wq_at (i : Fin 1024) (d : Fin 512) : (after hostOps0 X main_v8 : FVec Ideal S1024x512 .bf16) (ix2 i d)
    = (X main_arg4 : FVec Ideal S512x1536 .f32) (ix2 d ⟨i.val, by omega⟩) := by
  unfold hostOps0
  after_reads_at

theorem we_at (i d : Fin 512) : (after hostOps0 X main_v10 : FVec Ideal S512x512 .f32) (ix2 i d)
    = (X main_arg4 : FVec Ideal S512x1536 .f32) (ix2 d ⟨1024 + i.val, by omega⟩) := by
  unfold hostOps0
  after_reads_at

theorem bq_at (d : Fin 512) : (after hostOps0 X main_v11 : FVec Ideal S1x512 .f32) (ix2 0 d) = (X main_arg5 : FVec Ideal S512 .f32) (ix1 d) := by
  unfold hostOps0
  after_reads_at

theorem va_at (d : Fin 512) : (after hostOps0 X main_v12 : FVec Ideal S1x512 .f32) (ix2 0 d) = (X main_arg6 : FVec Ideal S512 .f32) (ix1 d) := by
  unfold hostOps0
  after_reads_at

theorem wc_at (i : Fin 1024) (d : Fin 512) : (after hostOps0 X main_v14 : FVec Ideal S1024x512 .bf16) (ix2 i d)
    = (X main_arg7 : FVec Ideal S512x1024 .f32) (ix2 d i) := by
  unfold hostOps0
  after_reads_at

theorem bc_at (d : Fin 512) : (after hostOps0 X main_v15 : FVec Ideal S1x512 .f32) (ix2 0 d) = (X main_arg8 : FVec Ideal S512 .f32) (ix1 d) := by
  unfold hostOps0
  after_reads_at

theorem wi_at (i : Fin 512) (j : Fin 2048) : (after hostOps0 X main_v19 : FVec Ideal S1024x2048 .bf16) (ix2 ⟨i.val, by omega⟩ j)
    = (X main_arg9 : FVec Ideal S2048x512 .f32) (ix2 j i) := by
  unfold hostOps0
  after_reads_at
  after_reads_simp
  pointwise

theorem wh_at (i : Fin 512) (j : Fin 2048) : (after hostOps0 X main_v19 : FVec Ideal S1024x2048 .bf16) (ix2 ⟨512 + i.val, by omega⟩ j)
    = (X main_arg10 : FVec Ideal S2048x512 .f32) (ix2 j i) := by
  unfold hostOps0
  after_reads_at
  after_reads_simp
  pointwise

theorem bd_at (j : Fin 2048) : (after hostOps0 X main_v20 : FVec Ideal S1x2048 .f32) (ix2 0 j) = (X main_arg11 : FVec Ideal S2048 .f32) (ix1 j) := by
  unfold hostOps0
  after_reads_at

end Cert.Kernel2Ideal.Dec

end
-- ==== Proof.Dec.Spec.lean ====
/- One step of an attention decoder, and its sixty-four steps, over plain functions of indices. -/
module

public import Idealize.ShloMosaic.Lib.Pointwise

@[expose] public section

noncomputable section

namespace Cert.Proof.Decoder

open Idealize.ShloMosaic

/-- A batch of rows of 512. -/
abbrev Rows := Fin 32 → Fin 512 → EReal

/-- What every step reads. -/
@[ext] structure Par where
  mask : Fin 64 → Fin 32 → BitVec 1
  va : Fin 512 → EReal
  wq : Fin 1024 → Fin 512 → EReal
  bq : Fin 512 → EReal
  ep : Fin 64 → Fin 32 → Fin 512 → EReal
  enc : Fin 64 → Fin 32 → Fin 512 → EReal
  wc : Fin 1024 → Fin 512 → EReal
  bc : Fin 512 → EReal
  wi : Fin 512 → Fin 2048 → EReal
  wh : Fin 512 → Fin 2048 → EReal
  bd : Fin 2048 → EReal

variable (P : Par)

/-- Two rows of 512, one after the other, against a matrix of 1024 rows. -/
def pair (w : Fin 1024 → Fin 512 → EReal) (x y : Rows) (b : Fin 32) (d : Fin 512) : EReal :=
  ∑ i : Fin 512, x b i * w ⟨i.val, by omega⟩ d + ∑ i : Fin 512, y b i * w ⟨512 + i.val, by omega⟩ d

/-- The score of one source position, masked. -/
def score (h c : Rows) (b : Fin 32) (s : Fin 64) : EReal :=
  Scalar.select (P.mask s b) (∑ d : Fin 512, Ideal.tanh (P.ep s b d + (pair P.wq h c b d + P.bq d)) * P.va d)
    (Ideal.ofBits .f32 0xCE6E6B28#32)

/-- The softmax of a row of scores. -/
def soft (x : Fin 64 → EReal) (s : Fin 64) : EReal :=
  Ideal.div (Ideal.exp (x s - Finset.univ.fold max ⊥ x)) (∑ r, Ideal.exp (x r - Finset.univ.fold max ⊥ x))

/-- The attended source. -/
def ctx (h c : Rows) : Rows := fun b d => ∑ s : Fin 64, P.enc s b d * soft (score P h c b) s

/-- The combined input. -/
def comb (g h c : Rows) : Rows := fun b d => max (pair P.wc g (ctx P h c) b d + P.bc d) 0

/-- The gates before their nonlinearities. -/
def gate (g h c : Rows) (b : Fin 32) (j : Fin 2048) : EReal :=
  ∑ i : Fin 512, comb P g h c b i * P.wi i j + ∑ i : Fin 512, h b i * P.wh i j + P.bd j

/-- The new cell. -/
def newC (g h c : Rows) : Rows := fun b d =>
  Ideal.logistic (gate P g h c b ⟨512 + d.val, by omega⟩) * c b d
    + Ideal.logistic (gate P g h c b ⟨d.val, by omega⟩) * Ideal.tanh (gate P g h c b ⟨1024 + d.val, by omega⟩)

/-- The new hidden rows. -/
def newH (g h c : Rows) : Rows := fun b d =>
  Ideal.logistic (gate P g h c b ⟨1536 + d.val, by omega⟩) * Ideal.tanh (newC P g h c b d)

/-- The hidden rows and the cell before step `k`. -/
def traj (g : ℕ → Rows) (h₀ c₀ : Rows) : ℕ → Rows × Rows
  | 0 => (h₀, c₀)
  | k + 1 => (newH P (g k) (traj g h₀ c₀ k).1 (traj g h₀ c₀ k).2, newC P (g k) (traj g h₀ c₀ k).1 (traj g h₀ c₀ k).2)

/-- The rows before step `n` depend on the inputs of the steps before it only. -/
theorem traj_congr (g g' : ℕ → Rows) (h₀ c₀ : Rows) (n : ℕ) (h : ∀ k < n, g k = g' k) : traj P g h₀ c₀ n = traj P g' h₀ c₀ n := by
  induction n with
  | zero => rfl
  | succ n ih =>
    have e := ih fun k hk => h k (Nat.lt_succ_of_lt hk)
    unfold traj
    rw [e, h n (Nat.lt_succ_self n)]

/-- The parameters, from the arguments. -/
def parOf (enc : Fin 64 → Fin 32 → Fin 512 → EReal) (len : Fin 32 → BitVec 32) (w4 : Fin 512 → Fin 1536 → EReal) (b5 v6 : Fin 512 → EReal)
    (w7 : Fin 512 → Fin 1024 → EReal) (b8 : Fin 512 → EReal) (w9 w10 : Fin 2048 → Fin 512 → EReal) (b11 : Fin 2048 → EReal) : Par where
  mask s b := IntOp.cmpi .slt (BitVec.ofNat 32 s.val) (len b)
  va := v6
  wq i d := w4 d ⟨i.val, by omega⟩
  bq := b5
  ep s b d := ∑ i : Fin 512, enc s b i * w4 d ⟨1024 + i.val, by omega⟩
  enc := enc
  wc i d := w7 d i
  bc := b8
  wi i j := w9 j i
  wh i j := w10 j i
  bd := b11

/-- The word a step decodes from: the start word, then the target's words. -/
def word (a : Fin 32 → Fin 65 → BitVec 32) (k : ℕ) (b : Fin 32) : BitVec 32 :=
  if k = 0 then 1#32 else a b ⟨k % 65, Nat.mod_lt _ (by decide)⟩

/-- The embedded words of a step. -/
def emb (a : Fin 32 → Fin 65 → BitVec 32) (tab : Fin 32000 → Fin 512 → EReal) (k : ℕ) : Rows := fun b d =>
  tab ⟨(word a k b).toNat % 32000, Nat.mod_lt _ (by decide)⟩ d

/-- The decoder over whole arrays: the hidden rows after each step. -/
def decodedOf (x0 : IVec ⟨2, ![32, 65]⟩ 32) (x1 : FVec Ideal ⟨2, ![32000, 512]⟩ .f32) (x2 : FVec Ideal ⟨3, ![64, 32, 512]⟩ .f32) (x3 : IVec ⟨1, ![32]⟩ 32) (x4 : FVec Ideal ⟨2, ![512, 1536]⟩ .f32) (x5 : FVec Ideal ⟨1, ![512]⟩ .f32) (x6 : FVec Ideal ⟨1, ![512]⟩ .f32) (x7 : FVec Ideal ⟨2, ![512, 1024]⟩ .f32) (x8 : FVec Ideal ⟨1, ![512]⟩ .f32) (x9 : FVec Ideal ⟨2, ![2048, 512]⟩ .f32) (x10 : FVec Ideal ⟨2, ![2048, 512]⟩ .f32) (x11 : FVec Ideal ⟨1, ![2048]⟩ .f32) (x12 : FVec Ideal ⟨2, ![32, 512]⟩ .f32) (x13 : FVec Ideal ⟨2, ![32, 512]⟩ .f32) : FVec Ideal ⟨3, ![64, 32, 512]⟩ .bf16 := fun y =>
  (traj (parOf (fun s b d => x2 (ix3 s b d)) (fun b => x3 (ix1 b)) (fun d i => x4 (ix2 d i)) (fun d => x5 (ix1 d)) (fun d => x6 (ix1 d))
      (fun d i => x7 (ix2 d i)) (fun d => x8 (ix1 d)) (fun j i => x9 (ix2 j i)) (fun j i => x10 (ix2 j i)) (fun j => x11 (ix1 j)))
    (emb (fun b j => x0 (ix2 b j)) (fun n d => x1 (ix2 n d))) (fun b d => x12 (ix2 b d)) (fun b d => x13 (ix2 b d)) ((y 0 : Fin 64).val + 1)).1 (y 1) (y 2)

theorem bits_bot : Ideal.ofBits .f32 0xFF800000#32 = ⊥ := by
  first | rfl | simp [Ideal.ofBits, Ideal.ieee]

end Cert.Proof.Decoder

end
-- ==== Proof.Dec.Attn.lean ====
/- The attention decoder's step, element by element: the kernel's payloads. -/
module

public import proofs.«01_k».proof.Proof.Dec.Steps
public import proofs.«01_k».proof.Proof.Dec.Spec
public import Idealize.ShloMosaic.Lib.Pointwise
public import Idealize.ShloMosaic.Lib.Tactic.CleanTypes

@[expose] public section

set_option maxRecDepth 16384

noncomputable section

namespace Cert.Kernel2Ideal.Dec

open Idealize.ShloMosaic Cert.Kernel2Ideal Cert.Kernel2Ideal.Gen Cert.Proof.Decoder

/-- Rows by index. -/
abbrev rows2 (x : FVec Ideal S32x512 .f32) : Rows := fun b d => x (ix2 b d)

/-- What a step reads, by index. -/
def par (W : Wts Ideal) : Par where
  mask s b := W.mask (ix2 s b)
  va d := W.va (ix1 d)
  wq i d := (W.wq : FVec Ideal S1024x512 .bf16) (ix2 i d)
  bq d := (W.bq : FVec Ideal S1x512 .f32) (ix2 0 d)
  ep s b d := (W.ep : FVec Ideal S64x32x512 .f32) (ix3 s b d)
  enc s b d := (W.enc : FVec Ideal S64x32x512 .f32) (ix3 s b d)
  wc i d := (W.wc : FVec Ideal S1024x512 .bf16) (ix2 i d)
  bc d := (W.bc : FVec Ideal S1x512 .f32) (ix2 0 d)
  wi i j := (W.wd : FVec Ideal S1024x2048 .bf16) (ix2 ⟨i.val, by omega⟩ j)
  wh i j := (W.wd : FVec Ideal S1024x2048 .bf16) (ix2 ⟨512 + i.val, by omega⟩ j)
  bd j := (W.bd : FVec Ideal S1x2048 .f32) (ix2 0 j)

/-- The scores, masked. -/
def scoreV (mask : IVec S64x32 1) (va : FVec Ideal S512 .f32) (h c : FVec Ideal S32x512 .f32) (wq : FVec Ideal S1024x512 .bf16)
    (bq : FVec Ideal S1x512 .f32) (ep : FVec Ideal S64x32x512 .f32) : FVec Ideal S64x32 .f32 :=
  select mask
    (multiReduction .add [2] S64x32
      (mulf (tanh (addf ep (broadcastTo S64x32x512 (shapeCast S1x32x512
          (addf (matmul dot_S32x1024_S1024x512_S32x512_1_0_0_1_n_n none
              (truncf .bf16 (concatenate S32x1024 1 [⟨S32x512, h⟩, ⟨S32x512, c⟩] concatenates_S32x512_S32x512_S32x1024_d1) bitsLt_bf16_f32)
              (shapeCast S1024x512 wq shapeCasts_S1024x512_S1024x512) (constant S32x512 .f32 0x00000000#32))
            (broadcastTo S32x512 (shapeCast S1x512 bq shapeCasts_S1x512_S1x512) broadcasts_S1x512_S32x512))
          shapeCasts_S32x512_S1x32x512) broadcasts_S1x32x512_S64x32x512)))
        (broadcastTo S64x32x512 (shapeCast S1x1x512 va shapeCasts_S512_S1x1x512) broadcasts_S1x1x512_S64x32x512))
      0x00000000#32 reduces_S64x32x512_S64x32 (.inl rfl) rfl)
    (broadcast S64x32 (Scalar.ofBits .f32 0xCE6E6B28#32))

theorem scoreV_apply (W : Wts Ideal) (h c : FVec Ideal S32x512 .f32) (s : Fin 64) (b : Fin 32) :
    scoreV W.mask W.va h c W.wq W.bq W.ep (ix2 s b) = score (par W) (rows2 h) (rows2 c) b s := by
  pointwise [scoreV, score, pair, par, rows2]

/-- The weights along the source positions. -/
def softV (s : FVec Ideal S64x32 .f32) : FVec Ideal S64x32 .f32 :=
  divf (exp (subf s (broadcastTo S64x32 (shapeCast S1x32 (multiReduction .maximumf [0] S32 s 0xFF800000#32 reduces_S64x32_S32 (.inl rfl) rfl) shapeCasts_S32_S1x32) broadcasts_S1x32_S64x32)))
    (broadcastTo S64x32 (shapeCast S1x32 (multiReduction .add [0] S32 (exp (subf s (broadcastTo S64x32 (shapeCast S1x32 (multiReduction .maximumf [0] S32 s 0xFF800000#32 reduces_S64x32_S32 (.inl rfl) rfl) shapeCasts_S32_S1x32) broadcasts_S1x32_S64x32))) 0x00000000#32 reduces_S64x32_S32 (.inl rfl) rfl) shapeCasts_S32_S1x32) broadcasts_S1x32_S64x32)

theorem softV_apply (x : FVec Ideal S64x32 .f32) (s : Fin 64) (b : Fin 32) :
    softV x (ix2 s b) = soft (fun r => x (ix2 r b)) s := by
  unfold soft
  rw [← bits_bot]
  pointwise [softV]

/-- The context. -/
def ctxV (enc : FVec Ideal S64x32x512 .f32) (a : FVec Ideal S64x32 .f32) : FVec Ideal S32x512 .f32 :=
  multiReduction .add [0] S32x512 (mulf enc (broadcastTo S64x32x512 (shapeCast S64x32x1 a shapeCasts_S64x32_S64x32x1) broadcasts_S64x32x1_S64x32x512))
    0x00000000#32 reduces_S64x32x512_S32x512 (.inl rfl) rfl

theorem ctxV_apply (enc : FVec Ideal S64x32x512 .f32) (a : FVec Ideal S64x32 .f32) (b : Fin 32) (d : Fin 512) :
    ctxV enc a (ix2 b d) = ∑ s : Fin 64, enc (ix3 s b d) * a (ix2 s b) := by
  pointwise [ctxV]

theorem pay8_eq (mask : IVec S64x32 1) (va : FVec Ideal S512 .f32) (h c g : FVec Ideal S32x512 .f32) (wq : FVec Ideal S1024x512 .bf16)
    (bq : FVec Ideal S1x512 .f32) (ep enc : FVec Ideal S64x32x512 .f32) :
    k0_pay8 mask va h c g wq bq ep enc
      = truncf .bf16 (concatenate S32x1024 1 [⟨S32x512, g⟩, ⟨S32x512, ctxV enc (softV (scoreV mask va h c wq bq ep))⟩] concatenates_S32x512_S32x512_S32x1024_d1) bitsLt_bf16_f32 := rfl

/-- The context, by index. -/
theorem ctx_apply (W : Wts Ideal) (h c : FVec Ideal S32x512 .f32) (b : Fin 32) (d : Fin 512) :
    ctxV W.enc (softV (scoreV W.mask W.va h c W.wq W.bq W.ep)) (ix2 b d) = ctx (par W) (rows2 h) (rows2 c) b d := by
  rw [ctxV_apply]
  simp only [softV_apply, scoreV_apply]
  rfl

/-- The combining product's input, cut into its halves. -/
theorem mix_lo (W : Wts Ideal) (g h c : FVec Ideal S32x512 .f32) (b : Fin 32) (i : Fin 512) :
    (W.mix g (h, c)) (ix2 b ⟨i.val, by omega⟩) = g (ix2 b i) := by
  unfold Wts.mix
  rw [pay8_eq]
  generalize ctxV W.enc (softV (scoreV W.mask W.va h c W.wq W.bq W.ep)) = X
  pointwise []

theorem mix_hi (W : Wts Ideal) (g h c : FVec Ideal S32x512 .f32) (b : Fin 32) (i : Fin 512) :
    (W.mix g (h, c)) (ix2 b ⟨512 + i.val, by omega⟩) = ctx (par W) (rows2 h) (rows2 c) b i := by
  unfold Wts.mix
  rw [pay8_eq, ← ctx_apply]
  generalize ctxV W.enc (softV (scoreV W.mask W.va h c W.wq W.bq W.ep)) = X
  pointwise []

theorem sum_halves (f : Fin 1024 → EReal) :
    ∑ i : Fin 1024, f i = (∑ i : Fin 512, f ⟨i.val, by omega⟩) + ∑ i : Fin 512, f ⟨512 + i.val, by omega⟩ :=
  Fin.sum_univ_add (a := 512) (b := 512) f

theorem gate_raw (h : FVec Ideal S32x512 .f32) (x : FVec Ideal S32x1024 .bf16) (wc : FVec Ideal S1024x512 .bf16)
    (bc : FVec Ideal S1x512 .f32) (wd : FVec Ideal S1024x2048 .bf16) (bd : FVec Ideal S1x2048 .f32) (b : Fin 32) (j : Fin 2048) :
    k0_pay4 (F := Ideal) h x wc bc wd bd (ix2 b j)
      = ∑ i : Fin 512, max ((∑ k : Fin 512, x (ix2 b ⟨k.val, by omega⟩) * wc (ix2 ⟨k.val, by omega⟩ i) + ∑ k : Fin 512, x (ix2 b ⟨512 + k.val, by omega⟩) * wc (ix2 ⟨512 + k.val, by omega⟩ i)) + bc (ix2 0 i)) 0 * wd (ix2 ⟨i.val, by omega⟩ j)
        + ∑ i : Fin 512, h (ix2 b i) * wd (ix2 ⟨512 + i.val, by omega⟩ j) + bd (ix2 0 j) := by
  have e : ∀ i : Fin 512, _ := fun i => sum_halves fun k => x (ix2 b k) * wc (ix2 k i)
  simp only [← e]
  pointwise [k0_pay4]

theorem gate_apply (W : Wts Ideal) (g h c : FVec Ideal S32x512 .f32) (b : Fin 32) (j : Fin 2048) :
    k0_pay4 (F := Ideal) h (W.mix g (h, c)) W.wc W.bc W.wd W.bd (ix2 b j) = gate (par W) (rows2 g) (rows2 h) (rows2 c) b j := by
  rw [gate_raw]
  simp only [mix_lo, mix_hi]
  rfl

theorem newC_apply (W : Wts Ideal) (g h c : FVec Ideal S32x512 .f32) (b : Fin 32) (d : Fin 512) :
    k0_pay5 (F := Ideal) h c (W.mix g (h, c)) W.wc W.bc W.wd W.bd (ix2 b d) = newC (par W) (rows2 g) (rows2 h) (rows2 c) b d := by
  unfold newC
  simp only [← gate_apply]
  generalize W.mix g (h, c) = X
  pointwise [k0_pay5]

theorem newH_apply (W : Wts Ideal) (g h c : FVec Ideal S32x512 .f32) (b : Fin 32) (d : Fin 512) :
    k0_pay6 (F := Ideal) h c (W.mix g (h, c)) W.wc W.bc W.wd W.bd (ix2 b d) = newH (par W) (rows2 g) (rows2 h) (rows2 c) b d := by
  unfold newH
  simp only [← gate_apply, ← newC_apply]
  generalize W.mix g (h, c) = X
  pointwise [k0_pay6]

/-- The kernel's state before step `k`. -/
theorem state_apply (W : Wts Ideal) (G : ℕ → FVec Ideal S32x512 .f32) (h₀ c₀ : FVec Ideal S32x512 .f32) (k : ℕ) :
    (rows2 (W.state G (h₀, c₀) k).1, rows2 (W.state G (h₀, c₀) k).2) = traj (par W) (fun k => rows2 (G k)) (rows2 h₀) (rows2 c₀) k := by
  induction k with
  | zero => rfl
  | succ k ih =>
    have e1 := congrArg Prod.fst ih
    have e2 := congrArg Prod.snd ih
    unfold traj
    rw [← e1, ← e2]
    refine Prod.ext ?_ ?_
    · funext b d
      exact newH_apply W (G k) (W.state G (h₀, c₀) k).1 (W.state G (h₀, c₀) k).2 b d
    · funext b d
      exact newC_apply W (G k) (W.state G (h₀, c₀) k).1 (W.state G (h₀, c₀) k).2 b d

/-- The kernel's result: step `t`'s new hidden rows. -/
theorem out_apply (W : Wts Ideal) (G : ℕ → FVec Ideal S32x512 .f32) (h₀ c₀ : FVec Ideal S32x512 .f32) (t : Fin 64) (b : Fin 32) (d : Fin 512) :
    W.out G (h₀, c₀) (ix3 t b d) = (traj (par W) (fun k => rows2 (G k)) (rows2 h₀) (rows2 c₀) (t.val + 1)).1 b d := by
  rw [← state_apply]
  show k0_pay7 (F := Ideal) (W.state G (h₀, c₀) t.val).1 (W.state G (h₀, c₀) t.val).2 (W.mix (G t.val) (W.state G (h₀, c₀) t.val)) W.wc W.bc W.wd W.bd (ix3 0 b d)
    = k0_pay6 (F := Ideal) (W.state G (h₀, c₀) t.val).1 (W.state G (h₀, c₀) t.val).2 (W.mix (G t.val) (W.state G (h₀, c₀) t.val)) W.wc W.bc W.wd W.bd (ix2 b d)
  generalize W.mix (G t.val) (W.state G (h₀, c₀) t.val) = X
  pointwise [k0_pay7]

theorem ep_apply (e : FVec Ideal S64x32x512 .f32) (w : FVec Ideal S512x512 .f32) (s : Fin 64) (b : Fin 32) (d : Fin 512) :
    k0_pay1 (F := Ideal) e w (ix3 s b d) = ∑ i : Fin 512, e (ix3 s b i) * w (ix2 i d) := by
  pointwise [k0_pay1]

theorem mask_apply (l : IVec S1x32 32) (s : Fin 64) (b : Fin 32) :
    k0_pay2 (F := Ideal) l (ix2 s b) = IntOp.cmpi .slt (BitVec.ofNat 32 s.val) (l (ix2 0 b)) := by
  pointwise [k0_pay2]

theorem va_apply (v : FVec Ideal S1x512 .f32) (d : Fin 512) : k0_pay3 (F := Ideal) v (ix1 d) = v (ix2 0 d) := by
  pointwise [k0_pay3]

end Cert.Kernel2Ideal.Dec

end
-- ==== Proof.Dec.Value.lean ====
/- What the decoder's array holds after the run: the rows of the recurrence. -/
module

public import proofs.«01_k».proof.Proof.Dec.Words
public import proofs.«01_k».proof.Proof.Dec.Host
public import proofs.«01_k».proof.Proof.Dec.Attn

@[expose] public section

set_option maxRecDepth 16384

noncomputable section

namespace Cert.Kernel2Ideal.Dec

open Cert.Kernel2Ideal Cert.Kernel2Ideal.Gen
open Idealize.ShloMosaic Cert.Proof.Decoder
open Idealize.ShloMosaic.TcCoe
open Idealize.ShloMosaic.Pipeline
open Idealize.ShloMosaic.StableHlo (after)

variable (m : (ℓ : Loc nD τ sig) → Buf (Elt Ideal) ℓ)

theorem blk1_eq (c : Dev nD) (t : Fin cfg0.N) (y : S64x32x512.Idx) : (iblk m c 1 t : FVec Ideal S64x32x512 .f32) y = (V m c main_arg2 : FVec Ideal S64x32x512 .f32) y := by
  have idx : win0_1.index t = fun _ => 0 := by rw [fin_N0 t]; decide +kernel
  blk_point [iblk, V, idx]

theorem blk2_eq (c : Dev nD) (t : Fin cfg0.N) (y : S1x32.Idx) : (iblk m c 2 t : IVec S1x32 32) y = (V m c main_v5 : IVec S1x32 32) y := by
  have idx : win0_2.index t = fun _ => 0 := by rw [fin_N0 t]; decide +kernel
  blk_point [iblk, V, idx]

theorem blk3_eq (c : Dev nD) (t : Fin cfg0.N) (y : S512x512.Idx) : (iblk m c 3 t : FVec Ideal S512x512 .f32) y = (V m c main_v10 : FVec Ideal S512x512 .f32) y := by
  have idx : win0_3.index t = fun _ => 0 := by rw [fin_N0 t]; decide +kernel
  blk_point [iblk, V, idx]

theorem blk4_eq (c : Dev nD) (t : Fin cfg0.N) (y : S1024x512.Idx) : (iblk m c 4 t : FVec Ideal S1024x512 .bf16) y = (V m c main_v8 : FVec Ideal S1024x512 .bf16) y := by
  have idx : win0_4.index t = fun _ => 0 := by rw [fin_N0 t]; decide +kernel
  blk_point [iblk, V, idx]

theorem blk5_eq (c : Dev nD) (t : Fin cfg0.N) (y : S1x512.Idx) : (iblk m c 5 t : FVec Ideal S1x512 .f32) y = (V m c main_v11 : FVec Ideal S1x512 .f32) y := by
  have idx : win0_5.index t = fun _ => 0 := by rw [fin_N0 t]; decide +kernel
  blk_point [iblk, V, idx]

theorem blk6_eq (c : Dev nD) (t : Fin cfg0.N) (y : S1x512.Idx) : (iblk m c 6 t : FVec Ideal S1x512 .f32) y = (V m c main_v12 : FVec Ideal S1x512 .f32) y := by
  have idx : win0_6.index t = fun _ => 0 := by rw [fin_N0 t]; decide +kernel
  blk_point [iblk, V, idx]

theorem blk7_eq (c : Dev nD) (t : Fin cfg0.N) (y : S1024x512.Idx) : (iblk m c 7 t : FVec Ideal S1024x512 .bf16) y = (V m c main_v14 : FVec Ideal S1024x512 .bf16) y := by
  have idx : win0_7.index t = fun _ => 0 := by rw [fin_N0 t]; decide +kernel
  blk_point [iblk, V, idx]

theorem blk8_eq (c : Dev nD) (t : Fin cfg0.N) (y : S1x512.Idx) : (iblk m c 8 t : FVec Ideal S1x512 .f32) y = (V m c main_v15 : FVec Ideal S1x512 .f32) y := by
  have idx : win0_8.index t = fun _ => 0 := by rw [fin_N0 t]; decide +kernel
  blk_point [iblk, V, idx]

theorem blk9_eq (c : Dev nD) (t : Fin cfg0.N) (y : S1024x2048.Idx) : (iblk m c 9 t : FVec Ideal S1024x2048 .bf16) y = (V m c main_v19 : FVec Ideal S1024x2048 .bf16) y := by
  have idx : win0_9.index t = fun _ => 0 := by rw [fin_N0 t]; decide +kernel
  blk_point [iblk, V, idx]

theorem blk10_eq (c : Dev nD) (t : Fin cfg0.N) (y : S1x2048.Idx) : (iblk m c 10 t : FVec Ideal S1x2048 .f32) y = (V m c main_v20 : FVec Ideal S1x2048 .f32) y := by
  have idx : win0_10.index t = fun _ => 0 := by rw [fin_N0 t]; decide +kernel
  blk_point [iblk, V, idx]

theorem blk11_eq (c : Dev nD) (t : Fin cfg0.N) (y : S32x512.Idx) : (iblk m c 11 t : FVec Ideal S32x512 .f32) y = (V m c main_arg12 : FVec Ideal S32x512 .f32) y := by
  have idx : win0_11.index t = fun _ => 0 := by rw [fin_N0 t]; decide +kernel
  blk_point [iblk, V, idx]

theorem blk12_eq (c : Dev nD) (t : Fin cfg0.N) (y : S32x512.Idx) : (iblk m c 12 t : FVec Ideal S32x512 .f32) y = (V m c main_arg13 : FVec Ideal S32x512 .f32) y := by
  have idx : win0_12.index t = fun _ => 0 := by rw [fin_N0 t]; decide +kernel
  blk_point [iblk, V, idx]

/-- The array after the run. -/
theorem array (c : Dev nD) : (dats m 0 c).arrAt 13 (Fin.last cfg0.N) = outAt m c t0_0 := by
  refine (dats m 0 c).arrAt_eq_of_covers 13 _ (by decide +kernel) fun t hf y => ?_
  blk_simp
  rw [after0_13, fin_N0 t]
  have idx : win0_13.index t0_0 = fun _ => 0 := by decide +kernel
  refine congrArg (outAt m c t0_0) ?_
  blk_ext [idx]

end Cert.Kernel2Ideal.Dec

end
-- ==== Proof.Dec.Result.lean ====
/- The decoder's result as the recurrence over its arguments. -/
module

public import proofs.«01_k».proof.Proof.Dec.Value

@[expose] public section

set_option maxRecDepth 16384

noncomputable section

namespace Cert.Kernel2Ideal.Dec

open Cert.Kernel2Ideal Cert.Kernel2Ideal.Gen
open Idealize.ShloMosaic Cert.Proof.Decoder
open Idealize.ShloMosaic.TcCoe
open Idealize.ShloMosaic.Pipeline
open Idealize.ShloMosaic.StableHlo (after)

/-- The step's parameters, where each operand is read off an argument. -/
theorem par_of (v2 : Vec Ideal S64x32x512 .f32) (v3 : Vec Ideal S1x32 .i32) (v4 : Vec Ideal S512x512 .f32) (v5 : Vec Ideal S1024x512 .bf16) (v6 : Vec Ideal S1x512 .f32) (v7 : Vec Ideal S1x512 .f32) (v8 : Vec Ideal S1024x512 .bf16) (v9 : Vec Ideal S1x512 .f32) (v10 : Vec Ideal S1024x2048 .bf16) (v11 : Vec Ideal S1x2048 .f32)
    (x2 : FVec Ideal S64x32x512 .f32) (x3 : IVec S32 32) (x4 : FVec Ideal S512x1536 .f32) (x5 : FVec Ideal S512 .f32) (x6 : FVec Ideal S512 .f32) (x7 : FVec Ideal S512x1024 .f32) (x8 : FVec Ideal S512 .f32) (x9 : FVec Ideal S2048x512 .f32) (x10 : FVec Ideal S2048x512 .f32) (x11 : FVec Ideal S2048 .f32)
    (h2 : ∀ s b d, v2 (ix3 s b d) = x2 (ix3 s b d))
    (h3 : ∀ b, v3 (ix2 0 b) = x3 (ix1 b))
    (h4 : ∀ i d : Fin 512, v4 (ix2 i d) = x4 (ix2 d ⟨1024 + i.val, by omega⟩))
    (h5 : ∀ (i : Fin 1024) d, v5 (ix2 i d) = x4 (ix2 d ⟨i.val, by omega⟩))
    (h6 : ∀ d, v6 (ix2 0 d) = x5 (ix1 d))
    (h7 : ∀ d, v7 (ix2 0 d) = x6 (ix1 d))
    (h8 : ∀ i d, v8 (ix2 i d) = x7 (ix2 d i))
    (h9 : ∀ d, v9 (ix2 0 d) = x8 (ix1 d))
    (h10 : ∀ (i : Fin 512) j, v10 (ix2 ⟨i.val, by omega⟩ j) = x9 (ix2 j i))
    (h10' : ∀ (i : Fin 512) j, v10 (ix2 ⟨512 + i.val, by omega⟩ j) = x10 (ix2 j i))
    (h11 : ∀ j, v11 (ix2 0 j) = x11 (ix1 j)) :
    par ({ mask := k0_pay2 v3, va := k0_pay3 v7, wq := v5, bq := v6, ep := k0_pay1 v2 v4, enc := v2, wc := v8, bc := v9, wd := v10, bd := v11 } : Wts Ideal)
      = parOf (fun s b d => x2 (ix3 s b d)) (fun b => x3 (ix1 b)) (fun d i => x4 (ix2 d i)) (fun d => x5 (ix1 d)) (fun d => x6 (ix1 d))
      (fun d i => x7 (ix2 d i)) (fun d => x8 (ix1 d)) (fun j i => x9 (ix2 j i)) (fun j i => x10 (ix2 j i)) (fun j => x11 (ix1 j)) :=
  Par.ext (funext fun s => funext fun b => (mask_apply v3 s b).trans (congrArg (IntOp.cmpi .slt (BitVec.ofNat 32 s.val)) (h3 b)))
    (funext fun d => (va_apply v7 d).trans (h7 d))
    (funext fun i => funext fun d => h5 i d)
    (funext fun d => h6 d)
    (funext fun s => funext fun b => funext fun d => (ep_apply v2 v4 s b d).trans
      (Finset.sum_congr rfl fun i _ => congrArg₂ (fun x y : EReal => x * y) (h2 s b i) (h4 i d)))
    (funext fun s => funext fun b => funext fun d => h2 s b d)
    (funext fun i => funext fun d => h8 i d)
    (funext fun d => h9 d)
    (funext fun i => funext fun j => h10 i j)
    (funext fun i => funext fun j => h10' i j)
    (funext fun j => h11 j)

/-- A step's embedded words, off the gathered rows. -/
theorem rows_of (v0 : Vec Ideal S2048 .i32) (v1 : Vec Ideal S32000x512 .f32) (x0 : IVec S32x65 32) (x1 : FVec Ideal S32000x512 .f32)
    (h0 : ∀ (t : Fin 64) (b : Fin 32), (v0 (ix1 ⟨32 * t.val + b.val, by omega⟩) : BitVec 32) = if h : t.val = 0 then 1#32 else x0 (ix2 b ⟨t.val, by omega⟩))
    (h1 : ∀ n d, v1 (ix2 n d) = x1 (ix2 n d)) (k : ℕ) (hk : k < 64) :
    rows2 (rowsOf (gatherV v0 v1) k) = emb (fun b j => x0 (ix2 b j)) (fun n d => x1 (ix2 n d)) k := by
  funext b d
  have hw : (v0 (ix1 ⟨(32 * k + b.val) % 2048, Nat.mod_lt _ (by decide)⟩) : BitVec 32) = Cert.Proof.Decoder.word (fun b j => x0 (ix2 b j)) k b := by
    have e : (ix1 ⟨(32 * k + b.val) % 2048, Nat.mod_lt _ (by decide)⟩ : S2048.Idx) = ix1 ⟨32 * k + b.val, by omega⟩ :=
      congrArg ix1 (Fin.ext (Nat.mod_eq_of_lt (by omega)))
    rw [e]
    refine (h0 ⟨k, hk⟩ b).trans ?_
    unfold Cert.Proof.Decoder.word
    by_cases h : k = 0
    · rw [dif_pos h, if_pos h]
    · rw [dif_neg h, if_neg h]
      exact congrArg (fun n : Fin 65 => x0 (ix2 b n)) (Fin.ext (Nat.mod_eq_of_lt (by omega)).symm)
  refine (h1 _ d).trans ?_
  exact congrArg (fun n : Fin 32000 => x1 (ix2 n d)) (Fin.ext (congrArg (fun w : BitVec 32 => w.toNat % 32000) hw))

theorem decV_of (v0 : Vec Ideal S2048 .i32) (v1 : Vec Ideal S32000x512 .f32) (v2 : Vec Ideal S64x32x512 .f32) (v3 : Vec Ideal S1x32 .i32) (v4 : Vec Ideal S512x512 .f32) (v5 : Vec Ideal S1024x512 .bf16) (v6 : Vec Ideal S1x512 .f32) (v7 : Vec Ideal S1x512 .f32) (v8 : Vec Ideal S1024x512 .bf16) (v9 : Vec Ideal S1x512 .f32) (v10 : Vec Ideal S1024x2048 .bf16) (v11 : Vec Ideal S1x2048 .f32) (v12 : Vec Ideal S32x512 .f32) (v13 : Vec Ideal S32x512 .f32)
    (x0 : IVec S32x65 32) (x1 : FVec Ideal S32000x512 .f32) (x2 : FVec Ideal S64x32x512 .f32) (x3 : IVec S32 32) (x4 : FVec Ideal S512x1536 .f32) (x5 : FVec Ideal S512 .f32) (x6 : FVec Ideal S512 .f32) (x7 : FVec Ideal S512x1024 .f32) (x8 : FVec Ideal S512 .f32) (x9 : FVec Ideal S2048x512 .f32) (x10 : FVec Ideal S2048x512 .f32) (x11 : FVec Ideal S2048 .f32) (x12 : FVec Ideal S32x512 .f32) (x13 : FVec Ideal S32x512 .f32)
    (h0 : ∀ (t : Fin 64) (b : Fin 32), (v0 (ix1 ⟨32 * t.val + b.val, by omega⟩) : BitVec 32) = if h : t.val = 0 then 1#32 else x0 (ix2 b ⟨t.val, by omega⟩))
    (h1 : ∀ n d, v1 (ix2 n d) = x1 (ix2 n d))
    (h2 : ∀ s b d, v2 (ix3 s b d) = x2 (ix3 s b d))
    (h3 : ∀ b, v3 (ix2 0 b) = x3 (ix1 b))
    (h4 : ∀ i d : Fin 512, v4 (ix2 i d) = x4 (ix2 d ⟨1024 + i.val, by omega⟩))
    (h5 : ∀ (i : Fin 1024) d, v5 (ix2 i d) = x4 (ix2 d ⟨i.val, by omega⟩))
    (h6 : ∀ d, v6 (ix2 0 d) = x5 (ix1 d))
    (h7 : ∀ d, v7 (ix2 0 d) = x6 (ix1 d))
    (h8 : ∀ i d, v8 (ix2 i d) = x7 (ix2 d i))
    (h9 : ∀ d, v9 (ix2 0 d) = x8 (ix1 d))
    (h10 : ∀ (i : Fin 512) j, v10 (ix2 ⟨i.val, by omega⟩ j) = x9 (ix2 j i))
    (h10' : ∀ (i : Fin 512) j, v10 (ix2 ⟨512 + i.val, by omega⟩ j) = x10 (ix2 j i))
    (h11 : ∀ j, v11 (ix2 0 j) = x11 (ix1 j))
    (h12 : ∀ b d, v12 (ix2 b d) = x12 (ix2 b d)) (h13 : ∀ b d, v13 (ix2 b d) = x13 (ix2 b d)) :
    decV v0 v1 v2 v3 v4 v5 v6 v7 v8 v9 v10 v11 v12 v13 = decodedOf x0 x1 x2 x3 x4 x5 x6 x7 x8 x9 x10 x11 x12 x13 := by
  funext y
  obtain ⟨s, b, d, rfl⟩ : ∃ (s : Fin 64) (b : Fin 32) (d : Fin 512), y = ix3 s b d := ⟨y 0, y 1, y 2, by funext a; fin_cases a <;> rfl⟩
  have hh : rows2 v12 = fun b d => x12 (ix2 b d) := funext fun b => funext fun d => h12 b d
  have hc : rows2 v13 = fun b d => x13 (ix2 b d) := funext fun b => funext fun d => h13 b d
  unfold decV
  rw [out_apply, par_of v2 v3 v4 v5 v6 v7 v8 v9 v10 v11 x2 x3 x4 x5 x6 x7 x8 x9 x10 x11 h2 h3 h4 h5 h6 h7 h8 h9 h10 h10' h11, hh, hc]
  unfold decodedOf
  exact congrArg (fun x : Rows × Rows => x.1 b d) (traj_congr _ _ _ _ _ _ fun k hk => rows_of v0 v1 x0 x1 h0 h1 k (by
    have h1 : k < s.val + 1 := hk
    omega))

variable (m : (ℓ : Loc nD τ sig) → Buf (Elt Ideal) ℓ)

theorem result (c : Dev nD) : outAt m c t0_0 = decodedOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  decV_of _ _ _ _ _ _ _ _ _ _ _ _ _ _ _ _ _ _ _ _ _ _ _ _ _ _ _ _
    (fun t b => (blk0_eq m c t0_0 _).trans (V_tok m c t b))
    (fun n d => congrFun (V_main_arg1 m c) _)
    (fun s b d => (blk1_eq m c t0_0 _).trans (congrFun (V_main_arg2 m c) _))
    (fun b => (blk2_eq m c t0_0 _).trans (lens_at (fun b => m (c, b)) b))
    (fun i d => (blk3_eq m c t0_0 _).trans (we_at (fun b => m (c, b)) i d))
    (fun i d => (blk4_eq m c t0_0 _).trans (wq_at (fun b => m (c, b)) i d))
    (fun d => (blk5_eq m c t0_0 _).trans (bq_at (fun b => m (c, b)) d))
    (fun d => (blk6_eq m c t0_0 _).trans (va_at (fun b => m (c, b)) d))
    (fun i d => (blk7_eq m c t0_0 _).trans (wc_at (fun b => m (c, b)) i d))
    (fun d => (blk8_eq m c t0_0 _).trans (bc_at (fun b => m (c, b)) d))
    (fun i j => (blk9_eq m c t0_0 _).trans (wi_at (fun b => m (c, b)) i j))
    (fun i j => (blk9_eq m c t0_0 _).trans (wh_at (fun b => m (c, b)) i j))
    (fun j => (blk10_eq m c t0_0 _).trans (bd_at (fun b => m (c, b)) j))
    (fun b d => (blk11_eq m c t0_0 _).trans (congrFun (V_main_arg12 m c) _))
    (fun b d => (blk12_eq m c t0_0 _).trans (congrFun (V_main_arg13 m c) _))

end Cert.Kernel2Ideal.Dec

end
-- ==== Proof.Ref2.Ops.lean ====
/- The plain decoder's operations, stretch by stretch, and its run: a counted loop of sixty-four trips. -/
module

public import proofs.«01_k».proof.Proof.Gen.Reference2Ideal
public import Idealize.ShloMosaic.Lib.StableHlo.RunLoop
public import Idealize.ShloMosaic.Lib.StableHlo.ReadAt
public import Idealize.ShloMosaic.Lib.Scf.ExitTest
public import Idealize.ShloMosaic.Lib.Scf.Counter
public import Idealize.ShloMosaic.Lib.Pipeline.Regions

@[expose] public section

set_option maxRecDepth 16384

noncomputable section

namespace Cert.Reference2Ideal.Dec

open Cert.Reference2Ideal Cert.Reference2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held)

variable {F : FTy → Type} [FloatOps F]

/-- What the loop's condition runs. -/
abbrev condOps : List (HloOp τ sig (Elt F)) :=
  [ StableHlo.nullary main_while0c_c_17 (constantI S_ 32 64#32),
    StableHlo.binary main_v16_13 main_while0c_c_17 main_while0c_v18 (cmpi .slt : (⟨S_, .i32⟩ : BufTy).Contents (Elt F) → (⟨S_, .i32⟩ : BufTy).Contents (Elt F) → (⟨S_, .i1⟩ : BufTy).Contents (Elt F)) ]

theorem condOps_sub : (condOps (F := F)).Forall fun op => op.bufs ⊆ StableHlo.tcRefs τ sig :=
  ⟨StableHlo.nullary_bufs_sub .., StableHlo.binary_bufs_sub ..⟩

theorem condOps_fresh : (condOps (F := F)).Forall fun op => op.fresh = ∅ :=
  ⟨rfl, rfl⟩

/-- Before the loop, stretch 0. -/
abbrev preOps0 : List (HloOp τ sig (Elt F)) :=
  [ StableHlo.unary main_arg2 main_v0 ((transpose S32x64x512 [1, 0, 2] · transposes_S64x32x512_S32x64x512_1_0_2) : (⟨S64x32x512, .f32⟩ : BufTy).Contents (Elt F) → (⟨S32x64x512, .f32⟩ : BufTy).Contents (Elt F)),
    StableHlo.unary main_arg4 main_v1 ((extractStridedSlice S512x1024 ![0, 0] · slices_S512x1536_S512x1024_0_0) : (⟨S512x1536, .f32⟩ : BufTy).Contents (Elt F) → (⟨S512x1024, .f32⟩ : BufTy).Contents (Elt F)),
    StableHlo.unary main_arg4 main_v2 ((extractStridedSlice S512x512 ![0, 1024] · slices_S512x1536_S512x512_0_1024) : (⟨S512x1536, .f32⟩ : BufTy).Contents (Elt F) → (⟨S512x512, .f32⟩ : BufTy).Contents (Elt F)),
    StableHlo.unary main_v2 main_v3 ((transpose S512x512 [1, 0] · transposes_S512x512_S512x512_1_0) : (⟨S512x512, .f32⟩ : BufTy).Contents (Elt F) → (⟨S512x512, .f32⟩ : BufTy).Contents (Elt F)),
    StableHlo.binary main_v0 main_v3 main_v4 ((fun l r => Host.dotGeneral dot_S32x64x512_S512x512_S32x64x512_2_0_01_1_n_n none l r) : (⟨S32x64x512, .f32⟩ : BufTy).Contents (Elt F) → (⟨S512x512, .f32⟩ : BufTy).Contents (Elt F) → (⟨S32x64x512, .f32⟩ : BufTy).Contents (Elt F)),
    StableHlo.nullary main_v5 (iotaInDim S64 32 0),
    StableHlo.unary main_v5 main_v6 (broadcastInDim S1x64 ![1] bcast_S64_S1x64_1 : (⟨S64, .i32⟩ : BufTy).Contents (Elt F) → (⟨S1x64, .i32⟩ : BufTy).Contents (Elt F)),
    StableHlo.unary main_arg3 main_v7 (broadcastInDim S32x1 ![0] bcast_S32_S32x1_0 : (⟨S32, .i32⟩ : BufTy).Contents (Elt F) → (⟨S32x1, .i32⟩ : BufTy).Contents (Elt F)),
    StableHlo.unary main_v6 main_v8 (broadcastInDim S32x64 ![0, 1] bcast_S1x64_S32x64_0_1 : (⟨S1x64, .i32⟩ : BufTy).Contents (Elt F) → (⟨S32x64, .i32⟩ : BufTy).Contents (Elt F)),
    StableHlo.unary main_v7 main_v9 (broadcastInDim S32x64 ![0, 1] bcast_S32x1_S32x64_0_1 : (⟨S32x1, .i32⟩ : BufTy).Contents (Elt F) → (⟨S32x64, .i32⟩ : BufTy).Contents (Elt F)),
    StableHlo.binary main_v8 main_v9 main_v10 (cmpi .slt : (⟨S32x64, .i32⟩ : BufTy).Contents (Elt F) → (⟨S32x64, .i32⟩ : BufTy).Contents (Elt F) → (⟨S32x64, .i1⟩ : BufTy).Contents (Elt F)) ]

theorem preOps0_sub : (preOps0 (F := F)).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub ..⟩

theorem preOps0_fresh : (preOps0 (F := F)).Forall fun op => op.fresh = ∅ :=
  ⟨rfl, rfl, rfl, rfl, rfl, rfl, rfl, rfl, rfl, rfl, rfl⟩

/-- Before the loop, stretch 1. -/
abbrev preOps1 : List (HloOp τ sig (Elt F)) :=
  [ StableHlo.nullary main_c (constantI S_ 32 1#32),
    StableHlo.unary main_c main_v11 (broadcastInDim S32x1 ![] bcast_S_S32x1 : (⟨S_, .i32⟩ : BufTy).Contents (Elt F) → (⟨S32x1, .i32⟩ : BufTy).Contents (Elt F)),
    StableHlo.unary main_arg0 main_v12 ((extractStridedSlice S32x63 ![0, 1] · slices_S32x65_S32x63_0_1) : (⟨S32x65, .i32⟩ : BufTy).Contents (Elt F) → (⟨S32x63, .i32⟩ : BufTy).Contents (Elt F)),
    StableHlo.binary main_v11 main_v12 main_v13 ((fun a b => concatenate S32x64 1 [⟨S32x1, a⟩, ⟨S32x63, b⟩] concatenates_S32x1_S32x63_S32x64_d1) : (⟨S32x1, .i32⟩ : BufTy).Contents (Elt F) → (⟨S32x63, .i32⟩ : BufTy).Contents (Elt F) → (⟨S32x64, .i32⟩ : BufTy).Contents (Elt F)),
    StableHlo.unary main_v13 main_v14 ((transpose S64x32 [1, 0] · transposes_S32x64_S64x32_1_0) : (⟨S32x64, .i32⟩ : BufTy).Contents (Elt F) → (⟨S64x32, .i32⟩ : BufTy).Contents (Elt F)),
    StableHlo.nullary main_cst (constant S_ .f32 0x00000000#32),
    StableHlo.unary main_cst main_v15 (broadcastInDim S64x32x512 ![] bcast_S_S64x32x512 : (⟨S_, .f32⟩ : BufTy).Contents (Elt F) → (⟨S64x32x512, .f32⟩ : BufTy).Contents (Elt F)),
    StableHlo.nullary main_c_0 (constantI S_ 32 0#32) ]

theorem preOps1_sub : (preOps1 (F := F)).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub ..⟩

theorem preOps1_fresh : (preOps1 (F := F)).Forall fun op => op.fresh = ∅ :=
  ⟨rfl, rfl, rfl, rfl, rfl, rfl, rfl, rfl⟩

/-- Before the loop, stretch 2. -/
abbrev preOps2 : List (HloOp τ sig (Elt F)) :=
  [ StableHlo.unary main_v14 main_v16_0 id,
    StableHlo.unary main_arg1 main_v16_1 id,
    StableHlo.unary main_v1 main_v16_2 id,
    StableHlo.unary main_arg5 main_v16_3 id,
    StableHlo.unary main_v4 main_v16_4 id,
    StableHlo.unary main_arg6 main_v16_5 id,
    StableHlo.unary main_v10 main_v16_6 id,
    StableHlo.unary main_v0 main_v16_7 id,
    StableHlo.unary main_arg7 main_v16_8 id,
    StableHlo.unary main_arg8 main_v16_9 id,
    StableHlo.unary main_arg9 main_v16_10 id,
    StableHlo.unary main_arg10 main_v16_11 id,
    StableHlo.unary main_arg11 main_v16_12 id,
    StableHlo.unary main_c_0 main_v16_13 id,
    StableHlo.unary main_arg12 main_v16_14 id,
    StableHlo.unary main_arg13 main_v16_15 id,
    StableHlo.unary main_v15 main_v16_16 id ]

theorem preOps2_sub : (preOps2 (F := F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem preOps2_fresh : (preOps2 (F := F)).Forall fun op => op.fresh = ∅ :=
  ⟨rfl, rfl, rfl, rfl, rfl, rfl, rfl, rfl, rfl, rfl, rfl, rfl, rfl, rfl, rfl, rfl, rfl⟩

/-- One trip, stretch 0. -/
abbrev bodyOps0 : List (HloOp τ sig (Elt F)) :=
  [ StableHlo.TRef.nullary main_while0b_call0.c (constantI S_ 32 0#32),
    StableHlo.TRef.unaryIndexed (.of main_v16_0 : StableHlo.TRef sig ⟨S64x32, .i32⟩) ![(.of main_v16_13 : StableHlo.TRef sig ⟨S_, .i32⟩), main_while0b_call0.c] main_while0b_call0.v0 (fun x i => Host.dynamicSlice S1x32 x (fun k => (i k (Shape.Idx.first h_S_)).toInt) sliceFits_S64x32_S1x32),
    StableHlo.TRef.reshape main_while0b_call0.v0 main_while0b_call0.v1 (rfl : (.i32 : EltTy) = .i32) shapeCasts_S1x32_S32 ]

theorem bodyOps0_sub : (bodyOps0 (F := F)).Forall fun op => op.bufs ⊆ StableHlo.tcRefs τ sig :=
  ⟨StableHlo.nullary_bufs_sub .., StableHlo.unaryIndexed_bufs_sub .., StableHlo.reshape_bufs_sub ..⟩

theorem bodyOps0_fresh : (bodyOps0 (F := F)).Forall fun op => op.fresh = ∅ :=
  ⟨rfl, rfl, rfl⟩

/-- One trip, stretch 1. -/
abbrev bodyOps1 : List (HloOp τ sig (Elt F)) :=
  [ StableHlo.nullary main_while0b_c_17 (constantI S_ 32 0#32),
    StableHlo.unary main_while0b_c_17 main_while0b_v19 (broadcastInDim S32 ![] bcast_S_S32 : (⟨S_, .i32⟩ : BufTy).Contents (Elt F) → (⟨S32, .i32⟩ : BufTy).Contents (Elt F)),
    StableHlo.binary main_while0b_v18 main_while0b_v19 main_while0b_v20 (cmpi .slt : (⟨S32, .i32⟩ : BufTy).Contents (Elt F) → (⟨S32, .i32⟩ : BufTy).Contents (Elt F) → (⟨S32, .i1⟩ : BufTy).Contents (Elt F)),
    StableHlo.nullary main_while0b_c_18 (constantI S_ 32 32000#32),
    StableHlo.unary main_while0b_c_18 main_while0b_v21 (broadcastInDim S32 ![] bcast_S_S32 : (⟨S_, .i32⟩ : BufTy).Contents (Elt F) → (⟨S32, .i32⟩ : BufTy).Contents (Elt F)),
    StableHlo.binary main_while0b_v18 main_while0b_v21 main_while0b_v22 (addi : (⟨S32, .i32⟩ : BufTy).Contents (Elt F) → (⟨S32, .i32⟩ : BufTy).Contents (Elt F) → (⟨S32, .i32⟩ : BufTy).Contents (Elt F)),
    StableHlo.ternary main_while0b_v20 main_while0b_v22 main_while0b_v18 main_while0b_v23 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_while0b_v23 main_while0b_v24 (broadcastInDim S32x1 ![0] bcast_S32_S32x1_0 : (⟨S32, .i32⟩ : BufTy).Contents (Elt F) → (⟨S32x1, .i32⟩ : BufTy).Contents (Elt F)),
    StableHlo.binary main_v16_1 main_while0b_v24 main_while0b_v25 ((fun x i => Host.gather gather_S32000x512_S32x1_S32x512_1_0_n_n_0_1_1512 x i) : (⟨S32000x512, .f32⟩ : BufTy).Contents (Elt F) → (⟨S32x1, .i32⟩ : BufTy).Contents (Elt F) → (⟨S32x512, .f32⟩ : BufTy).Contents (Elt F)) ]

theorem bodyOps1_sub : (bodyOps1 (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

theorem bodyOps1_fresh : (bodyOps1 (F := F)).Forall fun op => op.fresh = ∅ :=
  ⟨rfl, rfl, rfl, rfl, rfl, rfl, rfl, rfl, rfl⟩

/-- One trip, stretch 2. -/
abbrev bodyOps2 : List (HloOp τ sig (Elt F)) :=
  [ StableHlo.binary main_v16_14 main_v16_15 main_while0b_v26 ((fun a b => concatenate S32x1024 1 [⟨S32x512, a⟩, ⟨S32x512, b⟩] concatenates_S32x512_S32x512_S32x1024_d1) : (⟨S32x512, .f32⟩ : BufTy).Contents (Elt F) → (⟨S32x512, .f32⟩ : BufTy).Contents (Elt F) → (⟨S32x1024, .f32⟩ : BufTy).Contents (Elt F)),
    StableHlo.unary main_v16_2 main_while0b_v27 ((transpose S1024x512 [1, 0] · transposes_S512x1024_S1024x512_1_0) : (⟨S512x1024, .f32⟩ : BufTy).Contents (Elt F) → (⟨S1024x512, .f32⟩ : BufTy).Contents (Elt F)),
    StableHlo.binary main_while0b_v26 main_while0b_v27 main_while0b_v28 ((fun l r => Host.dotGeneral dot_S32x1024_S1024x512_S32x512_1_0_0_1_n_n none l r) : (⟨S32x1024, .f32⟩ : BufTy).Contents (Elt F) → (⟨S1024x512, .f32⟩ : BufTy).Contents (Elt F) → (⟨S32x512, .f32⟩ : BufTy).Contents (Elt F)),
    StableHlo.unary main_v16_3 main_while0b_v29 (broadcastInDim S1x512 ![1] bcast_S512_S1x512_1 : (⟨S512, .f32⟩ : BufTy).Contents (Elt F) → (⟨S1x512, .f32⟩ : BufTy).Contents (Elt F)),
    StableHlo.unary main_while0b_v29 main_while0b_v30 (broadcastInDim S32x512 ![0, 1] bcast_S1x512_S32x512_0_1 : (⟨S1x512, .f32⟩ : BufTy).Contents (Elt F) → (⟨S32x512, .f32⟩ : BufTy).Contents (Elt F)),
    StableHlo.binary main_while0b_v28 main_while0b_v30 main_while0b_v31 (addf : (⟨S32x512, .f32⟩ : BufTy).Contents (Elt F) → (⟨S32x512, .f32⟩ : BufTy).Contents (Elt F) → (⟨S32x512, .f32⟩ : BufTy).Contents (Elt F)),
    StableHlo.unary main_while0b_v31 main_while0b_v32 (broadcastInDim S32x1x512 ![0, 2] bcast_S32x512_S32x1x512_0_2 : (⟨S32x512, .f32⟩ : BufTy).Contents (Elt F) → (⟨S32x1x512, .f32⟩ : BufTy).Contents (Elt F)),
    StableHlo.unary main_while0b_v32 main_while0b_v33 (broadcastInDim S32x64x512 ![0, 1, 2] bcast_S32x1x512_S32x64x512_0_1_2 : (⟨S32x1x512, .f32⟩ : BufTy).Contents (Elt F) → (⟨S32x64x512, .f32⟩ : BufTy).Contents (Elt F)),
    StableHlo.binary main_v16_4 main_while0b_v33 main_while0b_v34 (addf : (⟨S32x64x512, .f32⟩ : BufTy).Contents (Elt F) → (⟨S32x64x512, .f32⟩ : BufTy).Contents (Elt F) → (⟨S32x64x512, .f32⟩ : BufTy).Contents (Elt F)),
    StableHlo.unary main_while0b_v34 main_while0b_v35 (Host.tanh : (⟨S32x64x512, .f32⟩ : BufTy).Contents (Elt F) → (⟨S32x64x512, .f32⟩ : BufTy).Contents (Elt F)),
    StableHlo.binary main_while0b_v35 main_v16_5 main_while0b_v36 ((fun l r => Host.dotGeneral dot_S32x64x512_S512_S32x64_2_0_01_n_n_n none l r) : (⟨S32x64x512, .f32⟩ : BufTy).Contents (Elt F) → (⟨S512, .f32⟩ : BufTy).Contents (Elt F) → (⟨S32x64, .f32⟩ : BufTy).Contents (Elt F)),
    StableHlo.nullary main_while0b_cst_19 (constant S_ .f32 0xCE6E6B28#32) ]

theorem bodyOps2_sub : (bodyOps2 (F := F)).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub ..⟩

theorem bodyOps2_fresh : (bodyOps2 (F := F)).Forall fun op => op.fresh = ∅ :=
  ⟨rfl, rfl, rfl, rfl, rfl, rfl, rfl, rfl, rfl, rfl, rfl, rfl⟩

/-- One trip, stretch 3. -/
abbrev bodyOps3 : List (HloOp τ sig (Elt F)) :=
  [ StableHlo.TRef.unary (.of main_while0b_cst_19 : StableHlo.TRef sig ⟨S_, .f32⟩) main_while0b_call1.v0 id,
    StableHlo.TRef.unary main_while0b_call1.v0 main_while0b_call1.v1 (broadcastInDim S32x64 ![] bcast_S_S32x64),
    StableHlo.TRef.ternary (.of main_v16_6 : StableHlo.TRef sig ⟨S32x64, .i1⟩) (.of main_while0b_v36 : StableHlo.TRef sig ⟨S32x64, .f32⟩) main_while0b_call1.v1 main_while0b_call1.v2 select ]

theorem bodyOps3_sub : (bodyOps3 (F := F)).Forall fun op => op.bufs ⊆ StableHlo.tcRefs τ sig :=
  ⟨StableHlo.unary_bufs_sub .., StableHlo.unary_bufs_sub .., StableHlo.ternary_bufs_sub ..⟩

theorem bodyOps3_fresh : (bodyOps3 (F := F)).Forall fun op => op.fresh = ∅ :=
  ⟨rfl, rfl, rfl⟩

/-- One trip, stretch 4. -/
abbrev bodyOps4 : List (HloOp τ sig (Elt F)) :=
  [ StableHlo.nullary main_while0b_cst_20 (constant S_ .f32 0xFF800000#32),
    StableHlo.binary main_while0b_v37 main_while0b_cst_20 main_while0b_v38 ((fun x v => Host.reduce FloatOps.maximumf x v reducesTo_S32x64_S32_d1 h_S_) : (⟨S32x64, .f32⟩ : BufTy).Contents (Elt F) → (⟨S_, .f32⟩ : BufTy).Contents (Elt F) → (⟨S32, .f32⟩ : BufTy).Contents (Elt F)),
    StableHlo.nullary main_while0b_cst_21 (constant S_ .f32 0xFF800000#32),
    StableHlo.unary main_while0b_cst_21 main_while0b_v39 (broadcastInDim S32 ![] bcast_S_S32 : (⟨S_, .f32⟩ : BufTy).Contents (Elt F) → (⟨S32, .f32⟩ : BufTy).Contents (Elt F)),
    StableHlo.binary main_while0b_v39 main_while0b_v38 main_while0b_v40 (maximumf : (⟨S32, .f32⟩ : BufTy).Contents (Elt F) → (⟨S32, .f32⟩ : BufTy).Contents (Elt F) → (⟨S32, .f32⟩ : BufTy).Contents (Elt F)),
    StableHlo.unary main_while0b_v40 main_while0b_v41 (broadcastInDim S32x1 ![0] bcast_S32_S32x1_0 : (⟨S32, .f32⟩ : BufTy).Contents (Elt F) → (⟨S32x1, .f32⟩ : BufTy).Contents (Elt F)),
    StableHlo.unary main_while0b_v41 main_while0b_v42 (broadcastInDim S32x64 ![0, 1] bcast_S32x1_S32x64_0_1 : (⟨S32x1, .f32⟩ : BufTy).Contents (Elt F) → (⟨S32x64, .f32⟩ : BufTy).Contents (Elt F)),
    StableHlo.binary main_while0b_v37 main_while0b_v42 main_while0b_v43 (subf : (⟨S32x64, .f32⟩ : BufTy).Contents (Elt F) → (⟨S32x64, .f32⟩ : BufTy).Contents (Elt F) → (⟨S32x64, .f32⟩ : BufTy).Contents (Elt F)),
    StableHlo.unary main_while0b_v43 main_while0b_v44 (Host.exp : (⟨S32x64, .f32⟩ : BufTy).Contents (Elt F) → (⟨S32x64, .f32⟩ : BufTy).Contents (Elt F)),
    StableHlo.nullary main_while0b_cst_22 (constant S_ .f32 0x00000000#32),
    StableHlo.binary main_while0b_v44 main_while0b_cst_22 main_while0b_v45 ((fun x v => Host.reduceAdd x v reducesTo_S32x64_S32_d1 h_S_) : (⟨S32x64, .f32⟩ : BufTy).Contents (Elt F) → (⟨S_, .f32⟩ : BufTy).Contents (Elt F) → (⟨S32, .f32⟩ : BufTy).Contents (Elt F)),
    StableHlo.unary main_while0b_v45 main_while0b_v46 (broadcastInDim S32x1 ![0] bcast_S32_S32x1_0 : (⟨S32, .f32⟩ : BufTy).Contents (Elt F) → (⟨S32x1, .f32⟩ : BufTy).Contents (Elt F)),
    StableHlo.unary main_while0b_v46 main_while0b_v47 (broadcastInDim S32x64 ![0, 1] bcast_S32x1_S32x64_0_1 : (⟨S32x1, .f32⟩ : BufTy).Contents (Elt F) → (⟨S32x64, .f32⟩ : BufTy).Contents (Elt F)),
    StableHlo.binary main_while0b_v44 main_while0b_v47 main_while0b_v48 (Host.divf : (⟨S32x64, .f32⟩ : BufTy).Contents (Elt F) → (⟨S32x64, .f32⟩ : BufTy).Contents (Elt F) → (⟨S32x64, .f32⟩ : BufTy).Contents (Elt F)) ]

theorem bodyOps4_sub : (bodyOps4 (F := F)).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

theorem bodyOps4_fresh : (bodyOps4 (F := F)).Forall fun op => op.fresh = ∅ :=
  ⟨rfl, rfl, rfl, rfl, rfl, rfl, rfl, rfl, rfl, rfl, rfl, rfl, rfl, rfl⟩

/-- One trip, stretch 5. -/
abbrev bodyOps5 : List (HloOp τ sig (Elt F)) :=
  [ StableHlo.binary main_while0b_v48 main_v16_7 main_while0b_v49 ((fun l r => Host.dotGeneral dot_S32x64_S32x64x512_S32x512_1_1_n_2_0_0 none l r) : (⟨S32x64, .f32⟩ : BufTy).Contents (Elt F) → (⟨S32x64x512, .f32⟩ : BufTy).Contents (Elt F) → (⟨S32x512, .f32⟩ : BufTy).Contents (Elt F)),
    StableHlo.binary main_while0b_v25 main_while0b_v49 main_while0b_v50 ((fun a b => concatenate S32x1024 1 [⟨S32x512, a⟩, ⟨S32x512, b⟩] concatenates_S32x512_S32x512_S32x1024_d1) : (⟨S32x512, .f32⟩ : BufTy).Contents (Elt F) → (⟨S32x512, .f32⟩ : BufTy).Contents (Elt F) → (⟨S32x1024, .f32⟩ : BufTy).Contents (Elt F)),
    StableHlo.unary main_v16_8 main_while0b_v51 ((transpose S1024x512 [1, 0] · transposes_S512x1024_S1024x512_1_0) : (⟨S512x1024, .f32⟩ : BufTy).Contents (Elt F) → (⟨S1024x512, .f32⟩ : BufTy).Contents (Elt F)),
    StableHlo.binary main_while0b_v50 main_while0b_v51 main_while0b_v52 ((fun l r => Host.dotGeneral dot_S32x1024_S1024x512_S32x512_1_0_0_1_n_n none l r) : (⟨S32x1024, .f32⟩ : BufTy).Contents (Elt F) → (⟨S1024x512, .f32⟩ : BufTy).Contents (Elt F) → (⟨S32x512, .f32⟩ : BufTy).Contents (Elt F)),
    StableHlo.unary main_v16_9 main_while0b_v53 (broadcastInDim S1x512 ![1] bcast_S512_S1x512_1 : (⟨S512, .f32⟩ : BufTy).Contents (Elt F) → (⟨S1x512, .f32⟩ : BufTy).Contents (Elt F)),
    StableHlo.unary main_while0b_v53 main_while0b_v54 (broadcastInDim S32x512 ![0, 1] bcast_S1x512_S32x512_0_1 : (⟨S1x512, .f32⟩ : BufTy).Contents (Elt F) → (⟨S32x512, .f32⟩ : BufTy).Contents (Elt F)),
    StableHlo.binary main_while0b_v52 main_while0b_v54 main_while0b_v55 (addf : (⟨S32x512, .f32⟩ : BufTy).Contents (Elt F) → (⟨S32x512, .f32⟩ : BufTy).Contents (Elt F) → (⟨S32x512, .f32⟩ : BufTy).Contents (Elt F)) ]

theorem bodyOps5_sub : (bodyOps5 (F := F)).Forall fun op => op.bufs ⊆ StableHlo.tcRefs τ sig :=
  ⟨StableHlo.binary_bufs_sub .., StableHlo.binary_bufs_sub .., StableHlo.unary_bufs_sub .., StableHlo.binary_bufs_sub .., StableHlo.unary_bufs_sub .., StableHlo.unary_bufs_sub .., StableHlo.binary_bufs_sub ..⟩

theorem bodyOps5_fresh : (bodyOps5 (F := F)).Forall fun op => op.fresh = ∅ :=
  ⟨rfl, rfl, rfl, rfl, rfl, rfl, rfl⟩

/-- One trip, stretch 6. -/
abbrev bodyOps6 : List (HloOp τ sig (Elt F)) :=
  [ StableHlo.TRef.nullary main_while0b_call2.cst (constant S_ .f32 0x00000000#32),
    StableHlo.TRef.unary main_while0b_call2.cst main_while0b_call2.v0 (broadcastInDim S32x512 ![] bcast_S_S32x512),
    StableHlo.TRef.binary (.of main_while0b_v55 : StableHlo.TRef sig ⟨S32x512, .f32⟩) main_while0b_call2.v0 main_while0b_call2.v1 maximumf ]

theorem bodyOps6_sub : (bodyOps6 (F := F)).Forall fun op => op.bufs ⊆ StableHlo.tcRefs τ sig :=
  ⟨StableHlo.nullary_bufs_sub .., StableHlo.unary_bufs_sub .., StableHlo.binary_bufs_sub ..⟩

theorem bodyOps6_fresh : (bodyOps6 (F := F)).Forall fun op => op.fresh = ∅ :=
  ⟨rfl, rfl, rfl⟩

/-- One trip, stretch 7. -/
abbrev bodyOps7 : List (HloOp τ sig (Elt F)) :=
  [ StableHlo.unary main_v16_10 main_while0b_v57 ((transpose S512x2048 [1, 0] · transposes_S2048x512_S512x2048_1_0) : (⟨S2048x512, .f32⟩ : BufTy).Contents (Elt F) → (⟨S512x2048, .f32⟩ : BufTy).Contents (Elt F)),
    StableHlo.binary main_while0b_v56 main_while0b_v57 main_while0b_v58 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    StableHlo.unary main_v16_11 main_while0b_v59 ((transpose S512x2048 [1, 0] · transposes_S2048x512_S512x2048_1_0) : (⟨S2048x512, .f32⟩ : BufTy).Contents (Elt F) → (⟨S512x2048, .f32⟩ : BufTy).Contents (Elt F)),
    StableHlo.binary main_v16_14 main_while0b_v59 main_while0b_v60 ((fun l r => Host.dotGeneral dot_S32x512_S512x2048_S32x2048_1_0_0_1_n_n none l r) : (⟨S32x512, .f32⟩ : BufTy).Contents (Elt F) → (⟨S512x2048, .f32⟩ : BufTy).Contents (Elt F) → (⟨S32x2048, .f32⟩ : BufTy).Contents (Elt F)),
    StableHlo.binary main_while0b_v58 main_while0b_v60 main_while0b_v61 (addf : (⟨S32x2048, .f32⟩ : BufTy).Contents (Elt F) → (⟨S32x2048, .f32⟩ : BufTy).Contents (Elt F) → (⟨S32x2048, .f32⟩ : BufTy).Contents (Elt F)),
    StableHlo.unary main_v16_12 main_while0b_v62 (broadcastInDim S1x2048 ![1] bcast_S2048_S1x2048_1 : (⟨S2048, .f32⟩ : BufTy).Contents (Elt F) → (⟨S1x2048, .f32⟩ : BufTy).Contents (Elt F)),
    StableHlo.unary main_while0b_v62 main_while0b_v63 (broadcastInDim S32x2048 ![0, 1] bcast_S1x2048_S32x2048_0_1 : (⟨S1x2048, .f32⟩ : BufTy).Contents (Elt F) → (⟨S32x2048, .f32⟩ : BufTy).Contents (Elt F)),
    StableHlo.binary main_while0b_v61 main_while0b_v63 main_while0b_v64 (addf : (⟨S32x2048, .f32⟩ : BufTy).Contents (Elt F) → (⟨S32x2048, .f32⟩ : BufTy).Contents (Elt F) → (⟨S32x2048, .f32⟩ : BufTy).Contents (Elt F)) ]

theorem bodyOps7_sub : (bodyOps7 (F := F)).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub ..⟩

theorem bodyOps7_fresh : (bodyOps7 (F := F)).Forall fun op => op.fresh = ∅ :=
  ⟨rfl, rfl, rfl, rfl, rfl, rfl, rfl, rfl⟩

/-- One trip, stretch 8. -/
abbrev bodyOps8 : List (HloOp τ sig (Elt F)) :=
  [ StableHlo.unary main_while0b_v64 main_while0b_v65 ((extractStridedSlice S32x512 ![0, 0] · slices_S32x2048_S32x512_0_0) : (⟨S32x2048, .f32⟩ : BufTy).Contents (Elt F) → (⟨S32x512, .f32⟩ : BufTy).Contents (Elt F)),
    StableHlo.unary main_while0b_v64 main_while0b_v66 ((extractStridedSlice S32x512 ![0, 512] · slices_S32x2048_S32x512_0_512) : (⟨S32x2048, .f32⟩ : BufTy).Contents (Elt F) → (⟨S32x512, .f32⟩ : BufTy).Contents (Elt F)),
    StableHlo.unary main_while0b_v64 main_while0b_v67 ((extractStridedSlice S32x512 ![0, 1024] · slices_S32x2048_S32x512_0_1024) : (⟨S32x2048, .f32⟩ : BufTy).Contents (Elt F) → (⟨S32x512, .f32⟩ : BufTy).Contents (Elt F)),
    StableHlo.unary main_while0b_v64 main_while0b_v68 ((extractStridedSlice S32x512 ![0, 1536] · slices_S32x2048_S32x512_0_1536) : (⟨S32x2048, .f32⟩ : BufTy).Contents (Elt F) → (⟨S32x512, .f32⟩ : BufTy).Contents (Elt F)),
    StableHlo.unary main_while0b_v66 main_while0b_v69 (Host.negf : (⟨S32x512, .f32⟩ : BufTy).Contents (Elt F) → (⟨S32x512, .f32⟩ : BufTy).Contents (Elt F)),
    StableHlo.unary main_while0b_v69 main_while0b_v70 (Host.exp : (⟨S32x512, .f32⟩ : BufTy).Contents (Elt F) → (⟨S32x512, .f32⟩ : BufTy).Contents (Elt F)),
    StableHlo.nullary main_while0b_cst_23 (constant S_ .f32 0x3F800000#32),
    StableHlo.unary main_while0b_cst_23 main_while0b_v71 (broadcastInDim S32x512 ![] bcast_S_S32x512 : (⟨S_, .f32⟩ : BufTy).Contents (Elt F) → (⟨S32x512, .f32⟩ : BufTy).Contents (Elt F)),
    StableHlo.binary main_while0b_v71 main_while0b_v70 main_while0b_v72 (addf : (⟨S32x512, .f32⟩ : BufTy).Contents (Elt F) → (⟨S32x512, .f32⟩ : BufTy).Contents (Elt F) → (⟨S32x512, .f32⟩ : BufTy).Contents (Elt F)),
    StableHlo.nullary main_while0b_cst_24 (constant S_ .f32 0x3F800000#32),
    StableHlo.unary main_while0b_cst_24 main_while0b_v73 (broadcastInDim S32x512 ![] bcast_S_S32x512 : (⟨S_, .f32⟩ : BufTy).Contents (Elt F) → (⟨S32x512, .f32⟩ : BufTy).Contents (Elt F)),
    StableHlo.binary main_while0b_v73 main_while0b_v72 main_while0b_v74 (Host.divf : (⟨S32x512, .f32⟩ : BufTy).Contents (Elt F) → (⟨S32x512, .f32⟩ : BufTy).Contents (Elt F) → (⟨S32x512, .f32⟩ : BufTy).Contents (Elt F)),
    StableHlo.binary main_while0b_v74 main_v16_15 main_while0b_v75 (mulf : (⟨S32x512, .f32⟩ : BufTy).Contents (Elt F) → (⟨S32x512, .f32⟩ : BufTy).Contents (Elt F) → (⟨S32x512, .f32⟩ : BufTy).Contents (Elt F)),
    StableHlo.unary main_while0b_v65 main_while0b_v76 (Host.negf : (⟨S32x512, .f32⟩ : BufTy).Contents (Elt F) → (⟨S32x512, .f32⟩ : BufTy).Contents (Elt F)),
    StableHlo.unary main_while0b_v76 main_while0b_v77 (Host.exp : (⟨S32x512, .f32⟩ : BufTy).Contents (Elt F) → (⟨S32x512, .f32⟩ : BufTy).Contents (Elt F)),
    StableHlo.nullary main_while0b_cst_25 (constant S_ .f32 0x3F800000#32),
    StableHlo.unary main_while0b_cst_25 main_while0b_v78 (broadcastInDim S32x512 ![] bcast_S_S32x512 : (⟨S_, .f32⟩ : BufTy).Contents (Elt F) → (⟨S32x512, .f32⟩ : BufTy).Contents (Elt F)),
    StableHlo.binary main_while0b_v78 main_while0b_v77 main_while0b_v79 (addf : (⟨S32x512, .f32⟩ : BufTy).Contents (Elt F) → (⟨S32x512, .f32⟩ : BufTy).Contents (Elt F) → (⟨S32x512, .f32⟩ : BufTy).Contents (Elt F)),
    StableHlo.nullary main_while0b_cst_26 (constant S_ .f32 0x3F800000#32),
    StableHlo.unary main_while0b_cst_26 main_while0b_v80 (broadcastInDim S32x512 ![] bcast_S_S32x512 : (⟨S_, .f32⟩ : BufTy).Contents (Elt F) → (⟨S32x512, .f32⟩ : BufTy).Contents (Elt F)),
    StableHlo.binary main_while0b_v80 main_while0b_v79 main_while0b_v81 (Host.divf : (⟨S32x512, .f32⟩ : BufTy).Contents (Elt F) → (⟨S32x512, .f32⟩ : BufTy).Contents (Elt F) → (⟨S32x512, .f32⟩ : BufTy).Contents (Elt F)),
    StableHlo.unary main_while0b_v67 main_while0b_v82 (Host.tanh : (⟨S32x512, .f32⟩ : BufTy).Contents (Elt F) → (⟨S32x512, .f32⟩ : BufTy).Contents (Elt F)),
    StableHlo.binary main_while0b_v81 main_while0b_v82 main_while0b_v83 (mulf : (⟨S32x512, .f32⟩ : BufTy).Contents (Elt F) → (⟨S32x512, .f32⟩ : BufTy).Contents (Elt F) → (⟨S32x512, .f32⟩ : BufTy).Contents (Elt F)),
    StableHlo.binary main_while0b_v75 main_while0b_v83 main_while0b_v84 (addf : (⟨S32x512, .f32⟩ : BufTy).Contents (Elt F) → (⟨S32x512, .f32⟩ : BufTy).Contents (Elt F) → (⟨S32x512, .f32⟩ : BufTy).Contents (Elt F)),
    StableHlo.unary main_while0b_v68 main_while0b_v85 (Host.negf : (⟨S32x512, .f32⟩ : BufTy).Contents (Elt F) → (⟨S32x512, .f32⟩ : BufTy).Contents (Elt F)),
    StableHlo.unary main_while0b_v85 main_while0b_v86 (Host.exp : (⟨S32x512, .f32⟩ : BufTy).Contents (Elt F) → (⟨S32x512, .f32⟩ : BufTy).Contents (Elt F)),
    StableHlo.nullary main_while0b_cst_27 (constant S_ .f32 0x3F800000#32),
    StableHlo.unary main_while0b_cst_27 main_while0b_v87 (broadcastInDim S32x512 ![] bcast_S_S32x512 : (⟨S_, .f32⟩ : BufTy).Contents (Elt F) → (⟨S32x512, .f32⟩ : BufTy).Contents (Elt F)),
    StableHlo.binary main_while0b_v87 main_while0b_v86 main_while0b_v88 (addf : (⟨S32x512, .f32⟩ : BufTy).Contents (Elt F) → (⟨S32x512, .f32⟩ : BufTy).Contents (Elt F) → (⟨S32x512, .f32⟩ : BufTy).Contents (Elt F)),
    StableHlo.nullary main_while0b_cst_28 (constant S_ .f32 0x3F800000#32),
    StableHlo.unary main_while0b_cst_28 main_while0b_v89 (broadcastInDim S32x512 ![] bcast_S_S32x512 : (⟨S_, .f32⟩ : BufTy).Contents (Elt F) → (⟨S32x512, .f32⟩ : BufTy).Contents (Elt F)),
    StableHlo.binary main_while0b_v89 main_while0b_v88 main_while0b_v90 (Host.divf : (⟨S32x512, .f32⟩ : BufTy).Contents (Elt F) → (⟨S32x512, .f32⟩ : BufTy).Contents (Elt F) → (⟨S32x512, .f32⟩ : BufTy).Contents (Elt F)),
    StableHlo.unary main_while0b_v84 main_while0b_v91 (Host.tanh : (⟨S32x512, .f32⟩ : BufTy).Contents (Elt F) → (⟨S32x512, .f32⟩ : BufTy).Contents (Elt F)),
    StableHlo.binary main_while0b_v90 main_while0b_v91 main_while0b_v92 (mulf : (⟨S32x512, .f32⟩ : BufTy).Contents (Elt F) → (⟨S32x512, .f32⟩ : BufTy).Contents (Elt F) → (⟨S32x512, .f32⟩ : BufTy).Contents (Elt F)) ]

theorem bodyOps8_sub : (bodyOps8 (F := F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩

theorem bodyOps8_fresh : (bodyOps8 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- One trip, stretch 9. -/
abbrev bodyOps9 : List (HloOp τ sig (Elt F)) :=
  [ StableHlo.TRef.unary (.of main_while0b_v92 : StableHlo.TRef sig ⟨S32x512, .f32⟩) main_while0b_call3.v0 (broadcastInDim S1x32x512 ![1, 2] bcast_S32x512_S1x32x512_1_2),
    StableHlo.TRef.nullary main_while0b_call3.c (constantI S_ 32 0#32),
    StableHlo.TRef.nullary main_while0b_call3.c_0 (constantI S_ 32 0#32),
    StableHlo.TRef.binaryIndexed (.of main_v16_16 : StableHlo.TRef sig ⟨S64x32x512, .f32⟩) main_while0b_call3.v0 ![(.of main_v16_13 : StableHlo.TRef sig ⟨S_, .i32⟩), main_while0b_call3.c, main_while0b_call3.c_0] main_while0b_call3.v1 (fun x u i => Host.dynamicUpdateSlice x u (fun k => (i k (Shape.Idx.first h_S_)).toInt) updateFits_S64x32x512_S1x32x512) ]

theorem bodyOps9_sub : (bodyOps9 (F := F)).Forall fun op => op.bufs ⊆ StableHlo.tcRefs τ sig :=
  ⟨StableHlo.unary_bufs_sub .., StableHlo.nullary_bufs_sub .., StableHlo.nullary_bufs_sub .., StableHlo.binaryIndexed_bufs_sub ..⟩

theorem bodyOps9_fresh : (bodyOps9 (F := F)).Forall fun op => op.fresh = ∅ :=
  ⟨rfl, rfl, rfl, rfl⟩

/-- One trip, stretch 10. -/
abbrev bodyOps10 : List (HloOp τ sig (Elt F)) :=
  [ StableHlo.nullary main_while0b_c_29 (constantI S_ 32 1#32),
    StableHlo.binary main_v16_13 main_while0b_c_29 main_while0b_v94 (addi : (⟨S_, .i32⟩ : BufTy).Contents (Elt F) → (⟨S_, .i32⟩ : BufTy).Contents (Elt F) → (⟨S_, .i32⟩ : BufTy).Contents (Elt F)),
    StableHlo.unary main_while0b_v94 main_v16_13 id,
    StableHlo.unary main_while0b_v92 main_v16_14 id,
    StableHlo.unary main_while0b_v84 main_v16_15 id,
    StableHlo.unary main_while0b_v93 main_v16_16 id ]

theorem bodyOps10_sub : (bodyOps10 (F := F)).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

theorem bodyOps10_fresh : (bodyOps10 (F := F)).Forall fun op => op.fresh = ∅ :=
  ⟨rfl, rfl, rfl, rfl, rfl, rfl⟩

/-- After the loop. -/
abbrev postOps0 : List (HloOp τ sig (Elt F)) :=
  [ StableHlo.unary main_v16_16 main_v17 ((truncf .bf16 · bitsLt_bf16_f32) : (⟨S64x32x512, .f32⟩ : BufTy).Contents (Elt F) → (⟨S64x32x512, .bf16⟩ : BufTy).Contents (Elt F)) ]

theorem postOps0_sub : (postOps0 (F := F)).Forall fun op => op.bufs ⊆ StableHlo.tcRefs τ sig :=
  StableHlo.unary_bufs_sub ..

theorem postOps0_fresh : (postOps0 (F := F)).Forall fun op => op.fresh = ∅ :=
  rfl

/-- The stretches before the loop. -/
abbrev preI : List (List (HloOp τ sig (Elt F))) := [preOps0, preOps1, preOps2]
/-- One trip's stretches. -/
abbrev bodyI : List (List (HloOp τ sig (Elt F))) := [bodyOps0, bodyOps1, bodyOps2, bodyOps3, bodyOps4, bodyOps5, bodyOps6, bodyOps7, bodyOps8, bodyOps9, bodyOps10]
/-- The stretch after the loop. -/
abbrev postI : List (List (HloOp τ sig (Elt F))) := [postOps0]

theorem preI_plain : StableHlo.Plain (preI (F := F)) :=
  (.cons preOps0_sub (.cons preOps1_sub (.cons preOps2_sub .nil (List.forall_iff_forall_mem.mp preOps2_fresh)) (List.forall_iff_forall_mem.mp preOps1_fresh)) (List.forall_iff_forall_mem.mp preOps0_fresh))
theorem bodyI_plain : StableHlo.Plain (bodyI (F := F)) :=
  (.cons bodyOps0_sub (.cons bodyOps1_sub (.cons bodyOps2_sub (.cons bodyOps3_sub (.cons bodyOps4_sub (.cons bodyOps5_sub (.cons bodyOps6_sub (.cons bodyOps7_sub (.cons bodyOps8_sub (.cons bodyOps9_sub (.cons bodyOps10_sub .nil (List.forall_iff_forall_mem.mp bodyOps10_fresh)) (List.forall_iff_forall_mem.mp bodyOps9_fresh)) (List.forall_iff_forall_mem.mp bodyOps8_fresh)) (List.forall_iff_forall_mem.mp bodyOps7_fresh)) (List.forall_iff_forall_mem.mp bodyOps6_fresh)) (List.forall_iff_forall_mem.mp bodyOps5_fresh)) (List.forall_iff_forall_mem.mp bodyOps4_fresh)) (List.forall_iff_forall_mem.mp bodyOps3_fresh)) (List.forall_iff_forall_mem.mp bodyOps2_fresh)) (List.forall_iff_forall_mem.mp bodyOps1_fresh)) (List.forall_iff_forall_mem.mp bodyOps0_fresh))
theorem postI_plain : StableHlo.Plain (postI (F := F)) := .cons postOps0_sub .nil

set_option maxRecDepth 100000 in
theorem body_chain : main_while0_body (F := F) = (Pipeline.chain [StableHlo.seq bodyOps0, StableHlo.seq bodyOps1, StableHlo.seq bodyOps2, StableHlo.seq bodyOps3, StableHlo.seq bodyOps4, StableHlo.seq bodyOps5, StableHlo.seq bodyOps6, StableHlo.seq bodyOps7, StableHlo.seq bodyOps8, StableHlo.seq bodyOps9, StableHlo.seq bodyOps10] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons]
  chain_rfl

set_option maxRecDepth 100000 in
theorem main_chain (c : Dev nD) : main (F := F) c = (Pipeline.chain [StableHlo.seq preOps0, StableHlo.seq preOps1, StableHlo.seq preOps2, HostLoop.enter 0, StableHlo.seq postOps0] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, StableHlo.chain_seq_cons, Pipeline.chain_cons, StableHlo.chain_seq_cons]
  chain_rfl

end Cert.Reference2Ideal.Dec

end
-- ==== Proof.Ref2.Read.lean ====
/- What one trip of the plain decoder writes, read at an index. -/
module

public import proofs.«01_k».proof.Proof.Ref2.Ops
public import proofs.«01_k».proof.Proof.Dec.Spec
public import Idealize.ShloMosaic.Lib.Routing.Ops

@[expose] public section

set_option maxRecDepth 16384

noncomputable section

namespace Cert.Reference2Ideal.Dec

open Cert.Reference2Ideal Cert.Reference2Ideal.Gen
open Idealize.ShloMosaic Cert.Proof.Decoder
open Idealize.ShloMosaic.TcCoe
open Idealize.ShloMosaic.StableHlo (after)

variable (X : Valuation τ sig (Elt Ideal))

/-- A vector's entry, as a number. -/
def at1 {a : ℕ} (x : FVec Ideal ⟨1, ![a]⟩ .f32) (i : Fin a) : EReal := x (ix1 i)
/-- A matrix's entry, as a number. -/
def at2 {a b : ℕ} (x : FVec Ideal ⟨2, ![a, b]⟩ .f32) (i : Fin a) (j : Fin b) : EReal := x (ix2 i j)
/-- A cube's entry, as a number. -/
def at3 {a b c : ℕ} (x : FVec Ideal ⟨3, ![a, b, c]⟩ .f32) (i : Fin a) (j : Fin b) (k : Fin c) : EReal := x (ix3 i j k)

theorem toInt_small (k : ℕ) (h : k < 32000) : (BitVec.ofNat 32 k).toInt = k := by
  rw [BitVec.toInt_eq_toNat_of_lt (by rw [BitVec.toNat_ofNat]; omega), BitVec.toNat_ofNat]
  omega

/-- A nonnegative word is not wrapped. -/
theorem wrap_small (n : Fin 32000) (w : BitVec 32) (hw : w = BitVec.ofNat 32 n.val) :
    Scalar.select (IntOp.cmpi .slt w 0#32) (IntOp.addi w 32000#32) w = BitVec.ofNat 32 n.val := by
  subst hw
  have h : ¬ (BitVec.ofNat 32 n.val).slt 0#32 = true := by
    rw [BitVec.slt_iff_toInt_lt, toInt_small _ n.isLt]
    show ¬ (n.val : ℤ) < 0
    omega
  have e : IntOp.cmpi .slt (BitVec.ofNat 32 n.val) 0#32 = 0#1 := by
    show BitVec.ofBool _ = _
    rw [Bool.eq_false_iff.mpr h]
    rfl
  rw [e]
  rfl

/-- The token row of trip `k`. -/
theorem tok_at (b : Fin 32) (k : ℕ) (hk : k < 64) (hc : (X main_v16_13 : IVec S_ 32) ix0 = BitVec.ofNat 32 k) :
    (after bodyOps0 X main_while0b_v18 : IVec S32 32) (ix1 b) = (X main_v16_0 : IVec S64x32 32) (ix2 ⟨k, hk⟩ b) := by
  unfold bodyOps0
  after_reads_simp [StableHlo.unaryIndexed_result_read, StableHlo.indexContents_tref_cons, StableHlo.indexContents_tref_empty]
  simp only [StableHlo.TRef.ofBuf_toBuf]
  simp only [StableHlo.TRef.ofBuf, StableHlo.TRef.toBuf, cast_eq]
  generalize hst : (fun k => BitVec.toInt (![X (Proc.tc.devRef main_v16_13), constantI S_ 32 0#32] k (Shape.Idx.first h_S_))) = st
  pointwise
  have s0 : st 0 = k := by
    rw [← hst]
    exact (congrArg BitVec.toInt ((congrArg (X main_v16_13 : IVec S_ 32) (funext fun a => a.elim0)).trans hc)).trans (toInt_small k (by omega))
  have s1 : st 1 = (0 : ℕ) := by rw [← hst]; rfl
  refine congrArg₂ (fun (i : Fin 64) (j : Fin 32) => (X main_v16_0 : IVec S64x32 32) (ix2 i j)) (Fin.ext ?_) (Fin.ext ?_)
  · exact Host.clampedStart_of_le (s := S64x32) (t := S1x32) rfl st 0 k s0 (le_trans (le_of_eq (congrArg (k + ·) (rfl : _ = 1))) hk)
  · show Host.clampedStart _ _ _ _ _ + b.val = b.val
    rw [Host.clampedStart_of_le (s := S64x32) (t := S1x32) rfl st 1 0 s1 (by decide), Nat.zero_add]

/-- Row `b` of the embedded tokens. -/
theorem emb_at (b : Fin 32) (d : Fin 512) (n : Fin 32000) (hn : (X main_while0b_v18 : IVec S32 32) (ix1 b) = BitVec.ofNat 32 n.val) :
    (after bodyOps1 X main_while0b_v25 : FVec Ideal S32x512 .f32) (ix2 b d) = (X main_v16_1 : FVec Ideal S32000x512 .f32) (ix2 n d) := by
  unfold bodyOps1
  after_reads_simp
  refine Routing.gather_row _ rfl rfl rfl rfl rfl _ _ b d n ?_ (by norm_num)
  pointwise
  exact wrap_small n _ hn

theorem score_at (b : Fin 32) (s : Fin 64) : (after bodyOps2 X main_while0b_v36 : FVec Ideal S32x64 .f32) (ix2 b s)
    = (∑ d : Fin 512, Ideal.tanh (at3 (X main_v16_4) b s d
        + (pair (fun i d => at2 (X main_v16_2) d i) (at2 (X main_v16_14))
            (at2 (X main_v16_15)) b d + at1 (X main_v16_3) d))
        * at1 (X main_v16_5) d : EReal) := by
  unfold bodyOps2
  after_reads_at
  simp only [StableHlo.upto_zero]
  rfl

theorem fill_at : (after bodyOps2 X main_while0b_cst_19 : FVec Ideal S_ .f32) ix0 = (Ideal.ofBits .f32 0xCE6E6B28#32 : EReal) := by
  unfold bodyOps2
  after_reads_at

theorem masked_at (b : Fin 32) (s : Fin 64) : (after bodyOps3 X main_while0b_v37 : FVec Ideal S32x64 .f32) (ix2 b s)
    = (Scalar.select ((X main_v16_6 : IVec S32x64 1) (ix2 b s)) (at2 (X main_while0b_v36) b s)
        ((X main_while0b_cst_19 : FVec Ideal S_ .f32) ix0 : EReal) : EReal) := by
  unfold bodyOps3
  after_reads_at
  rfl

theorem soft_at (b : Fin 32) (s : Fin 64) : (after bodyOps4 X main_while0b_v48 : FVec Ideal S32x64 .f32) (ix2 b s)
    = soft (at2 (X main_while0b_v37) b) s := by
  unfold bodyOps4
  after_reads_at
  unfold soft
  simp only [bits_bot, bot_sup_eq]
  rfl

theorem mix_at (b : Fin 32) (d : Fin 512) : (after bodyOps5 X main_while0b_v55 : FVec Ideal S32x512 .f32) (ix2 b d)
    = (pair (fun i d => at2 (X main_v16_8) d i) (at2 (X main_while0b_v25))
        (fun b d => ∑ s : Fin 64, at2 (X main_while0b_v48) b s * at3 (X main_v16_7) b s d) b d
        + at1 (X main_v16_9) d : EReal) := by
  unfold bodyOps5
  after_reads_at
  after_reads_simp
  pointwise
  rfl

theorem relu_at (b : Fin 32) (d : Fin 512) : (after bodyOps6 X main_while0b_v56 : FVec Ideal S32x512 .f32) (ix2 b d)
    = (max (at2 (X main_while0b_v55) b d) 0 : EReal) := by
  unfold bodyOps6
  after_reads_at
  rfl

theorem gate_at (b : Fin 32) (j : Fin 2048) : (after bodyOps7 X main_while0b_v64 : FVec Ideal S32x2048 .f32) (ix2 b j)
    = (∑ i : Fin 512, at2 (X main_while0b_v56) b i * at2 (X main_v16_10) j i
        + ∑ i : Fin 512, at2 (X main_v16_14) b i * at2 (X main_v16_11) j i
        + at1 (X main_v16_12) j : EReal) := by
  unfold bodyOps7
  after_reads_at
  rfl

theorem newC_at (b : Fin 32) (d : Fin 512) : (after bodyOps8 X main_while0b_v84 : FVec Ideal S32x512 .f32) (ix2 b d)
    = (Ideal.logistic (at2 (X main_while0b_v64) b ⟨512 + d.val, by omega⟩) * at2 (X main_v16_15) b d
        + Ideal.logistic (at2 (X main_while0b_v64) b ⟨d.val, by omega⟩)
          * Ideal.tanh (at2 (X main_while0b_v64) b ⟨1024 + d.val, by omega⟩) : EReal) := by
  unfold bodyOps8
  after_reads_at
  rfl

theorem newH_at (b : Fin 32) (d : Fin 512) : (after bodyOps8 X main_while0b_v92 : FVec Ideal S32x512 .f32) (ix2 b d)
    = (Ideal.logistic (at2 (X main_while0b_v64) b ⟨1536 + d.val, by omega⟩)
        * Ideal.tanh (Ideal.logistic (at2 (X main_while0b_v64) b ⟨512 + d.val, by omega⟩) * at2 (X main_v16_15) b d
        + Ideal.logistic (at2 (X main_while0b_v64) b ⟨d.val, by omega⟩)
          * Ideal.tanh (at2 (X main_while0b_v64) b ⟨1024 + d.val, by omega⟩)) : EReal) := by
  unfold bodyOps8
  after_reads_at
  rfl

theorem put_at (s : Fin 64) (b : Fin 32) (d : Fin 512) (k : ℕ) (hk : k < 64) (hc : (X main_v16_13 : IVec S_ 32) ix0 = BitVec.ofNat 32 k) :
    (after bodyOps9 X main_while0b_v93 : FVec Ideal S64x32x512 .f32) (ix3 s b d)
    = (if s.val = k then at2 (X main_while0b_v92) b d else at3 (X main_v16_16) s b d : EReal) := by
  unfold bodyOps9
  after_reads_simp [StableHlo.binaryIndexed_result_read, StableHlo.indexContents_tref_cons, StableHlo.indexContents_tref_empty]
  simp only [StableHlo.TRef.ofBuf_toBuf]
  simp only [StableHlo.TRef.ofBuf, StableHlo.TRef.toBuf, cast_eq]
  generalize hst : (fun k => BitVec.toInt (![X (Proc.tc.devRef main_v16_13), constantI S_ 32 0#32, constantI S_ 32 0#32] k (Shape.Idx.first h_S_))) = st
  pointwise
  have s0 : st 0 = k := by
    rw [← hst]
    exact (congrArg BitVec.toInt ((congrArg (X main_v16_13 : IVec S_ 32) (funext fun a => a.elim0)).trans hc)).trans (toInt_small k (by omega))
  have s1 : st 1 = (0 : ℕ) := by rw [← hst]; rfl
  have s2 : st 2 = (0 : ℕ) := by rw [← hst]; rfl
  have e0 := Host.clampedStart_of_le (s := S64x32x512) (t := S1x32x512) rfl st 0 k s0 (le_trans (le_of_eq (congrArg (k + ·) (rfl : _ = 1))) hk)
  have e1 := Host.clampedStart_of_le (s := S64x32x512) (t := S1x32x512) rfl st 1 0 s1 (by decide)
  have e2 := Host.clampedStart_of_le (s := S64x32x512) (t := S1x32x512) rfl st 2 0 s2 (by decide)
  by_cases hs : s.val = k
  · rw [dif_pos ⟨⟨by rw [e0]; omega, by rw [e0]; omega⟩, ⟨by rw [e1]; exact Nat.zero_le _, by rw [e1, Nat.zero_add]; exact b.isLt⟩, by rw [e2]; exact Nat.zero_le _, by rw [e2, Nat.zero_add]; exact d.isLt⟩, if_pos hs]
    refine congrArg₂ (at2 (X main_while0b_v92 : FVec Ideal S32x512 .f32)) (Fin.ext ?_) (Fin.ext ?_)
    · show b.val - Host.clampedStart _ _ _ _ _ = b.val
      rw [e1, Nat.sub_zero]
    · show d.val - Host.clampedStart _ _ _ _ _ = d.val
      rw [e2, Nat.sub_zero]
  · rw [dif_neg (fun h => hs (by have h1 := h.1.1; have h2 := h.1.2; rw [e0] at h1 h2; omega)), if_neg hs]
    rfl

theorem ctr_at : (after bodyOps10 X main_v16_13 : IVec S_ 32) ix0 = IntOp.addi ((X main_v16_13 : IVec S_ 32) ix0) 1#32 := by
  unfold bodyOps10
  after_reads_at
  rfl

theorem copyH : after bodyOps10 X main_v16_14 = X main_while0b_v92 := by
  unfold bodyOps10
  after_reads_simp
  rfl

theorem copyC : after bodyOps10 X main_v16_15 = X main_while0b_v84 := by
  unfold bodyOps10
  after_reads_simp
  rfl

theorem copyO : after bodyOps10 X main_v16_16 = X main_while0b_v93 := by
  unfold bodyOps10
  after_reads_simp
  rfl

end Cert.Reference2Ideal.Dec

end
-- ==== Proof.Ref2.Trip.lean ====
/- One trip of the plain decoder, as one step of the recurrence. -/
module

public import proofs.«01_k».proof.Proof.Ref2.Read

@[expose] public section

set_option maxRecDepth 16384

noncomputable section

namespace Cert.Reference2Ideal.Dec

open Cert.Reference2Ideal Cert.Reference2Ideal.Gen
open Idealize.ShloMosaic Cert.Proof.Decoder
open Idealize.ShloMosaic.TcCoe
open Idealize.ShloMosaic.StableHlo (after)

variable (X : Valuation τ sig (Elt Ideal))

theorem keep0 (r : Ref sig .tc) (h : ∀ y ∈ ([main_while0b_call0.c.ref, main_while0b_call0.v0.ref, main_while0b_call0.v1.ref] : List (Ref sig .tc)), r ≠ y) :
    after bodyOps0 X r = X r :=
  StableHlo.after_of_forall_not_mem bodyOps0 X (by
    intro op hop
    fin_cases hop <;> exact fun hm => StableHlo.devRef_ne_of_ne (h _ (by simp only [List.mem_cons, true_or, or_true])) (Finset.mem_singleton.mp hm))

theorem keep1 (r : Ref sig .tc) (h : ∀ y ∈ ([main_while0b_c_17, main_while0b_v19, main_while0b_v20, main_while0b_c_18, main_while0b_v21, main_while0b_v22, main_while0b_v23, main_while0b_v24, main_while0b_v25] : List (Ref sig .tc)), r ≠ y) :
    after bodyOps1 X r = X r :=
  StableHlo.after_of_forall_not_mem bodyOps1 X (by
    intro op hop
    fin_cases hop <;> exact fun hm => StableHlo.devRef_ne_of_ne (h _ (by simp only [List.mem_cons, true_or, or_true])) (Finset.mem_singleton.mp hm))

theorem keep2 (r : Ref sig .tc) (h : ∀ y ∈ ([main_while0b_v26, main_while0b_v27, main_while0b_v28, main_while0b_v29, main_while0b_v30, main_while0b_v31, main_while0b_v32, main_while0b_v33, main_while0b_v34, main_while0b_v35, main_while0b_v36, main_while0b_cst_19] : List (Ref sig .tc)), r ≠ y) :
    after bodyOps2 X r = X r :=
  StableHlo.after_of_forall_not_mem bodyOps2 X (by
    intro op hop
    fin_cases hop <;> exact fun hm => StableHlo.devRef_ne_of_ne (h _ (by simp only [List.mem_cons, true_or, or_true])) (Finset.mem_singleton.mp hm))

theorem keep3 (r : Ref sig .tc) (h : ∀ y ∈ ([main_while0b_call1.v0.ref, main_while0b_call1.v1.ref, main_while0b_call1.v2.ref] : List (Ref sig .tc)), r ≠ y) :
    after bodyOps3 X r = X r :=
  StableHlo.after_of_forall_not_mem bodyOps3 X (by
    intro op hop
    fin_cases hop <;> exact fun hm => StableHlo.devRef_ne_of_ne (h _ (by simp only [List.mem_cons, true_or, or_true])) (Finset.mem_singleton.mp hm))

theorem keep4 (r : Ref sig .tc) (h : ∀ y ∈ ([main_while0b_cst_20, main_while0b_v38, main_while0b_cst_21, main_while0b_v39, main_while0b_v40, main_while0b_v41, main_while0b_v42, main_while0b_v43, main_while0b_v44, main_while0b_cst_22, main_while0b_v45, main_while0b_v46, main_while0b_v47, main_while0b_v48] : List (Ref sig .tc)), r ≠ y) :
    after bodyOps4 X r = X r :=
  StableHlo.after_of_forall_not_mem bodyOps4 X (by
    intro op hop
    fin_cases hop <;> exact fun hm => StableHlo.devRef_ne_of_ne (h _ (by simp only [List.mem_cons, true_or, or_true])) (Finset.mem_singleton.mp hm))

theorem keep5 (r : Ref sig .tc) (h : ∀ y ∈ ([main_while0b_v49, main_while0b_v50, main_while0b_v51, main_while0b_v52, main_while0b_v53, main_while0b_v54, main_while0b_v55] : List (Ref sig .tc)), r ≠ y) :
    after bodyOps5 X r = X r :=
  StableHlo.after_of_forall_not_mem bodyOps5 X (by
    intro op hop
    fin_cases hop <;> exact fun hm => StableHlo.devRef_ne_of_ne (h _ (by simp only [List.mem_cons, true_or, or_true])) (Finset.mem_singleton.mp hm))

theorem keep6 (r : Ref sig .tc) (h : ∀ y ∈ ([main_while0b_call2.cst.ref, main_while0b_call2.v0.ref, main_while0b_call2.v1.ref] : List (Ref sig .tc)), r ≠ y) :
    after bodyOps6 X r = X r :=
  StableHlo.after_of_forall_not_mem bodyOps6 X (by
    intro op hop
    fin_cases hop <;> exact fun hm => StableHlo.devRef_ne_of_ne (h _ (by simp only [List.mem_cons, true_or, or_true])) (Finset.mem_singleton.mp hm))

theorem keep7 (r : Ref sig .tc) (h : ∀ y ∈ ([main_while0b_v57, main_while0b_v58, main_while0b_v59, main_while0b_v60, main_while0b_v61, main_while0b_v62, main_while0b_v63, main_while0b_v64] : List (Ref sig .tc)), r ≠ y) :
    after bodyOps7 X r = X r :=
  StableHlo.after_of_forall_not_mem bodyOps7 X (by
    intro op hop
    fin_cases hop <;> exact fun hm => StableHlo.devRef_ne_of_ne (h _ (by simp only [List.mem_cons, true_or, or_true])) (Finset.mem_singleton.mp hm))

theorem keep8 (r : Ref sig .tc) (h : ∀ y ∈ ([main_while0b_v65, main_while0b_v66, main_while0b_v67, main_while0b_v68, main_while0b_v69, main_while0b_v70, main_while0b_cst_23, main_while0b_v71, main_while0b_v72, main_while0b_cst_24, main_while0b_v73, main_while0b_v74, main_while0b_v75, main_while0b_v76, main_while0b_v77, main_while0b_cst_25, main_while0b_v78, main_while0b_v79, main_while0b_cst_26, main_while0b_v80, main_while0b_v81, main_while0b_v82, main_while0b_v83, main_while0b_v84, main_while0b_v85, main_while0b_v86, main_while0b_cst_27, main_while0b_v87, main_while0b_v88, main_while0b_cst_28, main_while0b_v89, main_while0b_v90, main_while0b_v91, main_while0b_v92] : List (Ref sig .tc)), r ≠ y) :
    after bodyOps8 X r = X r :=
  StableHlo.after_of_forall_not_mem bodyOps8 X (by
    intro op hop
    fin_cases hop <;> exact fun hm => StableHlo.devRef_ne_of_ne (h _ (by simp only [List.mem_cons, true_or, or_true])) (Finset.mem_singleton.mp hm))

theorem keep9 (r : Ref sig .tc) (h : ∀ y ∈ ([main_while0b_call3.v0.ref, main_while0b_call3.c.ref, main_while0b_call3.c_0.ref, main_while0b_call3.v1.ref] : List (Ref sig .tc)), r ≠ y) :
    after bodyOps9 X r = X r :=
  StableHlo.after_of_forall_not_mem bodyOps9 X (by
    intro op hop
    fin_cases hop <;> exact fun hm => StableHlo.devRef_ne_of_ne (h _ (by simp only [List.mem_cons, true_or, or_true])) (Finset.mem_singleton.mp hm))

theorem keep10 (r : Ref sig .tc) (h : ∀ y ∈ ([main_while0b_c_29, main_while0b_v94, main_v16_13, main_v16_14, main_v16_15, main_v16_16] : List (Ref sig .tc)), r ≠ y) :
    after bodyOps10 X r = X r :=
  StableHlo.after_of_forall_not_mem bodyOps10 X (by
    intro op hop
    fin_cases hop <;> exact fun hm => StableHlo.devRef_ne_of_ne (h _ (by simp only [List.mem_cons, true_or, or_true])) (Finset.mem_singleton.mp hm))

/-- The buffers after stretch 0 of a trip. -/
def Y1 : Valuation τ sig (Elt Ideal) := after bodyOps0 (X)

/-- The buffers after stretch 1 of a trip. -/
def Y2 : Valuation τ sig (Elt Ideal) := after bodyOps1 (Y1 X)

/-- The buffers after stretch 2 of a trip. -/
def Y3 : Valuation τ sig (Elt Ideal) := after bodyOps2 (Y2 X)

/-- The buffers after stretch 3 of a trip. -/
def Y4 : Valuation τ sig (Elt Ideal) := after bodyOps3 (Y3 X)

/-- The buffers after stretch 4 of a trip. -/
def Y5 : Valuation τ sig (Elt Ideal) := after bodyOps4 (Y4 X)

/-- The buffers after stretch 5 of a trip. -/
def Y6 : Valuation τ sig (Elt Ideal) := after bodyOps5 (Y5 X)

/-- The buffers after stretch 6 of a trip. -/
def Y7 : Valuation τ sig (Elt Ideal) := after bodyOps6 (Y6 X)

/-- The buffers after stretch 7 of a trip. -/
def Y8 : Valuation τ sig (Elt Ideal) := after bodyOps7 (Y7 X)

/-- The buffers after stretch 8 of a trip. -/
def Y9 : Valuation τ sig (Elt Ideal) := after bodyOps8 (Y8 X)

/-- The buffers after stretch 9 of a trip. -/
def Y10 : Valuation τ sig (Elt Ideal) := after bodyOps9 (Y9 X)

/-- The buffers after stretch 10 of a trip. -/
def Y11 : Valuation τ sig (Elt Ideal) := after bodyOps10 (Y10 X)

theorem trip_eq : StableHlo.afterL (bodyI (F := Ideal)) X = Y11 X := rfl

/-- What no stretch before the last writes. -/
theorem kept (r : Ref sig .tc)
    (h0 : ∀ y ∈ ([main_while0b_call0.c.ref, main_while0b_call0.v0.ref, main_while0b_call0.v1.ref] : List (Ref sig .tc)), r ≠ y)
    (h1 : ∀ y ∈ ([main_while0b_c_17, main_while0b_v19, main_while0b_v20, main_while0b_c_18, main_while0b_v21, main_while0b_v22, main_while0b_v23, main_while0b_v24, main_while0b_v25] : List (Ref sig .tc)), r ≠ y)
    (h2 : ∀ y ∈ ([main_while0b_v26, main_while0b_v27, main_while0b_v28, main_while0b_v29, main_while0b_v30, main_while0b_v31, main_while0b_v32, main_while0b_v33, main_while0b_v34, main_while0b_v35, main_while0b_v36, main_while0b_cst_19] : List (Ref sig .tc)), r ≠ y)
    (h3 : ∀ y ∈ ([main_while0b_call1.v0.ref, main_while0b_call1.v1.ref, main_while0b_call1.v2.ref] : List (Ref sig .tc)), r ≠ y)
    (h4 : ∀ y ∈ ([main_while0b_cst_20, main_while0b_v38, main_while0b_cst_21, main_while0b_v39, main_while0b_v40, main_while0b_v41, main_while0b_v42, main_while0b_v43, main_while0b_v44, main_while0b_cst_22, main_while0b_v45, main_while0b_v46, main_while0b_v47, main_while0b_v48] : List (Ref sig .tc)), r ≠ y)
    (h5 : ∀ y ∈ ([main_while0b_v49, main_while0b_v50, main_while0b_v51, main_while0b_v52, main_while0b_v53, main_while0b_v54, main_while0b_v55] : List (Ref sig .tc)), r ≠ y)
    (h6 : ∀ y ∈ ([main_while0b_call2.cst.ref, main_while0b_call2.v0.ref, main_while0b_call2.v1.ref] : List (Ref sig .tc)), r ≠ y)
    (h7 : ∀ y ∈ ([main_while0b_v57, main_while0b_v58, main_while0b_v59, main_while0b_v60, main_while0b_v61, main_while0b_v62, main_while0b_v63, main_while0b_v64] : List (Ref sig .tc)), r ≠ y)
    (h8 : ∀ y ∈ ([main_while0b_v65, main_while0b_v66, main_while0b_v67, main_while0b_v68, main_while0b_v69, main_while0b_v70, main_while0b_cst_23, main_while0b_v71, main_while0b_v72, main_while0b_cst_24, main_while0b_v73, main_while0b_v74, main_while0b_v75, main_while0b_v76, main_while0b_v77, main_while0b_cst_25, main_while0b_v78, main_while0b_v79, main_while0b_cst_26, main_while0b_v80, main_while0b_v81, main_while0b_v82, main_while0b_v83, main_while0b_v84, main_while0b_v85, main_while0b_v86, main_while0b_cst_27, main_while0b_v87, main_while0b_v88, main_while0b_cst_28, main_while0b_v89, main_while0b_v90, main_while0b_v91, main_while0b_v92] : List (Ref sig .tc)), r ≠ y)
    (h9 : ∀ y ∈ ([main_while0b_call3.v0.ref, main_while0b_call3.c.ref, main_while0b_call3.c_0.ref, main_while0b_call3.v1.ref] : List (Ref sig .tc)), r ≠ y)
    : Y1 X r = X r ∧ Y2 X r = X r ∧ Y3 X r = X r ∧ Y4 X r = X r ∧ Y5 X r = X r ∧ Y6 X r = X r ∧ Y7 X r = X r ∧ Y8 X r = X r ∧ Y9 X r = X r ∧ Y10 X r = X r := by
  have e1 : Y1 X r = X r := (keep0 _ r h0)
  have e2 : Y2 X r = X r := (keep1 _ r h1).trans e1
  have e3 : Y3 X r = X r := (keep2 _ r h2).trans e2
  have e4 : Y4 X r = X r := (keep3 _ r h3).trans e3
  have e5 : Y5 X r = X r := (keep4 _ r h4).trans e4
  have e6 : Y6 X r = X r := (keep5 _ r h5).trans e5
  have e7 : Y7 X r = X r := (keep6 _ r h6).trans e6
  have e8 : Y8 X r = X r := (keep7 _ r h7).trans e7
  have e9 : Y9 X r = X r := (keep8 _ r h8).trans e8
  have e10 : Y10 X r = X r := (keep9 _ r h9).trans e9
  exact ⟨e1, e2, e3, e4, e5, e6, e7, e8, e9, e10⟩

theorem kept_0 : Y1 X main_v16_0 = X main_v16_0 ∧ Y2 X main_v16_0 = X main_v16_0 ∧ Y3 X main_v16_0 = X main_v16_0 ∧ Y4 X main_v16_0 = X main_v16_0 ∧ Y5 X main_v16_0 = X main_v16_0 ∧ Y6 X main_v16_0 = X main_v16_0 ∧ Y7 X main_v16_0 = X main_v16_0 ∧ Y8 X main_v16_0 = X main_v16_0 ∧ Y9 X main_v16_0 = X main_v16_0 ∧ Y10 X main_v16_0 = X main_v16_0 :=
  kept X main_v16_0 (by decide) (by decide) (by decide) (by decide) (by decide) (by decide) (by decide) (by decide) (by decide) (by decide)
theorem kept_1 : Y1 X main_v16_1 = X main_v16_1 ∧ Y2 X main_v16_1 = X main_v16_1 ∧ Y3 X main_v16_1 = X main_v16_1 ∧ Y4 X main_v16_1 = X main_v16_1 ∧ Y5 X main_v16_1 = X main_v16_1 ∧ Y6 X main_v16_1 = X main_v16_1 ∧ Y7 X main_v16_1 = X main_v16_1 ∧ Y8 X main_v16_1 = X main_v16_1 ∧ Y9 X main_v16_1 = X main_v16_1 ∧ Y10 X main_v16_1 = X main_v16_1 :=
  kept X main_v16_1 (by decide) (by decide) (by decide) (by decide) (by decide) (by decide) (by decide) (by decide) (by decide) (by decide)
theorem kept_2 : Y1 X main_v16_2 = X main_v16_2 ∧ Y2 X main_v16_2 = X main_v16_2 ∧ Y3 X main_v16_2 = X main_v16_2 ∧ Y4 X main_v16_2 = X main_v16_2 ∧ Y5 X main_v16_2 = X main_v16_2 ∧ Y6 X main_v16_2 = X main_v16_2 ∧ Y7 X main_v16_2 = X main_v16_2 ∧ Y8 X main_v16_2 = X main_v16_2 ∧ Y9 X main_v16_2 = X main_v16_2 ∧ Y10 X main_v16_2 = X main_v16_2 :=
  kept X main_v16_2 (by decide) (by decide) (by decide) (by decide) (by decide) (by decide) (by decide) (by decide) (by decide) (by decide)
theorem kept_3 : Y1 X main_v16_3 = X main_v16_3 ∧ Y2 X main_v16_3 = X main_v16_3 ∧ Y3 X main_v16_3 = X main_v16_3 ∧ Y4 X main_v16_3 = X main_v16_3 ∧ Y5 X main_v16_3 = X main_v16_3 ∧ Y6 X main_v16_3 = X main_v16_3 ∧ Y7 X main_v16_3 = X main_v16_3 ∧ Y8 X main_v16_3 = X main_v16_3 ∧ Y9 X main_v16_3 = X main_v16_3 ∧ Y10 X main_v16_3 = X main_v16_3 :=
  kept X main_v16_3 (by decide) (by decide) (by decide) (by decide) (by decide) (by decide) (by decide) (by decide) (by decide) (by decide)
theorem kept_4 : Y1 X main_v16_4 = X main_v16_4 ∧ Y2 X main_v16_4 = X main_v16_4 ∧ Y3 X main_v16_4 = X main_v16_4 ∧ Y4 X main_v16_4 = X main_v16_4 ∧ Y5 X main_v16_4 = X main_v16_4 ∧ Y6 X main_v16_4 = X main_v16_4 ∧ Y7 X main_v16_4 = X main_v16_4 ∧ Y8 X main_v16_4 = X main_v16_4 ∧ Y9 X main_v16_4 = X main_v16_4 ∧ Y10 X main_v16_4 = X main_v16_4 :=
  kept X main_v16_4 (by decide) (by decide) (by decide) (by decide) (by decide) (by decide) (by decide) (by decide) (by decide) (by decide)
theorem kept_5 : Y1 X main_v16_5 = X main_v16_5 ∧ Y2 X main_v16_5 = X main_v16_5 ∧ Y3 X main_v16_5 = X main_v16_5 ∧ Y4 X main_v16_5 = X main_v16_5 ∧ Y5 X main_v16_5 = X main_v16_5 ∧ Y6 X main_v16_5 = X main_v16_5 ∧ Y7 X main_v16_5 = X main_v16_5 ∧ Y8 X main_v16_5 = X main_v16_5 ∧ Y9 X main_v16_5 = X main_v16_5 ∧ Y10 X main_v16_5 = X main_v16_5 :=
  kept X main_v16_5 (by decide) (by decide) (by decide) (by decide) (by decide) (by decide) (by decide) (by decide) (by decide) (by decide)
theorem kept_6 : Y1 X main_v16_6 = X main_v16_6 ∧ Y2 X main_v16_6 = X main_v16_6 ∧ Y3 X main_v16_6 = X main_v16_6 ∧ Y4 X main_v16_6 = X main_v16_6 ∧ Y5 X main_v16_6 = X main_v16_6 ∧ Y6 X main_v16_6 = X main_v16_6 ∧ Y7 X main_v16_6 = X main_v16_6 ∧ Y8 X main_v16_6 = X main_v16_6 ∧ Y9 X main_v16_6 = X main_v16_6 ∧ Y10 X main_v16_6 = X main_v16_6 :=
  kept X main_v16_6 (by decide) (by decide) (by decide) (by decide) (by decide) (by decide) (by decide) (by decide) (by decide) (by decide)
theorem kept_7 : Y1 X main_v16_7 = X main_v16_7 ∧ Y2 X main_v16_7 = X main_v16_7 ∧ Y3 X main_v16_7 = X main_v16_7 ∧ Y4 X main_v16_7 = X main_v16_7 ∧ Y5 X main_v16_7 = X main_v16_7 ∧ Y6 X main_v16_7 = X main_v16_7 ∧ Y7 X main_v16_7 = X main_v16_7 ∧ Y8 X main_v16_7 = X main_v16_7 ∧ Y9 X main_v16_7 = X main_v16_7 ∧ Y10 X main_v16_7 = X main_v16_7 :=
  kept X main_v16_7 (by decide) (by decide) (by decide) (by decide) (by decide) (by decide) (by decide) (by decide) (by decide) (by decide)
theorem kept_8 : Y1 X main_v16_8 = X main_v16_8 ∧ Y2 X main_v16_8 = X main_v16_8 ∧ Y3 X main_v16_8 = X main_v16_8 ∧ Y4 X main_v16_8 = X main_v16_8 ∧ Y5 X main_v16_8 = X main_v16_8 ∧ Y6 X main_v16_8 = X main_v16_8 ∧ Y7 X main_v16_8 = X main_v16_8 ∧ Y8 X main_v16_8 = X main_v16_8 ∧ Y9 X main_v16_8 = X main_v16_8 ∧ Y10 X main_v16_8 = X main_v16_8 :=
  kept X main_v16_8 (by decide) (by decide) (by decide) (by decide) (by decide) (by decide) (by decide) (by decide) (by decide) (by decide)
theorem kept_9 : Y1 X main_v16_9 = X main_v16_9 ∧ Y2 X main_v16_9 = X main_v16_9 ∧ Y3 X main_v16_9 = X main_v16_9 ∧ Y4 X main_v16_9 = X main_v16_9 ∧ Y5 X main_v16_9 = X main_v16_9 ∧ Y6 X main_v16_9 = X main_v16_9 ∧ Y7 X main_v16_9 = X main_v16_9 ∧ Y8 X main_v16_9 = X main_v16_9 ∧ Y9 X main_v16_9 = X main_v16_9 ∧ Y10 X main_v16_9 = X main_v16_9 :=
  kept X main_v16_9 (by decide) (by decide) (by decide) (by decide) (by decide) (by decide) (by decide) (by decide) (by decide) (by decide)
theorem kept_10 : Y1 X main_v16_10 = X main_v16_10 ∧ Y2 X main_v16_10 = X main_v16_10 ∧ Y3 X main_v16_10 = X main_v16_10 ∧ Y4 X main_v16_10 = X main_v16_10 ∧ Y5 X main_v16_10 = X main_v16_10 ∧ Y6 X main_v16_10 = X main_v16_10 ∧ Y7 X main_v16_10 = X main_v16_10 ∧ Y8 X main_v16_10 = X main_v16_10 ∧ Y9 X main_v16_10 = X main_v16_10 ∧ Y10 X main_v16_10 = X main_v16_10 :=
  kept X main_v16_10 (by decide) (by decide) (by decide) (by decide) (by decide) (by decide) (by decide) (by decide) (by decide) (by decide)
theorem kept_11 : Y1 X main_v16_11 = X main_v16_11 ∧ Y2 X main_v16_11 = X main_v16_11 ∧ Y3 X main_v16_11 = X main_v16_11 ∧ Y4 X main_v16_11 = X main_v16_11 ∧ Y5 X main_v16_11 = X main_v16_11 ∧ Y6 X main_v16_11 = X main_v16_11 ∧ Y7 X main_v16_11 = X main_v16_11 ∧ Y8 X main_v16_11 = X main_v16_11 ∧ Y9 X main_v16_11 = X main_v16_11 ∧ Y10 X main_v16_11 = X main_v16_11 :=
  kept X main_v16_11 (by decide) (by decide) (by decide) (by decide) (by decide) (by decide) (by decide) (by decide) (by decide) (by decide)
theorem kept_12 : Y1 X main_v16_12 = X main_v16_12 ∧ Y2 X main_v16_12 = X main_v16_12 ∧ Y3 X main_v16_12 = X main_v16_12 ∧ Y4 X main_v16_12 = X main_v16_12 ∧ Y5 X main_v16_12 = X main_v16_12 ∧ Y6 X main_v16_12 = X main_v16_12 ∧ Y7 X main_v16_12 = X main_v16_12 ∧ Y8 X main_v16_12 = X main_v16_12 ∧ Y9 X main_v16_12 = X main_v16_12 ∧ Y10 X main_v16_12 = X main_v16_12 :=
  kept X main_v16_12 (by decide) (by decide) (by decide) (by decide) (by decide) (by decide) (by decide) (by decide) (by decide) (by decide)
theorem kept_13 : Y1 X main_v16_13 = X main_v16_13 ∧ Y2 X main_v16_13 = X main_v16_13 ∧ Y3 X main_v16_13 = X main_v16_13 ∧ Y4 X main_v16_13 = X main_v16_13 ∧ Y5 X main_v16_13 = X main_v16_13 ∧ Y6 X main_v16_13 = X main_v16_13 ∧ Y7 X main_v16_13 = X main_v16_13 ∧ Y8 X main_v16_13 = X main_v16_13 ∧ Y9 X main_v16_13 = X main_v16_13 ∧ Y10 X main_v16_13 = X main_v16_13 :=
  kept X main_v16_13 (by decide) (by decide) (by decide) (by decide) (by decide) (by decide) (by decide) (by decide) (by decide) (by decide)
theorem kept_14 : Y1 X main_v16_14 = X main_v16_14 ∧ Y2 X main_v16_14 = X main_v16_14 ∧ Y3 X main_v16_14 = X main_v16_14 ∧ Y4 X main_v16_14 = X main_v16_14 ∧ Y5 X main_v16_14 = X main_v16_14 ∧ Y6 X main_v16_14 = X main_v16_14 ∧ Y7 X main_v16_14 = X main_v16_14 ∧ Y8 X main_v16_14 = X main_v16_14 ∧ Y9 X main_v16_14 = X main_v16_14 ∧ Y10 X main_v16_14 = X main_v16_14 :=
  kept X main_v16_14 (by decide) (by decide) (by decide) (by decide) (by decide) (by decide) (by decide) (by decide) (by decide) (by decide)
theorem kept_15 : Y1 X main_v16_15 = X main_v16_15 ∧ Y2 X main_v16_15 = X main_v16_15 ∧ Y3 X main_v16_15 = X main_v16_15 ∧ Y4 X main_v16_15 = X main_v16_15 ∧ Y5 X main_v16_15 = X main_v16_15 ∧ Y6 X main_v16_15 = X main_v16_15 ∧ Y7 X main_v16_15 = X main_v16_15 ∧ Y8 X main_v16_15 = X main_v16_15 ∧ Y9 X main_v16_15 = X main_v16_15 ∧ Y10 X main_v16_15 = X main_v16_15 :=
  kept X main_v16_15 (by decide) (by decide) (by decide) (by decide) (by decide) (by decide) (by decide) (by decide) (by decide) (by decide)
theorem kept_16 : Y1 X main_v16_16 = X main_v16_16 ∧ Y2 X main_v16_16 = X main_v16_16 ∧ Y3 X main_v16_16 = X main_v16_16 ∧ Y4 X main_v16_16 = X main_v16_16 ∧ Y5 X main_v16_16 = X main_v16_16 ∧ Y6 X main_v16_16 = X main_v16_16 ∧ Y7 X main_v16_16 = X main_v16_16 ∧ Y8 X main_v16_16 = X main_v16_16 ∧ Y9 X main_v16_16 = X main_v16_16 ∧ Y10 X main_v16_16 = X main_v16_16 :=
  kept X main_v16_16 (by decide) (by decide) (by decide) (by decide) (by decide) (by decide) (by decide) (by decide) (by decide) (by decide)

/-- What the loop carries unchanged, as a decoder's parameters. -/
def par : Par where
  mask s b := (X main_v16_6 : IVec S32x64 1) (ix2 b s)
  va := at1 (X main_v16_5)
  wq i d := at2 (X main_v16_2) d i
  bq := at1 (X main_v16_3)
  ep s b d := at3 (X main_v16_4) b s d
  enc s b d := at3 (X main_v16_7) b s d
  wc i d := at2 (X main_v16_8) d i
  bc := at1 (X main_v16_9)
  wi i j := at2 (X main_v16_10) j i
  wh i j := at2 (X main_v16_11) j i
  bd := at1 (X main_v16_12)

theorem masked_step (b : Fin 32) (s : Fin 64) :
    at2 (Y4 X main_while0b_v37) b s = score (par X) (at2 (X main_v16_14)) (at2 (X main_v16_15)) b s := by
  refine (masked_at (Y3 X) b s).trans ?_
  have e1 := score_at (Y2 X) b s
  have e2 := fill_at (Y2 X)
  rw [(kept_4 X).2.1, (kept_2 X).2.1, (kept_14 X).2.1, (kept_15 X).2.1, (kept_3 X).2.1, (kept_5 X).2.1] at e1
  rw [(kept_6 X).2.2.1]
  exact congrArg₂ (Scalar.select _) e1 e2

theorem soft_step (b : Fin 32) (s : Fin 64) :
    at2 (Y5 X main_while0b_v48) b s = soft (score (par X) (at2 (X main_v16_14)) (at2 (X main_v16_15)) b) s := by
  refine (soft_at (Y4 X) b s).trans ?_
  exact congrArg (fun f => soft f s) (funext fun s => masked_step X b s)

theorem emb_step (k : ℕ) (hk : k < 64) (hc : (X main_v16_13 : IVec S_ 32) ix0 = BitVec.ofNat 32 k) (n : Fin 32 → Fin 32000)
    (hn : ∀ b, (X main_v16_0 : IVec S64x32 32) (ix2 ⟨k, hk⟩ b) = BitVec.ofNat 32 (n b).val) (b : Fin 32) (d : Fin 512) :
    at2 (Y5 X main_while0b_v25) b d = at2 (X main_v16_1) (n b) d := by
  have e1 := tok_at X b k hk hc
  have e2 := emb_at (Y1 X) b d (n b) (e1.trans (hn b))
  rw [(kept_1 X).1] at e2
  have e3 : Y5 X main_while0b_v25 = Y2 X main_while0b_v25 :=
    (keep4 _ main_while0b_v25 (by decide)).trans ((keep3 _ main_while0b_v25 (by decide)).trans (keep2 _ main_while0b_v25 (by decide)))
  rw [e3]
  exact e2

theorem comb_step (g : Rows) (hg : ∀ b d, at2 (Y5 X main_while0b_v25) b d = g b d) (b : Fin 32) (d : Fin 512) :
    at2 (Y7 X main_while0b_v56) b d = comb (par X) g (at2 (X main_v16_14)) (at2 (X main_v16_15)) b d := by
  refine (relu_at (Y6 X) b d).trans ?_
  have e1 := mix_at (Y5 X) b d
  rw [(kept_8 X).2.2.2.2.1, (kept_7 X).2.2.2.2.1, (kept_9 X).2.2.2.2.1] at e1
  refine congrArg (fun x : EReal => max x 0) (e1.trans ?_)
  have hg' : at2 (Y5 X main_while0b_v25) = g := funext fun b => funext fun d => hg b d
  have hx : (fun (b : Fin 32) (d : Fin 512) => ∑ s : Fin 64, at2 (Y5 X main_while0b_v48) b s * at3 (X main_v16_7) b s d)
      = ctx (par X) (at2 (X main_v16_14)) (at2 (X main_v16_15)) :=
    funext fun b => funext fun d => Finset.sum_congr rfl fun s _ => (mul_comm _ _).trans (congrArg (at3 (X main_v16_7) b s d * ·) (soft_step X b s))
  rw [hg', hx]
  rfl

theorem gate_step (g : Rows) (hg : ∀ b d, at2 (Y5 X main_while0b_v25) b d = g b d) (b : Fin 32) (j : Fin 2048) :
    at2 (Y8 X main_while0b_v64) b j = gate (par X) g (at2 (X main_v16_14)) (at2 (X main_v16_15)) b j := by
  have e1 := gate_at (Y7 X) b j
  rw [(kept_10 X).2.2.2.2.2.2.1, (kept_14 X).2.2.2.2.2.2.1, (kept_11 X).2.2.2.2.2.2.1, (kept_12 X).2.2.2.2.2.2.1] at e1
  refine e1.trans ?_
  simp only [comb_step X g hg]
  rfl

theorem newC_step (g : Rows) (hg : ∀ b d, at2 (Y5 X main_while0b_v25) b d = g b d) (b : Fin 32) (d : Fin 512) :
    at2 (Y9 X main_while0b_v84) b d = newC (par X) g (at2 (X main_v16_14)) (at2 (X main_v16_15)) b d := by
  have e1 := newC_at (Y8 X) b d
  simp only [gate_step X g hg] at e1
  rw [(kept_15 X).2.2.2.2.2.2.2.1] at e1
  exact e1

theorem newH_step (g : Rows) (hg : ∀ b d, at2 (Y5 X main_while0b_v25) b d = g b d) (b : Fin 32) (d : Fin 512) :
    at2 (Y9 X main_while0b_v92) b d = newH (par X) g (at2 (X main_v16_14)) (at2 (X main_v16_15)) b d := by
  have e1 := newH_at (Y8 X) b d
  simp only [gate_step X g hg] at e1
  rw [(kept_15 X).2.2.2.2.2.2.2.1] at e1
  exact e1

/-- One trip: the new rows, the new cell, and the new rows stored at the trip's place. -/
theorem trip (k : ℕ) (hk : k < 64) (hc : (X main_v16_13 : IVec S_ 32) ix0 = BitVec.ofNat 32 k) (n : Fin 32 → Fin 32000)
    (hn : ∀ b, (X main_v16_0 : IVec S64x32 32) (ix2 ⟨k, hk⟩ b) = BitVec.ofNat 32 (n b).val) (g : Rows)
    (hg : ∀ b d, at2 (X main_v16_1) (n b) d = g b d) :
    at2 (Y11 X main_v16_14) = newH (par X) g (at2 (X main_v16_14)) (at2 (X main_v16_15))
    ∧ at2 (Y11 X main_v16_15) = newC (par X) g (at2 (X main_v16_14)) (at2 (X main_v16_15))
    ∧ (∀ s b d, at3 (Y11 X main_v16_16) s b d
        = if s.val = k then newH (par X) g (at2 (X main_v16_14)) (at2 (X main_v16_15)) b d else at3 (X main_v16_16) s b d)
    ∧ (Y11 X main_v16_13 : IVec S_ 32) ix0 = BitVec.ofNat 32 (k + 1) := by
  have hg' : ∀ b d, at2 (Y5 X main_while0b_v25) b d = g b d := fun b d => (emb_step X k hk hc n hn b d).trans (hg b d)
  have ek : Y10 X main_while0b_v92 = Y9 X main_while0b_v92 := keep9 _ main_while0b_v92 (by decide)
  have ec : Y10 X main_while0b_v84 = Y9 X main_while0b_v84 := keep9 _ main_while0b_v84 (by decide)
  refine ⟨funext fun b => funext fun d => ?_, funext fun b => funext fun d => ?_, fun s b d => ?_, ?_⟩
  · exact (congrArg (fun v => at2 v b d) ((copyH (Y10 X)).trans ek)).trans (newH_step X g hg' b d)
  · exact (congrArg (fun v => at2 v b d) ((copyC (Y10 X)).trans ec)).trans (newC_step X g hg' b d)
  · refine (congrArg (fun v => at3 v s b d) (copyO (Y10 X))).trans ?_
    have e1 := put_at (Y9 X) s b d k hk (by rw [(kept_13 X).2.2.2.2.2.2.2.2.1]; exact hc)
    rw [newH_step X g hg', (kept_16 X).2.2.2.2.2.2.2.2.1] at e1
    exact e1
  · have e1 := ctr_at (Y10 X)
    rw [(kept_13 X).2.2.2.2.2.2.2.2.2] at e1
    refine e1.trans ?_
    rw [hc]
    exact (BitVec.ofNat_add k 1).symm

theorem out_kept (r : Ref sig .tc) (h : ∀ y ∈ ([main_while0b_c_29, main_while0b_v94, main_v16_13, main_v16_14, main_v16_15, main_v16_16] : List (Ref sig .tc)), r ≠ y) : Y11 X r = Y10 X r := keep10 _ r h

theorem carry_0 : Y11 X main_v16_0 = X main_v16_0 := (out_kept X main_v16_0 (by decide)).trans (kept_0 X).2.2.2.2.2.2.2.2.2
theorem carry_1 : Y11 X main_v16_1 = X main_v16_1 := (out_kept X main_v16_1 (by decide)).trans (kept_1 X).2.2.2.2.2.2.2.2.2
theorem carry_2 : Y11 X main_v16_2 = X main_v16_2 := (out_kept X main_v16_2 (by decide)).trans (kept_2 X).2.2.2.2.2.2.2.2.2
theorem carry_3 : Y11 X main_v16_3 = X main_v16_3 := (out_kept X main_v16_3 (by decide)).trans (kept_3 X).2.2.2.2.2.2.2.2.2
theorem carry_4 : Y11 X main_v16_4 = X main_v16_4 := (out_kept X main_v16_4 (by decide)).trans (kept_4 X).2.2.2.2.2.2.2.2.2
theorem carry_5 : Y11 X main_v16_5 = X main_v16_5 := (out_kept X main_v16_5 (by decide)).trans (kept_5 X).2.2.2.2.2.2.2.2.2
theorem carry_6 : Y11 X main_v16_6 = X main_v16_6 := (out_kept X main_v16_6 (by decide)).trans (kept_6 X).2.2.2.2.2.2.2.2.2
theorem carry_7 : Y11 X main_v16_7 = X main_v16_7 := (out_kept X main_v16_7 (by decide)).trans (kept_7 X).2.2.2.2.2.2.2.2.2
theorem carry_8 : Y11 X main_v16_8 = X main_v16_8 := (out_kept X main_v16_8 (by decide)).trans (kept_8 X).2.2.2.2.2.2.2.2.2
theorem carry_9 : Y11 X main_v16_9 = X main_v16_9 := (out_kept X main_v16_9 (by decide)).trans (kept_9 X).2.2.2.2.2.2.2.2.2
theorem carry_10 : Y11 X main_v16_10 = X main_v16_10 := (out_kept X main_v16_10 (by decide)).trans (kept_10 X).2.2.2.2.2.2.2.2.2
theorem carry_11 : Y11 X main_v16_11 = X main_v16_11 := (out_kept X main_v16_11 (by decide)).trans (kept_11 X).2.2.2.2.2.2.2.2.2
theorem carry_12 : Y11 X main_v16_12 = X main_v16_12 := (out_kept X main_v16_12 (by decide)).trans (kept_12 X).2.2.2.2.2.2.2.2.2

theorem par_trip : par (Y11 X) = par X := by
  unfold par
  rw [carry_2 X, carry_3 X, carry_4 X, carry_5 X, carry_6 X, carry_7 X, carry_8 X, carry_9 X, carry_10 X, carry_11 X, carry_12 X]

end Cert.Reference2Ideal.Dec

end
-- ==== Proof.Ref2.Kept.lean ====
/- What the plain decoder's program leaves alone: its arguments everywhere, what the loop carries in the loop's condition. -/
module

public import proofs.«01_k».proof.Proof.Ref2.Trip

@[expose] public section

set_option maxRecDepth 16384

noncomputable section

namespace Cert.Reference2Ideal.Dec

open Cert.Reference2Ideal Cert.Reference2Ideal.Gen
open Idealize.ShloMosaic Cert.Proof.Decoder
open Idealize.ShloMosaic.TcCoe
open Idealize.ShloMosaic.StableHlo (after)

variable (X : Valuation τ sig (Elt Ideal))

theorem keepP0 (r : Ref sig .tc) (h : ∀ y ∈ ([main_v0, main_v1, main_v2, main_v3, main_v4, main_v5, main_v6, main_v7, main_v8, main_v9, main_v10] : List (Ref sig .tc)), r ≠ y) :
    after preOps0 X r = X r :=
  StableHlo.after_of_forall_not_mem preOps0 X (by
    intro op hop
    fin_cases hop <;> exact fun hm => StableHlo.devRef_ne_of_ne (h _ (by simp only [List.mem_cons, true_or, or_true])) (Finset.mem_singleton.mp hm))

theorem keepP1 (r : Ref sig .tc) (h : ∀ y ∈ ([main_c, main_v11, main_v12, main_v13, main_v14, main_cst, main_v15, main_c_0] : List (Ref sig .tc)), r ≠ y) :
    after preOps1 X r = X r :=
  StableHlo.after_of_forall_not_mem preOps1 X (by
    intro op hop
    fin_cases hop <;> exact fun hm => StableHlo.devRef_ne_of_ne (h _ (by simp only [List.mem_cons, true_or, or_true])) (Finset.mem_singleton.mp hm))

theorem keepP2 (r : Ref sig .tc) (h : ∀ y ∈ ([main_v16_0, main_v16_1, main_v16_2, main_v16_3, main_v16_4, main_v16_5, main_v16_6, main_v16_7, main_v16_8, main_v16_9, main_v16_10, main_v16_11, main_v16_12, main_v16_13, main_v16_14, main_v16_15, main_v16_16] : List (Ref sig .tc)), r ≠ y) :
    after preOps2 X r = X r :=
  StableHlo.after_of_forall_not_mem preOps2 X (by
    intro op hop
    fin_cases hop <;> exact fun hm => StableHlo.devRef_ne_of_ne (h _ (by simp only [List.mem_cons, true_or, or_true])) (Finset.mem_singleton.mp hm))

theorem keepC (r : Ref sig .tc) (h : ∀ y ∈ ([main_while0c_c_17, main_while0c_v18] : List (Ref sig .tc)), r ≠ y) :
    after condOps X r = X r :=
  StableHlo.after_of_forall_not_mem condOps X (by
    intro op hop
    fin_cases hop <;> exact fun hm => StableHlo.devRef_ne_of_ne (h _ (by simp only [List.mem_cons, true_or, or_true])) (Finset.mem_singleton.mp hm))

theorem keepQ (r : Ref sig .tc) (h : ∀ y ∈ ([main_v17] : List (Ref sig .tc)), r ≠ y) :
    after postOps0 X r = X r :=
  StableHlo.after_of_forall_not_mem postOps0 X (by
    intro op hop
    fin_cases hop <;> exact fun hm => StableHlo.devRef_ne_of_ne (h _ (by simp only [List.mem_cons, true_or, or_true])) (Finset.mem_singleton.mp hm))

/-- The program's arguments. -/
abbrev argOf : Fin 14 → Ref sig .tc := ![main_arg0, main_arg1, main_arg2, main_arg3, main_arg4, main_arg5, main_arg6, main_arg7, main_arg8, main_arg9, main_arg10, main_arg11, main_arg12, main_arg13]

/-- What stands before the loop leaves the arguments. -/
theorem arg_pre (i : Fin 14) : StableHlo.afterL (preI (F := Ideal)) X (argOf i) = X (argOf i) :=
  (keepP2 (after preOps1 (after preOps0 X)) (argOf i) (by revert i; decide)).trans
    ((keepP1 (after preOps0 X) (argOf i) (by revert i; decide)).trans (keepP0 X (argOf i) (by revert i; decide)))

theorem arg_cond (i : Fin 14) : after condOps X (argOf i) = X (argOf i) := keepC X (argOf i) (by revert i; decide)

theorem arg_post (i : Fin 14) : after postOps0 X (argOf i) = X (argOf i) := keepQ X (argOf i) (by revert i; decide)

theorem arg_trip (i : Fin 14) : Y11 X (argOf i) = X (argOf i) :=
  (out_kept X (argOf i) (by revert i; decide)).trans (kept X (argOf i) (by revert i; decide) (by revert i; decide) (by revert i; decide) (by revert i; decide) (by revert i; decide) (by revert i; decide) (by revert i; decide) (by revert i; decide) (by revert i; decide) (by revert i; decide)).2.2.2.2.2.2.2.2.2

/-- No trip of the loop changes an argument. -/
theorem arg_loop (T : ℕ → Valuation τ sig (Elt Ideal)) (hs : ∀ k, T (k + 1) = Y11 (after condOps (T k))) (i : Fin 14) (k : ℕ) :
    T k (argOf i) = T 0 (argOf i) := by
  induction k with
  | zero => rfl
  | succ k ih => rw [hs k]; exact (arg_trip _ i).trans ((arg_cond _ i).trans ih)

theorem cond_0 : after condOps X main_v16_0 = X main_v16_0 := keepC X main_v16_0 (by decide)
theorem cond_1 : after condOps X main_v16_1 = X main_v16_1 := keepC X main_v16_1 (by decide)
theorem cond_2 : after condOps X main_v16_2 = X main_v16_2 := keepC X main_v16_2 (by decide)
theorem cond_3 : after condOps X main_v16_3 = X main_v16_3 := keepC X main_v16_3 (by decide)
theorem cond_4 : after condOps X main_v16_4 = X main_v16_4 := keepC X main_v16_4 (by decide)
theorem cond_5 : after condOps X main_v16_5 = X main_v16_5 := keepC X main_v16_5 (by decide)
theorem cond_6 : after condOps X main_v16_6 = X main_v16_6 := keepC X main_v16_6 (by decide)
theorem cond_7 : after condOps X main_v16_7 = X main_v16_7 := keepC X main_v16_7 (by decide)
theorem cond_8 : after condOps X main_v16_8 = X main_v16_8 := keepC X main_v16_8 (by decide)
theorem cond_9 : after condOps X main_v16_9 = X main_v16_9 := keepC X main_v16_9 (by decide)
theorem cond_10 : after condOps X main_v16_10 = X main_v16_10 := keepC X main_v16_10 (by decide)
theorem cond_11 : after condOps X main_v16_11 = X main_v16_11 := keepC X main_v16_11 (by decide)
theorem cond_12 : after condOps X main_v16_12 = X main_v16_12 := keepC X main_v16_12 (by decide)
theorem cond_13 : after condOps X main_v16_13 = X main_v16_13 := keepC X main_v16_13 (by decide)
theorem cond_14 : after condOps X main_v16_14 = X main_v16_14 := keepC X main_v16_14 (by decide)
theorem cond_15 : after condOps X main_v16_15 = X main_v16_15 := keepC X main_v16_15 (by decide)
theorem cond_16 : after condOps X main_v16_16 = X main_v16_16 := keepC X main_v16_16 (by decide)

theorem par_cond : par (after condOps X) = par X := by
  unfold par
  rw [cond_2 X, cond_3 X, cond_4 X, cond_5 X, cond_6 X, cond_7 X, cond_8 X, cond_9 X, cond_10 X, cond_11 X, cond_12 X]

theorem copy_0 : after preOps2 X main_v16_0 = X main_v14 := by
  unfold preOps2
  after_reads_simp
  rfl
theorem copy_1 : after preOps2 X main_v16_1 = X main_arg1 := by
  unfold preOps2
  after_reads_simp
  rfl
theorem copy_2 : after preOps2 X main_v16_2 = X main_v1 := by
  unfold preOps2
  after_reads_simp
  rfl
theorem copy_3 : after preOps2 X main_v16_3 = X main_arg5 := by
  unfold preOps2
  after_reads_simp
  rfl
theorem copy_4 : after preOps2 X main_v16_4 = X main_v4 := by
  unfold preOps2
  after_reads_simp
  rfl
theorem copy_5 : after preOps2 X main_v16_5 = X main_arg6 := by
  unfold preOps2
  after_reads_simp
  rfl
theorem copy_6 : after preOps2 X main_v16_6 = X main_v10 := by
  unfold preOps2
  after_reads_simp
  rfl
theorem copy_7 : after preOps2 X main_v16_7 = X main_v0 := by
  unfold preOps2
  after_reads_simp
  rfl
theorem copy_8 : after preOps2 X main_v16_8 = X main_arg7 := by
  unfold preOps2
  after_reads_simp
  rfl
theorem copy_9 : after preOps2 X main_v16_9 = X main_arg8 := by
  unfold preOps2
  after_reads_simp
  rfl
theorem copy_10 : after preOps2 X main_v16_10 = X main_arg9 := by
  unfold preOps2
  after_reads_simp
  rfl
theorem copy_11 : after preOps2 X main_v16_11 = X main_arg10 := by
  unfold preOps2
  after_reads_simp
  rfl
theorem copy_12 : after preOps2 X main_v16_12 = X main_arg11 := by
  unfold preOps2
  after_reads_simp
  rfl
theorem copy_13 : after preOps2 X main_v16_13 = X main_c_0 := by
  unfold preOps2
  after_reads_simp
  rfl
theorem copy_14 : after preOps2 X main_v16_14 = X main_arg12 := by
  unfold preOps2
  after_reads_simp
  rfl
theorem copy_15 : after preOps2 X main_v16_15 = X main_arg13 := by
  unfold preOps2
  after_reads_simp
  rfl
theorem ctr_trip (k : ℕ) (hc : (X main_v16_13 : IVec S_ 32) ix0 = BitVec.ofNat 32 k) :
    (Y11 X main_v16_13 : IVec S_ 32) ix0 = BitVec.ofNat 32 (k + 1) := by
  have e1 := ctr_at (Y10 X)
  rw [(kept_13 X).2.2.2.2.2.2.2.2.2] at e1
  refine e1.trans ?_
  rw [hc]
  exact (BitVec.ofNat_add k 1).symm

/-- The counter before trip `k` reads `k`. -/
theorem ctr_loop (T : ℕ → Valuation τ sig (Elt Ideal)) (hs : ∀ k, T (k + 1) = Y11 (after condOps (T k)))
    (h0 : (T 0 main_v16_13 : IVec S_ 32) ix0 = BitVec.ofNat 32 0) (k : ℕ) : (T k main_v16_13 : IVec S_ 32) ix0 = BitVec.ofNat 32 k := by
  induction k with
  | zero => exact h0
  | succ k ih => rw [hs k]; exact ctr_trip _ k (by rw [cond_13]; exact ih)

end Cert.Reference2Ideal.Dec

end
-- ==== Proof.Ref2.Entry.lean ====
/- What the plain decoder's loop starts from, read at an index of the arguments. -/
module

public import proofs.«01_k».proof.Proof.Ref2.Read

@[expose] public section

set_option maxRecDepth 16384

noncomputable section

namespace Cert.Reference2Ideal.Dec

open Cert.Reference2Ideal Cert.Reference2Ideal.Gen
open Idealize.ShloMosaic Cert.Proof.Decoder
open Idealize.ShloMosaic.TcCoe
open Idealize.ShloMosaic.StableHlo (after)

variable (X : Valuation τ sig (Elt Ideal))

theorem enc_at (b : Fin 32) (s : Fin 64) (d : Fin 512) :
    at3 (after preOps0 X main_v0) b s d = at3 (X main_arg2) s b d := by
  unfold at3 preOps0
  after_reads_at

theorem wq_at (d : Fin 512) (i : Fin 1024) :
    at2 (after preOps0 X main_v1) d i = at2 (X main_arg4) d ⟨i.val, by omega⟩ := by
  unfold at2 preOps0
  after_reads_at

theorem ep_at (b : Fin 32) (s : Fin 64) (d : Fin 512) :
    at3 (after preOps0 X main_v4) b s d = ∑ i : Fin 512, at3 (X main_arg2) s b i * at2 (X main_arg4) d ⟨1024 + i.val, by omega⟩ := by
  unfold at3 at2 preOps0
  after_reads_at

theorem mask_at (b : Fin 32) (s : Fin 64) : (after preOps0 X main_v10 : IVec S32x64 1) (ix2 b s)
    = IntOp.cmpi .slt (BitVec.ofNat 32 s.val) ((X main_arg3 : IVec S32 32) (ix1 b)) := by
  unfold preOps0
  after_reads_at

theorem words_at (t : Fin 64) (b : Fin 32) : (after preOps1 X main_v14 : IVec S64x32 32) (ix2 t b)
    = if h : t.val = 0 then 1#32 else (X main_arg0 : IVec S32x65 32) (ix2 b ⟨t.val, by omega⟩) := by
  unfold preOps1
  after_reads_at
  after_reads_simp
  pointwise
  by_cases h : t.val = 0
  · rw [dif_pos (show t.val < 1 by omega), dif_pos h]
  · rw [dif_neg (show ¬ t.val < 1 by omega), dif_neg h]
    refine congrArg (fun n : Fin 65 => (X main_arg0 : IVec S32x65 32) (ix2 b n)) (Fin.ext ?_)
    show 1 + (t.val - 1) = t.val
    omega

theorem zero_at : (after preOps1 X main_c_0 : IVec S_ 32) ix0 = (0#32 : BitVec 32) := by
  unfold preOps1
  after_reads_at

theorem round_at (s : Fin 64) (b : Fin 32) (d : Fin 512) :
    (after postOps0 X main_v17 : FVec Ideal S64x32x512 .bf16) (ix3 s b d) = at3 (X main_v16_16) s b d := by
  unfold at3 postOps0
  after_reads_at

end Cert.Reference2Ideal.Dec

end
-- ==== Proof.Ref2.Run.lean ====
/- The plain decoder's loop, run: its condition, its trips, and what the program ends with. -/
module

public import proofs.«01_k».proof.Proof.Ref2.Kept
public import proofs.«01_k».proof.Proof.Ref2.Entry
public import Idealize.ShloMosaic.Lib.StableHlo.RunLoop
public import Idealize.ShloMosaic.Adequacy
public import Idealize.ShloMosaic.Init

@[expose] public section

set_option maxRecDepth 16384

noncomputable section

namespace Cert.Reference2Ideal.Dec

open Cert.Reference2Ideal Cert.Reference2Ideal.Gen
open Idealize.ShloMosaic Idealize.SL Idealize.SL.Sem Idealize.SL.ProofMode
open Idealize.ShloMosaic.TcCoe
open Idealize.ShloMosaic.StableHlo (after afterL entryContents finalContents launchContents atTrip CondSpec)

theorem lt_iff (k : ℕ) (hk : k ≤ 64) : IntOp.cmpi .slt (BitVec.ofNat 32 k) (64#32) = 1#1 ↔ k < 64 := by
  have h : ∀ k : Fin 65, IntOp.cmpi .slt (BitVec.ofNat 32 k.val) (64#32) = 1#1 ↔ k.val < 64 := by decide +kernel
  exact h ⟨k, by omega⟩

variable (m : (ℓ : Loc nD τ sig) → Buf (Elt Ideal) ℓ) (ρ : Dev nD → PrngReg)

/-- The buffers before trip `k`. -/
abbrev T (c : Dev nD) (k : ℕ) : Valuation τ sig (Elt Ideal) := atTrip condOps bodyI (entryContents preI m) k c

theorem T_succ (c : Dev nD) (k : ℕ) : T m c (k + 1) = Y11 (after condOps (T m c k)) := rfl

theorem T_zero (c : Dev nD) : (T m c 0 main_v16_13 : IVec S_ 32) ix0 = BitVec.ofNat 32 0 :=
  (congrFun (copy_13 (after preOps1 (after preOps0 (launchContents m c)))) ix0).trans (zero_at (after preOps0 (launchContents m c)))

theorem T_ctr (c : Dev nD) (k : ℕ) : (T m c k main_v16_13 : IVec S_ 32) ix0 = BitVec.ofNat 32 k := ctr_loop (T m c) (T_succ m c) (T_zero m c) k

set_option backward.isDefEq.respectTransparency.types false in
theorem condSpec : CondSpec (pcfgs (F := Ideal)) defs₀ loops (main_while0_cond (F := Ideal)) condOps bodyI (entryContents preI m) 64 := by
  intro k hk c bd
  have hctr : (atTrip condOps bodyI (entryContents preI m) k c main_v16_13 : IVec S_ 32) HostLoop.idx0 = BitVec.ofNat 32 k := T_ctr m c k
  generalize atTrip condOps bodyI (entryContents preI m) k c = W at hctr ⊢
  unfold main_while0_cond
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]
    · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]
    · iexact Hb
    iexact Hh
  iintro ⟨Hb, Hh⟩
  rw [HostLoop.elt_apply, wp_ret]; imodintro
  isplitr
  · ipureintro
    show Iff (IntOp.cmpi .slt (HloOp.result _ W main_v16_13 HostLoop.idx0) (HloOp.result _ W main_while0c_c_17 HostLoop.idx0) = 1#1) (k < 64)
    rw [StableHlo.nullary_result_ne _ _ _ _ (by decide), StableHlo.nullary_result, hctr]
    exact lt_iff k hk
  isplitl [Hb]
  · iexact Hb
  rw [StableHlo.after_cons, StableHlo.after_cons, StableHlo.after_nil]; iexact Hh

/-- What the program's buffers end with. -/
abbrev Z (c : Dev nD) : Valuation τ sig (Elt Ideal) := after postOps0 (after condOps (T m c 64))

theorem run : θ_run (defs (F := Ideal)) (onTc (τ := τ) (main (F := Ideal))) ⟨m, fun _ => 0, ρ⟩
    (fun r => ∀ (c : Dev nD) (b : Ref sig .tc), (Proc.devRef .tc b : DevRef τ sig).isScoped = false → r.2.mem ((c.tc : Thread nD τ).loc b) = Z m c b) :=
  StableHlo.run_loop (pcfgs (F := Ideal)) defs₀ loops main 0 main_while0_cond main_while0_body rfl preI bodyI postI condOps
    preI_plain bodyI_plain postI_plain main_chain body_chain 64 m ρ (condSpec m)

theorem Z_arg (c : Dev nD) (i : Fin 14) : Z m c (argOf i) = m ((c.tc : Thread nD τ).loc (argOf i)) :=
  (arg_post _ i).trans ((arg_cond _ i).trans ((arg_loop (T m c) (T_succ m c) i 64).trans (arg_pre (launchContents m c) i)))

/-- Every execution ends with the arguments as they were, the result at what the last stretch leaves, and every counter at zero. -/
theorem outcome : θ_run (defs (F := Ideal)) (onTc (τ := τ) (main (F := Ideal))) ⟨m, fun _ => 0, ρ⟩ (fun r => (∀ c : Dev nD,
      r.2.mem ((c.tc : Thread nD τ).loc main_v17) = Z m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => ⟨h c main_v17 rfl,
    (h c main_arg0 rfl).trans (Z_arg m c 0),
    (h c main_arg1 rfl).trans (Z_arg m c 1),
    (h c main_arg2 rfl).trans (Z_arg m c 2),
    (h c main_arg3 rfl).trans (Z_arg m c 3),
    (h c main_arg4 rfl).trans (Z_arg m c 4),
    (h c main_arg5 rfl).trans (Z_arg m c 5),
    (h c main_arg6 rfl).trans (Z_arg m c 6),
    (h c main_arg7 rfl).trans (Z_arg m c 7),
    (h c main_arg8 rfl).trans (Z_arg m c 8),
    (h c main_arg9 rfl).trans (Z_arg m c 9),
    (h c main_arg10 rfl).trans (Z_arg m c 10),
    (h c main_arg11 rfl).trans (Z_arg m c 11),
    (h c main_arg12 rfl).trans (Z_arg m c 12),
    (h c main_arg13 rfl).trans (Z_arg m c 13)⟩, sem_eq_zero_of_no_sems (by decide) r.2⟩) (run m ρ)

end Cert.Reference2Ideal.Dec

end
-- ==== Proof.Ref2.Loop.lean ====
/- What the plain decoder's loop has done before each trip, and the array the program ends with. -/
module

public import proofs.«01_k».proof.Proof.Ref2.Run

@[expose] public section

set_option maxRecDepth 16384

noncomputable section

namespace Cert.Reference2Ideal.Dec

open Cert.Reference2Ideal Cert.Reference2Ideal.Gen
open Idealize.ShloMosaic Cert.Proof.Decoder
open Idealize.ShloMosaic.TcCoe
open Idealize.ShloMosaic.StableHlo (after afterL launchContents)

/-- A trip with its condition: what `trip` says, from before the condition. -/
theorem trip' (X : Valuation τ sig (Elt Ideal)) (k : ℕ) (hk : k < 64) (hc : (X main_v16_13 : IVec S_ 32) ix0 = BitVec.ofNat 32 k)
    (n : Fin 32 → Fin 32000) (hn : ∀ b, (X main_v16_0 : IVec S64x32 32) (ix2 ⟨k, hk⟩ b) = BitVec.ofNat 32 (n b).val) (g : Rows)
    (hg : ∀ b d, at2 (X main_v16_1) (n b) d = g b d) :
    at2 (Y11 (after condOps X) main_v16_14) = newH (par X) g (at2 (X main_v16_14)) (at2 (X main_v16_15))
    ∧ at2 (Y11 (after condOps X) main_v16_15) = newC (par X) g (at2 (X main_v16_14)) (at2 (X main_v16_15))
    ∧ (∀ s b d, at3 (Y11 (after condOps X) main_v16_16) s b d
        = if s.val = k then newH (par X) g (at2 (X main_v16_14)) (at2 (X main_v16_15)) b d else at3 (X main_v16_16) s b d) := by
  have e := trip (after condOps X) k hk (by rw [cond_13]; exact hc) n (by rw [cond_0]; exact hn) g (by rw [cond_1]; exact hg)
  rw [par_cond, cond_14, cond_15, cond_16] at e
  exact ⟨e.1, e.2.1, e.2.2.1⟩

/-- Before trip `k`: the carried operands as they were, the state of step `k`, and the first `k` rows of the output. -/
theorem loop_inv (T : ℕ → Valuation τ sig (Elt Ideal)) (hs : ∀ k, T (k + 1) = Y11 (after condOps (T k)))
    (h0 : (T 0 main_v16_13 : IVec S_ 32) ix0 = BitVec.ofNat 32 0) (n : ℕ → Fin 32 → Fin 32000)
    (hn : ∀ (k : ℕ) (hk : k < 64) b, (T 0 main_v16_0 : IVec S64x32 32) (ix2 ⟨k, hk⟩ b) = BitVec.ofNat 32 (n k b).val) (g : ℕ → Rows)
    (hg : ∀ k b d, at2 (T 0 main_v16_1) (n k b) d = g k b d) (k : ℕ) (hk : k ≤ 64) :
    (par (T k) = par (T 0) ∧ T k main_v16_0 = T 0 main_v16_0 ∧ T k main_v16_1 = T 0 main_v16_1)
    ∧ at2 (T k main_v16_14) = (traj (par (T 0)) g (at2 (T 0 main_v16_14)) (at2 (T 0 main_v16_15)) k).1
    ∧ at2 (T k main_v16_15) = (traj (par (T 0)) g (at2 (T 0 main_v16_14)) (at2 (T 0 main_v16_15)) k).2
    ∧ ∀ (s : Fin 64) b d, s.val < k →
        at3 (T k main_v16_16) s b d = (traj (par (T 0)) g (at2 (T 0 main_v16_14)) (at2 (T 0 main_v16_15)) (s.val + 1)).1 b d := by
  induction k with
  | zero => exact ⟨⟨rfl, rfl, rfl⟩, rfl, rfl, fun s b d h => absurd h (Nat.not_lt_zero _)⟩
  | succ k ih =>
    obtain ⟨⟨i1, i2, i3⟩, i4, i5, i6⟩ := ih (by omega)
    have hk' : k < 64 := by omega
    obtain ⟨e1, e2, e3⟩ := trip' (T k) k hk' (ctr_loop T hs h0 k) (n k) (by rw [i2]; exact hn k hk') (g k) (by rw [i3]; exact hg k)
    rw [i1, i4, i5] at e1 e2 e3
    rw [hs k]
    refine ⟨⟨(par_trip _).trans ((par_cond _).trans i1), (carry_0 _).trans ((cond_0 _).trans i2), (carry_1 _).trans ((cond_1 _).trans i3)⟩, e1, e2, fun s b d h => ?_⟩
    refine (e3 s b d).trans ?_
    by_cases hsk : s.val = k
    · rw [if_pos hsk, hsk]; rfl
    · rw [if_neg hsk]; exact i6 s b d (by omega)

variable (X : Valuation τ sig (Elt Ideal))

/-- The buffers before the first trip. -/
abbrev E0 : Valuation τ sig (Elt Ideal) := afterL preI X

theorem E0_word (k : ℕ) (hk : k < 64) (b : Fin 32) : (E0 X main_v16_0 : IVec S64x32 32) (ix2 ⟨k, hk⟩ b)
    = word (fun b j => (X main_arg0 : IVec S32x65 32) (ix2 b j)) k b := by
  refine (congrFun (copy_0 (after preOps1 (after preOps0 X))) _).trans ((words_at (after preOps0 X) ⟨k, hk⟩ b).trans ?_)
  rw [show after preOps0 X main_arg0 = X main_arg0 from keepP0 X main_arg0 (by decide)]
  unfold word
  by_cases h : k = 0
  · rw [dif_pos h, if_pos h]
  · rw [dif_neg h, if_neg h]
    exact congrArg (fun n : Fin 65 => (X main_arg0 : IVec S32x65 32) (ix2 b n)) (Fin.ext (Nat.mod_eq_of_lt (by omega)).symm)

/-- An argument, copied into the loop. -/
theorem arg_copied (i : Fin 14) : after preOps1 (after preOps0 X) (argOf i) = X (argOf i) :=
  (keepP1 (after preOps0 X) (argOf i) (by revert i; decide)).trans (keepP0 X (argOf i) (by revert i; decide))

theorem E0_table : E0 X main_v16_1 = X main_arg1 := (copy_1 _).trans (arg_copied X 1)
theorem E0_bq : E0 X main_v16_3 = X main_arg5 := (copy_3 _).trans (arg_copied X 5)
theorem E0_va : E0 X main_v16_5 = X main_arg6 := (copy_5 _).trans (arg_copied X 6)
theorem E0_wc : E0 X main_v16_8 = X main_arg7 := (copy_8 _).trans (arg_copied X 7)
theorem E0_bc : E0 X main_v16_9 = X main_arg8 := (copy_9 _).trans (arg_copied X 8)
theorem E0_wi : E0 X main_v16_10 = X main_arg9 := (copy_10 _).trans (arg_copied X 9)
theorem E0_wh : E0 X main_v16_11 = X main_arg10 := (copy_11 _).trans (arg_copied X 10)
theorem E0_bd : E0 X main_v16_12 = X main_arg11 := (copy_12 _).trans (arg_copied X 11)
theorem E0_h : E0 X main_v16_14 = X main_arg12 := (copy_14 _).trans (arg_copied X 12)
theorem E0_c : E0 X main_v16_15 = X main_arg13 := (copy_15 _).trans (arg_copied X 13)
theorem E0_wq : E0 X main_v16_2 = after preOps0 X main_v1 := (copy_2 _).trans (keepP1 (after preOps0 X) main_v1 (by decide))
theorem E0_ep : E0 X main_v16_4 = after preOps0 X main_v4 := (copy_4 _).trans (keepP1 (after preOps0 X) main_v4 (by decide))
theorem E0_mask : E0 X main_v16_6 = after preOps0 X main_v10 := (copy_6 _).trans (keepP1 (after preOps0 X) main_v10 (by decide))
theorem E0_enc : E0 X main_v16_7 = after preOps0 X main_v0 := (copy_7 _).trans (keepP1 (after preOps0 X) main_v0 (by decide))

/-- The loop's parameters are the arguments'. -/
theorem E0_par : par (E0 X) = parOf (at3 (X main_arg2)) (fun b => (X main_arg3 : IVec S32 32) (ix1 b)) (at2 (X main_arg4)) (at1 (X main_arg5))
    (at1 (X main_arg6)) (at2 (X main_arg7)) (at1 (X main_arg8)) (at2 (X main_arg9)) (at2 (X main_arg10)) (at1 (X main_arg11)) :=
  Par.ext
    (funext fun s => funext fun b => (congrFun (E0_mask X) _).trans (mask_at X b s))
    (congrArg at1 (E0_va X))
    (funext fun i => funext fun d => (congrArg (fun v => at2 v d i) (E0_wq X)).trans (wq_at X d i))
    (congrArg at1 (E0_bq X))
    (funext fun s => funext fun b => funext fun d => (congrArg (fun v => at3 v b s d) (E0_ep X)).trans (ep_at X b s d))
    (funext fun s => funext fun b => funext fun d => (congrArg (fun v => at3 v b s d) (E0_enc X)).trans (enc_at X b s d))
    (funext fun i => funext fun d => congrArg (fun v => at2 v d i) (E0_wc X))
    (congrArg at1 (E0_bc X))
    (funext fun i => funext fun j => congrArg (fun v => at2 v j i) (E0_wi X))
    (funext fun i => funext fun j => congrArg (fun v => at2 v j i) (E0_wh X))
    (congrArg at1 (E0_bd X))

/-- The words are in range, so that each is its own index. -/
theorem word_idx (a : Fin 32 → Fin 65 → BitVec 32) (ha : ∀ b j, (a b j).toNat < 32000) (k : ℕ) (b : Fin 32) :
    word a k b = BitVec.ofNat 32 ((word a k b).toNat % 32000) := by
  have h : (word a k b).toNat < 32000 := by
    unfold word
    split
    · decide
    · exact ha _ _
  rw [Nat.mod_eq_of_lt h]
  exact ((BitVec.ofNat_toNat 32 _).trans (BitVec.setWidth_eq _)).symm

variable (m : (ℓ : Loc nD τ sig) → Buf (Elt Ideal) ℓ)

theorem result (c : Dev nD) (ha : ∀ (b : Fin 32) (j : Fin 65), ((m ((c : Thread nD τ).loc main_arg0) : IVec S32x65 32) (ix2 b j) : BitVec 32).toNat < 32000) :
    Z m c main_v17 = decodedOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext y
  obtain ⟨s, b, d, rfl⟩ : ∃ (s : Fin 64) (b : Fin 32) (d : Fin 512), y = ix3 s b d := ⟨y 0, y 1, y 2, by funext a; fin_cases a <;> rfl⟩
  have e := (loop_inv (T m c) (T_succ m c) (T_zero m c)
    (fun k b => ⟨(word (fun b j => (m ((c : Thread nD τ).loc main_arg0) : IVec S32x65 32) (ix2 b j)) k b).toNat % 32000, Nat.mod_lt _ (by decide)⟩)
    (fun k hk b => (E0_word (launchContents m c) k hk b).trans (word_idx _ ha k b))
    (emb (fun b j => (m ((c : Thread nD τ).loc main_arg0) : IVec S32x65 32) (ix2 b j)) (at2 (m ((c : Thread nD τ).loc main_arg1))))
    (fun k b d => congrArg (fun v => at2 v _ d) (E0_table (launchContents m c))) 64 (Nat.le_refl _)).2.2.2 s b d s.isLt
  have eh : at2 (T m c 0 main_v16_14) = at2 (m ((c : Thread nD τ).loc main_arg12)) := congrArg at2 (E0_h (launchContents m c))
  have ec : at2 (T m c 0 main_v16_15) = at2 (m ((c : Thread nD τ).loc main_arg13)) := congrArg at2 (E0_c (launchContents m c))
  have ep : par (T m c 0) = _ := E0_par (launchContents m c)
  rw [eh, ec, ep] at e
  refine (round_at (after condOps (T m c 64)) s b d).trans ?_
  exact (congrArg (fun v => at3 v s b d) (cond_16 (T m c 64))).trans e

end Cert.Reference2Ideal.Dec

end
-- ==== Proof.Tr.Flip.lean ====
/- The transposed weights, whole. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Flip

open Idealize.ShloMosaic Cert.Kernel4Ideal Cert.Kernel4Ideal.Gen
open Idealize.ShloMosaic.Pipeline

variable (m : (ℓ : Loc nD τ sig) → Buf (Elt Ideal) ℓ)

/-- The matrix with its two directions exchanged. -/
def flipped (w : FVec Ideal S32000x512 .f32) : FVec Ideal S512x32000 .bf16 := fun i => (w (ix2 (i 1) (i 0)) : EReal)

/-- One block exchanged. -/
theorem block (x : Vec Ideal S3200x512 .f32) (y : S512x3200.Idx) :
    out0_1 (F := Ideal) x y = (x (ix2 (y 1) (y 0)) : EReal) := by
  unfold out0_1
  refine (Cert.Kernel4Ideal.Value.canon1_eq _ y).trans ?_
  refine congrArg x (funext fun a => Fin.ext ?_)
  match a with
  | 0 => exact (Nat.zero_add _).trans (Nat.one_mul _)
  | 1 => exact (Nat.zero_add _).trans (Nat.one_mul _)

/-- The array after the run. -/
theorem array (c : Dev nD) :
    (dats m 0 c).arrAt 1 (cfgs 0).N = flipped (m ((c.tc : Thread nD τ).loc main_arg0)) := by
  refine (dats m 0 c).arrAt_eq_of_covers 1 _ (by decide +kernel) fun t hf y => ?_
  blk_simp
  rw [after0_1, block]
  have idx : ∀ t : Fin grid0.N, win0_0.index t = ![(grid0.coords t 0).val, 0] ∧ win0_1.index t = ![0, (grid0.coords t 0).val] := by decide +kernel
  unfold flipped
  blk_point [iblk, V, idx t]

theorem reference (w : FVec Ideal S32000x512 .f32) (h) :
    truncf .bf16 (transpose S512x32000 [1, 0] w h) Cert.Reference4Ideal.Gen.bitsLt_bf16_f32 = flipped w := by
  funext i
  idx_vars i
  pointwise [flipped]

end Cert.Proof.Flip

end
-- ==== Proof.Src.Issue.lean ====
module

public import proofs.«01_k».proof.Proof.Gen.Kernel3Ideal.Skeleton
public import proofs.«01_k».proof.Proof.Gen.Kernel3Ideal.Launch
public import proofs.«01_k».proof.Proof.Gen.Kernel3Ideal.Points
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel3Ideal.Src

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The embedding table left in its place, the gathered rows, and the cell the row copies count on. -/
abbrev table : Memref sig .tc .hbm S50265x768 .f32 := Memref.whole main_arg1
abbrev rows : Memref sig .tc .vmem S128x768 .f32 := Memref.whole cc0_scratch0
abbrev cell : SemLoc sig := SemLoc.dma cc0_scratch1.sem

/-- Row `k` of the gathered rows, as the copies name it. -/
def dstRow (k : Fin k0_t1_loop.trips) : Memref sig .tc .vmem S1x768 .f32 :=
  rows.slice (Rect.unit (s := S128x768) (k0_off2 k) S1x768.size (k0_off2_inb k)) (fun _ => rfl)
/-- The table's row a word names. -/
def srcRow (v : BitVec 32) (h : k0_chk1 v) : Memref sig .tc .hbm S1x768 .f32 :=
  table.slice (Rect.unit (s := S50265x768) (k0_off3 v) S1x768.size (k0_off3_inb v h)) (fun _ => rfl)

variable (c : Dev nD) (i : grid0.Coords) (arg1 : Memref sig .tc .smem S2048 .i32) (harg1 : arg1.IsWhole)
  (arg3 : Memref sig .tc .vmem S768x512 .f32) (harg3 : arg3.IsWhole) (arg4 : Memref sig .tc .vmem S1x512 .f32) (harg4 : arg4.IsWhole)
  (arg5 : Memref sig .tc .vmem S512x2048 .f32) (harg5 : arg5.IsWhole) (arg6 : Memref sig .tc .vmem S1x2048 .f32) (harg6 : arg6.IsWhole)
  (arg7 : Memref sig .tc .vmem S2x128x1024 .f32) (harg7 : arg7.IsWhole)
  (f0 : BufTy.Contents (Elt F) arg1.view.ty) (fe : Buf (Elt F) (table.view.loc (c : Thread nD τ)))

/-- The number of rows copied. -/
abbrev T1 : ℕ := k0_t1_loop.trips

/-- The word trip `k` reads. -/
abbrev word (k : Fin T1) : BitVec 32 :=
  arg1.view.readAt (Elt F) (Rect.unit (s := S2048) (k0_off1 i k) S1.size (k0_off1_inb i k)).toLoadRect f0
    (Shape.Idx.first (show 0 < S1.numel by rw [numel1_S1]; exact Nat.one_pos))

variable (hw : ∀ k, k0_chk1 (word i arg1 f0 k))

/-- Row `k` of the gathered rows before its copy has landed: at some contents. -/
abbrev rowFree (k : Fin T1) : sProp 𝕄 :=
  iprop(∃ g, (dstRow k).view.loc (c : Thread nD τ) ↦[(dstRow k).view.set]{fullShare} g)
/-- The table's row that copy `k` reads, under the copy's own share. -/
abbrev srcTok (k : Fin T1) : sProp 𝕄 :=
  (srcRow _ (hw k)).view.loc (c : Thread nD τ) ↦[(srcRow _ (hw k)).view.set]{Transfers.shareTokN fullShare k.val} fe
/-- What copy `k` delivers: its row written with the table's row its word names, and that row's share back. -/
abbrev landed (k : Fin T1) : sProp 𝕄 :=
  iprop(((dstRow k).view.loc (c : Thread nD τ) ↦[(dstRow k).view.set]{fullShare}
      (dstRow k).view.writes (Elt F) (dstRow k).view.junk [⟨Rect.whole S1x768, ReadAs.same.apply ((srcRow _ (hw k)).view.read (Elt F) fe)⟩])
    ∗ srcTok c i arg1 f0 fe hw k)

/-- One row's amount on the cell. -/
abbrev NN : ℕ := (dstRow ⟨0, by decide +kernel⟩).view.amount cell

abbrev batch (j u : ℕ) : sProp 𝕄 :=
  Transfers.Batch (countersEmb (U := Pipeline.UD sig nD τ)) (c : Thread nD τ) cell () NN (landed c i arg1 f0 fe hw) j u

/-- Before trip `k` of the issuing loop. -/
def issueAt (k : ℕ) (_ : Unit) : sProp 𝕄 :=
  iprop((arg1.view.loc (c : Thread nD τ) ↦[arg1.view.set]{fullShare} f0) ∗ batch c i arg1 f0 fe hw k 0
    ∗ bigSep (Ring.rangeSet T1 k T1) (rowFree (F := F) c) ∗ bigSep (Ring.rangeSet T1 k T1) (srcTok c i arg1 f0 fe hw))

theorem issue_step (k : Fin T1) (acc : Unit) :
    issueAt c i arg1 f0 fe hw k acc ⊢ wp frame (wpE (defs₀ (F := F)) Variants.none (c : Thread nD τ) none) Set.univ
      (k0_t1_body i arg1 harg1 table (Memref.isWhole_whole _) arg3 harg3 arg4 harg4 arg5 harg5 arg6 harg6 arg7 harg7 rows (Memref.isWhole_whole _) cc0_scratch1 k acc)
      (issueAt c i arg1 f0 fe hw (k.val + 1)) := by
  have hk := k.isLt
  have hwk := hw k
  unfold issueAt
  rw [Ring.bigSep_rangeSet_head (Φ := rowFree (F := F) c) hk hk, Ring.bigSep_rangeSet_head (Φ := srcTok c i arg1 f0 fe hw) hk hk]
  unfold rowFree
  unfold k0_t1_body
  iintro ⟨H0, HB, ⟨⟨%gk, Hd⟩, Hds⟩, Hs, Hss⟩
  sl_exec
  sl_step
  isplitl [H0]; · iexact H0
  isplitl [HB]; · iexact HB
  isplitl [Hds]; · iexact Hds
  iexact Hss

end Cert.Kernel3Ideal.Src

end
-- ==== Proof.Src.Drain.lean ====
module

public import proofs.«01_k».proof.Proof.Src.Issue
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel3Ideal.Src

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S2048 .i32) (harg1 : arg1.IsWhole)
  (arg3 : Memref sig .tc .vmem S768x512 .f32) (harg3 : arg3.IsWhole) (arg4 : Memref sig .tc .vmem S1x512 .f32) (harg4 : arg4.IsWhole)
  (arg5 : Memref sig .tc .vmem S512x2048 .f32) (harg5 : arg5.IsWhole) (arg6 : Memref sig .tc .vmem S1x2048 .f32) (harg6 : arg6.IsWhole)
  (arg7 : Memref sig .tc .vmem S2x128x1024 .f32) (harg7 : arg7.IsWhole)
  (f0 : BufTy.Contents (Elt F) arg1.view.ty) (fe : Buf (Elt F) (table.view.loc (c : Thread nD τ)))

variable (hw : ∀ k, k0_chk1 (word i arg1 f0 k))

theorem trips1 : T1 = 128 := by decide +kernel
theorem trips2 : k0_t2_loop.trips = 128 := by decide +kernel
theorem NN_pos : 0 < NN := by decide +kernel

/-- Before trip `k` of the waiting loop: every copy issued and `k` rows' amount waited for; after the last trip, every
row delivered. -/
def drainAt (k : ℕ) (_ : Unit) : sProp 𝕄 :=
  iprop(⌜k ≤ k0_t2_loop.trips⌝ ∗ (∃ W, owes (c : Thread nD τ) 0 W)
    ∗ (if k < k0_t2_loop.trips then batch c i arg1 f0 fe hw T1 (k * NN)
       else iprop(semVal ((c : Thread nD τ), cell) 0 ∗ bigSep Finset.univ (landed c i arg1 f0 fe hw))))

theorem drain_step (k : Fin k0_t2_loop.trips) (acc : Unit) :
    drainAt c i arg1 f0 fe hw k acc ⊢ wp frame (wpE (defs₀ (F := F)) Variants.none (c : Thread nD τ) none) Set.univ
      (k0_t2_body i arg1 harg1 table (Memref.isWhole_whole _) arg3 harg3 arg4 harg4 arg5 harg5 arg6 harg6 arg7 harg7 rows (Memref.isWhole_whole _) cc0_scratch1 k acc)
      (drainAt c i arg1 f0 fe hw (k.val + 1)) := by
  have hk : k.val < k0_t2_loop.trips := k.isLt
  have h1 := trips1
  have h2 := trips2
  have hN := NN_pos
  unfold drainAt
  simp only [if_pos hk]
  rcases Nat.lt_or_ge (k.val + 1) k0_t2_loop.trips with hl | hl
  · simp only [if_pos hl]
    iintro ⟨-, ⟨%W, HO⟩, HB⟩
    unfold k0_t2_body
    dsimp only
    have hu : k.val * NN + NN < NN * T1 := by
      rw [← Nat.succ_mul, Nat.mul_comm NN]; exact Nat.mul_lt_mul_of_pos_right (by omega) hN
    iapply (Transfers.wp_waitBatch (countersEmb (U := Pipeline.UD sig nD τ)) Variants.none (c : Thread nD τ) none () (N := NN) (by rfl) hu) $$ [HB HO]
    · isplitl [HB]; · iexact HB
      iexact HO
    iintro ⟨HB, HO⟩
    dsimp only [Prog.bind]
    sl_step
    isplitr; · ipureintro; omega
    isplitl [HO]; · iexists _; iexact HO
    rw [Nat.succ_mul]
    iexact HB
  · simp only [if_neg (Nat.not_lt.mpr hl)]
    iintro ⟨-, ⟨%W, HO⟩, HB⟩
    unfold k0_t2_body
    dsimp only
    have hu : k.val * NN + NN = NN * T1 := by
      rw [← Nat.succ_mul, Nat.mul_comm NN, show k.val.succ = T1 by omega]
    iapply (Transfers.wp_waitBatchLast (countersEmb (U := Pipeline.UD sig nD τ)) Variants.none (c : Thread nD τ) none () (N := NN) (by rfl) hN hu) $$ [HB HO]
    · isplitl [HB]; · iexact HB
      iexact HO
    iintro ⟨HD, Hc, HO⟩
    dsimp only [Prog.bind]
    sl_step
    isplitr; · ipureintro; omega
    isplitl [HO]; · iexists _; iexact HO
    isplitl [Hc]; · iexact Hc
    iexact HD

end Cert.Kernel3Ideal.Src

end
-- ==== Proof.Src.Split.lean ====
module

public import proofs.«01_k».proof.Proof.Src.Drain
public import Idealize.ShloMosaic.Lib.Pointwise
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel3Ideal.Src

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg1 : Memref sig .tc .smem S2048 .i32)
  (f0 : BufTy.Contents (Elt F) arg1.view.ty) (fe : Buf (Elt F) (table.view.loc (c : Thread nD τ)))

/-- The rows gathered: row `k` is the table's row the `k`-th word names. -/
def gathered : Vec F S128x768 .f32 := fun y =>
  (show Vec F S50265x768 .f32 from fe) (ix2 ⟨(word i arg1 f0 ⟨(y 0).val, lt_of_lt_of_eq (y 0).isLt trips1.symm⟩).toNat % 50265, Nat.mod_lt _ (by decide)⟩ (y 1))

variable (hw : ∀ k, k0_chk1 (word i arg1 f0 k))

/-- Where row `k`'s element lies. -/
def dstAt (k : Fin T1) (x : S1x768.Idx) : S128x768.Idx := (dstRow k).view.emb x

theorem dst_emb0 (k : Fin T1) (x : S1x768.Idx) : (dstAt k x 0).val = k.val := by
  have h0 : k0_off2 k 0 = k.val := by rw [k0_off2_eq]; rfl
  show k0_off2 k 0 + 1 * (x 0).val = k.val
  have : (x 0).val < 1 := (x 0).isLt
  omega

theorem dst_emb1 (k : Fin T1) (x : S1x768.Idx) : (dstAt k x 1).val = (x 1).val := by
  have h0 : k0_off2 k 1 = 0 := by rw [k0_off2_eq]; rfl
  show k0_off2 k 1 + 1 * (x 1).val = (x 1).val
  omega

/-- The elements of row `k`. -/
abbrev dstSet (k : Fin T1) : Finset S128x768.Idx := (dstRow k).view.set

theorem dst_disjoint (k k' : Fin T1) (h : k ≠ k') : Disjoint (dstSet k) (dstSet k') := by
  rw [Finset.disjoint_left]
  intro y hy hy'
  obtain ⟨x, -, rfl⟩ := Finset.mem_map.1 hy
  obtain ⟨x', -, hx⟩ := Finset.mem_map.1 hy'
  have h1 := dst_emb0 k x
  have h2 := dst_emb0 k' x'
  rw [show dstAt k' x' = dstAt k x from hx] at h2
  exact h (Fin.ext (h1.symm.trans h2))

theorem dst_cover : Finset.univ.biUnion dstSet = Finset.univ := by
  ext y
  simp only [Finset.mem_biUnion, Finset.mem_univ, true_and, iff_true]
  refine ⟨⟨(y 0).val, lt_of_lt_of_eq (y 0).isLt trips1.symm⟩, Finset.mem_map.2 ⟨(ix2 0 (y 1) : S1x768.Idx), Finset.mem_univ _, ?_⟩⟩
  funext a
  refine Fin.ext ?_
  match a with
  | 0 => exact dst_emb0 _ _
  | 1 => exact dst_emb1 _ _

theorem rows_split :
    (iprop(∃ f, rows.view.loc (c : Thread nD τ) ↦{fullShare} f) : sProp 𝕄)
      ⊢ bigSep (Ring.rangeSet T1 0 T1) (rowFree (F := F) c) := by
  rw [Ring.rangeSet_univ]
  iintro ⟨%f, H⟩
  ihave H2 := (Entails.of_eq (Ring.pointsTo_blocks (ℓ := rows.view.loc (c : Thread nD τ)) dstSet dst_disjoint dst_cover f)) $$ H
  have hm : (bigSep Finset.univ (fun k => (rows.view.loc (c : Thread nD τ) ↦[dstSet k]{fullShare} f : sProp 𝕄))) ⊢ bigSep Finset.univ (rowFree (F := F) c) :=
    BI.bigSep_mono fun k _ => by
      show (rows.view.loc (c : Thread nD τ) ↦[dstSet k]{fullShare} f : sProp 𝕄) ⊢ iprop(∃ g, (dstRow k).view.loc (c : Thread nD τ) ↦[(dstRow k).view.set]{fullShare} g)
      iintro H; iexists f; iexact H
  iapply hm; iexact H2

/-- What of the table no copy reads. -/
def tableRest : sProp 𝕄 :=
  iprop((table.view.loc (c : Thread nD τ) ↦{Transfers.shareDrop fullShare T1} fe)
    ∗ bigSep Finset.univ (fun k : Fin T1 => (table.view.loc (c : Thread nD τ) ↦[Finset.univ \ (srcRow _ (hw k)).view.set]{Transfers.shareTokN fullShare k.val} fe : sProp 𝕄)))

theorem table_tokens :
    (bigSep (Finset.range T1) (fun i => (table.view.loc (c : Thread nD τ) ↦{Transfers.shareTokN fullShare i} fe : sProp 𝕄)))
      = bigSep Finset.univ (fun k : Fin T1 => (table.view.loc (c : Thread nD τ) ↦{Transfers.shareTokN fullShare k.val} fe : sProp 𝕄)) := by
  rw [← Ring.rangeSet_univ]
  exact (Ring.bigSep_rangeSet_eq_range (NB := T1) (lo := 0) (hi := T1) le_rfl _ fun k h => by
    show _ = (table.view.loc (c : Thread nD τ) ↦{Transfers.shareTokN fullShare (0 + k)} fe : sProp 𝕄)
    rw [Nat.zero_add]).symm

theorem token_rows :
    bigSep Finset.univ (fun k : Fin T1 => (table.view.loc (c : Thread nD τ) ↦{Transfers.shareTokN fullShare k.val} fe : sProp 𝕄))
      ⊣⊢ iprop(bigSep Finset.univ (srcTok c i arg1 f0 fe hw) ∗ bigSep Finset.univ (fun k : Fin T1 => (table.view.loc (c : Thread nD τ) ↦[Finset.univ \ (srcRow _ (hw k)).view.set]{Transfers.shareTokN fullShare k.val} fe : sProp 𝕄))) := by
  constructor
  · refine (BI.bigSep_mono fun k _ => ?_).trans (Entails.of_eq (BI.bigSep_sep' _ _ _))
    exact (pointsTo_split_subset (Finset.subset_univ (srcRow _ (hw k)).view.set)).1
  · refine (Entails.of_eq (BI.bigSep_sep' _ _ _).symm).trans (BI.bigSep_mono fun k _ => ?_)
    exact (pointsTo_split_subset (Finset.subset_univ (srcRow _ (hw k)).view.set)).2

theorem table_split :
    (table.view.loc (c : Thread nD τ) ↦{fullShare} fe : sProp 𝕄)
      ⊢ iprop(bigSep (Ring.rangeSet T1 0 T1) (srcTok c i arg1 f0 fe hw) ∗ tableRest c i arg1 f0 fe hw) := by
  rw [Ring.rangeSet_univ]
  unfold tableRest
  iintro H
  ihave H2 := (Transfers.pointsTo_toks_range fullShare T1).1 $$ H
  icases H2 with ⟨Hd, Ht⟩
  ihave Ht2 := (Entails.of_eq (table_tokens c fe)) $$ Ht
  ihave Ht4 := (token_rows c i arg1 f0 fe hw).1 $$ Ht2
  icases Ht4 with ⟨Ha, Hb⟩
  isplitl [Ha]; · iexact Ha
  isplitl [Hd]; · iexact Hd
  iexact Hb

theorem table_join :
    iprop(bigSep Finset.univ (srcTok c i arg1 f0 fe hw) ∗ tableRest c i arg1 f0 fe hw)
      ⊢ (table.view.loc (c : Thread nD τ) ↦{fullShare} fe : sProp 𝕄) := by
  unfold tableRest
  iintro ⟨Ha, Hd, Hb⟩
  iapply (Transfers.pointsTo_toks_range fullShare T1).2
  isplitl [Hd]; · iexact Hd
  iapply (Entails.of_eq (table_tokens c fe).symm)
  iapply (token_rows c i arg1 f0 fe hw).2
  isplitl [Ha]; · iexact Ha
  iexact Hb

include hw in
theorem word_lt (k : Fin T1) : (word i arg1 f0 k).toNat < 50265 := by
  have h := hw k 0
  have h2 : k0_off3 (word i arg1 f0 k) 0 = (word i arg1 f0 k).toNat := rfl
  have h3 : S1x768.size 0 = 1 := rfl
  have h4 : S50265x768.size 0 = 50265 := rfl
  omega

theorem gathered_at (k : Fin T1) (x : S1x768.Idx) :
    gathered c i arg1 f0 fe (dstAt k x) = (srcRow _ (hw k)).view.read (Elt F) fe x := by
  have hx : (x 0).val < 1 := (x 0).isLt
  have hlt := word_lt i arg1 f0 hw k
  have hk : (⟨(dstAt k x 0).val, lt_of_lt_of_eq (dstAt k x 0).isLt trips1.symm⟩ : Fin T1) = k := Fin.ext (dst_emb0 k x)
  have h1 := dst_emb1 k x
  have hn := congrArg (fun q => (word i arg1 f0 q).toNat) hk
  refine congrArg (show Vec F S50265x768 .f32 from fe) (funext fun a => Fin.ext ?_)
  match a with
  | 0 =>
    show (word i arg1 f0 ⟨(dstAt k x 0).val, _⟩).toNat % 50265 = (word i arg1 f0 k).toNat + 1 * (x 0).val
    refine (congrArg (· % 50265) hn).trans ?_
    show (word i arg1 f0 k).toNat % 50265 = _
    rw [Nat.mod_eq_of_lt hlt]; omega
  | 1 =>
    show (dstAt k x 1).val = 0 + 1 * (x 1).val
    rw [h1]; omega

theorem row_written (k : Fin T1) (w : S1x768.Idx → Elt F .f32) (x : S1x768.Idx) :
    (dstRow k).view.writes (Elt F) (dstRow k).view.junk [⟨Rect.whole S1x768, w⟩] (dstAt k x) = w x := by
  have h := congrFun (View.read_writes_whole (dstRow k).view (dstRow k).view.junk w) x
  rw [View.read_apply] at h
  exact (eq_of_heq (cast_heq _ _)).symm.trans h

theorem landed_row (k : Fin T1) :
    ∀ y ∈ dstSet k, (dstRow k).view.writes (Elt F) (dstRow k).view.junk [⟨Rect.whole S1x768, ReadAs.same.apply ((srcRow _ (hw k)).view.read (Elt F) fe)⟩] y
      = gathered c i arg1 f0 fe y := by
  intro y hy
  obtain ⟨x, -, rfl⟩ := Finset.mem_map.1 hy
  exact (row_written k _ x).trans (gathered_at c i arg1 f0 fe hw k x).symm

theorem landed_join :
    bigSep Finset.univ (landed c i arg1 f0 fe hw)
      ⊢ iprop((rows.view.loc (c : Thread nD τ) ↦{fullShare} (gathered c i arg1 f0 fe : Buf (Elt F) (rows.view.loc (c : Thread nD τ)))) ∗ bigSep Finset.univ (srcTok c i arg1 f0 fe hw) : sProp 𝕄) := by
  iintro H
  ihave H2 := (Entails.of_eq (BI.bigSep_sep' _ _ _)) $$ H
  icases H2 with ⟨Ha, Hb⟩
  isplitl [Ha]
  · iapply (Entails.of_eq (Ring.pointsTo_blocks (ℓ := rows.view.loc (c : Thread nD τ)) dstSet dst_disjoint dst_cover _).symm)
    iapply (Entails.of_eq (BI.bigSep_congr fun k _ => pointsTo_congr (landed_row c i arg1 f0 fe hw k)))
    iexact Ha
  iexact Hb

end Cert.Kernel3Ideal.Src

end
-- ==== Proof.Src.Run.lean ====
module

public import proofs.«01_k».proof.Proof.Src.Split
public import Idealize.ShloMosaic.Lib.Pointwise
public import Idealize.ShloMosaic.Lib.VecWindow
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel3Ideal.Src

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A point's gates: the forward direction's plane, then the backward direction's. -/
def gatesV (g : Vec F S128x768 .f32) (v3 : Vec F S768x512 .f32) (v4 : Vec F S1x512 .f32) (v5 : Vec F S512x2048 .f32) (v6 : Vec F S1x2048 .f32) :
    Vec F S2x128x1024 .f32 := fun y =>
  if (y 0).val = 0 then k0_pay2 g v3 v4 v5 v6 (ix3 0 (y 1) (y 2)) else k0_pay3 g v3 v4 v5 v6 (ix3 0 (y 1) (y 2))

/-- Two planes written one after the other. -/
theorem planes (arg7 : Memref sig .tc .vmem S2x128x1024 .f32) (f7 : BufTy.Contents (Elt F) arg7.view.ty) (a b : Vec F S1x128x1024 .f32) :
    arg7.view.read (Elt F) (arg7.view.writes (Elt F) f7
        [⟨Rect.unit (s := S2x128x1024) ![1, 0, 0] S1x128x1024.size inb_S2x128x1024_S1x128x1024_1_0_0, b⟩,
         ⟨Rect.unit (s := S2x128x1024) ![0, 0, 0] S1x128x1024.size inb_S2x128x1024_S1x128x1024_0_0_0, a⟩])
      = fun y : S2x128x1024.Idx => if (y 0).val = 0 then a (ix3 0 (y 1) (y 2)) else b (ix3 0 (y 1) (y 2)) := by
  funext y
  have hy0 : (y 0).val < 2 := (y 0).isLt
  by_cases h : (y 0).val = 0
  · rw [if_pos h]
    have e : (Rect.unit (s := S2x128x1024) ![0, 0, 0] S1x128x1024.size inb_S2x128x1024_S1x128x1024_0_0_0).emb (ix3 0 (y 1) (y 2) : S1x128x1024.Idx) = y := by
      funext d
      refine Fin.ext ?_
      match d with
      | 0 => show 0 + 1 * 0 = (y 0).val; omega
      | 1 => show 0 + 1 * (y 1).val = (y 1).val; omega
      | 2 => show 0 + 1 * (y 2).val = (y 2).val; omega
    rw [View.writes_cons, View.read_slice_write_of_not_mem]
    · exact (congrArg _ e.symm).trans (View.read_writes_cons_emb _ _ _ _ _ _)
    · intro hm
      obtain ⟨x, -, hx⟩ := Finset.mem_map.1 hm
      have h3 : 1 + 1 * (x 0).val = (y 0).val := congrArg (fun z : S2x128x1024.Idx => (z 0).val) hx
      omega
  · rw [if_neg h]
    have e : (Rect.unit (s := S2x128x1024) ![1, 0, 0] S1x128x1024.size inb_S2x128x1024_S1x128x1024_1_0_0).emb (ix3 0 (y 1) (y 2) : S1x128x1024.Idx) = y := by
      funext d
      refine Fin.ext ?_
      match d with
      | 0 => show 1 + 1 * 0 = (y 0).val; omega
      | 1 => show 0 + 1 * (y 1).val = (y 1).val; omega
      | 2 => show 0 + 1 * (y 2).val = (y 2).val; omega
    exact (congrArg _ e.symm).trans (View.read_writes_cons_emb _ _ _ _ _ _)

variable (c : Dev nD) (i : grid0.Coords) (arg1 : Memref sig .tc .smem S2048 .i32) (harg1 : arg1.IsWhole)
  (arg3 : Memref sig .tc .vmem S768x512 .f32) (harg3 : arg3.IsWhole) (arg4 : Memref sig .tc .vmem S1x512 .f32) (harg4 : arg4.IsWhole)
  (arg5 : Memref sig .tc .vmem S512x2048 .f32) (harg5 : arg5.IsWhole) (arg6 : Memref sig .tc .vmem S1x2048 .f32) (harg6 : arg6.IsWhole)
  (arg7 : Memref sig .tc .vmem S2x128x1024 .f32) (harg7 : arg7.IsWhole)
  (f0 : BufTy.Contents (Elt F) arg1.view.ty) (fe : Buf (Elt F) (table.view.loc (c : Thread nD τ)))
  (f3 : BufTy.Contents (Elt F) arg3.view.ty) (f4 : BufTy.Contents (Elt F) arg4.view.ty)
  (f5 : BufTy.Contents (Elt F) arg5.view.ty) (f6 : BufTy.Contents (Elt F) arg6.view.ty)

theorem rows_read (g : Vec F S128x768 .f32) :
    rows.view.readAt (Elt F) (Rect.unit (s := S128x768) ![0, 0] S128x768.size inb_S128x768_S128x768_0_0).toLoadRect (g : Buf (Elt F) (rows.view.loc (c : Thread nD τ))) = g :=
  (View.readAt_full rows.view _ _).trans (View.read_whole cc0_scratch0 g)

theorem pt_storable (ℓ : Loc nD τ sig) (I : Finset (Idx ℓ)) (q : PosShare TreeShare) (f : Buf (Elt F) ℓ) :
    Storable (upEmb : UEmb _ 𝕄) (ℓ ↦[I]{q} f : sProp 𝕄) := inferInstance

theorem landed_storable (hw : ∀ k, k0_chk1 (word i arg1 f0 k)) (k : Fin T1) : Storable (upEmb : UEmb _ 𝕄) (landed c i arg1 f0 fe hw k) := by
  have h2 : Storable (upEmb : UEmb _ 𝕄) (srcTok c i arg1 f0 fe hw k) := pt_storable ((srcRow _ (hw k)).view.loc (c : Thread nD τ)) _ _ _
  exact Storable.sep _ _ _

/-- What the point leaves, from the operands' contents. -/
def computed : Vec F S2x128x1024 .f32 :=
  gatesV (gathered c i arg1 f0 fe) (arg3.view.read (Elt F) f3) (arg4.view.read (Elt F) f4) (arg5.view.read (Elt F) f5) (arg6.view.read (Elt F) f6)

theorem run (hw : ∀ k, k0_chk1 (word i arg1 f0 k)) (W : Waits sig Unit) (f7 : BufTy.Contents (Elt F) arg7.view.ty) :
    (iprop((arg1.view.loc (c : Thread nD τ) ↦[arg1.view.set]{fullShare} f0) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
      ∗ (table.view.loc (c : Thread nD τ) ↦{fullShare} fe) ∗ (arg7.view.loc (c : Thread nD τ) ↦[arg7.view.set]{fullShare} f7)
      ∗ (∃ g, rows.view.loc (c : Thread nD τ) ↦{fullShare} g) ∗ semVal ((c : Thread nD τ), cell) 0 ∗ owes (c : Thread nD τ) 0 W) : sProp 𝕄)
    ⊢ wp frame (wpE (defs₀ (F := F)) Variants.none (c : Thread nD τ) none) Set.univ (cc0_src_gather_gates i arg1 harg1 table (Memref.isWhole_whole _) arg3 harg3 arg4 harg4 arg5 harg5 arg6 harg6 arg7 harg7 rows (Memref.isWhole_whole _) cc0_scratch1)
      (fun _ => iprop((arg1.view.loc (c : Thread nD τ) ↦[arg1.view.set]{fullShare} f0) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
      ∗ (table.view.loc (c : Thread nD τ) ↦{fullShare} fe)
      ∗ (∃ g, (arg7.view.loc (c : Thread nD τ) ↦[arg7.view.set]{fullShare} g) ∗ ⌜arg7.view.read (Elt F) g = computed c i arg1 arg3 arg4 arg5 arg6 f0 fe f3 f4 f5 f6⌝)
      ∗ (∃ g, rows.view.loc (c : Thread nD τ) ↦{fullShare} g) ∗ semVal ((c : Thread nD τ), cell) 0 ∗ (∃ W, owes (c : Thread nD τ) 0 W))) := by
  haveI hst : ∀ k, Storable (upEmb : UEmb _ 𝕄) (landed c i arg1 f0 fe hw k) := landed_storable c i arg1 f0 fe hw
  iintro ⟨H1, H3, H4, H5, H6, HT, H7, HR, Hc, HO⟩
  ihave HR2 := (rows_split c) $$ HR
  ihave HT2 := (table_split c i arg1 f0 fe hw) $$ HT
  icases HT2 with ⟨HS, HTr⟩
  imod (Transfers.batch_alloc' (Lvl := ℕ) (countersEmb (U := Pipeline.UD sig nD τ)) (c : Thread nD τ) () NN (landed c i arg1 f0 fe hw) (sm := cell) (E := Set.univ)) $$ Hc with HB
  sl_unfold [cc0_src_gather_gates]
  sl_respell [cc0_src_gather_gates_skel]
  sl_for (issueAt c i arg1 f0 fe hw) $$ [H1 HB HR2 HS]
  · intro k acc; exact issue_step c i arg1 harg1 arg3 harg3 arg4 harg4 arg5 harg5 arg6 harg6 arg7 harg7 f0 fe hw k acc
  · unfold issueAt
    isplitl [H1]; · iexact H1
    isplitl [HB]; · iexact HB
    isplitl [HR2]; · iexact HR2
    iexact HS
  iintro %acc HI
  ihave HI2 := (show issueAt c i arg1 f0 fe hw T1 acc ⊢ iprop((arg1.view.loc (c : Thread nD τ) ↦[arg1.view.set]{fullShare} f0) ∗ batch c i arg1 f0 fe hw T1 0) from by
    unfold issueAt; iintro ⟨H0, HB, -, -⟩; isplitl [H0] <;> iassumption) $$ HI
  icases HI2 with ⟨H1, HB⟩
  sl_for (drainAt c i arg1 f0 fe hw) $$ [HB HO]
  · intro k acc; exact drain_step c i arg1 harg1 arg3 harg3 arg4 harg4 arg5 harg5 arg6 harg6 arg7 harg7 f0 fe hw k acc
  · unfold drainAt
    rw [if_pos (by rw [trips2]; decide)]
    isplitr; · ipureintro; omega
    isplitl [HO]; · iexists _; iexact HO
    rw [Nat.zero_mul]
    iexact HB
  iintro %acc2 HI
  ihave HI2 := (show drainAt c i arg1 f0 fe hw k0_t2_loop.trips acc2 ⊢ iprop((∃ W, owes (c : Thread nD τ) 0 W) ∗ semVal ((c : Thread nD τ), cell) 0 ∗ bigSep Finset.univ (landed c i arg1 f0 fe hw)) from by
    unfold drainAt; rw [if_neg (Nat.lt_irrefl _)]; iintro ⟨-, HO, Hc, HD⟩
    isplitl [HO]; · iexact HO
    isplitl [Hc] <;> iassumption) $$ HI
  icases HI2 with ⟨HO, Hc, HD⟩
  ihave HD2 := (landed_join c i arg1 f0 fe hw) $$ HD
  icases HD2 with ⟨HG, HS⟩
  ihave HT := (table_join c i arg1 f0 fe hw) $$ [HS HTr]
  · isplitl [HS] <;> iassumption
  sl_exec
  sl_step
  isplitl [H1]; · iexact H1
  isplitl [H3]; · iexact H3
  isplitl [H4]; · iexact H4
  isplitl [H5]; · iexact H5
  isplitl [H6]; · iexact H6
  isplitl [HT]; · iexact HT
  isplitl [H7]
  · iexists _
    isplitl [H7]; · iexact H7
    ipureintro
    refine (planes arg7 _ _ _).trans ?_
    unfold computed
    rw [rows_read, View.readAt_full arg3.view f3, View.readAt_full arg4.view f4, View.readAt_full arg5.view f5, View.readAt_full arg6.view f6]
    rfl
  isplitl [HG]; · iexists _; iexact HG
  isplitl [Hc]; · iexact Hc
  iexact HO

end Cert.Kernel3Ideal.Src

end
-- ==== Proof.Src.Frame.lean ====
module

public import proofs.«01_k».proof.Proof.Src.Run
public import Idealize.ShloMosaic.Lib.Pointwise
public import Idealize.ShloMosaic.Lib.VecWindow
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel3Ideal.Src

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## A point's rows as a vector of the operands' vectors -/

theorem coord_lt (i : grid0.Coords) : (i 0).val < 16 := (i 0).isLt

/-- The table's rows that a point's words name, one below the other. -/
def gatherV (i : grid0.Coords) (tok : Vec F S2048 .i32) (tab : Vec F S50265x768 .f32) : Vec F S128x768 .f32 := fun y =>
  tab (ix2 ⟨(show BitVec 32 from tok (ix1 ⟨128 * (i 0).val + (y 0).val, by
    have h1 := coord_lt i
    have h2 : (y 0).val < 128 := (y 0).isLt
    omega⟩)).toNat % 50265, Nat.mod_lt _ (by decide)⟩ (y 1))

theorem chk_of_lt (v : BitVec 32) (h : v.toNat < 50265) : k0_chk1 v := by
  intro a
  have h2 : k0_off3 v 0 = v.toNat := rfl
  have h3 : S1x768.size 0 = 1 := rfl
  have h4 : S50265x768.size 0 = 50265 := rfl
  have h5 : k0_off3 v 1 = 0 := rfl
  have h6 : S1x768.size 1 = 768 := rfl
  have h7 : S50265x768.size 1 = 768 := rfl
  fin_cases a
  · show k0_off3 v 0 + S1x768.size 0 ≤ S50265x768.size 0; omega
  · show k0_off3 v 1 + S1x768.size 1 ≤ S50265x768.size 1; omega

variable (c : Dev nD) (i : grid0.Coords) (arg1 : Memref sig .tc .smem S2048 .i32) (harg1 : arg1.IsWhole)
  (arg3 : Memref sig .tc .vmem S768x512 .f32) (harg3 : arg3.IsWhole) (arg4 : Memref sig .tc .vmem S1x512 .f32) (harg4 : arg4.IsWhole)
  (arg5 : Memref sig .tc .vmem S512x2048 .f32) (harg5 : arg5.IsWhole) (arg6 : Memref sig .tc .vmem S1x2048 .f32) (harg6 : arg6.IsWhole)
  (arg7 : Memref sig .tc .vmem S2x128x1024 .f32) (harg7 : arg7.IsWhole)
  (f0 : BufTy.Contents (Elt F) arg1.view.ty) (fe : Buf (Elt F) (table.view.loc (c : Thread nD τ)))

theorem word_at (k : Fin T1) (n : Fin 2048) (hn : n.val = 128 * (i 0).val + k.val) :
    word i arg1 f0 k = arg1.view.read (Elt F) f0 (ix1 n) := by
  refine congrArg (arg1.view.read (Elt F) f0) (funext fun a => Fin.ext ?_)
  obtain rfl : a = 0 := Subsingleton.elim _ _
  show k0_off1 i k 0 + 1 * 0 = n.val
  rw [k0_off1_eq, hn]
  rfl

theorem gathered_eq : gathered c i arg1 f0 fe = gatherV i (arg1.view.read (Elt F) f0) fe := by
  funext y
  have h1 := coord_lt i
  have h2 : (y 0).val < 128 := (y 0).isLt
  unfold gathered gatherV
  refine congrArg (fun n => (show Vec F S50265x768 .f32 from fe) (ix2 n (y 1))) (Fin.ext ?_)
  exact congrArg (fun v : BitVec 32 => v.toNat % 50265) (word_at i arg1 f0 ⟨(y 0).val, _⟩ ⟨128 * (i 0).val + (y 0).val, by omega⟩ rfl)

theorem run_owns
    (x1 : Vec F S2048 .i32) (x3 : Vec F S768x512 .f32) (x4 : Vec F S1x512 .f32) (x5 : Vec F S512x2048 .f32) (x6 : Vec F S1x2048 .f32)
    (hp : ∀ y, (show BitVec 32 from x1 y).toNat < 50265) (W : Waits sig Unit) (x7 : Vec F S2x128x1024 .f32) :
    (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6
      ∗ (table.view.loc (c : Thread nD τ) ↦{fullShare} fe) ∗ owns (c : Thread nD τ) arg7 fullShare x7
      ∗ (∃ g, rows.view.loc (c : Thread nD τ) ↦{fullShare} g) ∗ semVal ((c : Thread nD τ), cell) 0 ∗ owes (c : Thread nD τ) 0 W) : sProp 𝕄)
    ⊢ wp frame (wpE (defs₀ (F := F)) Variants.none (c : Thread nD τ) none) Set.univ (cc0_src_gather_gates i arg1 harg1 table (Memref.isWhole_whole _) arg3 harg3 arg4 harg4 arg5 harg5 arg6 harg6 arg7 harg7 rows (Memref.isWhole_whole _) cc0_scratch1)
      (fun _ => iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6
      ∗ (table.view.loc (c : Thread nD τ) ↦{fullShare} fe) ∗ owns (c : Thread nD τ) arg7 fullShare (gatesV (gatherV i x1 fe) x3 x4 x5 x6)
      ∗ (∃ g, rows.view.loc (c : Thread nD τ) ↦{fullShare} g) ∗ semVal ((c : Thread nD τ), cell) 0 ∗ (∃ W, owes (c : Thread nD τ) 0 W))) := by
  unfold owns
  iintro ⟨⟨%e1, %h1, H1⟩, ⟨%e3, %h3, H3⟩, ⟨%e4, %h4, H4⟩, ⟨%e5, %h5, H5⟩, ⟨%e6, %h6, H6⟩, HT, ⟨%e7, -, H7⟩, HR, Hq, HW⟩
  have hw : ∀ k, k0_chk1 (word i arg1 e1 k) := fun k => chk_of_lt _ (by
    have hi := coord_lt i
    have hk := lt_of_lt_of_eq k.isLt trips1
    rw [word_at i arg1 e1 k ⟨128 * (i 0).val + k.val, by omega⟩ rfl, h1]; exact hp _)
  iapply (wp_wand_r frame (wpE (defs₀ (F := F)) Variants.none (c : Thread nD τ) none) Set.univ (Q := _))
  isplitl
  · iapply (run c i arg1 harg1 arg3 harg3 arg4 harg4 arg5 harg5 arg6 harg6 arg7 harg7 e1 fe e3 e4 e5 e6 hw W e7)
    isplitl [H1]; · iexact H1
    isplitl [H3]; · iexact H3
    isplitl [H4]; · iexact H4
    isplitl [H5]; · iexact H5
    isplitl [H6]; · iexact H6
    isplitl [HT]; · iexact HT
    isplitl [H7]; · iexact H7
    isplitl [HR]; · iexact HR
    isplitl [Hq]; · iexact Hq
    iexact HW
  iintro %u ⟨H1, H3, H4, H5, H6, HT, ⟨%g, H7, %hg⟩, HR, Hq, HW⟩
  isplitl [H1]
  · iexists e1; isplitr; · ipureintro; exact h1
    iexact H1
  isplitl [H3]
  · iexists e3; isplitr; · ipureintro; exact h3
    iexact H3
  isplitl [H4]
  · iexists e4; isplitr; · ipureintro; exact h4
    iexact H4
  isplitl [H5]
  · iexists e5; isplitr; · ipureintro; exact h5
    iexact H5
  isplitl [H6]
  · iexists e6; isplitr; · ipureintro; exact h6
    iexact H6
  isplitl [HT]; · iexact HT
  isplitl [H7]
  · iexists g; isplitr
    · ipureintro
      rw [hg]
      unfold computed
      rw [gathered_eq, h1, h3, h4, h5, h6]
    iexact H7
  isplitl [HR]; · iexact HR
  isplitl [Hq]; · iexact Hq
  iexact HW

variable (m : (ℓ : Loc nD τ sig) → Buf (Elt F) ℓ) (ρ : Dev nD → PrngReg)

/-! ## The host operations before the call -/

/-- The buffers' contents at the call: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [List.Forall]
    repeat' apply And.intro
    all_goals exact fun hm => StableHlo.devRef_ne_of_ne (by decide) (Finset.mem_singleton.mp hm)))
theorem V_main_arg1 (c : Dev nD) : V m c main_arg1 = m ((c : Thread nD τ).loc main_arg1) :=
  StableHlo.after_of_forall_not_mem (b := Proc.devRef .tc main_arg1) _ _ (List.forall_iff_forall_mem.mp (by
    simp only [List.Forall]
    repeat' apply And.intro
    all_goals exact fun hm => StableHlo.devRef_ne_of_ne (by decide) (Finset.mem_singleton.mp hm)))
theorem V_main_arg2 (c : Dev nD) : V m c main_arg2 = m ((c : Thread nD τ).loc main_arg2) :=
  StableHlo.after_of_forall_not_mem (b := Proc.devRef .tc main_arg2) _ _ (List.forall_iff_forall_mem.mp (by
    simp only [List.Forall]
    repeat' apply And.intro
    all_goals exact fun hm => StableHlo.devRef_ne_of_ne (by decide) (Finset.mem_singleton.mp hm)))
theorem V_main_arg3 (c : Dev nD) : V m c main_arg3 = m ((c : Thread nD τ).loc main_arg3) :=
  StableHlo.after_of_forall_not_mem (b := Proc.devRef .tc main_arg3) _ _ (List.forall_iff_forall_mem.mp (by
    simp only [List.Forall]
    repeat' apply And.intro
    all_goals exact fun hm => StableHlo.devRef_ne_of_ne (by decide) (Finset.mem_singleton.mp hm)))
theorem V_main_arg4 (c : Dev nD) : V m c main_arg4 = m ((c : Thread nD τ).loc main_arg4) :=
  StableHlo.after_of_forall_not_mem (b := Proc.devRef .tc main_arg4) _ _ (List.forall_iff_forall_mem.mp (by
    simp only [List.Forall]
    repeat' apply And.intro
    all_goals exact fun hm => StableHlo.devRef_ne_of_ne (by decide) (Finset.mem_singleton.mp hm)))
theorem V_main_arg5 (c : Dev nD) : V m c main_arg5 = m ((c : Thread nD τ).loc main_arg5) :=
  StableHlo.after_of_forall_not_mem (b := Proc.devRef .tc main_arg5) _ _ (List.forall_iff_forall_mem.mp (by
    simp only [List.Forall]
    repeat' apply And.intro
    all_goals exact fun hm => StableHlo.devRef_ne_of_ne (by decide) (Finset.mem_singleton.mp hm)))
theorem V_main_arg6 (c : Dev nD) : V m c main_arg6 = m ((c : Thread nD τ).loc main_arg6) :=
  StableHlo.after_of_forall_not_mem (b := Proc.devRef .tc main_arg6) _ _ (List.forall_iff_forall_mem.mp (by
    simp only [List.Forall]
    repeat' apply And.intro
    all_goals exact fun hm => StableHlo.devRef_ne_of_ne (by decide) (Finset.mem_singleton.mp hm)))
theorem V_main_arg7 (c : Dev nD) : V m c main_arg7 = m ((c : Thread nD τ).loc main_arg7) :=
  StableHlo.after_of_forall_not_mem (b := Proc.devRef .tc main_arg7) _ _ (List.forall_iff_forall_mem.mp (by
    simp only [List.Forall]
    repeat' apply And.intro
    all_goals exact fun hm => StableHlo.devRef_ne_of_ne (by decide) (Finset.mem_singleton.mp hm)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the launch hands the kernel -/

abbrev osem0 : Fin 1 → SemLoc sig := fun _ => cell
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), cell) 0 := by
  rw [Pipeline.ownSems0_eq_of_list c osem0 [0] (by decide) (by decide)]; rfl

def H0 : Finset (Ref sig .tc) := {main_arg1}
theorem H0_sub : H0 ⊆ Pipeline.restRefs sig spec0 := by decide
theorem tablePt_eq (c : Dev nD) :
    (bigSep H0 (fun b => ((c : Thread nD τ).loc b) ↦{fullShare} V m c b) : sProp 𝕄)
      = (table.view.loc (c : Thread nD τ) ↦{fullShare} V m c main_arg1) := by
  rw [BI.bigSep_eq_bigSepL_of_eq [main_arg1] (by decide) (by decide)]; rfl

theorem PhiD_eq (c : Dev nD) :
    (Pipeline.ΦD osem0 spec0 H0 (V m) c : sProp 𝕄)
      = iprop((∃ f : Buf (Elt F) ((c : Thread nD τ).loc cc0_scratch0), ((c : Thread nD τ).loc cc0_scratch0) ↦{fullShare} f)
          ∗ (∃ r, prngReg c r) ∗ semVal ((c : Thread nD τ), cell) 0
          ∗ (table.view.loc (c : Thread nD τ) ↦{fullShare} V m c main_arg1)) := by
  rw [Pipeline.ΦD_eq, scopedRest0_eq, ownSems00_eq, tablePt_eq]

/-- The result's block at point `t`. -/
def outAt (c : Dev nD) (t : Fin cfg0.N) : Vec F S2x128x1024 .f32 :=
  gatesV (gatherV (grid0.coords t) (iblk m c 0 t) (V m c main_arg1)) (iblk m c 1 t) (iblk m c 2 t) (iblk m c 3 t) (iblk m c 4 t)

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d
theorem before0_4 (c : Dev nD) (t : Fin cfg0.N) (d) : (dats m 0 c).before 4 t d = iblk m c 4 t :=
  (dats m 0 c).before_in_eq_fetched 4 rfl (fun _ => rfl) (fun _ _ _ => rfl) (fun _ => rfl) t d

theorem defs₀_row (t : Fin cfg0.N) :
    defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The words the kernel reads name rows of the table. -/
def WordsOk : Prop := ∀ (c : Dev nD) (t : Fin cfg0.N) (y : S2048.Idx), (show BitVec 32 from iblk m c 0 t y).toNat < 50265

theorem sound_body (hp : WordsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl, after0_0, after0_1, after0_2, after0_3, after0_4, after0_5]
  rw [show (dats m 0 c).Φ t.castSucc = Pipeline.ΦD osem0 spec0 H0 (V m) c from rfl, PhiD_eq]
  unfold Dat.owesAt Pipeline.owesWithin
  rw [show (dats m 0 c).owed t.castSucc = 0 from rfl, show (dats m 0 c).owed t.succ = 0 from rfl]
  iintro ⟨⟨HS, Hg, Hq, HT⟩, ⟨%W, -, HW⟩, ⟨%d0, H0⟩, ⟨%d1, H1⟩, ⟨%d2, H2⟩, ⟨%d3, H3⟩, ⟨%d4, H4⟩, ⟨%d5, H5⟩⟩
  iapply (wp_wand_r frame (wpE (defs₀ (F := F)) Variants.none (c : Thread nD τ) none) Set.univ (Q := _))
  isplitr [Hg]
  · iapply (run_owns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5))
      (V m c main_arg1) (iblk m c 0 t) (iblk m c 1 t) (iblk m c 2 t) (iblk m c 3 t) (iblk m c 4 t) (hp c t) W _)
    isplitl [H0]; · iexact H0
    isplitl [H1]; · iexact H1
    isplitl [H2]; · iexact H2
    isplitl [H3]; · iexact H3
    isplitl [H4]; · iexact H4
    isplitl [HT]; · iexact HT
    isplitl [H5]; · iexact H5
    isplitl [HS]; · iexact HS
    isplitl [Hq]; · iexact Hq
    iexact HW
  iintro %u ⟨H0, H1, H2, H3, H4, HT, H5, HS, Hq, ⟨%W2, HW⟩⟩
  isplitl [HS Hg Hq HT]
  · isplitl [HS]; · iexact HS
    isplitl [Hg]; · iexact Hg
    isplitl [Hq]; · iexact Hq
    iexact HT
  isplitl [HW]
  · iexists W2; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem body_obligation (hp : WordsOk m) (c : Dev nD) : BodyObligation (dats (F := F) m 0 c) (defs₀ (F := F)) Variants.none () Set.univ := fun t => by
  rw [bigSep_W0, bigSep_W0, defs₀_row]
  exact triple_restated (sound_body m hp c t) rfl .rfl fun _ => .rfl

set_option backward.isDefEq.respectTransparency.types false in
theorem run_main (hp : WordsOk m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hp c).loose) (hshare := fun c => (dats m 0 c).share_full fun _ => rfl)
    (howed := fun _ _ => rfl) (V := V m) (hmain := hmain m Variants.none) (hA := A_eq m)
    (hin := fun _ => .rfl) (hout := fun _ => .rfl)

/-- Every execution ends with the argument arrays as they were, the result's array at what the write-backs left, and every
    semaphore counter at zero. -/
theorem outcome (hp : WordsOk m) : θ_run defs (onTc (τ := τ) (main (F := F))) ⟨m, fun _ => 0, ρ⟩ (fun r => (∀ c : Dev nD,
      r.2.mem ((c.tc : Thread nD τ).loc main_v9) = (dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r (h : _ ∧ _) => ⟨fun c => ⟨(h.1 c).1 5,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩, h.2⟩) (run_main m ρ hp)

end Cert.Kernel3Ideal.Src

end
-- ==== Proof.Src.Words.lean ====
/- What the source layer's arrays hold at the call, and the words' range. -/
module

public import proofs.«01_k».proof.Proof.Src.Frame
public import proofs.«01_k».proof.Defs
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.Kernel3Ideal.Src

open Cert.Kernel3Ideal Cert.Kernel3Ideal.Gen
open Idealize.ShloMosaic
open Idealize.ShloMosaic.TcCoe
open Idealize.ShloMosaic.Pipeline
open Idealize.ShloMosaic.StableHlo (after)

variable (X : Valuation τ sig (Elt Ideal))

theorem tok_at (s : Fin 64) (b : Fin 32) : (after hostOps0 X main_v1 : IVec S2048 32) (ix1 ⟨32 * s.val + b.val, by omega⟩)
    = (X main_arg0 : IVec S32x64 32) (ix2 b s) := by
  unfold hostOps0
  after_reads_at

/-- A word in range, as the precondition's two comparisons say. -/
theorem token_lt (w : BitVec 32) (h : IntOp.andi (IntOp.cmpi .sge w 0#32) (IntOp.cmpi .slt w 50265#32) = 1#1) : w.toNat < 50265 := by
  have h1 : ((0#32).sle w && w.slt 50265#32) = true := by
    revert h
    show BitVec.ofBool ((0#32).sle w) &&& BitVec.ofBool (w.slt 50265#32) = 1#1 → _
    cases (0#32).sle w <;> cases w.slt 50265#32 <;> decide
  have h2 := (Bool.and_eq_true _ _).mp h1
  have h3 := BitVec.sle_iff_toInt_le.mp h2.1
  have h4 := BitVec.slt_iff_toInt_lt.mp h2.2
  have e0 : (0#32 : BitVec 32).toInt = 0 := rfl
  have e1 : (50265#32 : BitVec 32).toInt = 50265 := rfl
  rw [e0] at h3
  rw [e1] at h4
  have e2 := BitVec.toInt_eq_toNat_cond w
  have h5 := w.isLt
  split at e2 <;> omega

theorem arg_lt [Cert.Pre_source_words.Facts] (m : (ℓ : Loc nD τ sig) → Buf (Elt Ideal) ℓ) (hp : Cert.Pre_Kernel3Ideal m) (c : Dev nD) (b : Fin 32) (s : Fin 64) :
    ((m ((c : Thread nD τ).loc main_arg0) : IVec S32x64 32) (ix2 b s) : BitVec 32).toNat < 50265 := by
  have h : Cert.Pre_source_words.fn (F := Ideal) (m ((c : Thread nD τ).loc main_arg0)) _ _ _ _ _ _ _ = fun _ => 1#1 := hp c
  exact token_lt _ (congrFun h (ix2 b s))

variable (m : (ℓ : Loc nD τ sig) → Buf (Elt Ideal) ℓ)

theorem idx0 : ∀ t : Fin cfg0.N, win0_0.index t = fun _ => 0 := by decide +kernel

theorem blk0_eq (c : Dev nD) (t : Fin cfg0.N) (y : S2048.Idx) : (iblk m c 0 t : IVec S2048 32) y = (V m c main_v1 : IVec S2048 32) y := by
  blk_point [iblk, V, idx0 t]

theorem V_tok (c : Dev nD) (s : Fin 64) (b : Fin 32) : (V m c main_v1 : IVec S2048 32) (ix1 ⟨32 * s.val + b.val, by omega⟩)
    = (m ((c : Thread nD τ).loc main_arg0) : IVec S32x64 32) (ix2 b s) :=
  tok_at (fun b => m (c, b)) s b

theorem wordsOk [Cert.Pre_source_words.Facts] (hp : Cert.Pre_Kernel3Ideal m) : WordsOk m := by
  intro c t y
  obtain ⟨k, rfl⟩ : ∃ k : Fin 2048, y = ix1 k := ⟨y 0, by funext a; fin_cases a; rfl⟩
  rw [blk0_eq]
  have e : (ix1 k : S2048.Idx) = ix1 ⟨32 * (k.val / 32) + k.val % 32, by omega⟩ := congrArg ix1 (Fin.ext (Nat.div_add_mod k.val 32).symm)
  rw [e, V_tok m c ⟨k.val / 32, by omega⟩ ⟨k.val % 32, by omega⟩]
  exact arg_lt m hp c _ _

end Cert.Kernel3Ideal.Src

end
-- ==== Proof.Src.Host.lean ====
/- What the source layer's weights and biases hold at the call, and one point's gates as sums. -/
module

public import proofs.«01_k».proof.Proof.Src.Words

@[expose] public section

set_option maxRecDepth 16384

noncomputable section

namespace Cert.Kernel3Ideal.Src

open Cert.Kernel3Ideal Cert.Kernel3Ideal.Gen
open Idealize.ShloMosaic
open Idealize.ShloMosaic.TcCoe
open Idealize.ShloMosaic.Pipeline
open Idealize.ShloMosaic.StableHlo (after)

variable (X : Valuation τ sig (Elt Ideal))

theorem wt_at (e : Fin 768) (k : Fin 512) : (after hostOps0 X main_v2 : FVec Ideal S768x512 .f32) (ix2 e k) = (X main_arg2 : FVec Ideal S512x768 .f32) (ix2 k e) := by
  unfold hostOps0
  after_reads_at

theorem bt_at (k : Fin 512) : (after hostOps0 X main_v3 : FVec Ideal S1x512 .f32) (ix2 0 k) = (X main_arg3 : FVec Ideal S512 .f32) (ix1 k) := by
  unfold hostOps0
  after_reads_at

theorem wf_at (k : Fin 512) (j : Fin 1024) : (after hostOps0 X main_v6 : FVec Ideal S512x2048 .f32) (ix2 k ⟨j.val, by omega⟩) = (X main_arg4 : FVec Ideal S1024x512 .f32) (ix2 j k) := by
  unfold hostOps0
  after_reads_at

theorem wb_at (k : Fin 512) (j : Fin 1024) : (after hostOps0 X main_v6 : FVec Ideal S512x2048 .f32) (ix2 k ⟨1024 + j.val, by omega⟩) = (X main_arg6 : FVec Ideal S1024x512 .f32) (ix2 j k) := by
  unfold hostOps0
  after_reads_at

theorem bf_at (j : Fin 1024) : (after hostOps0 X main_v8 : FVec Ideal S1x2048 .f32) (ix2 0 ⟨j.val, by omega⟩) = (X main_arg5 : FVec Ideal S1024 .f32) (ix1 j) := by
  unfold hostOps0
  after_reads_at
  after_reads_simp

theorem bb_at (j : Fin 1024) : (after hostOps0 X main_v8 : FVec Ideal S1x2048 .f32) (ix2 0 ⟨1024 + j.val, by omega⟩) = (X main_arg7 : FVec Ideal S1024 .f32) (ix1 j) := by
  unfold hostOps0
  after_reads_at
  after_reads_simp

variable (m : (ℓ : Loc nD τ sig) → Buf (Elt Ideal) ℓ)

theorem idx1 : ∀ t : Fin cfg0.N, win0_1.index t = fun _ => 0 := by decide +kernel
theorem idx2 : ∀ t : Fin cfg0.N, win0_2.index t = fun _ => 0 := by decide +kernel
theorem idx3 : ∀ t : Fin cfg0.N, win0_3.index t = fun _ => 0 := by decide +kernel
theorem idx4 : ∀ t : Fin cfg0.N, win0_4.index t = fun _ => 0 := by decide +kernel

theorem blk1_eq (c : Dev nD) (t : Fin cfg0.N) (y : S768x512.Idx) : (iblk m c 1 t : FVec Ideal S768x512 .f32) y = (V m c main_v2 : FVec Ideal S768x512 .f32) y := by
  blk_point [iblk, V, idx1 t]
theorem blk2_eq (c : Dev nD) (t : Fin cfg0.N) (y : S1x512.Idx) : (iblk m c 2 t : FVec Ideal S1x512 .f32) y = (V m c main_v3 : FVec Ideal S1x512 .f32) y := by
  blk_point [iblk, V, idx2 t]
theorem blk3_eq (c : Dev nD) (t : Fin cfg0.N) (y : S512x2048.Idx) : (iblk m c 3 t : FVec Ideal S512x2048 .f32) y = (V m c main_v6 : FVec Ideal S512x2048 .f32) y := by
  blk_point [iblk, V, idx3 t]
theorem blk4_eq (c : Dev nD) (t : Fin cfg0.N) (y : S1x2048.Idx) : (iblk m c 4 t : FVec Ideal S1x2048 .f32) y = (V m c main_v8 : FVec Ideal S1x2048 .f32) y := by
  blk_point [iblk, V, idx4 t]

/-! ## One point's gates -/

theorem pay1_at (g : Vec Ideal S128x768 .f32) (v4 : Vec Ideal S768x512 .f32) (v7 : Vec Ideal S1x512 .f32) (v11 : Vec Ideal S512x2048 .f32) (v14 : Vec Ideal S1x2048 .f32)
    (b : Fin 128) (j : Fin 2048) : k0_pay1 g v4 v7 v11 v14 (ix2 b j)
      = ((∑ k : Fin 512, ((∑ e : Fin 768, (g (ix2 b e) : EReal) * v4 (ix2 e k)) + v7 (ix2 0 k)) * v11 (ix2 k j)) + v14 (ix2 0 j) : EReal) := by
  pointwise [k0_pay1]

theorem pay2_at (g : Vec Ideal S128x768 .f32) (v4 : Vec Ideal S768x512 .f32) (v7 : Vec Ideal S1x512 .f32) (v11 : Vec Ideal S512x2048 .f32) (v14 : Vec Ideal S1x2048 .f32)
    (b : Fin 128) (j : Fin 1024) : k0_pay2 g v4 v7 v11 v14 (ix3 0 b j) = k0_pay1 g v4 v7 v11 v14 (ix2 b ⟨j.val, by omega⟩) := by
  unfold k0_pay2
  generalize k0_pay1 g v4 v7 v11 v14 = P
  pointwise []

theorem pay3_at (g : Vec Ideal S128x768 .f32) (v4 : Vec Ideal S768x512 .f32) (v7 : Vec Ideal S1x512 .f32) (v11 : Vec Ideal S512x2048 .f32) (v14 : Vec Ideal S1x2048 .f32)
    (b : Fin 128) (j : Fin 1024) : k0_pay3 g v4 v7 v11 v14 (ix3 0 b j) = k0_pay1 g v4 v7 v11 v14 (ix2 b ⟨1024 + j.val, by omega⟩) := by
  unfold k0_pay3
  generalize k0_pay1 g v4 v7 v11 v14 = P
  pointwise []

end Cert.Kernel3Ideal.Src

end
-- ==== Proof.Src.Spec.lean ====
/- The source layer's gates as sums over the arguments, and the plain form's result read as those sums. -/
module

public import proofs.«01_k».proof.Proof.Gen.Reference3Ideal.Run
public import proofs.«01_k».proof.Proof.Gen.Reference3Ideal
public import Idealize.ShloMosaic.Lib.Pointwise
public import Idealize.ShloMosaic.Lib.Routing.Ops
public import Idealize.ShloMosaic.Lib.Tactic.CleanTypes

@[expose] public section

set_option maxRecDepth 16384

noncomputable section

namespace Cert.Proof.Source

open Idealize.ShloMosaic Cert.Reference3Ideal Cert.Reference3Ideal.Gen

/-- The source word of row `r`: rows are ordered by position, then by sentence. -/
def wordOf (x0 : IVec S32x64 32) (r : Fin 2048) : BitVec 32 := x0 (ix2 ⟨r.val % 32, Nat.mod_lt _ (by decide)⟩ ⟨r.val / 32, by omega⟩)

/-- Row `n` of the table, put through the linear map. -/
def lin (x1 : FVec Ideal S50265x768 .f32) (x2 : FVec Ideal S512x768 .f32) (x3 : FVec Ideal S512 .f32) (n : Fin 50265) (k : Fin 512) : EReal :=
  (∑ e : Fin 768, (x1 (ix2 n e) : EReal) * x2 (ix2 k e)) + x3 (ix1 k)

/-- A direction's gate `j`, from a hidden row. -/
def gate (h : Fin 512 → EReal) (w : FVec Ideal S1024x512 .f32) (b : FVec Ideal S1024 .f32) (j : Fin 1024) : EReal :=
  (∑ k : Fin 512, h k * w (ix2 j k)) + b (ix1 j)

/-- The row a word names. -/
def rowOf (w : BitVec 32) : Fin 50265 := ⟨w.toNat % 50265, Nat.mod_lt _ (by decide)⟩

/-- Both directions' gates of every row. -/
def gatesOf (x0 : IVec S32x64 32) (x1 : FVec Ideal S50265x768 .f32) (x2 : FVec Ideal S512x768 .f32) (x3 : FVec Ideal S512 .f32)
    (x4 : FVec Ideal S1024x512 .f32) (x5 : FVec Ideal S1024 .f32) (x6 : FVec Ideal S1024x512 .f32) (x7 : FVec Ideal S1024 .f32) :
    FVec Ideal S2x2048x1024 .f32 := fun y =>
  if (y 0).val = 0 then gate (lin x1 x2 x3 (rowOf (wordOf x0 (y 1)))) x4 x5 (y 2) else gate (lin x1 x2 x3 (rowOf (wordOf x0 (y 1)))) x6 x7 (y 2)

/-! ## The plain form -/

theorem toInt_small (k : ℕ) (h : k < 50265) : (BitVec.ofNat 32 k).toInt = k := by
  rw [BitVec.toInt_eq_toNat_of_lt (by rw [BitVec.toNat_ofNat]; omega), BitVec.toNat_ofNat]
  omega

/-- A nonnegative word is not wrapped. -/
theorem wrap_small (n : Fin 50265) (w : BitVec 32) (hw : w = BitVec.ofNat 32 n.val) :
    Scalar.select (IntOp.cmpi .slt w 0#32) (IntOp.addi w 50265#32) w = BitVec.ofNat 32 n.val := by
  subst hw
  have h : ¬ (BitVec.ofNat 32 n.val).slt 0#32 = true := by
    rw [BitVec.slt_iff_toInt_lt, toInt_small _ n.isLt]
    show ¬ (n.val : ℤ) < 0
    omega
  have e : IntOp.cmpi .slt (BitVec.ofNat 32 n.val) 0#32 = 0#1 := by
    show BitVec.ofBool _ = _
    rw [Bool.eq_false_iff.mpr h]
    rfl
  rw [e]
  rfl

local notation "gd" => gather_S50265x768_S32x64x1_S32x64x768_2_0_n_n_0_2_1768

/-- The gathered row of a word in range. -/
theorem gather_at (x : FVec Ideal S50265x768 .f32) (idx : IVec S32x64x1 32) (b : Fin 32) (s : Fin 64) (e : Fin 768) (n : Fin 50265)
    (hb : idx (ix3 b s 0) = BitVec.ofNat 32 n.val) : Host.gather gd x idx (ix3 b s e) = x (ix2 n e) := by
  unfold Host.gather
  refine congrArg x (funext fun a => Fin.ext ?_)
  have hN : ∀ a', a' ∉ (gd).operandBatchingDims := fun a' => List.not_mem_nil
  match a with
  | ⟨0, _⟩ =>
    have hk : (0 : Fin 2) ∉ (gd).sKept := by decide
    have hm : (0 : Fin 2) ∈ (gd).startIndexMap := List.mem_singleton.2 rfl
    show (gd).start (ix3 b s e) idx 0 + (gd).batchCoord (ix3 b s e) 0 + (gd).offCoord (ix3 b s e) 0 = n.val
    rw [(gd).batchCoord_eq_zero _ _ (hN 0), (gd).offCoord_eq_zero _ _ hk]
    simp only [Nat.add_zero]
    unfold GatherDims.start
    rw [dif_pos hm]
    have hsi : (gd).siIdx (ix3 b s e) ⟨(gd).startIndexMap.idxOf 0, List.idxOf_lt_length_iff.2 hm⟩ = ix3 b s 0 := by
      funext b'
      apply Fin.ext
      match b' with
      | ⟨0, _⟩ => rfl
      | ⟨1, _⟩ => rfl
      | ⟨2, _⟩ => rfl
    rw [hsi, hb, toInt_small _ n.isLt]
    have hn := n.isLt
    show min ((n.val : Int)).toNat (50265 - 1) = n.val
    omega
  | ⟨1, _⟩ =>
    have hk : (1 : Fin 2) ∈ (gd).sKept := by decide
    have hm : (1 : Fin 2) ∉ (gd).startIndexMap := by decide
    show (gd).start (ix3 b s e) idx 1 + (gd).batchCoord (ix3 b s e) 1 + (gd).offCoord (ix3 b s e) 1 = e.val
    rw [(gd).batchCoord_eq_zero _ _ (hN 1), Nat.add_zero]
    unfold GatherDims.start GatherDims.offCoord
    rw [dif_neg hm, dif_pos hk, Nat.zero_add]
    rfl

/-- The words, wrapped, as a column of start indices. -/
def starts (x0 : IVec S32x64 32) : IVec S32x64x1 32 :=
  broadcastInDim S32x64x1 ![0, 1] bcast_S32x64_S32x64x1_0_1 (select (cmpi .slt x0 (broadcastInDim S32x64 ![] bcast_S_S32x64 (constantI S_ 32 0#32)))
    (addi x0 (broadcastInDim S32x64 ![] bcast_S_S32x64 (constantI S_ 32 50265#32))) x0)

theorem starts_at (x0 : IVec S32x64 32) (b : Fin 32) (s : Fin 64) :
    starts x0 (ix3 b s 0) = Scalar.select (IntOp.cmpi .slt (x0 (ix2 b s)) 0#32) (IntOp.addi (x0 (ix2 b s)) 50265#32) (x0 (ix2 b s)) := by
  pointwise [starts]

/-- The hidden rows. -/
def refLin (x : FVec Ideal S32x64x768 .f32) (x2 : FVec Ideal S512x768 .f32) (x3 : FVec Ideal S512 .f32) : FVec Ideal S32x64x512 .f32 :=
  addf (Host.dotGeneral dot_S32x64x768_S768x512_S32x64x512_2_0_01_1_n_n none x (transpose S768x512 [1, 0] x2 transposes_S512x768_S768x512_1_0))
    (broadcastInDim S32x64x512 ![0, 1, 2] bcast_S1x1x512_S32x64x512_0_1_2 (broadcastInDim S1x1x512 ![2] bcast_S512_S1x1x512_2 x3))

theorem refLin_at (x : FVec Ideal S32x64x768 .f32) (x2 : FVec Ideal S512x768 .f32) (x3 : FVec Ideal S512 .f32) (b : Fin 32) (s : Fin 64) (k : Fin 512) :
    refLin x x2 x3 (ix3 b s k) = ((∑ e : Fin 768, (x (ix3 b s e) : EReal) * x2 (ix2 k e)) + x3 (ix1 k) : EReal) := by
  pointwise [refLin]

/-- One direction's gates. -/
def refGate (x : FVec Ideal S32x64x512 .f32) (w : FVec Ideal S1024x512 .f32) (v : FVec Ideal S1024 .f32) : FVec Ideal S32x64x1024 .f32 :=
  addf (Host.dotGeneral dot_S32x64x512_S512x1024_S32x64x1024_2_0_01_1_n_n none x (transpose S512x1024 [1, 0] w transposes_S1024x512_S512x1024_1_0))
    (broadcastInDim S32x64x1024 ![0, 1, 2] bcast_S1x1x1024_S32x64x1024_0_1_2 (broadcastInDim S1x1x1024 ![2] bcast_S1024_S1x1x1024_2 v))

theorem refGate_at (x : FVec Ideal S32x64x512 .f32) (w : FVec Ideal S1024x512 .f32) (v : FVec Ideal S1024 .f32) (b : Fin 32) (s : Fin 64) (j : Fin 1024) :
    refGate x w v (ix3 b s j) = gate (fun k => x (ix3 b s k)) w v j := by
  pointwise [refGate, gate]

/-- The two directions stacked, by position and then by sentence. -/
def stack (p q : FVec Ideal S32x64x1024 .f32) : FVec Ideal S2x2048x1024 .f32 :=
  shapeCast S2x2048x1024 (transpose S2x64x32x1024 [0, 2, 1, 3] (concatenate S2x32x64x1024 0
    [⟨S1x32x64x1024, broadcastInDim S1x32x64x1024 ![1, 2, 3] bcast_S32x64x1024_S1x32x64x1024_1_2_3 p⟩,
     ⟨S1x32x64x1024, broadcastInDim S1x32x64x1024 ![1, 2, 3] bcast_S32x64x1024_S1x32x64x1024_1_2_3 q⟩]
    concatenates_S1x32x64x1024_S1x32x64x1024_S2x32x64x1024_d0) transposes_S2x32x64x1024_S2x64x32x1024_0_2_1_3) shapeCasts_S2x64x32x1024_S2x2048x1024

theorem stack_at (p q : FVec Ideal S32x64x1024 .f32) (d : Fin 2) (r : Fin 2048) (j : Fin 1024) :
    stack p q (ix3 d r j) = if d.val = 0 then p (ix3 ⟨r.val % 32, Nat.mod_lt _ (by decide)⟩ ⟨r.val / 32, by omega⟩ j)
      else q (ix3 ⟨r.val % 32, Nat.mod_lt _ (by decide)⟩ ⟨r.val / 32, by omega⟩ j) := by
  pointwise [stack]
  by_cases h : d.val = 0
  · rw [dif_pos (show d.val < 1 by omega), if_pos h]
  · rw [dif_neg (show ¬ d.val < 1 by omega), if_neg h]

theorem word_eq (x0 : IVec S32x64 32) (h : ∀ b s, (x0 (ix2 b s) : BitVec 32).toNat < 50265) (b : Fin 32) (s : Fin 64) :
    starts x0 (ix3 b s 0) = BitVec.ofNat 32 (rowOf (x0 (ix2 b s))).val := by
  rw [starts_at]
  refine wrap_small _ _ ?_
  show x0 (ix2 b s) = BitVec.ofNat 32 ((x0 (ix2 b s) : BitVec 32).toNat % 50265)
  rw [Nat.mod_eq_of_lt (h b s), BitVec.ofNat_toNat, BitVec.setWidth_eq]

/-- The plain form's result: the gates, where the words are in range. -/
theorem stacked (x0 : IVec S32x64 32) (x1 : FVec Ideal S50265x768 .f32) (x2 : FVec Ideal S512x768 .f32) (x3 : FVec Ideal S512 .f32)
    (x4 : FVec Ideal S1024x512 .f32) (x5 : FVec Ideal S1024 .f32) (x6 : FVec Ideal S1024x512 .f32) (x7 : FVec Ideal S1024 .f32)
    (h : ∀ b s, (x0 (ix2 b s) : BitVec 32).toNat < 50265) :
    stack (refGate (refLin (Host.gather gd x1 (starts x0)) x2 x3) x4 x5) (refGate (refLin (Host.gather gd x1 (starts x0)) x2 x3) x6 x7)
      = gatesOf x0 x1 x2 x3 x4 x5 x6 x7 := by
  have hl : ∀ (b : Fin 32) (s : Fin 64) (k : Fin 512), refLin (Host.gather gd x1 (starts x0)) x2 x3 (ix3 b s k) = lin x1 x2 x3 (rowOf (x0 (ix2 b s))) k := by
    intro b s k
    rw [refLin_at]
    unfold lin
    exact congrArg (· + (x3 (ix1 k) : EReal)) (Finset.sum_congr rfl fun e _ => congrArg (fun v : EReal => v * x2 (ix2 k e))
      (gather_at x1 (starts x0) b s e _ (word_eq x0 h b s)))
  have hg : ∀ (w : FVec Ideal S1024x512 .f32) (v : FVec Ideal S1024 .f32) (b : Fin 32) (s : Fin 64) (j : Fin 1024),
      refGate (refLin (Host.gather gd x1 (starts x0)) x2 x3) w v (ix3 b s j) = gate (lin x1 x2 x3 (rowOf (x0 (ix2 b s)))) w v j := by
    intro w v b s j
    rw [refGate_at]
    exact congrArg (fun f => gate f w v j) (funext fun k => hl b s k)
  funext y
  obtain ⟨d, r, j, rfl⟩ : ∃ (d : Fin 2) (r : Fin 2048) (j : Fin 1024), y = ix3 d r j := ⟨y 0, y 1, y 2, by funext a; fin_cases a <;> rfl⟩
  rw [stack_at, hg, hg]
  rfl

end Cert.Proof.Source

end
-- ==== Proof.Src.Value.lean ====
/- What the source layer's array holds after the run: the gates of every row. -/
module

public import proofs.«01_k».proof.Proof.Src.Host
public import proofs.«01_k».proof.Proof.Src.Spec

@[expose] public section

set_option maxRecDepth 16384

noncomputable section

namespace Cert.Kernel3Ideal.Src

open Cert.Kernel3Ideal Cert.Kernel3Ideal.Gen
open Idealize.ShloMosaic Cert.Proof.Source
open Idealize.ShloMosaic.TcCoe
open Idealize.ShloMosaic.Pipeline
open Idealize.ShloMosaic.StableHlo (after)

/-- A gathered entry, where the words are the arguments' by position and then by sentence. -/
theorem gatherV_at (i : grid0.Coords) (v0 : Vec Ideal S2048 .i32) (v1 : Vec Ideal S50265x768 .f32) (x0 : IVec S32x64 32) (x1 : FVec Ideal S50265x768 .f32)
    (h0 : ∀ (s : Fin 64) (b : Fin 32), (v0 (ix1 ⟨32 * s.val + b.val, by omega⟩) : BitVec 32) = x0 (ix2 b s))
    (h1 : ∀ n e, v1 (ix2 n e) = x1 (ix2 n e)) (b : Fin 128) (r : Fin 2048) (hr : r.val = 128 * (i 0).val + b.val) (e : Fin 768) :
    gatherV i v0 v1 (ix2 b e) = x1 (ix2 (rowOf (wordOf x0 r)) e) := by
  have hw : (v0 (ix1 r) : BitVec 32) = wordOf x0 r := by
    have e : (ix1 r : S2048.Idx) = ix1 ⟨32 * (r.val / 32) + r.val % 32, by omega⟩ := congrArg ix1 (Fin.ext (Nat.div_add_mod r.val 32).symm)
    rw [e]
    exact h0 ⟨r.val / 32, by omega⟩ ⟨r.val % 32, by omega⟩
  unfold gatherV
  refine (h1 _ _).trans ?_
  refine congrArg (fun n : Fin 50265 => x1 (ix2 n e)) (Fin.ext ?_)
  rw [← hw]
  exact congrArg (fun n : Fin 2048 => (v0 (ix1 n) : BitVec 32).toNat % 50265) (Fin.ext hr.symm)

/-- A direction's gate, where each operand is read off an argument. -/
theorem pay_of (g : Vec Ideal S128x768 .f32) (v4 : Vec Ideal S768x512 .f32) (v7 : Vec Ideal S1x512 .f32) (v11 : Vec Ideal S512x2048 .f32) (v14 : Vec Ideal S1x2048 .f32)
    (x1 : FVec Ideal S50265x768 .f32) (x2 : FVec Ideal S512x768 .f32) (x3 : FVec Ideal S512 .f32) (w : FVec Ideal S1024x512 .f32) (v : FVec Ideal S1024 .f32)
    (b : Fin 128) (n : Fin 50265) (j : Fin 1024) (o : Fin 2048)
    (hg : ∀ e, g (ix2 b e) = x1 (ix2 n e)) (h4 : ∀ e k, v4 (ix2 e k) = x2 (ix2 k e)) (h7 : ∀ k, v7 (ix2 0 k) = x3 (ix1 k))
    (h11 : ∀ k, v11 (ix2 k o) = w (ix2 j k)) (h14 : v14 (ix2 0 o) = v (ix1 j)) :
    k0_pay1 g v4 v7 v11 v14 (ix2 b o) = gate (lin x1 x2 x3 n) w v j := by
  rw [pay1_at]
  unfold gate lin
  exact congrArg₂ (fun x y : EReal => x + y) (Finset.sum_congr rfl fun k _ => congrArg₂ (fun x y : EReal => x * y)
    (congrArg₂ (fun x y : EReal => x + y) (Finset.sum_congr rfl fun e _ => congrArg₂ (fun x y : EReal => x * y) (hg e) (h4 e k)) (h7 k)) (h11 k)) h14

variable (m : (ℓ : Loc nD τ sig) → Buf (Elt Ideal) ℓ)

/-- The gates of the run's arguments. -/
abbrev gatesAt (c : Dev nD) : FVec Ideal S2x2048x1024 .f32 :=
  gatesOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem rows_at (c : Dev nD) (t : Fin cfg0.N) (b : Fin 128) (r : Fin 2048) (hr : r.val = 128 * (grid0.coords t 0).val + b.val) (e : Fin 768) :
    gatherV (grid0.coords t) (iblk m c 0 t) (V m c main_arg1) (ix2 b e)
      = (m ((c : Thread nD τ).loc main_arg1) : FVec Ideal S50265x768 .f32) (ix2 (rowOf (wordOf (m ((c : Thread nD τ).loc main_arg0)) r)) e) :=
  gatherV_at (grid0.coords t) (iblk m c 0 t) (V m c main_arg1) _ _
    (fun s b => (blk0_eq m c t _).trans (V_tok m c s b)) (fun n e => congrFun (V_main_arg1 m c) _) b r hr e

theorem out_at (c : Dev nD) (t : Fin cfg0.N) (d : Fin 2) (b : Fin 128) (j : Fin 1024) (r : Fin 2048) (hr : r.val = 128 * (grid0.coords t 0).val + b.val) :
    outAt m c t (ix3 d b j) = gatesAt m c (ix3 d r j) := by
  unfold outAt gatesV gatesAt gatesOf
  by_cases h : d.val = 0
  · refine (if_pos h).trans (((pay2_at _ _ _ _ _ b j).trans ?_).trans (if_pos h).symm)
    exact pay_of _ _ _ _ _ _ _ _ _ _ _ _ _ _ (rows_at m c t b r hr)
      (fun e k => (blk1_eq m c t _).trans (wt_at (fun b => m (c, b)) e k))
      (fun k => (blk2_eq m c t _).trans (bt_at (fun b => m (c, b)) k))
      (fun k => (blk3_eq m c t _).trans (wf_at (fun b => m (c, b)) k j))
      ((blk4_eq m c t _).trans (bf_at (fun b => m (c, b)) j))
  · refine (if_neg h).trans (((pay3_at _ _ _ _ _ b j).trans ?_).trans (if_neg h).symm)
    exact pay_of _ _ _ _ _ _ _ _ _ _ _ _ _ _ (rows_at m c t b r hr)
      (fun e k => (blk1_eq m c t _).trans (wt_at (fun b => m (c, b)) e k))
      (fun k => (blk2_eq m c t _).trans (bt_at (fun b => m (c, b)) k))
      (fun k => (blk3_eq m c t _).trans (wb_at (fun b => m (c, b)) k j))
      ((blk4_eq m c t _).trans (bb_at (fun b => m (c, b)) j))

theorem idx5 : ∀ t : Fin grid0.N, win0_5.index t = ![0, (grid0.coords t 0).val, 0] := by decide +kernel

/-- The array after the run. -/
theorem array (c : Dev nD) : (dats m 0 c).arrAt 5 (cfgs 0).N = gatesAt m c := by
  refine (dats m 0 c).arrAt_eq_of_covers 5 _ (by decide +kernel) fun t hf y => ?_
  blk_simp
  rw [after0_5]
  obtain ⟨d, b, j, rfl⟩ : ∃ (d : Fin 2) (b : Fin 128) (j : Fin 1024), y = ix3 d b j := ⟨y 0, y 1, y 2, by funext a; fin_cases a <;> rfl⟩
  have hi := coord_lt (grid0.coords t)
  refine (out_at m c t d b j ⟨128 * (grid0.coords t 0).val + b.val, by omega⟩ rfl).trans ?_
  refine congrArg (gatesAt m c) ?_
  blk_ext [idx5 t]

end Cert.Kernel3Ideal.Src

end
-- ==== Proof.Enc.Steps.lean ====
module

public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import Idealize.ShloMosaic.Lib.Pointwise
public import Idealize.ShloMosaic.Lib.VecWindow
public import Idealize.ShloMosaic.Lib.Pipeline.FrameBody
public import Idealize.ShloMosaic.Lib.Ring
public import Idealize.ShloMosaic.Lib.Tactic

@[expose] public section

noncomputable section

namespace Cert.Kernel5Ideal.Enc

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## One direction's recurrence, over vectors -/

theorem trips1 : k0_t1_loop.trips = 64 := by decide +kernel

/-- The position a direction's step `k` reads, and the step that reads position `k`. -/
def pos (i : grid0.Coords) (k : ℕ) : ℕ := if (i 0).val = 0 then k else 63 - k

theorem pos_pos (i : grid0.Coords) (k : ℕ) (h : k < 64) : pos i (pos i k) = k := by unfold pos; split <;> omega
theorem pos_lt (i : grid0.Coords) (k : ℕ) (h : k < 64) : pos i k < 64 := by unfold pos; split <;> omega

/-- Step `k` as a trip of the loop. -/
def tr (k : ℕ) : Fin k0_t1_loop.trips := ⟨k % 64, by rw [trips1]; exact Nat.mod_lt _ (by decide)⟩

theorem tr_val (k : Fin k0_t1_loop.trips) : tr k.val = k :=
  Fin.ext (Nat.mod_eq_of_lt (lt_of_lt_of_eq k.isLt trips1))

variable (i : grid0.Coords) (g : Vec F S1x64x32x1024 .f32) (w : Vec F S1x256x1024 .f32) (l : Vec F S32x1 .i32)

/-- The gates' share step `k` reads. -/
def slab (k : ℕ) : Vec F S1x1x32x1024 .f32 := fun y => g (ix4 0 ⟨pos i k % 64, Nat.mod_lt _ (by decide)⟩ (y 2) (y 3))

/-- The hidden and the cell state before step `k`. -/
def state : ℕ → FVec F S32x256 .f32 × FVec F S32x256 .f32
  | 0 => (k0_pay1, k0_pay1)
  | k + 1 => (k0_pay7 i w l (tr k) (state k).1 (state k).2 (slab i g k), k0_pay8 i w l (tr k) (state k).1 (state k).2 (slab i g k))

/-- What step `k` writes. -/
def row (k : ℕ) : FVec F S1x1x32x256 .f32 := k0_pay6 i w l (tr k) (state i g w l k).1 (state i g w l k).2 (slab i g k)

/-- Every step's row at the position it reads. -/
def encV : Vec F S1x64x32x256 .f32 := fun y => row i g w l (pos i (y 1).val) (ix4 0 0 (y 2) (y 3))

variable (c : Dev nD) (arg1 : Memref sig .tc .vmem S1x64x32x1024 .f32) (harg1 : arg1.IsWhole) (arg2 : Memref sig .tc .vmem S1x256x1024 .f32) (harg2 : arg2.IsWhole)
  (arg3 : Memref sig .tc .vmem S32x1 .i32) (harg3 : arg3.IsWhole) (arg4 : Memref sig .tc .vmem S1x64x32x256 .f32) (harg4 : arg4.IsWhole)
  (arg5 : Memref sig .tc .vmem S1x32x256 .f32) (harg5 : arg5.IsWhole) (arg6 : Memref sig .tc .vmem S1x32x256 .f32) (harg6 : arg6.IsWhole)
  (f1 : BufTy.Contents (Elt F) arg1.view.ty)

theorem read_slab (k : Fin k0_t1_loop.trips) :
    arg1.view.readAt (Elt F) (Rect.unit (s := S1x64x32x1024) (k0_off1 i k) S1x1x32x1024.size (k0_off1_inb i k)).toLoadRect f1
      = slab i (arg1.view.read (Elt F) f1) k.val := by
  have hk := lt_of_lt_of_eq k.isLt trips1
  have hp := pos_lt i k.val hk
  funext y
  have h0 : k0_off1 i k 0 = 0 := by rw [k0_off1_eq]; rfl
  have h1 : k0_off1 i k 1 = pos i k.val := by rw [k0_off1_eq]; rfl
  have h2 : k0_off1 i k 2 = 0 := by rw [k0_off1_eq]; rfl
  have h3 : k0_off1 i k 3 = 0 := by rw [k0_off1_eq]; rfl
  have y0 : (y 0).val < 1 := (y 0).isLt
  have y1 : (y 1).val < 1 := (y 1).isLt
  refine congrArg (arg1.view.read (Elt F) f1) (funext fun a => Fin.ext ?_)
  match a with
  | 0 => show k0_off1 i k 0 + 1 * (y 0).val = 0; omega
  | 1 =>
    show k0_off1 i k 1 + 1 * (y 1).val = pos i k.val % 64
    rw [Nat.mod_eq_of_lt hp]; omega
  | 2 => show k0_off1 i k 2 + 1 * (y 2).val = (y 2).val; omega
  | 3 => show k0_off1 i k 3 + 1 * (y 3).val = (y 3).val; omega

theorem row_written (k : Fin k0_t1_loop.trips) (f4 : BufTy.Contents (Elt F) arg4.view.ty) (x : Vec F S1x1x32x256 .f32) (v : Vec F S1x64x32x256 .f32)
    (hf : ∀ y : S1x64x32x256.Idx, pos i (y 1).val < k.val → arg4.view.read (Elt F) f4 y = v y)
    (hw : ∀ y : S1x64x32x256.Idx, pos i (y 1).val = k.val → x (ix4 0 0 (y 2) (y 3)) = v y) :
    ∀ y : S1x64x32x256.Idx, pos i (y 1).val < k.val + 1 →
      arg4.view.read (Elt F) (arg4.view.writes (Elt F) f4 [⟨Rect.unit (s := S1x64x32x256) (k0_off2 i k) S1x1x32x256.size (k0_off2_inb i k), x⟩]) y = v y := by
  have hk := lt_of_lt_of_eq k.isLt trips1
  have h0 : k0_off2 i k 0 = 0 := by rw [k0_off2_eq]; rfl
  have h1 : k0_off2 i k 1 = pos i k.val := by rw [k0_off2_eq]; rfl
  have h2 : k0_off2 i k 2 = 0 := by rw [k0_off2_eq]; rfl
  have h3 : k0_off2 i k 3 = 0 := by rw [k0_off2_eq]; rfl
  intro y hy
  have y0 : (y 0).val < 1 := (y 0).isLt
  have y1 : (y 1).val < 64 := (y 1).isLt
  rcases Nat.lt_or_ge (pos i (y 1).val) k.val with hl | hl
  · rw [View.writes_cons, View.read_slice_write_of_not_mem]
    · exact hf y hl
    · intro hm
      obtain ⟨z, -, hz⟩ := Finset.mem_map.1 hm
      have h4 : k0_off2 i k 1 + 1 * (z 1).val = (y 1).val := congrArg (fun z : S1x64x32x256.Idx => (z 1).val) hz
      have z1 : (z 1).val < 1 := (z 1).isLt
      have h5 : (y 1).val = pos i k.val := by omega
      rw [h5, pos_pos i _ hk] at hl
      omega
  · have hk2 : pos i (y 1).val = k.val := by omega
    have h5 : (y 1).val = pos i k.val := by rw [← hk2, pos_pos i _ y1]
    have hy : (Rect.unit (s := S1x64x32x256) (k0_off2 i k) S1x1x32x256.size (k0_off2_inb i k)).emb (ix4 0 0 (y 2) (y 3) : S1x1x32x256.Idx) = y := by
      funext a
      refine Fin.ext ?_
      match a with
      | 0 => show k0_off2 i k 0 + 1 * 0 = (y 0).val; omega
      | 1 => show k0_off2 i k 1 + 1 * 0 = (y 1).val; omega
      | 2 => show k0_off2 i k 2 + 1 * (y 2).val = (y 2).val; omega
      | 3 => show k0_off2 i k 3 + 1 * (y 3).val = (y 3).val; omega
    exact (congrArg _ hy.symm).trans ((View.read_writes_cons_emb _ _ _ _ _ _).trans (hw y hk2))

/-- Before step `k`: the state so far, and the rows of the steps before it written. -/
def stepsAt (k : ℕ) (acc : FVec F S32x256 .f32 × FVec F S32x256 .f32) : sProp 𝕄 :=
  iprop((arg1.view.loc (c : Thread nD τ) ↦[arg1.view.set]{fullShare} f1)
    ∗ ⌜acc = state i (arg1.view.read (Elt F) f1) w l k⌝
    ∗ (∃ f4, (arg4.view.loc (c : Thread nD τ) ↦[arg4.view.set]{fullShare} f4)
      ∗ ⌜∀ y : S1x64x32x256.Idx, pos i (y 1).val < k → arg4.view.read (Elt F) f4 y = encV i (arg1.view.read (Elt F) f1) w l y⌝))

theorem steps_step (k : Fin k0_t1_loop.trips) (acc : FVec F S32x256 .f32 × FVec F S32x256 .f32) :
    stepsAt i w l c arg1 arg4 f1 k acc
    ⊢ wp frame (wpE (defs₀ (F := F)) Variants.none (c : Thread nD τ) none) Set.univ
        (k0_t1_body i arg1 harg1 arg2 harg2 arg3 harg3 arg4 harg4 arg5 harg5 arg6 harg6 w l k acc)
        (stepsAt i w l c arg1 arg4 f1 (k.val + 1)) := by
  unfold stepsAt
  unfold k0_t1_body
  iintro ⟨H1, %hacc, ⟨%f4, H4, %hf⟩⟩
  sl_exec
  sl_step
  isplitl [H1]; · iexact H1
  subst hacc
  rw [read_slab i arg1 f1 k]
  isplitr
  · ipureintro
    refine Eq.symm (Eq.trans (by rw [state]) ?_)
    rw [tr_val]
  iexists _
  isplitl [H4]; · iexact H4
  ipureintro
  refine row_written i arg4 k f4 _ _ hf fun y hy => ?_
  unfold encV row
  rw [hy, tr_val]

/-- A point's run: the operands as they were, the results at the recurrence's rows and last state. -/
theorem run_owns (x1 : Vec F S1x64x32x1024 .f32) (x2 : Vec F S1x256x1024 .f32) (x3 : Vec F S32x1 .i32)
    (x4 : Vec F S1x64x32x256 .f32) (x5 x6 : Vec F S1x32x256 .f32) :
    (iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6) : sProp 𝕄)
    ⊢ wp frame (wpE (defs₀ (F := F)) Variants.none (c : Thread nD τ) none) Set.univ (cc0_bilstm_encoder i arg1 harg1 arg2 harg2 arg3 harg3 arg4 harg4 arg5 harg5 arg6 harg6)
      (fun _ => iprop(owns (c : Thread nD τ) arg1 fullShare x1 ∗ owns (c : Thread nD τ) arg2 fullShare x2 ∗ owns (c : Thread nD τ) arg3 fullShare x3
      ∗ owns (c : Thread nD τ) arg4 fullShare (encV i x1 x2 x3) ∗ owns (c : Thread nD τ) arg5 fullShare (k0_pay9 (state i x1 x2 x3 64).1) ∗ owns (c : Thread nD τ) arg6 fullShare (k0_pay10 (state i x1 x2 x3 64).2))) := by
  unfold owns
  iintro ⟨⟨%e1, %h1, H1⟩, ⟨%e2, %h2, H2⟩, ⟨%e3, %h3, H3⟩, ⟨%e4, -, H4⟩, ⟨%e5, -, H5⟩, ⟨%e6, -, H6⟩⟩
  sl_unfold [cc0_bilstm_encoder]
  sl_respell [cc0_bilstm_encoder_skel]
  sl_exec
  have r2 : arg2.view.readAt (Elt F) (Rect.unit (s := S1x256x1024) ![0, 0, 0] S1x256x1024.size inb_S1x256x1024_S1x256x1024_0_0_0).toLoadRect e2 = x2 := (View.readAt_full ..).trans h2
  have r3 : arg3.view.readAt (Elt F) (Rect.unit (s := S32x1) ![0, 0] S32x1.size inb_S32x1_S32x1_0_0).toLoadRect e3 = x3 := (View.readAt_full ..).trans h3
  rw [r2, r3]
  sl_for (stepsAt i x2 x3 c arg1 arg4 e1) $$ [H1 H4]
  · intro k acc; exact steps_step i x2 x3 c arg1 harg1 arg2 harg2 arg3 harg3 arg4 harg4 arg5 harg5 arg6 harg6 e1 k acc
  · unfold stepsAt
    isplitl [H1]; · iexact H1
    isplitr; · ipureintro; rfl
    iexists e4
    isplitl [H4]; · iexact H4
    ipureintro
    exact fun y hy => absurd hy (Nat.not_lt_zero _)
  iintro %acc HI
  ihave HI2 := (show stepsAt i x2 x3 c arg1 arg4 e1 k0_t1_loop.trips acc ⊢ stepsAt i x2 x3 c arg1 arg4 e1 64 acc from by rw [trips1]) $$ HI
  unfold stepsAt
  icases HI2 with ⟨H1, %hacc, ⟨%f4, H4, %hf⟩⟩
  sl_exec
  sl_step
  isplitl [H1]
  · iexists e1; isplitr; · ipureintro; exact h1
    iexact H1
  isplitl [H2]
  · iexists e2; isplitr; · ipureintro; exact h2
    iexact H2
  isplitl [H3]
  · iexists e3; isplitr; · ipureintro; exact h3
    iexact H3
  isplitl [H4]
  · iexists f4; isplitr
    · ipureintro
      rw [← h1]
      exact funext fun y => hf y (pos_lt i _ (y 1).isLt)
    iexact H4
  isplitl [H5]
  · iexists _; isplitr
    swap; · iexact H5
    ipureintro
    rw [← h1, ← hacc]
    exact View.read_writes_full ..
  iexists _; isplitr
  swap; · iexact H6
  ipureintro
  rw [← h1, ← hacc]
  exact View.read_writes_full ..

end Cert.Kernel5Ideal.Enc

end
-- ==== Proof.Enc.Frame.lean ====
module

public import proofs.«01_k».proof.Proof.Enc.Steps
public import Idealize.ShloMosaic.Lib.Pipeline.FrameBody
public import Idealize.ShloMosaic.Lib.Claim
public import Idealize.ShloMosaic.Lib.Ring
public import Idealize.ShloMosaic.Lib.Tactic

@[expose] public section

noncomputable section

namespace Cert.Kernel5Ideal.Enc

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call -/

/-- The buffers' contents at the call: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [List.Forall]
    repeat' apply And.intro
    all_goals exact fun hm => StableHlo.devRef_ne_of_ne (by decide) (Finset.mem_singleton.mp hm)))
theorem V_main_arg1 (c : Dev nD) : V m c main_arg1 = m ((c : Thread nD τ).loc main_arg1) :=
  StableHlo.after_of_forall_not_mem (b := Proc.devRef .tc main_arg1) _ _ (List.forall_iff_forall_mem.mp (by
    simp only [List.Forall]
    repeat' apply And.intro
    all_goals exact fun hm => StableHlo.devRef_ne_of_ne (by decide) (Finset.mem_singleton.mp hm)))
theorem V_main_arg2 (c : Dev nD) : V m c main_arg2 = m ((c : Thread nD τ).loc main_arg2) :=
  StableHlo.after_of_forall_not_mem (b := Proc.devRef .tc main_arg2) _ _ (List.forall_iff_forall_mem.mp (by
    simp only [List.Forall]
    repeat' apply And.intro
    all_goals exact fun hm => StableHlo.devRef_ne_of_ne (by decide) (Finset.mem_singleton.mp hm)))
theorem V_main_arg3 (c : Dev nD) : V m c main_arg3 = m ((c : Thread nD τ).loc main_arg3) :=
  StableHlo.after_of_forall_not_mem (b := Proc.devRef .tc main_arg3) _ _ (List.forall_iff_forall_mem.mp (by
    simp only [List.Forall]
    repeat' apply And.intro
    all_goals exact fun hm => StableHlo.devRef_ne_of_ne (by decide) (Finset.mem_singleton.mp hm)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The results' blocks at point `t`: a direction's rows, its last hidden state and its last cell state. -/
def rowsAt (c : Dev nD) (t : Fin cfg0.N) : Vec F S1x64x32x256 .f32 :=
  encV (grid0.coords t) (iblk m c 0 t) (iblk m c 1 t) (iblk m c 2 t)
def hidAt (c : Dev nD) (t : Fin cfg0.N) : Vec F S1x32x256 .f32 :=
  k0_pay9 (state (grid0.coords t) (iblk m c 0 t) (iblk m c 1 t) (iblk m c 2 t) 64).1
def cellAt (c : Dev nD) (t : Fin cfg0.N) : Vec F S1x32x256 .f32 :=
  k0_pay10 (state (grid0.coords t) (iblk m c 0 t) (iblk m c 1 t) (iblk m c 2 t) 64).2

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rowsAt m c t
    | ⟨4, _⟩ => hidAt m c t
    | ⟨5, _⟩ => cellAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rowsAt m c t := by dsimp only [dats]
theorem after0_4 (c : Dev nD) (t : Fin cfg0.N) : (dats m 0 c).after 4 t = hidAt m c t := by dsimp only [dats]
theorem after0_5 (c : Dev nD) (t : Fin cfg0.N) : (dats m 0 c).after 5 t = cellAt m c t := by dsimp only [dats]
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d

theorem defs₀_row (t : Fin cfg0.N) :
    defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HS, HW, ⟨%d0, H0⟩, ⟨%d1, H1⟩, ⟨%d2, H2⟩, ⟨%d3, H3⟩, ⟨%d4, H4⟩, ⟨%d5, H5⟩⟩
  iapply (wp_wand_r frame (wpE (defs₀ (F := F)) Variants.none (c : Thread nD τ) none) Set.univ (Q := _))
  isplitr [HS HW]
  · iapply (run_owns (grid0.coords t) c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5))
      (iblk m c 0 t) (iblk m c 1 t) (iblk m c 2 t) _ _ _)
    isplitl [H0]; · iexact H0
    isplitl [H1]; · iexact H1
    isplitl [H2]; · iexact H2
    isplitl [H3]; · iexact H3
    isplitl [H4]; · iexact H4
    iexact H5
  iintro %u ⟨H0, H1, H2, H3, H4, H5⟩
  isplitl [HS]; · iexact HS
  isplitl [HW]; · iexact HW
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the argument arrays as they were, the results' arrays at what the write-backs left, and every
    semaphore counter at zero. -/
theorem outcome : θ_run defs (onTc (τ := τ) (main (F := F))) ⟨m, fun _ => 0, ρ⟩ (fun r => (∀ c : Dev nD,
      r.2.mem ((c.tc : Thread nD τ).loc main_v7_0) = (dats m 0 c).arrAt 3 (cfgs 0).N
      ∧ r.2.mem ((c.tc : Thread nD τ).loc main_v7_1) = (dats m 0 c).arrAt 4 (cfgs 0).N
      ∧ r.2.mem ((c.tc : Thread nD τ).loc main_v7_2) = (dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r (h : _ ∧ _) => ⟨fun c => ⟨(h.1 c).1 3, (h.1 c).1 4, (h.1 c).1 5,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩) (run_main m ρ)

end Cert.Kernel5Ideal.Enc

end
-- ==== Proof.Enc.Spec.lean ====
/- One direction of a masked recurrent encoder, and its sixty-four steps, over plain functions of indices. -/
module

public import Idealize.ShloMosaic.Lib.Pointwise

@[expose] public section

noncomputable section

namespace Cert.Proof.Encoder

open Idealize.ShloMosaic

/-- A batch of rows of 256. -/
abbrev Rows := Fin 32 → Fin 256 → EReal
/-- A batch of four gates of 256 each. -/
abbrev Gates := Fin 32 → Fin 1024 → EReal

/-- The gates before their nonlinearities. -/
def pre (g : Gates) (w : Fin 1024 → Fin 256 → EReal) (h : Rows) (b : Fin 32) (j : Fin 1024) : EReal :=
  g b j + ∑ i : Fin 256, h b i * w j i

/-- The new cell state. -/
def newC (g : Gates) (w : Fin 1024 → Fin 256 → EReal) (h c : Rows) : Rows := fun b d =>
  Ideal.logistic (pre g w h b ⟨256 + d.val, by omega⟩) * c b d
    + Ideal.logistic (pre g w h b ⟨d.val, by omega⟩) * Ideal.tanh (pre g w h b ⟨512 + d.val, by omega⟩)

/-- The new hidden state. -/
def newH (g : Gates) (w : Fin 1024 → Fin 256 → EReal) (h c : Rows) : Rows := fun b d =>
  Ideal.logistic (pre g w h b ⟨768 + d.val, by omega⟩) * Ideal.tanh (newC g w h c b d)

/-- The first batch of rows where a sentence reaches, the second elsewhere. -/
def hold (v : Fin 32 → BitVec 1) (x y : Rows) : Rows := fun b d => Scalar.select (v b) (x b d) (y b d)

/-- Rows of zeros. -/
def zero : Rows := fun _ _ => 0

/-- The hidden and the cell state before step `k`. -/
def traj (g : ℕ → Gates) (v : ℕ → Fin 32 → BitVec 1) (w : Fin 1024 → Fin 256 → EReal) : ℕ → Rows × Rows
  | 0 => (zero, zero)
  | k + 1 => (hold (v k) (newH (g k) w (traj g v w k).1 (traj g v w k).2) (traj g v w k).1,
      hold (v k) (newC (g k) w (traj g v w k).1 (traj g v w k).2) (traj g v w k).2)

/-- What step `k` puts out. -/
def out (g : ℕ → Gates) (v : ℕ → Fin 32 → BitVec 1) (w : Fin 1024 → Fin 256 → EReal) (k : ℕ) : Rows :=
  hold (v k) (newH (g k) w (traj g v w k).1 (traj g v w k).2) zero

/-! ## Read off the arguments -/

/-- The position a direction's step `k` reads: forwards, or backwards. -/
def posn (d : Fin 2) (k : ℕ) : ℕ := if d.val = 0 then k else 63 - k

theorem posn_lt (d : Fin 2) (k : ℕ) (h : k < 64) : posn d k < 64 := by unfold posn; split <;> omega

/-- The row of a position and a sentence. -/
def rowAt (s : Fin 64) (b : Fin 32) : Fin 2048 := ⟨32 * s.val + b.val, by omega⟩

variable (x0 : FVec Ideal ⟨3, ![2, 2048, 1024]⟩ .f32) (x1 x2 : FVec Ideal ⟨2, ![1024, 256]⟩ .f32) (x3 : IVec ⟨1, ![32]⟩ 32)

/-- The gates' share step `k` reads. -/
def gatesOf (d : Fin 2) (k : ℕ) : Gates := fun b j => x0 (ix3 d (rowAt ⟨posn d k % 64, Nat.mod_lt _ (by decide)⟩ b) j)
/-- Whether step `k`'s position lies within each sentence. -/
def maskOf (d : Fin 2) (k : ℕ) : Fin 32 → BitVec 1 := fun b => IntOp.cmpi .slt (BitVec.ofNat 32 (posn d k)) (x3 (ix1 b))
/-- A direction's recurrent matrix. -/
def matOf (d : Fin 2) : Fin 1024 → Fin 256 → EReal := fun j i => if d.val = 0 then x1 (ix2 j i) else x2 (ix2 j i)

/-- A direction's states before step `k`. -/
def stateOf (d : Fin 2) (k : ℕ) : Rows × Rows := traj (gatesOf x0 d) (maskOf x3 d) (matOf x1 x2 d) k

/-- Every position's row, in both directions. -/
def rowsOf : FVec Ideal ⟨4, ![2, 64, 32, 256]⟩ .f32 := fun y =>
  out (gatesOf x0 (y 0)) (maskOf x3 (y 0)) (matOf x1 x2 (y 0)) (posn (y 0) (y 1).val) (y 2) (y 3)
/-- The last hidden states. -/
def hidOf : FVec Ideal ⟨3, ![2, 32, 256]⟩ .f32 := fun y => (stateOf x0 x1 x2 x3 (y 0) 64).1 (y 1) (y 2)
/-- The last cell states. -/
def cellOf : FVec Ideal ⟨3, ![2, 32, 256]⟩ .f32 := fun y => (stateOf x0 x1 x2 x3 (y 0) 64).2 (y 1) (y 2)

end Cert.Proof.Encoder

end
-- ==== Proof.Enc.Value.lean ====
/- What the encoder's arrays hold after the run: both directions' rows, and their last states. -/
module

public import proofs.«01_k».proof.Proof.Enc.Frame
public import proofs.«01_k».proof.Proof.Enc.Spec

@[expose] public section

set_option maxRecDepth 16384

noncomputable section

namespace Cert.Kernel5Ideal.Enc

open Cert.Kernel5Ideal Cert.Kernel5Ideal.Gen
open Idealize.ShloMosaic Cert.Proof.Encoder
open Idealize.ShloMosaic.TcCoe
open Idealize.ShloMosaic.Pipeline
open Idealize.ShloMosaic.StableHlo (after)

/-! ## One step -/

/-- A matrix's entry, as a number. -/
def at2 {a b : ℕ} (x : FVec Ideal ⟨2, ![a, b]⟩ .f32) (i : Fin a) (j : Fin b) : EReal := x (ix2 i j)

theorem pay1_at : at2 (k0_pay1 (F := Ideal)) = zero := by
  funext b d
  unfold at2 zero
  pointwise [k0_pay1]

section

variable (i : grid0.Coords) (w : Vec Ideal S1x256x1024 .f32) (l : Vec Ideal S32x1 .i32) (t : Fin k0_t1_loop.trips) (h c : FVec Ideal S32x256 .f32) (s : Vec Ideal S1x1x32x1024 .f32)
  (G : Gates) (W : Fin 1024 → Fin 256 → EReal) (v : Fin 32 → BitVec 1)
  (hG : ∀ b j, (s (ix4 0 0 b j) : EReal) = G b j) (hW : ∀ e j, (w (ix3 0 e j) : EReal) = W j e) (hv : ∀ b, k0_pay5 (F := Ideal) i l t (ix2 b 0) = v b)

include hG hW in
theorem pay2_at (b : Fin 32) (j : Fin 1024) : k0_pay2 w h s (ix2 b j) = pre G W (at2 h) b j := by
  unfold pre at2
  rw [← hG b j, Finset.sum_congr rfl fun e _ => congrArg (fun x : EReal => (h (ix2 b e) : EReal) * x) (hW e j).symm]
  pointwise [k0_pay2]

include hG hW in
theorem pay3_at : at2 (k0_pay3 w h c s) = newC G W (at2 h) (at2 c) := by
  funext b d
  unfold newC
  rw [← pay2_at w h s G W hG hW, ← pay2_at w h s G W hG hW, ← pay2_at w h s G W hG hW]
  unfold at2 k0_pay3
  generalize k0_pay2 w h s = P
  pointwise []

include hG hW in
theorem pay4_at : at2 (k0_pay4 w h c s) = newH G W (at2 h) (at2 c) := by
  funext b d
  unfold newH
  rw [← pay3_at w h c s G W hG hW, ← pay2_at w h s G W hG hW]
  unfold at2 k0_pay4
  generalize k0_pay2 w h s = P
  generalize k0_pay3 w h c s = Q
  pointwise []

include hG hW hv in
theorem pay6_at (b : Fin 32) (d : Fin 256) : k0_pay6 i w l t h c s (ix4 0 0 b d) = hold v (newH G W (at2 h) (at2 c)) zero b d := by
  unfold hold zero
  rw [← pay4_at w h c s G W hG hW, ← hv b]
  unfold at2 k0_pay6
  generalize k0_pay4 w h c s = P
  generalize k0_pay5 i l t = Q
  pointwise []

include hG hW hv in
theorem pay7_at : at2 (k0_pay7 i w l t h c s) = hold v (newH G W (at2 h) (at2 c)) (at2 h) := by
  funext b d
  unfold hold
  rw [← pay4_at w h c s G W hG hW, ← hv b]
  unfold at2 k0_pay7
  generalize k0_pay4 w h c s = P
  generalize k0_pay5 i l t = Q
  pointwise []

include hG hW hv in
theorem pay8_at : at2 (k0_pay8 i w l t h c s) = hold v (newC G W (at2 h) (at2 c)) (at2 c) := by
  funext b d
  unfold hold
  rw [← pay3_at w h c s G W hG hW, ← hv b]
  unfold at2 k0_pay8
  generalize k0_pay3 w h c s = P
  generalize k0_pay5 i l t = Q
  pointwise []

end

/-- A direction as a grid point's coordinate. -/
def dirOf (i : grid0.Coords) : Fin 2 := ⟨(i 0).val, (i 0).isLt⟩

/-- The position of the loop's step `k`, as a word. -/
theorem word_pos : ∀ (d : Fin 2) (k : Fin 64), Scalar.select (Scalar.cmpi .eq (BitVec.ofNat 32 d.val) 0#32) (Scf.iv 0#32 1#32 k.val) (Scalar.subi 63#32 (Scf.iv 0#32 1#32 k.val))
    = BitVec.ofNat 32 (posn d k.val) := by decide +kernel

theorem pay5_at (i : grid0.Coords) (l : Vec Ideal S32x1 .i32) (k : ℕ) (hk : k < 64) (x3 : IVec S32 32)
    (hl : ∀ b, (l (ix2 b 0) : BitVec 32) = x3 (ix1 b)) (b : Fin 32) : k0_pay5 (F := Ideal) i l (tr k) (ix2 b 0) = maskOf x3 (dirOf i) k b := by
  unfold maskOf
  rw [← hl b, ← word_pos (dirOf i) ⟨k, hk⟩]
  have e : ((tr k : Fin k0_t1_loop.trips) : ℕ) = k := Nat.mod_eq_of_lt hk
  pointwise [k0_pay5]
  rw [e]
  rfl

/-! ## The sixty-four steps -/

section

variable (i : grid0.Coords) (g : Vec Ideal S1x64x32x1024 .f32) (w : Vec Ideal S1x256x1024 .f32) (l : Vec Ideal S32x1 .i32)
  (x0 : FVec Ideal S2x2048x1024 .f32) (x1 x2 : FVec Ideal S1024x256 .f32) (x3 : IVec S32 32)
  (hg : ∀ (s : Fin 64) (b : Fin 32) j, (g (ix4 0 s b j) : EReal) = x0 (ix3 (dirOf i) (rowAt s b) j))
  (hw : ∀ e j, (w (ix3 0 e j) : EReal) = matOf x1 x2 (dirOf i) j e) (hl : ∀ b, (l (ix2 b 0) : BitVec 32) = x3 (ix1 b))

include hg hw hl

theorem state_at (k : ℕ) (hk : k ≤ 64) : at2 (state i g w l k).1 = (stateOf x0 x1 x2 x3 (dirOf i) k).1 ∧ at2 (state i g w l k).2 = (stateOf x0 x1 x2 x3 (dirOf i) k).2 := by
  induction k with
  | zero => exact ⟨pay1_at, pay1_at⟩
  | succ k ih =>
    obtain ⟨e1, e2⟩ := ih (by omega)
    have hG : ∀ b j, (slab i g k (ix4 0 0 b j) : EReal) = gatesOf x0 (dirOf i) k b j := fun b j => hg _ b j
    refine ⟨(pay7_at i w l (tr k) _ _ _ _ _ _ hG hw (pay5_at i l k (by omega) x3 hl)).trans ?_, (pay8_at i w l (tr k) _ _ _ _ _ _ hG hw (pay5_at i l k (by omega) x3 hl)).trans ?_⟩
    · rw [e1, e2]; rfl
    · rw [e1, e2]; rfl

theorem row_at (k : ℕ) (hk : k < 64) (b : Fin 32) (d : Fin 256) :
    row i g w l k (ix4 0 0 b d) = out (gatesOf x0 (dirOf i)) (maskOf x3 (dirOf i)) (matOf x1 x2 (dirOf i)) k b d := by
  obtain ⟨e1, e2⟩ := state_at i g w l x0 x1 x2 x3 hg hw hl k (by omega)
  have hG : ∀ b j, (slab i g k (ix4 0 0 b j) : EReal) = gatesOf x0 (dirOf i) k b j := fun b j => hg _ b j
  unfold row
  refine (pay6_at i w l (tr k) _ _ _ _ _ _ hG hw (pay5_at i l k hk x3 hl) b d).trans ?_
  rw [e1, e2]
  rfl

end

end Cert.Kernel5Ideal.Enc

end
-- ==== Proof.Enc.Host.lean ====
/- What the encoder's operands hold at the call, and the arrays it leaves, over the arguments. -/
module

public import proofs.«01_k».proof.Proof.Enc.Value
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.Kernel5Ideal.Enc

open Cert.Kernel5Ideal Cert.Kernel5Ideal.Gen
open Idealize.ShloMosaic Cert.Proof.Encoder
open Idealize.ShloMosaic.TcCoe
open Idealize.ShloMosaic.Pipeline
open Idealize.ShloMosaic.StableHlo (after)

variable (X : Valuation τ sig (Elt Ideal))

theorem gates_at (d : Fin 2) (s : Fin 64) (b : Fin 32) (j : Fin 1024) : (after hostOps0 X main_v6 : FVec Ideal S2x64x32x1024 .f32) (ix4 d s b j)
    = (X main_arg0 : FVec Ideal S2x2048x1024 .f32) (ix3 d (rowAt s b) j) := by
  unfold hostOps0
  after_reads_at
  exact congrArg (fun n : Fin 2048 => (X main_arg0 : FVec Ideal S2x2048x1024 .f32) (ix3 d n j)) (Fin.ext (by show s.val * 32 + b.val = 32 * s.val + b.val; omega))

theorem mat_at (d : Fin 2) (e : Fin 256) (j : Fin 1024) : (after hostOps0 X main_v4 : FVec Ideal S2x256x1024 .f32) (ix3 d e j)
    = matOf (X main_arg1) (X main_arg2) d j e := by
  unfold hostOps0 matOf
  obtain rfl | rfl : d = 0 ∨ d = 1 := by omega
  · after_reads_at
  · after_reads_at

theorem len_at (b : Fin 32) : (after hostOps0 X main_v5 : IVec S32x1 32) (ix2 b 0) = (X main_arg3 : IVec S32 32) (ix1 b) := by
  unfold hostOps0
  after_reads_at

variable (m : (ℓ : Loc nD τ sig) → Buf (Elt Ideal) ℓ)

theorem idx0 : ∀ t : Fin grid0.N, win0_0.index t = ![(grid0.coords t 0).val, 0, 0, 0] := by decide +kernel
theorem idx1 : ∀ t : Fin grid0.N, win0_1.index t = ![(grid0.coords t 0).val, 0, 0] := by decide +kernel
theorem idx2 : ∀ t : Fin cfg0.N, win0_2.index t = fun _ => 0 := by decide +kernel
theorem idx3 : ∀ t : Fin grid0.N, win0_3.index t = ![(grid0.coords t 0).val, 0, 0, 0] := by decide +kernel
theorem idx4 : ∀ t : Fin grid0.N, win0_4.index t = ![(grid0.coords t 0).val, 0, 0] := by decide +kernel
theorem idx5 : ∀ t : Fin grid0.N, win0_5.index t = ![(grid0.coords t 0).val, 0, 0] := by decide +kernel

theorem blk0_eq (c : Dev nD) (t : Fin cfg0.N) (s : Fin 64) (b : Fin 32) (j : Fin 1024) :
    (iblk m c 0 t : FVec Ideal S1x64x32x1024 .f32) (ix4 0 s b j) = (V m c main_v6 : FVec Ideal S2x64x32x1024 .f32) (ix4 (dirOf (grid0.coords t)) s b j) := by
  blk_point [iblk, V, idx0 t]
  rfl
theorem blk1_eq (c : Dev nD) (t : Fin cfg0.N) (e : Fin 256) (j : Fin 1024) :
    (iblk m c 1 t : FVec Ideal S1x256x1024 .f32) (ix3 0 e j) = (V m c main_v4 : FVec Ideal S2x256x1024 .f32) (ix3 (dirOf (grid0.coords t)) e j) := by
  blk_point [iblk, V, idx1 t]
  rfl
theorem blk2_eq (c : Dev nD) (t : Fin cfg0.N) (y : S32x1.Idx) : (iblk m c 2 t : IVec S32x1 32) y = (V m c main_v5 : IVec S32x1 32) y := by
  blk_point [iblk, V, idx2 t]

section

variable (c : Dev nD) (t : Fin cfg0.N)

theorem gates_blk (s : Fin 64) (b : Fin 32) (j : Fin 1024) : ((iblk m c 0 t : FVec Ideal S1x64x32x1024 .f32) (ix4 0 s b j) : EReal)
    = (m ((c : Thread nD τ).loc main_arg0) : FVec Ideal S2x2048x1024 .f32) (ix3 (dirOf (grid0.coords t)) (rowAt s b) j) :=
  (blk0_eq m c t s b j).trans (gates_at (fun b => m (c, b)) _ s b j)

theorem mat_blk (e : Fin 256) (j : Fin 1024) : ((iblk m c 1 t : FVec Ideal S1x256x1024 .f32) (ix3 0 e j) : EReal)
    = matOf (m ((c : Thread nD τ).loc main_arg1)) (m ((c : Thread nD τ).loc main_arg2)) (dirOf (grid0.coords t)) j e :=
  (blk1_eq m c t e j).trans (mat_at (fun b => m (c, b)) _ e j)

theorem len_blk (b : Fin 32) : ((iblk m c 2 t : IVec S32x1 32) (ix2 b 0) : BitVec 32) = (m ((c : Thread nD τ).loc main_arg3) : IVec S32 32) (ix1 b) :=
  (blk2_eq m c t _).trans (len_at (fun b => m (c, b)) b)

end

/-- The rows of the run's arguments. -/
abbrev rowsFn (c : Dev nD) : FVec Ideal S2x64x32x256 .f32 :=
  rowsOf (m ((c : Thread nD τ).loc main_arg0)) (m ((c : Thread nD τ).loc main_arg1)) (m ((c : Thread nD τ).loc main_arg2)) (m ((c : Thread nD τ).loc main_arg3))
/-- The last hidden states of the run's arguments. -/
abbrev hidFn (c : Dev nD) : FVec Ideal S2x32x256 .f32 :=
  hidOf (m ((c : Thread nD τ).loc main_arg0)) (m ((c : Thread nD τ).loc main_arg1)) (m ((c : Thread nD τ).loc main_arg2)) (m ((c : Thread nD τ).loc main_arg3))
/-- The last cell states of the run's arguments. -/
abbrev cellFn (c : Dev nD) : FVec Ideal S2x32x256 .f32 :=
  cellOf (m ((c : Thread nD τ).loc main_arg0)) (m ((c : Thread nD τ).loc main_arg1)) (m ((c : Thread nD τ).loc main_arg2)) (m ((c : Thread nD τ).loc main_arg3))

theorem rows_at (c : Dev nD) (t : Fin cfg0.N) (s : Fin 64) (b : Fin 32) (e : Fin 256) :
    rowsAt m c t (ix4 0 s b e) = rowsFn m c (ix4 (dirOf (grid0.coords t)) s b e) :=
  row_at (grid0.coords t) _ _ _ _ _ _ _ (gates_blk m c t) (mat_blk m c t) (len_blk m c t) (pos (grid0.coords t) s.val) (pos_lt _ _ s.isLt) b e

theorem pay9_at (x : FVec Ideal S32x256 .f32) (b : Fin 32) (e : Fin 256) : k0_pay9 x (ix3 0 b e) = x (ix2 b e) := by
  pointwise [k0_pay9]
theorem pay10_at (x : FVec Ideal S32x256 .f32) (b : Fin 32) (e : Fin 256) : k0_pay10 x (ix3 0 b e) = x (ix2 b e) := by
  pointwise [k0_pay10]

theorem hid_at (c : Dev nD) (t : Fin cfg0.N) (b : Fin 32) (e : Fin 256) : hidAt m c t (ix3 0 b e) = hidFn m c (ix3 (dirOf (grid0.coords t)) b e) :=
  (pay9_at _ b e).trans (congrFun (congrFun (state_at (grid0.coords t) _ _ _ _ _ _ _ (gates_blk m c t) (mat_blk m c t) (len_blk m c t) 64 (Nat.le_refl _)).1 b) e)

theorem cell_at (c : Dev nD) (t : Fin cfg0.N) (b : Fin 32) (e : Fin 256) : cellAt m c t (ix3 0 b e) = cellFn m c (ix3 (dirOf (grid0.coords t)) b e) :=
  (pay10_at _ b e).trans (congrFun (congrFun (state_at (grid0.coords t) _ _ _ _ _ _ _ (gates_blk m c t) (mat_blk m c t) (len_blk m c t) 64 (Nat.le_refl _)).2 b) e)

/-! ## The arrays after the run -/

theorem array_rows (c : Dev nD) : (dats m 0 c).arrAt 3 (cfgs 0).N = rowsFn m c := by
  refine (dats m 0 c).arrAt_eq_of_covers 3 _ (by decide +kernel) fun t hf y => ?_
  blk_simp
  rw [after0_3]
  obtain ⟨s, b, e, rfl⟩ : ∃ (s : Fin 64) (b : Fin 32) (e : Fin 256), y = ix4 0 s b e :=
    ⟨y 1, y 2, y 3, by funext a; fin_cases a <;> first | rfl | exact Subsingleton.elim (α := Fin 1) _ _⟩
  refine (rows_at m c t s b e).trans ?_
  refine congrArg (rowsFn m c) ?_
  blk_ext [idx3 t]
  rfl

theorem array_hid (c : Dev nD) : (dats m 0 c).arrAt 4 (cfgs 0).N = hidFn m c := by
  refine (dats m 0 c).arrAt_eq_of_covers 4 _ (by decide +kernel) fun t hf y => ?_
  blk_simp
  rw [after0_4]
  obtain ⟨b, e, rfl⟩ : ∃ (b : Fin 32) (e : Fin 256), y = ix3 0 b e :=
    ⟨y 1, y 2, by funext a; fin_cases a <;> first | rfl | exact Subsingleton.elim (α := Fin 1) _ _⟩
  refine (hid_at m c t b e).trans ?_
  refine congrArg (hidFn m c) ?_
  blk_ext [idx4 t]
  rfl

theorem array_cell (c : Dev nD) : (dats m 0 c).arrAt 5 (cfgs 0).N = cellFn m c := by
  refine (dats m 0 c).arrAt_eq_of_covers 5 _ (by decide +kernel) fun t hf y => ?_
  blk_simp
  rw [after0_5]
  obtain ⟨b, e, rfl⟩ : ∃ (b : Fin 32) (e : Fin 256), y = ix3 0 b e :=
    ⟨y 1, y 2, by funext a; fin_cases a <;> first | rfl | exact Subsingleton.elim (α := Fin 1) _ _⟩
  refine (cell_at m c t b e).trans ?_
  refine congrArg (cellFn m c) ?_
  blk_ext [idx5 t]
  rfl

end Cert.Kernel5Ideal.Enc

end
-- ==== Proof.Ref5.Ops.lean ====
/- The plain encoder's operations, stretch by stretch, and its run: a counted loop of sixty-four trips. -/
module

public import proofs.«01_k».proof.Proof.Gen.Reference5Ideal
public import Idealize.ShloMosaic.Lib.StableHlo.RunLoop
public import Idealize.ShloMosaic.Lib.StableHlo.ReadAt
public import Idealize.ShloMosaic.Lib.Scf.ExitTest
public import Idealize.ShloMosaic.Lib.Scf.Counter
public import Idealize.ShloMosaic.Lib.Pipeline.Regions

@[expose] public section

set_option maxRecDepth 16384

noncomputable section

namespace Cert.Reference5Ideal.Enc

open Cert.Reference5Ideal Cert.Reference5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held)

variable {F : FTy → Type} [FloatOps F]

/-- What the loop's condition runs. -/
abbrev condOps : List (HloOp τ sig (Elt F)) :=
  [ StableHlo.nullary main_while0c_c_7 (constantI S_ 32 64#32),
    StableHlo.binary main_v24_3 main_while0c_c_7 main_while0c_v33 (cmpi .slt : (⟨S_, .i32⟩ : BufTy).Contents (Elt F) → (⟨S_, .i32⟩ : BufTy).Contents (Elt F) → (⟨S_, .i1⟩ : BufTy).Contents (Elt F)) ]

theorem condOps_sub : (condOps (F := F)).Forall fun op => op.bufs ⊆ StableHlo.tcRefs τ sig :=
  ⟨StableHlo.nullary_bufs_sub .., StableHlo.binary_bufs_sub ..⟩

theorem condOps_fresh : (condOps (F := F)).Forall fun op => op.fresh = ∅ :=
  ⟨rfl, rfl⟩

/-- Before the loop, stretch 0. -/
abbrev preOps0 : List (HloOp τ sig (Elt F)) :=
  [ StableHlo.reshape main_arg0 main_v0 (rfl : (.f32 : EltTy) = .f32) shapeCasts_S2x2048x1024_S2x64x32x1024,
    StableHlo.nullary main_v1 (iotaInDim S64 32 0),
    StableHlo.unary main_v1 main_v2 (broadcastInDim S64x1 ![0] bcast_S64_S64x1_0 : (⟨S64, .i32⟩ : BufTy).Contents (Elt F) → (⟨S64x1, .i32⟩ : BufTy).Contents (Elt F)),
    StableHlo.unary main_arg3 main_v3 (broadcastInDim S1x32 ![1] bcast_S32_S1x32_1 : (⟨S32, .i32⟩ : BufTy).Contents (Elt F) → (⟨S1x32, .i32⟩ : BufTy).Contents (Elt F)),
    StableHlo.unary main_v2 main_v4 (broadcastInDim S64x32 ![0, 1] bcast_S64x1_S64x32_0_1 : (⟨S64x1, .i32⟩ : BufTy).Contents (Elt F) → (⟨S64x32, .i32⟩ : BufTy).Contents (Elt F)),
    StableHlo.unary main_v3 main_v5 (broadcastInDim S64x32 ![0, 1] bcast_S1x32_S64x32_0_1 : (⟨S1x32, .i32⟩ : BufTy).Contents (Elt F) → (⟨S64x32, .i32⟩ : BufTy).Contents (Elt F)),
    StableHlo.binary main_v4 main_v5 main_v6 (cmpi .slt : (⟨S64x32, .i32⟩ : BufTy).Contents (Elt F) → (⟨S64x32, .i32⟩ : BufTy).Contents (Elt F) → (⟨S64x32, .i1⟩ : BufTy).Contents (Elt F)),
    StableHlo.unary main_v0 main_v7 ((extractStridedSlice S1x64x32x1024 ![0, 0, 0, 0] · slices_S2x64x32x1024_S1x64x32x1024_0_0_0_0) : (⟨S2x64x32x1024, .f32⟩ : BufTy).Contents (Elt F) → (⟨S1x64x32x1024, .f32⟩ : BufTy).Contents (Elt F)),
    StableHlo.reshape main_v7 main_v8 (rfl : (.f32 : EltTy) = .f32) shapeCasts_S1x64x32x1024_S64x32x1024,
    StableHlo.unary main_v0 main_v9 ((extractStridedSlice S1x64x32x1024 ![1, 0, 0, 0] · slices_S2x64x32x1024_S1x64x32x1024_1_0_0_0) : (⟨S2x64x32x1024, .f32⟩ : BufTy).Contents (Elt F) → (⟨S1x64x32x1024, .f32⟩ : BufTy).Contents (Elt F)),
    StableHlo.unary main_v9 main_v10 (Host.reverse [1] : (⟨S1x64x32x1024, .f32⟩ : BufTy).Contents (Elt F) → (⟨S1x64x32x1024, .f32⟩ : BufTy).Contents (Elt F)),
    StableHlo.reshape main_v10 main_v11 (rfl : (.f32 : EltTy) = .f32) shapeCasts_S1x64x32x1024_S64x32x1024,
    StableHlo.unary main_v8 main_v12 (broadcastInDim S64x1x32x1024 ![0, 2, 3] bcast_S64x32x1024_S64x1x32x1024_0_2_3 : (⟨S64x32x1024, .f32⟩ : BufTy).Contents (Elt F) → (⟨S64x1x32x1024, .f32⟩ : BufTy).Contents (Elt F)),
    StableHlo.unary main_v11 main_v13 (broadcastInDim S64x1x32x1024 ![0, 2, 3] bcast_S64x32x1024_S64x1x32x1024_0_2_3 : (⟨S64x32x1024, .f32⟩ : BufTy).Contents (Elt F) → (⟨S64x1x32x1024, .f32⟩ : BufTy).Contents (Elt F)),
    StableHlo.binary main_v12 main_v13 main_v14 ((fun a b => concatenate S64x2x32x1024 1 [⟨S64x1x32x1024, a⟩, ⟨S64x1x32x1024, b⟩] concatenates_S64x1x32x1024_S64x1x32x1024_S64x2x32x1024_d1) : (⟨S64x1x32x1024, .f32⟩ : BufTy).Contents (Elt F) → (⟨S64x1x32x1024, .f32⟩ : BufTy).Contents (Elt F) → (⟨S64x2x32x1024, .f32⟩ : BufTy).Contents (Elt F)) ]

theorem preOps0_sub : (preOps0 (F := F)).Forall fun op => op.bufs ⊆ StableHlo.tcRefs τ sig :=
  ⟨StableHlo.reshape_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩

theorem preOps0_fresh : (preOps0 (F := F)).Forall fun op => op.fresh = ∅ :=
  ⟨rfl, rfl, rfl, rfl, rfl, rfl, rfl, rfl, rfl, rfl, rfl, rfl, rfl, rfl, rfl⟩

/-- Before the loop, stretch 1. -/
abbrev preOps1 : List (HloOp τ sig (Elt F)) :=
  [ StableHlo.unary main_v6 main_v15 (Host.reverse [0] : (⟨S64x32, .i1⟩ : BufTy).Contents (Elt F) → (⟨S64x32, .i1⟩ : BufTy).Contents (Elt F)),
    StableHlo.unary main_v6 main_v16 (broadcastInDim S64x1x32 ![0, 2] bcast_S64x32_S64x1x32_0_2 : (⟨S64x32, .i1⟩ : BufTy).Contents (Elt F) → (⟨S64x1x32, .i1⟩ : BufTy).Contents (Elt F)),
    StableHlo.unary main_v15 main_v17 (broadcastInDim S64x1x32 ![0, 2] bcast_S64x32_S64x1x32_0_2 : (⟨S64x32, .i1⟩ : BufTy).Contents (Elt F) → (⟨S64x1x32, .i1⟩ : BufTy).Contents (Elt F)),
    StableHlo.binary main_v16 main_v17 main_v18 ((fun a b => concatenate S64x2x32 1 [⟨S64x1x32, a⟩, ⟨S64x1x32, b⟩] concatenates_S64x1x32_S64x1x32_S64x2x32_d1) : (⟨S64x1x32, .i1⟩ : BufTy).Contents (Elt F) → (⟨S64x1x32, .i1⟩ : BufTy).Contents (Elt F) → (⟨S64x2x32, .i1⟩ : BufTy).Contents (Elt F)),
    StableHlo.unary main_arg1 main_v19 (broadcastInDim S1x1024x256 ![1, 2] bcast_S1024x256_S1x1024x256_1_2 : (⟨S1024x256, .f32⟩ : BufTy).Contents (Elt F) → (⟨S1x1024x256, .f32⟩ : BufTy).Contents (Elt F)),
    StableHlo.unary main_arg2 main_v20 (broadcastInDim S1x1024x256 ![1, 2] bcast_S1024x256_S1x1024x256_1_2 : (⟨S1024x256, .f32⟩ : BufTy).Contents (Elt F) → (⟨S1x1024x256, .f32⟩ : BufTy).Contents (Elt F)),
    StableHlo.binary main_v19 main_v20 main_v21 ((fun a b => concatenate S2x1024x256 0 [⟨S1x1024x256, a⟩, ⟨S1x1024x256, b⟩] concatenates_S1x1024x256_S1x1024x256_S2x1024x256_d0) : (⟨S1x1024x256, .f32⟩ : BufTy).Contents (Elt F) → (⟨S1x1024x256, .f32⟩ : BufTy).Contents (Elt F) → (⟨S2x1024x256, .f32⟩ : BufTy).Contents (Elt F)),
    StableHlo.nullary main_cst (constant S_ .f32 0x00000000#32),
    StableHlo.unary main_cst main_v22 (broadcastInDim S2x32x256 ![] bcast_S_S2x32x256 : (⟨S_, .f32⟩ : BufTy).Contents (Elt F) → (⟨S2x32x256, .f32⟩ : BufTy).Contents (Elt F)),
    StableHlo.nullary main_cst_0 (constant S_ .f32 0x00000000#32),
    StableHlo.unary main_cst_0 main_v23 (broadcastInDim S64x2x32x256 ![] bcast_S_S64x2x32x256 : (⟨S_, .f32⟩ : BufTy).Contents (Elt F) → (⟨S64x2x32x256, .f32⟩ : BufTy).Contents (Elt F)),
    StableHlo.nullary main_c (constantI S_ 32 0#32) ]

theorem preOps1_sub : (preOps1 (F := F)).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub ..⟩

theorem preOps1_fresh : (preOps1 (F := F)).Forall fun op => op.fresh = ∅ :=
  ⟨rfl, rfl, rfl, rfl, rfl, rfl, rfl, rfl, rfl, rfl, rfl, rfl⟩

/-- Before the loop, stretch 2. -/
abbrev preOps2 : List (HloOp τ sig (Elt F)) :=
  [ StableHlo.unary main_v14 main_v24_0 id,
    StableHlo.unary main_v18 main_v24_1 id,
    StableHlo.unary main_v21 main_v24_2 id,
    StableHlo.unary main_c main_v24_3 id,
    StableHlo.unary main_v22 main_v24_4 id,
    StableHlo.unary main_v22 main_v24_5 id,
    StableHlo.unary main_v23 main_v24_6 id ]

theorem preOps2_sub : (preOps2 (F := F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem preOps2_fresh : (preOps2 (F := F)).Forall fun op => op.fresh = ∅ :=
  ⟨rfl, rfl, rfl, rfl, rfl, rfl, rfl⟩

/-- The gates of one step. -/
abbrev bodyOps0 : List (HloOp τ sig (Elt F)) :=
  [ StableHlo.TRef.nullary main_while0b_call0.c (constantI S_ 32 0#32),
    StableHlo.TRef.nullary main_while0b_call0.c_0 (constantI S_ 32 0#32),
    StableHlo.TRef.nullary main_while0b_call0.c_1 (constantI S_ 32 0#32),
    StableHlo.TRef.unaryIndexed (.of main_v24_0 : StableHlo.TRef sig ⟨S64x2x32x1024, .f32⟩) ![(.of main_v24_3 : StableHlo.TRef sig ⟨S_, .i32⟩), main_while0b_call0.c, main_while0b_call0.c_0, main_while0b_call0.c_1] main_while0b_call0.v0 (fun x i => Host.dynamicSlice S1x2x32x1024 x (fun k => (i k (Shape.Idx.first h_S_)).toInt) sliceFits_S64x2x32x1024_S1x2x32x1024),
    StableHlo.TRef.reshape main_while0b_call0.v0 main_while0b_call0.v1 (rfl : (.f32 : EltTy) = .f32) shapeCasts_S1x2x32x1024_S2x32x1024 ]

theorem bodyOps0_sub : (bodyOps0 (F := F)).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem bodyOps0_fresh : (bodyOps0 (F := F)).Forall fun op => op.fresh = ∅ :=
  ⟨rfl, rfl, rfl, rfl, rfl⟩

/-- The mask of one step. -/
abbrev bodyOps1 : List (HloOp τ sig (Elt F)) :=
  [ StableHlo.TRef.nullary main_while0b_call1.c (constantI S_ 32 0#32),
    StableHlo.TRef.nullary main_while0b_call1.c_0 (constantI S_ 32 0#32),
    StableHlo.TRef.unaryIndexed (.of main_v24_1 : StableHlo.TRef sig ⟨S64x2x32, .i1⟩) ![(.of main_v24_3 : StableHlo.TRef sig ⟨S_, .i32⟩), main_while0b_call1.c, main_while0b_call1.c_0] main_while0b_call1.v0 (fun x i => Host.dynamicSlice S1x2x32 x (fun k => (i k (Shape.Idx.first h_S_)).toInt) sliceFits_S64x2x32_S1x2x32),
    StableHlo.TRef.reshape main_while0b_call1.v0 main_while0b_call1.v1 (rfl : (.i1 : EltTy) = .i1) shapeCasts_S1x2x32_S2x32 ]

theorem bodyOps1_sub : (bodyOps1 (F := F)).Forall fun op => op.bufs ⊆ StableHlo.tcRefs τ sig :=
  ⟨StableHlo.nullary_bufs_sub .., StableHlo.nullary_bufs_sub .., StableHlo.unaryIndexed_bufs_sub .., StableHlo.reshape_bufs_sub ..⟩

theorem bodyOps1_fresh : (bodyOps1 (F := F)).Forall fun op => op.fresh = ∅ :=
  ⟨rfl, rfl, rfl, rfl⟩

/-- The pre-activations. -/
abbrev bodyOps2 : List (HloOp τ sig (Elt F)) :=
  [ StableHlo.binary main_v24_4 main_v24_2 main_while0b_v35 ((fun l r => Host.dotGeneral dot_S2x32x256_S2x1024x256_S2x32x1024_2_2_1_1_0_0 none l r) : (⟨S2x32x256, .f32⟩ : BufTy).Contents (Elt F) → (⟨S2x1024x256, .f32⟩ : BufTy).Contents (Elt F) → (⟨S2x32x1024, .f32⟩ : BufTy).Contents (Elt F)),
    StableHlo.binary main_while0b_v33 main_while0b_v35 main_while0b_v36 (addf : (⟨S2x32x1024, .f32⟩ : BufTy).Contents (Elt F) → (⟨S2x32x1024, .f32⟩ : BufTy).Contents (Elt F) → (⟨S2x32x1024, .f32⟩ : BufTy).Contents (Elt F)),
    StableHlo.unary main_while0b_v36 main_while0b_v37 ((extractStridedSlice S2x32x256 ![0, 0, 0] · slices_S2x32x1024_S2x32x256_0_0_0) : (⟨S2x32x1024, .f32⟩ : BufTy).Contents (Elt F) → (⟨S2x32x256, .f32⟩ : BufTy).Contents (Elt F)),
    StableHlo.unary main_while0b_v36 main_while0b_v38 ((extractStridedSlice S2x32x256 ![0, 0, 256] · slices_S2x32x1024_S2x32x256_0_0_256) : (⟨S2x32x1024, .f32⟩ : BufTy).Contents (Elt F) → (⟨S2x32x256, .f32⟩ : BufTy).Contents (Elt F)),
    StableHlo.unary main_while0b_v36 main_while0b_v39 ((extractStridedSlice S2x32x256 ![0, 0, 512] · slices_S2x32x1024_S2x32x256_0_0_512) : (⟨S2x32x1024, .f32⟩ : BufTy).Contents (Elt F) → (⟨S2x32x256, .f32⟩ : BufTy).Contents (Elt F)),
    StableHlo.unary main_while0b_v36 main_while0b_v40 ((extractStridedSlice S2x32x256 ![0, 0, 768] · slices_S2x32x1024_S2x32x256_0_0_768) : (⟨S2x32x1024, .f32⟩ : BufTy).Contents (Elt F) → (⟨S2x32x256, .f32⟩ : BufTy).Contents (Elt F)) ]

theorem bodyOps2_sub : (bodyOps2 (F := F)).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.unary_bufs_sub ..⟩

theorem bodyOps2_fresh : (bodyOps2 (F := F)).Forall fun op => op.fresh = ∅ :=
  ⟨rfl, rfl, rfl, rfl, rfl, rfl⟩

/-- The new state. -/
abbrev bodyOps3 : List (HloOp τ sig (Elt F)) :=
  [ StableHlo.unary main_while0b_v38 main_while0b_v41 (Host.negf : (⟨S2x32x256, .f32⟩ : BufTy).Contents (Elt F) → (⟨S2x32x256, .f32⟩ : BufTy).Contents (Elt F)),
    StableHlo.unary main_while0b_v41 main_while0b_v42 (Host.exp : (⟨S2x32x256, .f32⟩ : BufTy).Contents (Elt F) → (⟨S2x32x256, .f32⟩ : BufTy).Contents (Elt F)),
    StableHlo.nullary main_while0b_cst_7 (constant S_ .f32 0x3F800000#32),
    StableHlo.unary main_while0b_cst_7 main_while0b_v43 (broadcastInDim S2x32x256 ![] bcast_S_S2x32x256 : (⟨S_, .f32⟩ : BufTy).Contents (Elt F) → (⟨S2x32x256, .f32⟩ : BufTy).Contents (Elt F)),
    StableHlo.binary main_while0b_v43 main_while0b_v42 main_while0b_v44 (addf : (⟨S2x32x256, .f32⟩ : BufTy).Contents (Elt F) → (⟨S2x32x256, .f32⟩ : BufTy).Contents (Elt F) → (⟨S2x32x256, .f32⟩ : BufTy).Contents (Elt F)),
    StableHlo.nullary main_while0b_cst_8 (constant S_ .f32 0x3F800000#32),
    StableHlo.unary main_while0b_cst_8 main_while0b_v45 (broadcastInDim S2x32x256 ![] bcast_S_S2x32x256 : (⟨S_, .f32⟩ : BufTy).Contents (Elt F) → (⟨S2x32x256, .f32⟩ : BufTy).Contents (Elt F)),
    StableHlo.binary main_while0b_v45 main_while0b_v44 main_while0b_v46 (Host.divf : (⟨S2x32x256, .f32⟩ : BufTy).Contents (Elt F) → (⟨S2x32x256, .f32⟩ : BufTy).Contents (Elt F) → (⟨S2x32x256, .f32⟩ : BufTy).Contents (Elt F)),
    StableHlo.binary main_while0b_v46 main_v24_5 main_while0b_v47 (mulf : (⟨S2x32x256, .f32⟩ : BufTy).Contents (Elt F) → (⟨S2x32x256, .f32⟩ : BufTy).Contents (Elt F) → (⟨S2x32x256, .f32⟩ : BufTy).Contents (Elt F)),
    StableHlo.unary main_while0b_v37 main_while0b_v48 (Host.negf : (⟨S2x32x256, .f32⟩ : BufTy).Contents (Elt F) → (⟨S2x32x256, .f32⟩ : BufTy).Contents (Elt F)),
    StableHlo.unary main_while0b_v48 main_while0b_v49 (Host.exp : (⟨S2x32x256, .f32⟩ : BufTy).Contents (Elt F) → (⟨S2x32x256, .f32⟩ : BufTy).Contents (Elt F)),
    StableHlo.nullary main_while0b_cst_9 (constant S_ .f32 0x3F800000#32),
    StableHlo.unary main_while0b_cst_9 main_while0b_v50 (broadcastInDim S2x32x256 ![] bcast_S_S2x32x256 : (⟨S_, .f32⟩ : BufTy).Contents (Elt F) → (⟨S2x32x256, .f32⟩ : BufTy).Contents (Elt F)),
    StableHlo.binary main_while0b_v50 main_while0b_v49 main_while0b_v51 (addf : (⟨S2x32x256, .f32⟩ : BufTy).Contents (Elt F) → (⟨S2x32x256, .f32⟩ : BufTy).Contents (Elt F) → (⟨S2x32x256, .f32⟩ : BufTy).Contents (Elt F)),
    StableHlo.nullary main_while0b_cst_10 (constant S_ .f32 0x3F800000#32),
    StableHlo.unary main_while0b_cst_10 main_while0b_v52 (broadcastInDim S2x32x256 ![] bcast_S_S2x32x256 : (⟨S_, .f32⟩ : BufTy).Contents (Elt F) → (⟨S2x32x256, .f32⟩ : BufTy).Contents (Elt F)),
    StableHlo.binary main_while0b_v52 main_while0b_v51 main_while0b_v53 (Host.divf : (⟨S2x32x256, .f32⟩ : BufTy).Contents (Elt F) → (⟨S2x32x256, .f32⟩ : BufTy).Contents (Elt F) → (⟨S2x32x256, .f32⟩ : BufTy).Contents (Elt F)),
    StableHlo.unary main_while0b_v39 main_while0b_v54 (Host.tanh : (⟨S2x32x256, .f32⟩ : BufTy).Contents (Elt F) → (⟨S2x32x256, .f32⟩ : BufTy).Contents (Elt F)),
    StableHlo.binary main_while0b_v53 main_while0b_v54 main_while0b_v55 (mulf : (⟨S2x32x256, .f32⟩ : BufTy).Contents (Elt F) → (⟨S2x32x256, .f32⟩ : BufTy).Contents (Elt F) → (⟨S2x32x256, .f32⟩ : BufTy).Contents (Elt F)),
    StableHlo.binary main_while0b_v47 main_while0b_v55 main_while0b_v56 (addf : (⟨S2x32x256, .f32⟩ : BufTy).Contents (Elt F) → (⟨S2x32x256, .f32⟩ : BufTy).Contents (Elt F) → (⟨S2x32x256, .f32⟩ : BufTy).Contents (Elt F)),
    StableHlo.unary main_while0b_v40 main_while0b_v57 (Host.negf : (⟨S2x32x256, .f32⟩ : BufTy).Contents (Elt F) → (⟨S2x32x256, .f32⟩ : BufTy).Contents (Elt F)),
    StableHlo.unary main_while0b_v57 main_while0b_v58 (Host.exp : (⟨S2x32x256, .f32⟩ : BufTy).Contents (Elt F) → (⟨S2x32x256, .f32⟩ : BufTy).Contents (Elt F)),
    StableHlo.nullary main_while0b_cst_11 (constant S_ .f32 0x3F800000#32),
    StableHlo.unary main_while0b_cst_11 main_while0b_v59 (broadcastInDim S2x32x256 ![] bcast_S_S2x32x256 : (⟨S_, .f32⟩ : BufTy).Contents (Elt F) → (⟨S2x32x256, .f32⟩ : BufTy).Contents (Elt F)),
    StableHlo.binary main_while0b_v59 main_while0b_v58 main_while0b_v60 (addf : (⟨S2x32x256, .f32⟩ : BufTy).Contents (Elt F) → (⟨S2x32x256, .f32⟩ : BufTy).Contents (Elt F) → (⟨S2x32x256, .f32⟩ : BufTy).Contents (Elt F)),
    StableHlo.nullary main_while0b_cst_12 (constant S_ .f32 0x3F800000#32),
    StableHlo.unary main_while0b_cst_12 main_while0b_v61 (broadcastInDim S2x32x256 ![] bcast_S_S2x32x256 : (⟨S_, .f32⟩ : BufTy).Contents (Elt F) → (⟨S2x32x256, .f32⟩ : BufTy).Contents (Elt F)),
    StableHlo.binary main_while0b_v61 main_while0b_v60 main_while0b_v62 (Host.divf : (⟨S2x32x256, .f32⟩ : BufTy).Contents (Elt F) → (⟨S2x32x256, .f32⟩ : BufTy).Contents (Elt F) → (⟨S2x32x256, .f32⟩ : BufTy).Contents (Elt F)),
    StableHlo.unary main_while0b_v56 main_while0b_v63 (Host.tanh : (⟨S2x32x256, .f32⟩ : BufTy).Contents (Elt F) → (⟨S2x32x256, .f32⟩ : BufTy).Contents (Elt F)),
    StableHlo.binary main_while0b_v62 main_while0b_v63 main_while0b_v64 (mulf : (⟨S2x32x256, .f32⟩ : BufTy).Contents (Elt F) → (⟨S2x32x256, .f32⟩ : BufTy).Contents (Elt F) → (⟨S2x32x256, .f32⟩ : BufTy).Contents (Elt F)),
    StableHlo.unary main_while0b_v34 main_while0b_v65 (broadcastInDim S2x32x1 ![0, 1] bcast_S2x32_S2x32x1_0_1 : (⟨S2x32, .i1⟩ : BufTy).Contents (Elt F) → (⟨S2x32x1, .i1⟩ : BufTy).Contents (Elt F)) ]

theorem bodyOps3_sub : (bodyOps3 (F := F)).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub ..⟩

theorem bodyOps3_fresh : (bodyOps3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The masked states. -/
abbrev bodyOps4 : List (HloOp τ sig (Elt F)) :=
  [ StableHlo.TRef.unary (.of main_while0b_v65 : StableHlo.TRef sig ⟨S2x32x1, .i1⟩) main_while0b_call2.v0 (broadcastInDim S2x32x256 ![0, 1, 2] bcast_S2x32x1_S2x32x256_0_1_2),
    StableHlo.TRef.ternary main_while0b_call2.v0 (.of main_while0b_v64 : StableHlo.TRef sig ⟨S2x32x256, .f32⟩) (.of main_v24_4 : StableHlo.TRef sig ⟨S2x32x256, .f32⟩) main_while0b_call2.v1 select,
    StableHlo.TRef.unary (.of main_while0b_v65 : StableHlo.TRef sig ⟨S2x32x1, .i1⟩) main_while0b_call3.v0 (broadcastInDim S2x32x256 ![0, 1, 2] bcast_S2x32x1_S2x32x256_0_1_2),
    StableHlo.TRef.ternary main_while0b_call3.v0 (.of main_while0b_v56 : StableHlo.TRef sig ⟨S2x32x256, .f32⟩) (.of main_v24_5 : StableHlo.TRef sig ⟨S2x32x256, .f32⟩) main_while0b_call3.v1 select,
    StableHlo.nullary main_while0b_cst_13 (constant S_ .f32 0x00000000#32),
    StableHlo.unary main_while0b_cst_13 main_while0b_v68 (broadcastInDim S2x32x256 ![] bcast_S_S2x32x256 : (⟨S_, .f32⟩ : BufTy).Contents (Elt F) → (⟨S2x32x256, .f32⟩ : BufTy).Contents (Elt F)),
    StableHlo.TRef.unary (.of main_while0b_v65 : StableHlo.TRef sig ⟨S2x32x1, .i1⟩) main_while0b_call4.v0 (broadcastInDim S2x32x256 ![0, 1, 2] bcast_S2x32x1_S2x32x256_0_1_2),
    StableHlo.TRef.ternary main_while0b_call4.v0 (.of main_while0b_v64 : StableHlo.TRef sig ⟨S2x32x256, .f32⟩) (.of main_while0b_v68 : StableHlo.TRef sig ⟨S2x32x256, .f32⟩) main_while0b_call4.v1 select ]

theorem bodyOps4_sub : (bodyOps4 (F := F)).Forall fun op => op.bufs ⊆ StableHlo.tcRefs τ sig :=
  ⟨StableHlo.unary_bufs_sub .., StableHlo.ternary_bufs_sub .., StableHlo.unary_bufs_sub .., StableHlo.ternary_bufs_sub .., StableHlo.nullary_bufs_sub .., StableHlo.unary_bufs_sub .., StableHlo.unary_bufs_sub .., StableHlo.ternary_bufs_sub ..⟩

theorem bodyOps4_fresh : (bodyOps4 (F := F)).Forall fun op => op.fresh = ∅ :=
  ⟨rfl, rfl, rfl, rfl, rfl, rfl, rfl, rfl⟩

/-- The row written. -/
abbrev bodyOps5 : List (HloOp τ sig (Elt F)) :=
  [ StableHlo.TRef.unary (.of main_while0b_v69 : StableHlo.TRef sig ⟨S2x32x256, .f32⟩) main_while0b_call5.v0 (broadcastInDim S1x2x32x256 ![1, 2, 3] bcast_S2x32x256_S1x2x32x256_1_2_3),
    StableHlo.TRef.nullary main_while0b_call5.c (constantI S_ 32 0#32),
    StableHlo.TRef.nullary main_while0b_call5.c_0 (constantI S_ 32 0#32),
    StableHlo.TRef.nullary main_while0b_call5.c_1 (constantI S_ 32 0#32),
    StableHlo.TRef.binaryIndexed (.of main_v24_6 : StableHlo.TRef sig ⟨S64x2x32x256, .f32⟩) main_while0b_call5.v0 ![(.of main_v24_3 : StableHlo.TRef sig ⟨S_, .i32⟩), main_while0b_call5.c, main_while0b_call5.c_0, main_while0b_call5.c_1] main_while0b_call5.v1 (fun x u i => Host.dynamicUpdateSlice x u (fun k => (i k (Shape.Idx.first h_S_)).toInt) updateFits_S64x2x32x256_S1x2x32x256) ]

theorem bodyOps5_sub : (bodyOps5 (F := F)).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem bodyOps5_fresh : (bodyOps5 (F := F)).Forall fun op => op.fresh = ∅ :=
  ⟨rfl, rfl, rfl, rfl, rfl⟩

/-- The loop variables. -/
abbrev bodyOps6 : List (HloOp τ sig (Elt F)) :=
  [ StableHlo.nullary main_while0b_c_14 (constantI S_ 32 1#32),
    StableHlo.binary main_v24_3 main_while0b_c_14 main_while0b_v71 (addi : (⟨S_, .i32⟩ : BufTy).Contents (Elt F) → (⟨S_, .i32⟩ : BufTy).Contents (Elt F) → (⟨S_, .i32⟩ : BufTy).Contents (Elt F)),
    StableHlo.unary main_while0b_v71 main_v24_3 id,
    StableHlo.unary main_while0b_v66 main_v24_4 id,
    StableHlo.unary main_while0b_v67 main_v24_5 id,
    StableHlo.unary main_while0b_v70 main_v24_6 id ]

theorem bodyOps6_sub : (bodyOps6 (F := F)).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

theorem bodyOps6_fresh : (bodyOps6 (F := F)).Forall fun op => op.fresh = ∅ :=
  ⟨rfl, rfl, rfl, rfl, rfl, rfl⟩

/-- After the loop. -/
abbrev postOps0 : List (HloOp τ sig (Elt F)) :=
  [ StableHlo.unary main_v24_6 main_v25 ((extractStridedSlice S64x1x32x256 ![0, 0, 0, 0] · slices_S64x2x32x256_S64x1x32x256_0_0_0_0) : (⟨S64x2x32x256, .f32⟩ : BufTy).Contents (Elt F) → (⟨S64x1x32x256, .f32⟩ : BufTy).Contents (Elt F)),
    StableHlo.reshape main_v25 main_v26 (rfl : (.f32 : EltTy) = .f32) shapeCasts_S64x1x32x256_S64x32x256,
    StableHlo.unary main_v24_6 main_v27 ((extractStridedSlice S64x1x32x256 ![0, 1, 0, 0] · slices_S64x2x32x256_S64x1x32x256_0_1_0_0) : (⟨S64x2x32x256, .f32⟩ : BufTy).Contents (Elt F) → (⟨S64x1x32x256, .f32⟩ : BufTy).Contents (Elt F)),
    StableHlo.unary main_v27 main_v28 (Host.reverse [0] : (⟨S64x1x32x256, .f32⟩ : BufTy).Contents (Elt F) → (⟨S64x1x32x256, .f32⟩ : BufTy).Contents (Elt F)),
    StableHlo.reshape main_v28 main_v29 (rfl : (.f32 : EltTy) = .f32) shapeCasts_S64x1x32x256_S64x32x256,
    StableHlo.unary main_v26 main_v30 (broadcastInDim S1x64x32x256 ![1, 2, 3] bcast_S64x32x256_S1x64x32x256_1_2_3 : (⟨S64x32x256, .f32⟩ : BufTy).Contents (Elt F) → (⟨S1x64x32x256, .f32⟩ : BufTy).Contents (Elt F)),
    StableHlo.unary main_v29 main_v31 (broadcastInDim S1x64x32x256 ![1, 2, 3] bcast_S64x32x256_S1x64x32x256_1_2_3 : (⟨S64x32x256, .f32⟩ : BufTy).Contents (Elt F) → (⟨S1x64x32x256, .f32⟩ : BufTy).Contents (Elt F)),
    StableHlo.binary main_v30 main_v31 main_v32 ((fun a b => concatenate S2x64x32x256 0 [⟨S1x64x32x256, a⟩, ⟨S1x64x32x256, b⟩] concatenates_S1x64x32x256_S1x64x32x256_S2x64x32x256_d0) : (⟨S1x64x32x256, .f32⟩ : BufTy).Contents (Elt F) → (⟨S1x64x32x256, .f32⟩ : BufTy).Contents (Elt F) → (⟨S2x64x32x256, .f32⟩ : BufTy).Contents (Elt F)) ]

theorem postOps0_sub : (postOps0 (F := F)).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub ..⟩

theorem postOps0_fresh : (postOps0 (F := F)).Forall fun op => op.fresh = ∅ :=
  ⟨rfl, rfl, rfl, rfl, rfl, rfl, rfl, rfl⟩

/-- The stretches before the loop. -/
abbrev preI : List (List (HloOp τ sig (Elt F))) := [preOps0, preOps1, preOps2]
/-- One trip's stretches. -/
abbrev bodyI : List (List (HloOp τ sig (Elt F))) := [bodyOps0, bodyOps1, bodyOps2, bodyOps3, bodyOps4, bodyOps5, bodyOps6]
/-- The stretch after the loop. -/
abbrev postI : List (List (HloOp τ sig (Elt F))) := [postOps0]

theorem preI_plain : StableHlo.Plain (preI (F := F)) :=
  (.cons preOps0_sub (.cons preOps1_sub (.cons preOps2_sub .nil (List.forall_iff_forall_mem.mp preOps2_fresh)) (List.forall_iff_forall_mem.mp preOps1_fresh)) (List.forall_iff_forall_mem.mp preOps0_fresh))
theorem bodyI_plain : StableHlo.Plain (bodyI (F := F)) :=
  (.cons bodyOps0_sub (.cons bodyOps1_sub (.cons bodyOps2_sub (.cons bodyOps3_sub (.cons bodyOps4_sub (.cons bodyOps5_sub (.cons bodyOps6_sub .nil (List.forall_iff_forall_mem.mp bodyOps6_fresh)) (List.forall_iff_forall_mem.mp bodyOps5_fresh)) (List.forall_iff_forall_mem.mp bodyOps4_fresh)) (List.forall_iff_forall_mem.mp bodyOps3_fresh)) (List.forall_iff_forall_mem.mp bodyOps2_fresh)) (List.forall_iff_forall_mem.mp bodyOps1_fresh)) (List.forall_iff_forall_mem.mp bodyOps0_fresh))
theorem postI_plain : StableHlo.Plain (postI (F := F)) := (.cons postOps0_sub .nil (List.forall_iff_forall_mem.mp postOps0_fresh))

set_option maxRecDepth 100000 in
theorem body_chain : main_while0_body (F := F) = (Pipeline.chain [StableHlo.seq bodyOps0, StableHlo.seq bodyOps1, StableHlo.seq bodyOps2, StableHlo.seq bodyOps3, StableHlo.seq bodyOps4, StableHlo.seq bodyOps5, StableHlo.seq bodyOps6] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, StableHlo.chain_seq_cons, StableHlo.chain_seq_cons, StableHlo.chain_seq_cons, StableHlo.chain_seq_cons, StableHlo.chain_seq_cons]
  chain_rfl

set_option maxRecDepth 100000 in
theorem main_chain (c : Dev nD) : main (F := F) c = (Pipeline.chain [StableHlo.seq preOps0, StableHlo.seq preOps1, StableHlo.seq preOps2, HostLoop.enter 0, StableHlo.seq postOps0] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, StableHlo.chain_seq_cons, Pipeline.chain_cons, StableHlo.chain_seq_cons]
  chain_rfl

end Cert.Reference5Ideal.Enc

end
-- ==== Proof.Ref5.Read.lean ====
/- What one trip of the plain encoder writes, read at an index. -/
module

public import proofs.«01_k».proof.Proof.Ref5.Ops
public import proofs.«01_k».proof.Proof.Enc.Spec

@[expose] public section

set_option maxRecDepth 16384

noncomputable section

namespace Cert.Reference5Ideal.Enc

open Cert.Reference5Ideal Cert.Reference5Ideal.Gen
open Idealize.ShloMosaic Cert.Proof.Encoder
open Idealize.ShloMosaic.TcCoe
open Idealize.ShloMosaic.StableHlo (after)

variable (X : Valuation τ sig (Elt Ideal))

/-- A cube's entry, as a number. -/
def at3 {a b c : ℕ} (x : FVec Ideal ⟨3, ![a, b, c]⟩ .f32) (i : Fin a) (j : Fin b) (k : Fin c) : EReal := x (ix3 i j k)
/-- A stack of cubes' entry, as a number. -/
def at4 {a b c d : ℕ} (x : FVec Ideal ⟨4, ![a, b, c, d]⟩ .f32) (i : Fin a) (j : Fin b) (k : Fin c) (l : Fin d) : EReal := x (ix4 i j k l)

theorem toInt_small (k : ℕ) (h : k < 64) : (BitVec.ofNat 32 k).toInt = k := by
  rw [BitVec.toInt_eq_toNat_of_lt (by rw [BitVec.toNat_ofNat]; omega), BitVec.toNat_ofNat]
  omega

theorem gate_at (d : Fin 2) (b : Fin 32) (j : Fin 1024) (k : ℕ) (hk : k < 64) (hc : (X main_v24_3 : IVec S_ 32) ix0 = BitVec.ofNat 32 k) :
    at3 (after bodyOps0 X main_while0b_v33) d b j = at4 (X main_v24_0) ⟨k, hk⟩ d b j := by
  unfold bodyOps0 at3
  after_reads_simp [StableHlo.unaryIndexed_result_read, StableHlo.indexContents_tref_cons, StableHlo.indexContents_tref_empty]
  simp only [StableHlo.TRef.ofBuf_toBuf]
  simp only [StableHlo.TRef.ofBuf, StableHlo.TRef.toBuf, cast_eq]
  generalize hst : (fun k => BitVec.toInt (![X (Proc.tc.devRef main_v24_3), constantI S_ 32 0#32, constantI S_ 32 0#32, constantI S_ 32 0#32] k (Shape.Idx.first h_S_))) = st
  pointwise
  have s0 : st 0 = k := by
    rw [← hst]
    exact (congrArg BitVec.toInt ((congrArg (X main_v24_3 : IVec S_ 32) (funext fun a => a.elim0)).trans hc)).trans (toInt_small k (by omega))
  have s1 : st 1 = (0 : ℕ) := by rw [← hst]; rfl
  have s2 : st 2 = (0 : ℕ) := by rw [← hst]; rfl
  have s3 : st 3 = (0 : ℕ) := by rw [← hst]; rfl
  have e0 := Host.clampedStart_of_le (s := S64x2x32x1024) (t := S1x2x32x1024) rfl st 0 k s0 (le_trans (le_of_eq (congrArg (k + ·) (rfl : _ = 1))) hk)
  have e1 := Host.clampedStart_of_le (s := S64x2x32x1024) (t := S1x2x32x1024) rfl st 1 0 s1 (by decide)
  have e2 := Host.clampedStart_of_le (s := S64x2x32x1024) (t := S1x2x32x1024) rfl st 2 0 s2 (by decide)
  have e3 := Host.clampedStart_of_le (s := S64x2x32x1024) (t := S1x2x32x1024) rfl st 3 0 s3 (by decide)
  unfold at4
  refine congrArg (X main_v24_0 : FVec Ideal S64x2x32x1024 .f32) (funext fun a => Fin.ext ?_)
  match a with
  | 0 => exact e0
  | 1 => show Host.clampedStart _ _ _ _ _ + d.val = d.val; rw [e1, Nat.zero_add]
  | 2 => show Host.clampedStart _ _ _ _ _ + b.val = b.val; rw [e2, Nat.zero_add]
  | 3 => show Host.clampedStart _ _ _ _ _ + j.val = j.val; rw [e3, Nat.zero_add]

theorem mask_at (d : Fin 2) (b : Fin 32) (k : ℕ) (hk : k < 64) (hc : (X main_v24_3 : IVec S_ 32) ix0 = BitVec.ofNat 32 k) :
    (after bodyOps1 X main_while0b_v34 : IVec S2x32 1) (ix2 d b) = (X main_v24_1 : IVec S64x2x32 1) (ix3 ⟨k, hk⟩ d b) := by
  unfold bodyOps1
  after_reads_simp [StableHlo.unaryIndexed_result_read, StableHlo.indexContents_tref_cons, StableHlo.indexContents_tref_empty]
  simp only [StableHlo.TRef.ofBuf_toBuf]
  simp only [StableHlo.TRef.ofBuf, StableHlo.TRef.toBuf, cast_eq]
  generalize hst : (fun k => BitVec.toInt (![X (Proc.tc.devRef main_v24_3), constantI S_ 32 0#32, constantI S_ 32 0#32] k (Shape.Idx.first h_S_))) = st
  pointwise
  have s0 : st 0 = k := by
    rw [← hst]
    exact (congrArg BitVec.toInt ((congrArg (X main_v24_3 : IVec S_ 32) (funext fun a => a.elim0)).trans hc)).trans (toInt_small k (by omega))
  have s1 : st 1 = (0 : ℕ) := by rw [← hst]; rfl
  have s2 : st 2 = (0 : ℕ) := by rw [← hst]; rfl
  have e0 := Host.clampedStart_of_le (s := S64x2x32) (t := S1x2x32) rfl st 0 k s0 (le_trans (le_of_eq (congrArg (k + ·) (rfl : _ = 1))) hk)
  have e1 := Host.clampedStart_of_le (s := S64x2x32) (t := S1x2x32) rfl st 1 0 s1 (by decide)
  have e2 := Host.clampedStart_of_le (s := S64x2x32) (t := S1x2x32) rfl st 2 0 s2 (by decide)
  refine congrArg (X main_v24_1 : IVec S64x2x32 1) (funext fun a => Fin.ext ?_)
  match a with
  | 0 => exact e0
  | 1 => show Host.clampedStart _ _ _ _ _ + d.val = d.val; rw [e1, Nat.zero_add]
  | 2 => show Host.clampedStart _ _ _ _ _ + b.val = b.val; rw [e2, Nat.zero_add]

/-! ## The pre-activations -/

theorem pre0_at (d : Fin 2) (b : Fin 32) (e : Fin 256) : at3 (after bodyOps2 X main_while0b_v37) d b e
    = pre (at3 (X main_while0b_v33) d) (at3 (X main_v24_2) d) (at3 (X main_v24_4) d) b ⟨e.val, by omega⟩ := by
  unfold bodyOps2 at3 pre
  after_reads_at

theorem pre1_at (d : Fin 2) (b : Fin 32) (e : Fin 256) : at3 (after bodyOps2 X main_while0b_v38) d b e
    = pre (at3 (X main_while0b_v33) d) (at3 (X main_v24_2) d) (at3 (X main_v24_4) d) b ⟨256 + e.val, by omega⟩ := by
  unfold bodyOps2 at3 pre
  after_reads_at

theorem pre2_at (d : Fin 2) (b : Fin 32) (e : Fin 256) : at3 (after bodyOps2 X main_while0b_v39) d b e
    = pre (at3 (X main_while0b_v33) d) (at3 (X main_v24_2) d) (at3 (X main_v24_4) d) b ⟨512 + e.val, by omega⟩ := by
  unfold bodyOps2 at3 pre
  after_reads_at

theorem pre3_at (d : Fin 2) (b : Fin 32) (e : Fin 256) : at3 (after bodyOps2 X main_while0b_v40) d b e
    = pre (at3 (X main_while0b_v33) d) (at3 (X main_v24_2) d) (at3 (X main_v24_4) d) b ⟨768 + e.val, by omega⟩ := by
  unfold bodyOps2 at3 pre
  after_reads_at

/-! ## The new state -/

theorem newC_at (d : Fin 2) (b : Fin 32) (e : Fin 256) : at3 (after bodyOps3 X main_while0b_v56) d b e
    = Ideal.logistic (at3 (X main_while0b_v38) d b e) * at3 (X main_v24_5) d b e
      + Ideal.logistic (at3 (X main_while0b_v37) d b e) * Ideal.tanh (at3 (X main_while0b_v39) d b e) := by
  unfold bodyOps3 at3
  after_reads_at
  rfl

theorem newH_at (d : Fin 2) (b : Fin 32) (e : Fin 256) : at3 (after bodyOps3 X main_while0b_v64) d b e
    = Ideal.logistic (at3 (X main_while0b_v40) d b e)
      * Ideal.tanh (Ideal.logistic (at3 (X main_while0b_v38) d b e) * at3 (X main_v24_5) d b e
      + Ideal.logistic (at3 (X main_while0b_v37) d b e) * Ideal.tanh (at3 (X main_while0b_v39) d b e)) := by
  unfold bodyOps3 at3
  after_reads_at
  rfl

theorem wide_at (d : Fin 2) (b : Fin 32) : (after bodyOps3 X main_while0b_v65 : IVec S2x32x1 1) (ix3 d b 0)
    = (X main_while0b_v34 : IVec S2x32 1) (ix2 d b) := by
  unfold bodyOps3
  after_reads_at

/-! ## The masked states -/

theorem heldH_at (d : Fin 2) (b : Fin 32) (e : Fin 256) : at3 (after bodyOps4 X main_while0b_v66) d b e
    = Scalar.select ((X main_while0b_v65 : IVec S2x32x1 1) (ix3 d b 0)) (at3 (X main_while0b_v64) d b e) (at3 (X main_v24_4) d b e) := by
  unfold bodyOps4 at3
  after_reads_at

theorem heldC_at (d : Fin 2) (b : Fin 32) (e : Fin 256) : at3 (after bodyOps4 X main_while0b_v67) d b e
    = Scalar.select ((X main_while0b_v65 : IVec S2x32x1 1) (ix3 d b 0)) (at3 (X main_while0b_v56) d b e) (at3 (X main_v24_5) d b e) := by
  unfold bodyOps4 at3
  after_reads_at

theorem heldO_at (d : Fin 2) (b : Fin 32) (e : Fin 256) : at3 (after bodyOps4 X main_while0b_v69) d b e
    = Scalar.select ((X main_while0b_v65 : IVec S2x32x1 1) (ix3 d b 0)) (at3 (X main_while0b_v64) d b e) (0 : EReal) := by
  unfold bodyOps4 at3
  after_reads_at

/-! ## The row written and the loop's variables -/

theorem put_at (s : Fin 64) (d : Fin 2) (b : Fin 32) (e : Fin 256) (k : ℕ) (hk : k < 64) (hc : (X main_v24_3 : IVec S_ 32) ix0 = BitVec.ofNat 32 k) :
    at4 (after bodyOps5 X main_while0b_v70) s d b e
    = (if s.val = k then at3 (X main_while0b_v69) d b e else at4 (X main_v24_6) s d b e : EReal) := by
  unfold bodyOps5 at4
  after_reads_simp [StableHlo.binaryIndexed_result_read, StableHlo.indexContents_tref_cons, StableHlo.indexContents_tref_empty]
  simp only [StableHlo.TRef.ofBuf_toBuf]
  simp only [StableHlo.TRef.ofBuf, StableHlo.TRef.toBuf, cast_eq]
  generalize hst : (fun k => BitVec.toInt (![X (Proc.tc.devRef main_v24_3), constantI S_ 32 0#32, constantI S_ 32 0#32, constantI S_ 32 0#32] k (Shape.Idx.first h_S_))) = st
  pointwise
  have s0 : st 0 = k := by
    rw [← hst]
    exact (congrArg BitVec.toInt ((congrArg (X main_v24_3 : IVec S_ 32) (funext fun a => a.elim0)).trans hc)).trans (toInt_small k (by omega))
  have s1 : st 1 = (0 : ℕ) := by rw [← hst]; rfl
  have s2 : st 2 = (0 : ℕ) := by rw [← hst]; rfl
  have s3 : st 3 = (0 : ℕ) := by rw [← hst]; rfl
  have e0 := Host.clampedStart_of_le (s := S64x2x32x256) (t := S1x2x32x256) rfl st 0 k s0 (le_trans (le_of_eq (congrArg (k + ·) (rfl : _ = 1))) hk)
  have e1 := Host.clampedStart_of_le (s := S64x2x32x256) (t := S1x2x32x256) rfl st 1 0 s1 (by decide)
  have e2 := Host.clampedStart_of_le (s := S64x2x32x256) (t := S1x2x32x256) rfl st 2 0 s2 (by decide)
  have e3 := Host.clampedStart_of_le (s := S64x2x32x256) (t := S1x2x32x256) rfl st 3 0 s3 (by decide)
  by_cases hs : s.val = k
  · rw [dif_pos ⟨⟨by rw [e0]; omega, by rw [e0]; omega⟩, ⟨by rw [e1]; exact Nat.zero_le _, by rw [e1, Nat.zero_add]; exact d.isLt⟩, ⟨by rw [e2]; exact Nat.zero_le _, by rw [e2, Nat.zero_add]; exact b.isLt⟩, by rw [e3]; exact Nat.zero_le _, by rw [e3, Nat.zero_add]; exact e.isLt⟩, if_pos hs]
    unfold at3
    refine congrArg (X main_while0b_v69 : FVec Ideal S2x32x256 .f32) (funext fun a => Fin.ext ?_)
    match a with
    | 0 => show d.val - Host.clampedStart _ _ _ _ _ = d.val; rw [e1, Nat.sub_zero]
    | 1 => show b.val - Host.clampedStart _ _ _ _ _ = b.val; rw [e2, Nat.sub_zero]
    | 2 => show e.val - Host.clampedStart _ _ _ _ _ = e.val; rw [e3, Nat.sub_zero]
  · rw [dif_neg (fun h => hs (by have h1 := h.1.1; have h2 := h.1.2; rw [e0] at h1 h2; omega)), if_neg hs]

theorem ctr_at : (after bodyOps6 X main_v24_3 : IVec S_ 32) ix0 = IntOp.addi ((X main_v24_3 : IVec S_ 32) ix0) 1#32 := by
  unfold bodyOps6
  after_reads_at
  rfl

theorem copyH : after bodyOps6 X main_v24_4 = X main_while0b_v66 := by
  unfold bodyOps6
  after_reads_simp
  rfl

theorem copyC : after bodyOps6 X main_v24_5 = X main_while0b_v67 := by
  unfold bodyOps6
  after_reads_simp
  rfl

theorem copyO : after bodyOps6 X main_v24_6 = X main_while0b_v70 := by
  unfold bodyOps6
  after_reads_simp
  rfl

end Cert.Reference5Ideal.Enc

end
-- ==== Proof.Ref5.Trip.lean ====
/- One trip of the plain encoder, as one step of the recurrence in both directions. -/
module

public import proofs.«01_k».proof.Proof.Ref5.Read

@[expose] public section

set_option maxRecDepth 16384

noncomputable section

namespace Cert.Reference5Ideal.Enc

open Cert.Reference5Ideal Cert.Reference5Ideal.Gen
open Idealize.ShloMosaic Cert.Proof.Encoder
open Idealize.ShloMosaic.TcCoe
open Idealize.ShloMosaic.StableHlo (after afterL launchContents)

variable (X : Valuation τ sig (Elt Ideal))

theorem keep0 (r : Ref sig .tc) (h : ∀ y ∈ ([main_while0b_call0.c.ref, main_while0b_call0.c_0.ref, main_while0b_call0.c_1.ref, main_while0b_call0.v0.ref, main_while0b_call0.v1.ref] : List (Ref sig .tc)), r ≠ y) :
    after bodyOps0 X r = X r :=
  StableHlo.after_of_forall_not_mem bodyOps0 X (by
    intro op hop
    fin_cases hop <;> exact fun hm => StableHlo.devRef_ne_of_ne (h _ (by simp only [List.mem_cons, true_or, or_true])) (Finset.mem_singleton.mp hm))

theorem keep1 (r : Ref sig .tc) (h : ∀ y ∈ ([main_while0b_call1.c.ref, main_while0b_call1.c_0.ref, main_while0b_call1.v0.ref, main_while0b_call1.v1.ref] : List (Ref sig .tc)), r ≠ y) :
    after bodyOps1 X r = X r :=
  StableHlo.after_of_forall_not_mem bodyOps1 X (by
    intro op hop
    fin_cases hop <;> exact fun hm => StableHlo.devRef_ne_of_ne (h _ (by simp only [List.mem_cons, true_or, or_true])) (Finset.mem_singleton.mp hm))

theorem keep2 (r : Ref sig .tc) (h : ∀ y ∈ ([main_while0b_v35, main_while0b_v36, main_while0b_v37, main_while0b_v38, main_while0b_v39, main_while0b_v40] : List (Ref sig .tc)), r ≠ y) :
    after bodyOps2 X r = X r :=
  StableHlo.after_of_forall_not_mem bodyOps2 X (by
    intro op hop
    fin_cases hop <;> exact fun hm => StableHlo.devRef_ne_of_ne (h _ (by simp only [List.mem_cons, true_or, or_true])) (Finset.mem_singleton.mp hm))

theorem keep3 (r : Ref sig .tc) (h : ∀ y ∈ ([main_while0b_v41, main_while0b_v42, main_while0b_cst_7, main_while0b_v43, main_while0b_v44, main_while0b_cst_8, main_while0b_v45, main_while0b_v46, main_while0b_v47, main_while0b_v48, main_while0b_v49, main_while0b_cst_9, main_while0b_v50, main_while0b_v51, main_while0b_cst_10, main_while0b_v52, main_while0b_v53, main_while0b_v54, main_while0b_v55, main_while0b_v56, main_while0b_v57, main_while0b_v58, main_while0b_cst_11, main_while0b_v59, main_while0b_v60, main_while0b_cst_12, main_while0b_v61, main_while0b_v62, main_while0b_v63, main_while0b_v64, main_while0b_v65] : List (Ref sig .tc)), r ≠ y) :
    after bodyOps3 X r = X r :=
  StableHlo.after_of_forall_not_mem bodyOps3 X (by
    intro op hop
    fin_cases hop <;> exact fun hm => StableHlo.devRef_ne_of_ne (h _ (by simp only [List.mem_cons, true_or, or_true])) (Finset.mem_singleton.mp hm))

theorem keep4 (r : Ref sig .tc) (h : ∀ y ∈ ([main_while0b_call2.v0.ref, main_while0b_call2.v1.ref, main_while0b_call3.v0.ref, main_while0b_call3.v1.ref, main_while0b_cst_13, main_while0b_v68, main_while0b_call4.v0.ref, main_while0b_call4.v1.ref] : List (Ref sig .tc)), r ≠ y) :
    after bodyOps4 X r = X r :=
  StableHlo.after_of_forall_not_mem bodyOps4 X (by
    intro op hop
    fin_cases hop <;> exact fun hm => StableHlo.devRef_ne_of_ne (h _ (by simp only [List.mem_cons, true_or, or_true])) (Finset.mem_singleton.mp hm))

theorem keep5 (r : Ref sig .tc) (h : ∀ y ∈ ([main_while0b_call5.v0.ref, main_while0b_call5.c.ref, main_while0b_call5.c_0.ref, main_while0b_call5.c_1.ref, main_while0b_call5.v1.ref] : List (Ref sig .tc)), r ≠ y) :
    after bodyOps5 X r = X r :=
  StableHlo.after_of_forall_not_mem bodyOps5 X (by
    intro op hop
    fin_cases hop <;> exact fun hm => StableHlo.devRef_ne_of_ne (h _ (by simp only [List.mem_cons, true_or, or_true])) (Finset.mem_singleton.mp hm))

theorem keep6 (r : Ref sig .tc) (h : ∀ y ∈ ([main_while0b_c_14, main_while0b_v71, main_v24_3, main_v24_4, main_v24_5, main_v24_6] : List (Ref sig .tc)), r ≠ y) :
    after bodyOps6 X r = X r :=
  StableHlo.after_of_forall_not_mem bodyOps6 X (by
    intro op hop
    fin_cases hop <;> exact fun hm => StableHlo.devRef_ne_of_ne (h _ (by simp only [List.mem_cons, true_or, or_true])) (Finset.mem_singleton.mp hm))

/-- The buffers after stretch 0 of a trip. -/
def Y1 : Valuation τ sig (Elt Ideal) := after bodyOps0 (X)

/-- The buffers after stretch 1 of a trip. -/
def Y2 : Valuation τ sig (Elt Ideal) := after bodyOps1 (Y1 X)

/-- The buffers after stretch 2 of a trip. -/
def Y3 : Valuation τ sig (Elt Ideal) := after bodyOps2 (Y2 X)

/-- The buffers after stretch 3 of a trip. -/
def Y4 : Valuation τ sig (Elt Ideal) := after bodyOps3 (Y3 X)

/-- The buffers after stretch 4 of a trip. -/
def Y5 : Valuation τ sig (Elt Ideal) := after bodyOps4 (Y4 X)

/-- The buffers after stretch 5 of a trip. -/
def Y6 : Valuation τ sig (Elt Ideal) := after bodyOps5 (Y5 X)

/-- The buffers after stretch 6 of a trip. -/
def Y7 : Valuation τ sig (Elt Ideal) := after bodyOps6 (Y6 X)

theorem trip_eq : StableHlo.afterL (bodyI (F := Ideal)) X = Y7 X := rfl

/-- What no stretch before the last writes. -/
theorem kept (r : Ref sig .tc)
    (h0 : ∀ y ∈ ([main_while0b_call0.c.ref, main_while0b_call0.c_0.ref, main_while0b_call0.c_1.ref, main_while0b_call0.v0.ref, main_while0b_call0.v1.ref] : List (Ref sig .tc)), r ≠ y)
    (h1 : ∀ y ∈ ([main_while0b_call1.c.ref, main_while0b_call1.c_0.ref, main_while0b_call1.v0.ref, main_while0b_call1.v1.ref] : List (Ref sig .tc)), r ≠ y)
    (h2 : ∀ y ∈ ([main_while0b_v35, main_while0b_v36, main_while0b_v37, main_while0b_v38, main_while0b_v39, main_while0b_v40] : List (Ref sig .tc)), r ≠ y)
    (h3 : ∀ y ∈ ([main_while0b_v41, main_while0b_v42, main_while0b_cst_7, main_while0b_v43, main_while0b_v44, main_while0b_cst_8, main_while0b_v45, main_while0b_v46, main_while0b_v47, main_while0b_v48, main_while0b_v49, main_while0b_cst_9, main_while0b_v50, main_while0b_v51, main_while0b_cst_10, main_while0b_v52, main_while0b_v53, main_while0b_v54, main_while0b_v55, main_while0b_v56, main_while0b_v57, main_while0b_v58, main_while0b_cst_11, main_while0b_v59, main_while0b_v60, main_while0b_cst_12, main_while0b_v61, main_while0b_v62, main_while0b_v63, main_while0b_v64, main_while0b_v65] : List (Ref sig .tc)), r ≠ y)
    (h4 : ∀ y ∈ ([main_while0b_call2.v0.ref, main_while0b_call2.v1.ref, main_while0b_call3.v0.ref, main_while0b_call3.v1.ref, main_while0b_cst_13, main_while0b_v68, main_while0b_call4.v0.ref, main_while0b_call4.v1.ref] : List (Ref sig .tc)), r ≠ y)
    (h5 : ∀ y ∈ ([main_while0b_call5.v0.ref, main_while0b_call5.c.ref, main_while0b_call5.c_0.ref, main_while0b_call5.c_1.ref, main_while0b_call5.v1.ref] : List (Ref sig .tc)), r ≠ y)
    : Y1 X r = X r ∧ Y2 X r = X r ∧ Y3 X r = X r ∧ Y4 X r = X r ∧ Y5 X r = X r ∧ Y6 X r = X r := by
  have e1 : Y1 X r = X r := (keep0 _ r h0)
  have e2 : Y2 X r = X r := (keep1 _ r h1).trans e1
  have e3 : Y3 X r = X r := (keep2 _ r h2).trans e2
  have e4 : Y4 X r = X r := (keep3 _ r h3).trans e3
  have e5 : Y5 X r = X r := (keep4 _ r h4).trans e4
  have e6 : Y6 X r = X r := (keep5 _ r h5).trans e5
  exact ⟨e1, e2, e3, e4, e5, e6⟩

theorem kept_0 : Y1 X main_v24_0 = X main_v24_0 ∧ Y2 X main_v24_0 = X main_v24_0 ∧ Y3 X main_v24_0 = X main_v24_0 ∧ Y4 X main_v24_0 = X main_v24_0 ∧ Y5 X main_v24_0 = X main_v24_0 ∧ Y6 X main_v24_0 = X main_v24_0 :=
  kept X main_v24_0 (by decide) (by decide) (by decide) (by decide) (by decide) (by decide)
theorem kept_1 : Y1 X main_v24_1 = X main_v24_1 ∧ Y2 X main_v24_1 = X main_v24_1 ∧ Y3 X main_v24_1 = X main_v24_1 ∧ Y4 X main_v24_1 = X main_v24_1 ∧ Y5 X main_v24_1 = X main_v24_1 ∧ Y6 X main_v24_1 = X main_v24_1 :=
  kept X main_v24_1 (by decide) (by decide) (by decide) (by decide) (by decide) (by decide)
theorem kept_2 : Y1 X main_v24_2 = X main_v24_2 ∧ Y2 X main_v24_2 = X main_v24_2 ∧ Y3 X main_v24_2 = X main_v24_2 ∧ Y4 X main_v24_2 = X main_v24_2 ∧ Y5 X main_v24_2 = X main_v24_2 ∧ Y6 X main_v24_2 = X main_v24_2 :=
  kept X main_v24_2 (by decide) (by decide) (by decide) (by decide) (by decide) (by decide)
theorem kept_3 : Y1 X main_v24_3 = X main_v24_3 ∧ Y2 X main_v24_3 = X main_v24_3 ∧ Y3 X main_v24_3 = X main_v24_3 ∧ Y4 X main_v24_3 = X main_v24_3 ∧ Y5 X main_v24_3 = X main_v24_3 ∧ Y6 X main_v24_3 = X main_v24_3 :=
  kept X main_v24_3 (by decide) (by decide) (by decide) (by decide) (by decide) (by decide)
theorem kept_4 : Y1 X main_v24_4 = X main_v24_4 ∧ Y2 X main_v24_4 = X main_v24_4 ∧ Y3 X main_v24_4 = X main_v24_4 ∧ Y4 X main_v24_4 = X main_v24_4 ∧ Y5 X main_v24_4 = X main_v24_4 ∧ Y6 X main_v24_4 = X main_v24_4 :=
  kept X main_v24_4 (by decide) (by decide) (by decide) (by decide) (by decide) (by decide)
theorem kept_5 : Y1 X main_v24_5 = X main_v24_5 ∧ Y2 X main_v24_5 = X main_v24_5 ∧ Y3 X main_v24_5 = X main_v24_5 ∧ Y4 X main_v24_5 = X main_v24_5 ∧ Y5 X main_v24_5 = X main_v24_5 ∧ Y6 X main_v24_5 = X main_v24_5 :=
  kept X main_v24_5 (by decide) (by decide) (by decide) (by decide) (by decide) (by decide)
theorem kept_6 : Y1 X main_v24_6 = X main_v24_6 ∧ Y2 X main_v24_6 = X main_v24_6 ∧ Y3 X main_v24_6 = X main_v24_6 ∧ Y4 X main_v24_6 = X main_v24_6 ∧ Y5 X main_v24_6 = X main_v24_6 ∧ Y6 X main_v24_6 = X main_v24_6 :=
  kept X main_v24_6 (by decide) (by decide) (by decide) (by decide) (by decide) (by decide)

theorem carry_0 : Y7 X main_v24_0 = X main_v24_0 := (keep6 _ main_v24_0 (by decide)).trans (kept_0 X).2.2.2.2.2
theorem carry_1 : Y7 X main_v24_1 = X main_v24_1 := (keep6 _ main_v24_1 (by decide)).trans (kept_1 X).2.2.2.2.2
theorem carry_2 : Y7 X main_v24_2 = X main_v24_2 := (keep6 _ main_v24_2 (by decide)).trans (kept_2 X).2.2.2.2.2

/-! ## The step -/

/-- The gates' share of step `k`. -/
def gatesAt (k : ℕ) (hk : k < 64) (d : Fin 2) : Gates := fun b j => at4 (X main_v24_0) ⟨k, hk⟩ d b j
/-- The mask of step `k`. -/
def maskAt (k : ℕ) (hk : k < 64) (d : Fin 2) : Fin 32 → BitVec 1 := fun b => (X main_v24_1 : IVec S64x2x32 1) (ix3 ⟨k, hk⟩ d b)

variable (k : ℕ) (hk : k < 64) (hc : (X main_v24_3 : IVec S_ 32) ix0 = BitVec.ofNat 32 k)
include hc

theorem gate_Y2 (d : Fin 2) : at3 (Y2 X main_while0b_v33) d = gatesAt X k hk d := by
  rw [show Y2 X main_while0b_v33 = Y1 X main_while0b_v33 from keep1 _ _ (by decide)]
  exact funext fun b => funext fun j => gate_at X d b j k hk hc

theorem mask_Y3 (d : Fin 2) (b : Fin 32) : (Y3 X main_while0b_v34 : IVec S2x32 1) (ix2 d b) = maskAt X k hk d b := by
  rw [show Y3 X main_while0b_v34 = Y2 X main_while0b_v34 from keep2 _ _ (by decide)]
  refine (mask_at (Y1 X) d b k hk (by rw [(kept_3 X).1]; exact hc)).trans ?_
  rw [(kept_1 X).1]
  rfl

theorem pre0_Y3 (d : Fin 2) (b : Fin 32) (e : Fin 256) : at3 (Y3 X main_while0b_v37) d b e
    = pre (gatesAt X k hk d) (at3 (X main_v24_2) d) (at3 (X main_v24_4) d) b ⟨e.val, by omega⟩ := by
  refine (pre0_at (Y2 X) d b e).trans ?_
  rw [gate_Y2 X k hk hc d, (kept_2 X).2.1, (kept_4 X).2.1]

theorem pre1_Y3 (d : Fin 2) (b : Fin 32) (e : Fin 256) : at3 (Y3 X main_while0b_v38) d b e
    = pre (gatesAt X k hk d) (at3 (X main_v24_2) d) (at3 (X main_v24_4) d) b ⟨256 + e.val, by omega⟩ := by
  refine (pre1_at (Y2 X) d b e).trans ?_
  rw [gate_Y2 X k hk hc d, (kept_2 X).2.1, (kept_4 X).2.1]

theorem pre2_Y3 (d : Fin 2) (b : Fin 32) (e : Fin 256) : at3 (Y3 X main_while0b_v39) d b e
    = pre (gatesAt X k hk d) (at3 (X main_v24_2) d) (at3 (X main_v24_4) d) b ⟨512 + e.val, by omega⟩ := by
  refine (pre2_at (Y2 X) d b e).trans ?_
  rw [gate_Y2 X k hk hc d, (kept_2 X).2.1, (kept_4 X).2.1]

theorem pre3_Y3 (d : Fin 2) (b : Fin 32) (e : Fin 256) : at3 (Y3 X main_while0b_v40) d b e
    = pre (gatesAt X k hk d) (at3 (X main_v24_2) d) (at3 (X main_v24_4) d) b ⟨768 + e.val, by omega⟩ := by
  refine (pre3_at (Y2 X) d b e).trans ?_
  rw [gate_Y2 X k hk hc d, (kept_2 X).2.1, (kept_4 X).2.1]

theorem cell_Y4 (d : Fin 2) (b : Fin 32) (e : Fin 256) : at3 (Y4 X main_while0b_v56) d b e
    = newC (gatesAt X k hk d) (at3 (X main_v24_2) d) (at3 (X main_v24_4) d) (at3 (X main_v24_5) d) b e := by
  refine (newC_at (Y3 X) d b e).trans ?_
  rw [pre0_Y3 X k hk hc d b e, pre1_Y3 X k hk hc d b e, pre2_Y3 X k hk hc d b e, (kept_5 X).2.2.1]
  rfl

theorem hid_Y4 (d : Fin 2) (b : Fin 32) (e : Fin 256) : at3 (Y4 X main_while0b_v64) d b e
    = newH (gatesAt X k hk d) (at3 (X main_v24_2) d) (at3 (X main_v24_4) d) (at3 (X main_v24_5) d) b e := by
  refine (newH_at (Y3 X) d b e).trans ?_
  rw [pre0_Y3 X k hk hc d b e, pre1_Y3 X k hk hc d b e, pre2_Y3 X k hk hc d b e, pre3_Y3 X k hk hc d b e, (kept_5 X).2.2.1]
  rfl

theorem wide_Y4 (d : Fin 2) (b : Fin 32) : (Y4 X main_while0b_v65 : IVec S2x32x1 1) (ix3 d b 0) = maskAt X k hk d b :=
  (wide_at (Y3 X) d b).trans (mask_Y3 X k hk hc d b)

/-- One trip is one step of the recurrence in each direction. -/
theorem trip :
    (∀ d, at3 (Y7 X main_v24_4) d = hold (maskAt X k hk d) (newH (gatesAt X k hk d) (at3 (X main_v24_2) d) (at3 (X main_v24_4) d) (at3 (X main_v24_5) d)) (at3 (X main_v24_4) d))
    ∧ (∀ d, at3 (Y7 X main_v24_5) d = hold (maskAt X k hk d) (newC (gatesAt X k hk d) (at3 (X main_v24_2) d) (at3 (X main_v24_4) d) (at3 (X main_v24_5) d)) (at3 (X main_v24_5) d))
    ∧ (∀ s d, at4 (Y7 X main_v24_6) s d = if s.val = k then hold (maskAt X k hk d) (newH (gatesAt X k hk d) (at3 (X main_v24_2) d) (at3 (X main_v24_4) d) (at3 (X main_v24_5) d)) zero
        else at4 (X main_v24_6) s d) := by
  refine ⟨fun d => funext fun b => funext fun e => ?_, fun d => funext fun b => funext fun e => ?_, fun s d => funext fun b => funext fun e => ?_⟩
  · rw [show Y7 X main_v24_4 = Y6 X main_while0b_v66 from copyH _, show Y6 X main_while0b_v66 = Y5 X main_while0b_v66 from keep5 _ _ (by decide)]
    refine (heldH_at (Y4 X) d b e).trans ?_
    rw [wide_Y4 X k hk hc d b, hid_Y4 X k hk hc d b e, (kept_4 X).2.2.2.1]
    rfl
  · rw [show Y7 X main_v24_5 = Y6 X main_while0b_v67 from copyC _, show Y6 X main_while0b_v67 = Y5 X main_while0b_v67 from keep5 _ _ (by decide)]
    refine (heldC_at (Y4 X) d b e).trans ?_
    rw [wide_Y4 X k hk hc d b, cell_Y4 X k hk hc d b e, (kept_5 X).2.2.2.1]
    rfl
  · rw [show Y7 X main_v24_6 = Y6 X main_while0b_v70 from copyO _]
    refine (put_at (Y5 X) s d b e k hk (by rw [(kept_3 X).2.2.2.2.1]; exact hc)).trans ?_
    by_cases hs : s.val = k
    · rw [if_pos hs, if_pos hs]
      refine (heldO_at (Y4 X) d b e).trans ?_
      rw [wide_Y4 X k hk hc d b, hid_Y4 X k hk hc d b e]
      rfl
    · rw [if_neg hs, if_neg hs, (kept_6 X).2.2.2.2.1]

theorem ctr_trip : (Y7 X main_v24_3 : IVec S_ 32) ix0 = BitVec.ofNat 32 (k + 1) := by
  have e1 := ctr_at (Y6 X)
  rw [(kept_3 X).2.2.2.2.2] at e1
  refine e1.trans ?_
  rw [hc]
  exact (BitVec.ofNat_add k 1).symm

end Cert.Reference5Ideal.Enc

end
-- ==== Proof.Ref5.Kept.lean ====
/- What the plain encoder's program leaves alone: its arguments everywhere, what the loop carries in the loop's condition. -/
module

public import proofs.«01_k».proof.Proof.Ref5.Trip

@[expose] public section

set_option maxRecDepth 16384

noncomputable section

namespace Cert.Reference5Ideal.Enc

open Cert.Reference5Ideal Cert.Reference5Ideal.Gen
open Idealize.ShloMosaic Cert.Proof.Encoder
open Idealize.ShloMosaic.TcCoe
open Idealize.ShloMosaic.StableHlo (after afterL launchContents)

variable (X : Valuation τ sig (Elt Ideal))

theorem keepP0 (r : Ref sig .tc) (h : ∀ y ∈ ([main_v0, main_v1, main_v2, main_v3, main_v4, main_v5, main_v6, main_v7, main_v8, main_v9, main_v10, main_v11, main_v12, main_v13, main_v14] : List (Ref sig .tc)), r ≠ y) :
    after preOps0 X r = X r :=
  StableHlo.after_of_forall_not_mem preOps0 X (by
    intro op hop
    fin_cases hop <;> exact fun hm => StableHlo.devRef_ne_of_ne (h _ (by simp only [List.mem_cons, true_or, or_true])) (Finset.mem_singleton.mp hm))

theorem keepP1 (r : Ref sig .tc) (h : ∀ y ∈ ([main_v15, main_v16, main_v17, main_v18, main_v19, main_v20, main_v21, main_cst, main_v22, main_cst_0, main_v23, main_c] : List (Ref sig .tc)), r ≠ y) :
    after preOps1 X r = X r :=
  StableHlo.after_of_forall_not_mem preOps1 X (by
    intro op hop
    fin_cases hop <;> exact fun hm => StableHlo.devRef_ne_of_ne (h _ (by simp only [List.mem_cons, true_or, or_true])) (Finset.mem_singleton.mp hm))

theorem keepP2 (r : Ref sig .tc) (h : ∀ y ∈ ([main_v24_0, main_v24_1, main_v24_2, main_v24_3, main_v24_4, main_v24_5, main_v24_6] : List (Ref sig .tc)), r ≠ y) :
    after preOps2 X r = X r :=
  StableHlo.after_of_forall_not_mem preOps2 X (by
    intro op hop
    fin_cases hop <;> exact fun hm => StableHlo.devRef_ne_of_ne (h _ (by simp only [List.mem_cons, true_or, or_true])) (Finset.mem_singleton.mp hm))

theorem keepC (r : Ref sig .tc) (h : ∀ y ∈ ([main_while0c_c_7, main_while0c_v33] : List (Ref sig .tc)), r ≠ y) :
    after condOps X r = X r :=
  StableHlo.after_of_forall_not_mem condOps X (by
    intro op hop
    fin_cases hop <;> exact fun hm => StableHlo.devRef_ne_of_ne (h _ (by simp only [List.mem_cons, true_or, or_true])) (Finset.mem_singleton.mp hm))

theorem keepQ (r : Ref sig .tc) (h : ∀ y ∈ ([main_v25, main_v26, main_v27, main_v28, main_v29, main_v30, main_v31, main_v32] : List (Ref sig .tc)), r ≠ y) :
    after postOps0 X r = X r :=
  StableHlo.after_of_forall_not_mem postOps0 X (by
    intro op hop
    fin_cases hop <;> exact fun hm => StableHlo.devRef_ne_of_ne (h _ (by simp only [List.mem_cons, true_or, or_true])) (Finset.mem_singleton.mp hm))

/-- The program's arguments. -/
abbrev argOf : Fin 4 → Ref sig .tc := ![main_arg0, main_arg1, main_arg2, main_arg3]

/-- What stands before the loop leaves the arguments. -/
theorem arg_pre (i : Fin 4) : StableHlo.afterL (preI (F := Ideal)) X (argOf i) = X (argOf i) :=
  (keepP2 (after preOps1 (after preOps0 X)) (argOf i) (by revert i; decide)).trans
    ((keepP1 (after preOps0 X) (argOf i) (by revert i; decide)).trans (keepP0 X (argOf i) (by revert i; decide)))

theorem arg_cond (i : Fin 4) : after condOps X (argOf i) = X (argOf i) := keepC X (argOf i) (by revert i; decide)

theorem arg_post (i : Fin 4) : after postOps0 X (argOf i) = X (argOf i) := keepQ X (argOf i) (by revert i; decide)

theorem arg_trip (i : Fin 4) : Y7 X (argOf i) = X (argOf i) :=
  (keep6 _ (argOf i) (by revert i; decide)).trans (kept X (argOf i) (by revert i; decide) (by revert i; decide) (by revert i; decide) (by revert i; decide) (by revert i; decide) (by revert i; decide)).2.2.2.2.2

/-- No trip of the loop changes an argument. -/
theorem arg_loop (T : ℕ → Valuation τ sig (Elt Ideal)) (hs : ∀ k, T (k + 1) = Y7 (after condOps (T k))) (i : Fin 4) (k : ℕ) :
    T k (argOf i) = T 0 (argOf i) := by
  induction k with
  | zero => rfl
  | succ k ih => rw [hs k]; exact (arg_trip _ i).trans ((arg_cond _ i).trans ih)

theorem cond_0 : after condOps X main_v24_0 = X main_v24_0 := keepC X main_v24_0 (by decide)
theorem cond_1 : after condOps X main_v24_1 = X main_v24_1 := keepC X main_v24_1 (by decide)
theorem cond_2 : after condOps X main_v24_2 = X main_v24_2 := keepC X main_v24_2 (by decide)
theorem cond_3 : after condOps X main_v24_3 = X main_v24_3 := keepC X main_v24_3 (by decide)
theorem cond_4 : after condOps X main_v24_4 = X main_v24_4 := keepC X main_v24_4 (by decide)
theorem cond_5 : after condOps X main_v24_5 = X main_v24_5 := keepC X main_v24_5 (by decide)
theorem cond_6 : after condOps X main_v24_6 = X main_v24_6 := keepC X main_v24_6 (by decide)

theorem copy_0 : after preOps2 X main_v24_0 = X main_v14 := by
  unfold preOps2
  after_reads_simp
  rfl

theorem copy_1 : after preOps2 X main_v24_1 = X main_v18 := by
  unfold preOps2
  after_reads_simp
  rfl

theorem copy_2 : after preOps2 X main_v24_2 = X main_v21 := by
  unfold preOps2
  after_reads_simp
  rfl

theorem copy_3 : after preOps2 X main_v24_3 = X main_c := by
  unfold preOps2
  after_reads_simp
  rfl

theorem copy_4 : after preOps2 X main_v24_4 = X main_v22 := by
  unfold preOps2
  after_reads_simp
  rfl

theorem copy_5 : after preOps2 X main_v24_5 = X main_v22 := by
  unfold preOps2
  after_reads_simp
  rfl

theorem copy_6 : after preOps2 X main_v24_6 = X main_v23 := by
  unfold preOps2
  after_reads_simp
  rfl

/-- The counter before trip `k` reads `k`. -/
theorem ctr_loop (T : ℕ → Valuation τ sig (Elt Ideal)) (hs : ∀ k, T (k + 1) = Y7 (after condOps (T k)))
    (h0 : (T 0 main_v24_3 : IVec S_ 32) ix0 = BitVec.ofNat 32 0) (k : ℕ) : (T k main_v24_3 : IVec S_ 32) ix0 = BitVec.ofNat 32 k := by
  induction k with
  | zero => exact h0
  | succ k ih => rw [hs k]; exact ctr_trip _ k (by rw [cond_3]; exact ih)

end Cert.Reference5Ideal.Enc

end
-- ==== Proof.Ref5.Entry.lean ====
/- What the plain encoder's loop starts from, and what its last stretch leaves, read at an index. -/
module

public import proofs.«01_k».proof.Proof.Ref5.Read

@[expose] public section

set_option maxRecDepth 16384

noncomputable section

namespace Cert.Reference5Ideal.Enc

open Cert.Reference5Ideal Cert.Reference5Ideal.Gen
open Idealize.ShloMosaic Cert.Proof.Encoder
open Idealize.ShloMosaic.TcCoe
open Idealize.ShloMosaic.StableHlo (after afterL launchContents)

variable (X : Valuation τ sig (Elt Ideal))

theorem gates_at (k : Fin 64) (d : Fin 2) (b : Fin 32) (j : Fin 1024) :
    at4 (after preOps0 X main_v14) k d b j = gatesOf (X main_arg0) d k.val b j := by
  unfold at4 gatesOf posn preOps0
  obtain ⟨k, hk⟩ := k
  obtain rfl | rfl : d = 0 ∨ d = 1 := by omega
  · after_reads_simp
    pointwise
    refine congrArg (X main_arg0 : FVec Ideal S2x2048x1024 .f32) (funext fun a => Fin.ext ?_)
    match a with
    | 0 => rfl
    | 1 => show k * 32 + b.val = 32 * (k % 64) + b.val; omega
    | 2 => rfl
  · after_reads_simp
    pointwise
    refine congrArg (X main_arg0 : FVec Ideal S2x2048x1024 .f32) (funext fun a => Fin.ext ?_)
    match a with
    | 0 => rfl
    | 1 => show (64 - (k + 1)) * 32 + b.val = 32 * ((63 - k) % 64) + b.val; omega
    | 2 => rfl

theorem lens_at (k : Fin 64) (b : Fin 32) : (after preOps0 X main_v6 : IVec S64x32 1) (ix2 k b)
    = IntOp.cmpi .slt (BitVec.ofNat 32 k.val) ((X main_arg3 : IVec S32 32) (ix1 b)) := by
  unfold preOps0
  after_reads_at

theorem mask_pre (k : Fin 64) (d : Fin 2) (b : Fin 32) : (after preOps1 X main_v18 : IVec S64x2x32 1) (ix3 k d b)
    = (X main_v6 : IVec S64x32 1) (ix2 ⟨posn d k.val, posn_lt d k.val k.isLt⟩ b) := by
  unfold posn preOps1
  obtain rfl | rfl : d = 0 ∨ d = 1 := by omega
  · after_reads_at
  · after_reads_at
    refine congrArg (X main_v6 : IVec S64x32 1) (funext fun a => Fin.ext ?_)
    match a with
    | 0 => show 64 - (k.val + 1) = 63 - k.val; omega
    | 1 => rfl

theorem mat_at (d : Fin 2) (j : Fin 1024) (i : Fin 256) : at3 (after preOps1 X main_v21) d j i = matOf (X main_arg1) (X main_arg2) d j i := by
  unfold at3 matOf preOps1
  obtain rfl | rfl : d = 0 ∨ d = 1 := by omega
  · after_reads_at
  · after_reads_at

theorem init_at (d : Fin 2) : at3 (after preOps1 X main_v22) d = zero := by
  funext b e
  unfold at3 zero preOps1
  after_reads_at

theorem zero_at : (after preOps1 X main_c : IVec S_ 32) ix0 = (0#32 : BitVec 32) := by
  unfold preOps1
  after_reads_at

theorem rows_post (d : Fin 2) (s : Fin 64) (b : Fin 32) (e : Fin 256) :
    at4 (after postOps0 X main_v32) d s b e = at4 (X main_v24_6) ⟨posn d s.val, posn_lt d s.val s.isLt⟩ d b e := by
  unfold at4 posn postOps0
  obtain rfl | rfl : d = 0 ∨ d = 1 := by omega
  · after_reads_at
  · after_reads_at
    refine congrArg (X main_v24_6 : FVec Ideal S64x2x32x256 .f32) (funext fun a => Fin.ext ?_)
    match a with
    | 0 => show 64 - (s.val + 1) = 63 - s.val; omega
    | 1 => rfl
    | 2 => rfl
    | 3 => rfl

end Cert.Reference5Ideal.Enc

end
-- ==== Proof.Ref5.Run.lean ====
/- The plain encoder's loop, run: its condition, its trips, and what the program ends with. -/
module

public import proofs.«01_k».proof.Proof.Ref5.Kept
public import proofs.«01_k».proof.Proof.Ref5.Entry
public import Idealize.ShloMosaic.Lib.StableHlo.RunLoop
public import Idealize.ShloMosaic.Adequacy
public import Idealize.ShloMosaic.Init

@[expose] public section

set_option maxRecDepth 16384

noncomputable section

namespace Cert.Reference5Ideal.Enc

open Cert.Reference5Ideal Cert.Reference5Ideal.Gen
open Idealize.ShloMosaic Idealize.SL Idealize.SL.Sem Idealize.SL.ProofMode
open Idealize.ShloMosaic.TcCoe
open Idealize.ShloMosaic.StableHlo (after afterL entryContents finalContents launchContents atTrip CondSpec)

theorem lt_iff (k : ℕ) (hk : k ≤ 64) : IntOp.cmpi .slt (BitVec.ofNat 32 k) (64#32) = 1#1 ↔ k < 64 := by
  have h : ∀ k : Fin 65, IntOp.cmpi .slt (BitVec.ofNat 32 k.val) (64#32) = 1#1 ↔ k.val < 64 := by decide +kernel
  exact h ⟨k, by omega⟩

variable (m : (ℓ : Loc nD τ sig) → Buf (Elt Ideal) ℓ) (ρ : Dev nD → PrngReg)

/-- The buffers before trip `k`. -/
abbrev T (c : Dev nD) (k : ℕ) : Valuation τ sig (Elt Ideal) := atTrip condOps bodyI (entryContents preI m) k c

theorem T_succ (c : Dev nD) (k : ℕ) : T m c (k + 1) = Y7 (after condOps (T m c k)) := rfl

theorem T_zero (c : Dev nD) : (T m c 0 main_v24_3 : IVec S_ 32) ix0 = BitVec.ofNat 32 0 :=
  (congrFun (copy_3 (after preOps1 (after preOps0 (launchContents m c)))) ix0).trans (zero_at (after preOps0 (launchContents m c)))

theorem T_ctr (c : Dev nD) (k : ℕ) : (T m c k main_v24_3 : IVec S_ 32) ix0 = BitVec.ofNat 32 k := ctr_loop (T m c) (T_succ m c) (T_zero m c) k

set_option backward.isDefEq.respectTransparency.types false in
theorem condSpec : CondSpec (pcfgs (F := Ideal)) defs₀ loops (main_while0_cond (F := Ideal)) condOps bodyI (entryContents preI m) 64 := by
  intro k hk c bd
  have hctr : (atTrip condOps bodyI (entryContents preI m) k c main_v24_3 : IVec S_ 32) HostLoop.idx0 = BitVec.ofNat 32 k := T_ctr m c k
  generalize atTrip condOps bodyI (entryContents preI m) k c = W at hctr ⊢
  unfold main_while0_cond
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]
    · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]
    · iexact Hb
    iexact Hh
  iintro ⟨Hb, Hh⟩
  rw [HostLoop.elt_apply, wp_ret]; imodintro
  isplitr
  · ipureintro
    show Iff (IntOp.cmpi .slt (HloOp.result _ W main_v24_3 HostLoop.idx0) (HloOp.result _ W main_while0c_c_7 HostLoop.idx0) = 1#1) (k < 64)
    rw [StableHlo.nullary_result_ne _ _ _ _ (by decide), StableHlo.nullary_result, hctr]
    exact lt_iff k hk
  isplitl [Hb]
  · iexact Hb
  rw [StableHlo.after_cons, StableHlo.after_cons, StableHlo.after_nil]; iexact Hh

/-- What the program's buffers end with. -/
abbrev Z (c : Dev nD) : Valuation τ sig (Elt Ideal) := after postOps0 (after condOps (T m c 64))

theorem run : θ_run (defs (F := Ideal)) (onTc (τ := τ) (main (F := Ideal))) ⟨m, fun _ => 0, ρ⟩
    (fun r => ∀ (c : Dev nD) (b : Ref sig .tc), (Proc.devRef .tc b : DevRef τ sig).isScoped = false → r.2.mem ((c.tc : Thread nD τ).loc b) = Z m c b) :=
  StableHlo.run_loop (pcfgs (F := Ideal)) defs₀ loops main 0 main_while0_cond main_while0_body rfl preI bodyI postI condOps
    preI_plain bodyI_plain postI_plain main_chain body_chain 64 m ρ (condSpec m)

theorem Z_arg (c : Dev nD) (i : Fin 4) : Z m c (argOf i) = m ((c.tc : Thread nD τ).loc (argOf i)) :=
  (arg_post _ i).trans ((arg_cond _ i).trans ((arg_loop (T m c) (T_succ m c) i 64).trans (arg_pre (launchContents m c) i)))

/-- Every execution ends with the arguments as they were, the results at what the last stretch leaves, and every counter at zero. -/
theorem outcome : θ_run (defs (F := Ideal)) (onTc (τ := τ) (main (F := Ideal))) ⟨m, fun _ => 0, ρ⟩ (fun r => (∀ c : Dev nD,
      r.2.mem ((c.tc : Thread nD τ).loc main_v32) = Z m c main_v32
      ∧ r.2.mem ((c.tc : Thread nD τ).loc main_v24_4) = Z m c main_v24_4
      ∧ r.2.mem ((c.tc : Thread nD τ).loc main_v24_5) = Z m c main_v24_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨h c main_v32 rfl, h c main_v24_4 rfl, h c main_v24_5 rfl,
    (h c main_arg0 rfl).trans (Z_arg m c 0),
    (h c main_arg1 rfl).trans (Z_arg m c 1),
    (h c main_arg2 rfl).trans (Z_arg m c 2),
    (h c main_arg3 rfl).trans (Z_arg m c 3)⟩, sem_eq_zero_of_no_sems (by decide) r.2⟩) (run m ρ)

end Cert.Reference5Ideal.Enc

end
-- ==== Proof.Ref5.Loop.lean ====
/- What the plain encoder's loop has done before each trip, and the arrays the program ends with. -/
module

public import proofs.«01_k».proof.Proof.Ref5.Run

@[expose] public section

set_option maxRecDepth 16384

noncomputable section

namespace Cert.Reference5Ideal.Enc

open Cert.Reference5Ideal Cert.Reference5Ideal.Gen
open Idealize.ShloMosaic Cert.Proof.Encoder
open Idealize.ShloMosaic.TcCoe
open Idealize.ShloMosaic.StableHlo (after afterL launchContents)

variable (X : Valuation τ sig (Elt Ideal))

/-- A trip with its condition: what `trip` says, from before the condition. -/
theorem trip' (k : ℕ) (hk : k < 64) (hc : (X main_v24_3 : IVec S_ 32) ix0 = BitVec.ofNat 32 k) :
    (∀ d, at3 (Y7 (after condOps X) main_v24_4) d = hold (maskAt X k hk d) (newH (gatesAt X k hk d) (at3 (X main_v24_2) d) (at3 (X main_v24_4) d) (at3 (X main_v24_5) d)) (at3 (X main_v24_4) d))
    ∧ (∀ d, at3 (Y7 (after condOps X) main_v24_5) d = hold (maskAt X k hk d) (newC (gatesAt X k hk d) (at3 (X main_v24_2) d) (at3 (X main_v24_4) d) (at3 (X main_v24_5) d)) (at3 (X main_v24_5) d))
    ∧ (∀ s d, at4 (Y7 (after condOps X) main_v24_6) s d = if s.val = k then hold (maskAt X k hk d) (newH (gatesAt X k hk d) (at3 (X main_v24_2) d) (at3 (X main_v24_4) d) (at3 (X main_v24_5) d)) zero
        else at4 (X main_v24_6) s d) := by
  have e := trip (after condOps X) k hk (by rw [cond_3]; exact hc)
  unfold maskAt gatesAt at e ⊢
  rw [cond_0, cond_1, cond_2, cond_4, cond_5, cond_6] at e
  exact e

/-- Before trip `k`: the carried operands as they were, the states of step `k`, and the first `k` rows of the output. -/
theorem loop_inv (T : ℕ → Valuation τ sig (Elt Ideal)) (hs : ∀ k, T (k + 1) = Y7 (after condOps (T k)))
    (h0 : (T 0 main_v24_3 : IVec S_ 32) ix0 = BitVec.ofNat 32 0) (g : Fin 2 → ℕ → Gates) (v : Fin 2 → ℕ → Fin 32 → BitVec 1) (w : Fin 2 → Fin 1024 → Fin 256 → EReal)
    (hg : ∀ (k : ℕ) (hk : k < 64) d, gatesAt (T 0) k hk d = g d k) (hv : ∀ (k : ℕ) (hk : k < 64) d, maskAt (T 0) k hk d = v d k)
    (hw : ∀ d, at3 (T 0 main_v24_2) d = w d) (hh : ∀ d, at3 (T 0 main_v24_4) d = zero) (hcell : ∀ d, at3 (T 0 main_v24_5) d = zero) (k : ℕ) (hk : k ≤ 64) :
    (T k main_v24_0 = T 0 main_v24_0 ∧ T k main_v24_1 = T 0 main_v24_1 ∧ T k main_v24_2 = T 0 main_v24_2)
    ∧ (∀ d, at3 (T k main_v24_4) d = (traj (g d) (v d) (w d) k).1)
    ∧ (∀ d, at3 (T k main_v24_5) d = (traj (g d) (v d) (w d) k).2)
    ∧ ∀ (s : Fin 64) d, s.val < k → at4 (T k main_v24_6) s d = out (g d) (v d) (w d) s.val := by
  induction k with
  | zero => exact ⟨⟨rfl, rfl, rfl⟩, hh, hcell, fun s d h => absurd h (Nat.not_lt_zero _)⟩
  | succ k ih =>
    obtain ⟨⟨i1, i2, i3⟩, i4, i5, i6⟩ := ih (by omega)
    have hk' : k < 64 := by omega
    have eg : ∀ d, gatesAt (T k) k hk' d = g d k := fun d => by
      rw [← hg k hk' d]; unfold gatesAt; rw [i1]
    have ev : ∀ d, maskAt (T k) k hk' d = v d k := fun d => by
      rw [← hv k hk' d]; unfold maskAt; rw [i2]
    have ew : ∀ d, at3 (T k main_v24_2) d = w d := fun d => by rw [i3]; exact hw d
    obtain ⟨e1, e2, e3⟩ := trip' (T k) k hk' (ctr_loop T hs h0 k)
    rw [hs k]
    refine ⟨⟨(carry_0 _).trans ((cond_0 _).trans i1), (carry_1 _).trans ((cond_1 _).trans i2), (carry_2 _).trans ((cond_2 _).trans i3)⟩, fun d => ?_, fun d => ?_, fun s d h => ?_⟩
    · rw [e1 d, eg, ev, ew, i4, i5]; rfl
    · rw [e2 d, eg, ev, ew, i4, i5]; rfl
    · rw [e3 s d, eg, ev, ew, i4, i5]
      by_cases hsk : s.val = k
      · rw [if_pos hsk, hsk]; rfl
      · rw [if_neg hsk]; exact i6 s d (by omega)

/-- The buffers before the first trip. -/
abbrev E0 : Valuation τ sig (Elt Ideal) := afterL preI X

theorem arg_copied (i : Fin 4) : after preOps0 X (argOf i) = X (argOf i) := keepP0 X (argOf i) (by revert i; decide)

theorem E0_gates (k : ℕ) (hk : k < 64) (d : Fin 2) : gatesAt (E0 X) k hk d = gatesOf (X main_arg0) d k := by
  funext b j
  unfold gatesAt
  rw [show E0 X main_v24_0 = after preOps0 X main_v14 from (copy_0 _).trans (keepP1 (after preOps0 X) main_v14 (by decide))]
  exact gates_at X ⟨k, hk⟩ d b j

theorem E0_mask (k : ℕ) (hk : k < 64) (d : Fin 2) : maskAt (E0 X) k hk d = maskOf (X main_arg3) d k := by
  funext b
  unfold maskAt
  rw [show E0 X main_v24_1 = after preOps1 (after preOps0 X) main_v18 from copy_1 _]
  exact (mask_pre (after preOps0 X) ⟨k, hk⟩ d b).trans (lens_at X _ b)

theorem E0_mat (d : Fin 2) : at3 (E0 X main_v24_2) d = matOf (X main_arg1) (X main_arg2) d := by
  rw [show E0 X main_v24_2 = after preOps1 (after preOps0 X) main_v21 from copy_2 _]
  exact (funext fun j => funext fun i => mat_at (after preOps0 X) d j i).trans (congrArg₂ (fun x y => matOf x y d) (arg_copied X 1) (arg_copied X 2))

theorem E0_hid (d : Fin 2) : at3 (E0 X main_v24_4) d = zero :=
  (congrArg (fun v => at3 v d) (copy_4 (after preOps1 (after preOps0 X)))).trans (init_at (after preOps0 X) d)
theorem E0_cell (d : Fin 2) : at3 (E0 X main_v24_5) d = zero :=
  (congrArg (fun v => at3 v d) (copy_5 (after preOps1 (after preOps0 X)))).trans (init_at (after preOps0 X) d)

variable (m : (ℓ : Loc nD τ sig) → Buf (Elt Ideal) ℓ)

/-- The loop's end. -/
theorem end_inv (c : Dev nD) :
    (T m c 64 main_v24_0 = T m c 0 main_v24_0 ∧ T m c 64 main_v24_1 = T m c 0 main_v24_1 ∧ T m c 64 main_v24_2 = T m c 0 main_v24_2)
    ∧ (∀ d, at3 (T m c 64 main_v24_4) d = (stateOf (m ((c : Thread nD τ).loc main_arg0)) (m ((c : Thread nD τ).loc main_arg1)) (m ((c : Thread nD τ).loc main_arg2)) (m ((c : Thread nD τ).loc main_arg3)) d 64).1)
    ∧ (∀ d, at3 (T m c 64 main_v24_5) d = (stateOf (m ((c : Thread nD τ).loc main_arg0)) (m ((c : Thread nD τ).loc main_arg1)) (m ((c : Thread nD τ).loc main_arg2)) (m ((c : Thread nD τ).loc main_arg3)) d 64).2)
    ∧ ∀ (s : Fin 64) d, s.val < 64 → at4 (T m c 64 main_v24_6) s d = out (gatesOf (m ((c : Thread nD τ).loc main_arg0)) d) (maskOf (m ((c : Thread nD τ).loc main_arg3)) d)
        (matOf (m ((c : Thread nD τ).loc main_arg1)) (m ((c : Thread nD τ).loc main_arg2)) d) s.val :=
  loop_inv (T m c) (T_succ m c) (T_zero m c) (gatesOf (m ((c : Thread nD τ).loc main_arg0))) (maskOf (m ((c : Thread nD τ).loc main_arg3)))
    (matOf (m ((c : Thread nD τ).loc main_arg1)) (m ((c : Thread nD τ).loc main_arg2)))
    (E0_gates (launchContents m c)) (E0_mask (launchContents m c)) (E0_mat (launchContents m c)) (E0_hid (launchContents m c)) (E0_cell (launchContents m c)) 64 (Nat.le_refl _)

theorem result_rows (c : Dev nD) : Z m c main_v32 = rowsOf (m ((c : Thread nD τ).loc main_arg0)) (m ((c : Thread nD τ).loc main_arg1)) (m ((c : Thread nD τ).loc main_arg2)) (m ((c : Thread nD τ).loc main_arg3)) := by
  funext y
  obtain ⟨d, s, b, e, rfl⟩ : ∃ (d : Fin 2) (s : Fin 64) (b : Fin 32) (e : Fin 256), y = ix4 d s b e := ⟨y 0, y 1, y 2, y 3, by funext a; fin_cases a <;> rfl⟩
  refine (rows_post (after condOps (T m c 64)) d s b e).trans ?_
  rw [cond_6]
  exact congrFun (congrFun ((end_inv m c).2.2.2 ⟨posn d s.val, posn_lt d s.val s.isLt⟩ d (posn_lt d s.val s.isLt)) b) e

theorem result_hid (c : Dev nD) : Z m c main_v24_4 = hidOf (m ((c : Thread nD τ).loc main_arg0)) (m ((c : Thread nD τ).loc main_arg1)) (m ((c : Thread nD τ).loc main_arg2)) (m ((c : Thread nD τ).loc main_arg3)) := by
  rw [show Z m c main_v24_4 = T m c 64 main_v24_4 from (keepQ _ main_v24_4 (by decide)).trans (cond_4 _)]
  funext y
  obtain ⟨d, b, e, rfl⟩ : ∃ (d : Fin 2) (b : Fin 32) (e : Fin 256), y = ix3 d b e := ⟨y 0, y 1, y 2, by funext a; fin_cases a <;> rfl⟩
  exact congrFun (congrFun ((end_inv m c).2.1 d) b) e

theorem result_cell (c : Dev nD) : Z m c main_v24_5 = cellOf (m ((c : Thread nD τ).loc main_arg0)) (m ((c : Thread nD τ).loc main_arg1)) (m ((c : Thread nD τ).loc main_arg2)) (m ((c : Thread nD τ).loc main_arg3)) := by
  rw [show Z m c main_v24_5 = T m c 64 main_v24_5 from (keepQ _ main_v24_5 (by decide)).trans (cond_5 _)]
  funext y
  obtain ⟨d, b, e, rfl⟩ : ∃ (d : Fin 2) (b : Fin 32) (e : Fin 256), y = ix3 d b e := ⟨y 0, y 1, y 2, by funext a; fin_cases a <;> rfl⟩
  exact congrFun (congrFun ((end_inv m c).2.2.1 d) b) e

end Cert.Reference5Ideal.Enc

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Loops
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Loops
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Loops
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Loops
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Loops
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Loops
public import proofs.«01_k».proof.Proof.Gen.Reference5Ideal
public import proofs.«01_k».proof.Proof.RefValue
public import proofs.«01_k».proof.Proof.DecB.Words
public import proofs.«01_k».proof.Proof.Dec.Words
public import proofs.«01_k».proof.Proof.Dec.Result
public import proofs.«01_k».proof.Proof.Ref2.Loop
public import proofs.«01_k».proof.Proof.Tr.Flip
public import proofs.«01_k».proof.Proof.SrcB.Words
public import proofs.«01_k».proof.Proof.Src.Value
public import proofs.«01_k».proof.Proof.EncB.Frame
public import proofs.«01_k».proof.Proof.Enc.Host
public import proofs.«01_k».proof.Proof.Ref5.Loop
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal := by
  intro m g m' g' _ hagree
  refine ⟨fun c => Proj.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ?_) (Cert.KernelIdeal.Value.run_blocks m g)
    obtain ⟨h1, h2⟩ := h c
    exact ⟨h1.trans (Proj.array m c), h2⟩
  · refine (θ_run _ _ _).mono (fun r h c => ?_) (Cert.ReferenceIdeal.Value.run m' g')
    obtain ⟨h1, h2⟩ := h c
    refine ⟨h1.trans ?_, h2⟩
    rw [(hagree c).1, (hagree c).2.1, (hagree c).2.2]
    exact Proj.ref_eq _ _ _

instance pre_facts : Cert.Pre_target_words.Facts := ⟨by decide⟩

theorem algebraic2 [Cert.Pre_target_words.Facts] : Cert.algebraic_Kernel2Ideal_Reference2Ideal := by
  intro m g m' g' hp hagree
  refine ⟨fun c => Decoder.decodedOf (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)), ?_, ?_⟩
  · refine (θ_run _ _ _).mono (fun r h c => ?_) (Cert.Kernel2Ideal.Dec.outcome m g (Cert.Kernel2Ideal.Dec.wordsOk m hp))
    obtain ⟨h1, h2⟩ := h.1 c
    exact ⟨h1.trans ((Cert.Kernel2Ideal.Dec.array m c).trans (Cert.Kernel2Ideal.Dec.result m c)), h2⟩
  · refine (θ_run _ _ _).mono (fun r h c => ?_) (Cert.Reference2Ideal.Dec.outcome m' g')
    obtain ⟨h1, h2⟩ := h.1 c
    refine ⟨h1.trans ?_, h2⟩
    obtain ⟨e0, e1, e2, e3, e4, e5, e6, e7, e8, e9, e10, e11, e12, e13⟩ := hagree c
    have e := Cert.Reference2Ideal.Dec.result m' c (fun b j => by
      rw [e0]; exact Cert.Kernel2Ideal.Dec.arg_lt m hp c b j)
    rw [e0, e1, e2, e3, e4, e5, e6, e7, e8, e9, e10, e11, e12, e13] at e
    exact e

theorem algebraic4 : Cert.algebraic_Kernel4Ideal_Reference4Ideal := by
  intro m g m' g' _ hagree
  refine ⟨fun c => Flip.flipped (m ((c.tc : Thread Cert.Kernel4Ideal.nD Cert.Kernel4Ideal.τ).loc Cert.Kernel4Ideal.main_arg0)), ?_, ?_⟩
  · refine (θ_run _ _ _).mono (fun r h c => ?_) (Cert.Kernel4Ideal.Value.run_blocks m g)
    obtain ⟨h1, h2⟩ := h c
    exact ⟨h1.trans (Flip.array m c), h2⟩
  · refine (θ_run _ _ _).mono (fun r h c => ?_) (Cert.Reference4Ideal.Value.run m' g')
    obtain ⟨h1, h2⟩ := h c
    refine ⟨h1.trans ?_, h2⟩
    rw [hagree c]
    exact Flip.reference _ _

instance src_facts : Cert.Pre_source_words.Facts := ⟨by decide⟩

theorem algebraic3 [Cert.Pre_source_words.Facts] : Cert.algebraic_Kernel3Ideal_Reference3Ideal := by
  intro m g m' g' hp hagree
  refine ⟨fun c => Source.gatesOf (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)), ?_, ?_⟩
  · refine (θ_run _ _ _).mono (fun r h c => ?_) (Cert.Kernel3Ideal.Src.outcome m g (Cert.Kernel3Ideal.Src.wordsOk m hp))
    obtain ⟨h1, h2⟩ := h.1 c
    exact ⟨h1.trans (Cert.Kernel3Ideal.Src.array m c), h2⟩
  · refine (θ_run _ _ _).mono (fun r h c => ?_) (Cert.Reference3Ideal.Value.run m' g')
    obtain ⟨h1, h2⟩ := h c
    refine ⟨h1.trans ?_, h2⟩
    obtain ⟨e0, e1, e2, e3, e4, e5, e6, e7⟩ := hagree c
    rw [e0, e1, e2, e3, e4, e5, e6, e7]
    exact Source.stacked _ _ _ _ _ _ _ _ (fun b s => Cert.Kernel3Ideal.Src.arg_lt m hp c b s)

theorem algebraic5 : Cert.algebraic_Kernel5Ideal_Reference5Ideal := by
  intro m g m' g' _ hagree
  refine ⟨Cert.Kernel5Ideal.Enc.rowsFn m, Cert.Kernel5Ideal.Enc.hidFn m, Cert.Kernel5Ideal.Enc.cellFn m, ?_, ?_⟩
  · refine (θ_run _ _ _).mono (fun r h c => ?_) (Cert.Kernel5Ideal.Enc.outcome m g)
    obtain ⟨h0, h1, h2, h3⟩ := h.1 c
    exact ⟨h0.trans (Cert.Kernel5Ideal.Enc.array_rows m c), h1.trans (Cert.Kernel5Ideal.Enc.array_hid m c), h2.trans (Cert.Kernel5Ideal.Enc.array_cell m c), h3⟩
  · refine (θ_run _ _ _).mono (fun r h c => ?_) (Cert.Reference5Ideal.Enc.outcome m' g')
    obtain ⟨h0, h1, h2, h3⟩ := h.1 c
    obtain ⟨e0, e1, e2, e3⟩ := hagree c
    have r0 := Cert.Reference5Ideal.Enc.result_rows m' c
    have r1 := Cert.Reference5Ideal.Enc.result_hid m' c
    have r2 := Cert.Reference5Ideal.Enc.result_cell m' c
    rw [e0, e1, e2, e3] at r0 r1 r2
    exact ⟨h0.trans r0, h1.trans r1, h2.trans r2, h3⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel3.Gen.facts, Cert.Kernel3Ideal.Gen.facts, Cert.Reference3Ideal.Gen.facts,
  Cert.Kernel5.Gen.facts, Cert.Kernel5Ideal.Gen.facts, Cert.Reference5Ideal.Gen.facts, pre_facts, src_facts,
  fun m g _ => Cert.Kernel.Gen.frame m g,
  fun m g _ => Cert.KernelIdeal.Gen.frame m g,
  fun m g _ => by
    refine (θ_run _ _ _).mono (fun r h => ⟨fun c => (h c).2, ?_⟩) (Cert.ReferenceIdeal.Value.run m g)
    exact sem_eq_zero_of_no_sems (by decide) r.2,
  fun m g hp => (θ_run _ _ _).mono (fun _ h => ⟨fun c => (h.1 c).2, h.2⟩)
    (Cert.Kernel2.Dec.outcome m g (Cert.Kernel2.Dec.wordsOk m hp)),
  fun m g hp => (θ_run _ _ _).mono (fun _ h => ⟨fun c => (h.1 c).2, h.2⟩)
    (Cert.Kernel2Ideal.Dec.outcome m g (Cert.Kernel2Ideal.Dec.wordsOk m hp)),
  fun m g _ => (θ_run _ _ _).mono (fun _ h => ⟨fun c => (h.1 c).2, h.2⟩) (Cert.Reference2Ideal.Dec.outcome m g),
  fun m g _ => (θ_run _ _ _).mono (fun _ h => ⟨fun c => (h.1 c).2, h.2⟩) (Cert.Reference2Ideal.Dec.outcome m g),
  fun m g _ => Cert.Kernel4.Gen.frame m g,
  fun m g _ => Cert.Kernel4Ideal.Gen.frame m g,
  fun m g _ => by
    refine (θ_run _ _ _).mono (fun r h => ⟨fun c => (h c).2, ?_⟩) (Cert.Reference4Ideal.Value.run m g)
    exact sem_eq_zero_of_no_sems (by decide) r.2,
  fun m g hp => (θ_run _ _ _).mono (fun _ h => ⟨fun c => (h.1 c).2, h.2⟩)
    (Cert.Kernel3.Src.outcome m g (Cert.Kernel3.Src.wordsOk m hp)),
  fun m g hp => (θ_run _ _ _).mono (fun _ h => ⟨fun c => (h.1 c).2, h.2⟩)
    (Cert.Kernel3Ideal.Src.outcome m g (Cert.Kernel3Ideal.Src.wordsOk m hp)),
  fun m g _ => by
    refine (θ_run _ _ _).mono (fun r h => ⟨fun c => (h c).2, ?_⟩) (Cert.Reference3Ideal.Value.run m g)
    exact sem_eq_zero_of_no_sems (by decide) r.2,
  fun m g _ => by
    refine (θ_run _ _ _).mono (fun r h => ⟨fun c => (h c).2, ?_⟩) (Cert.Reference3Ideal.Value.run m g)
    exact sem_eq_zero_of_no_sems (by decide) r.2,
  fun m g _ => (θ_run _ _ _).mono (fun _ h => ⟨fun c => (h.1 c).2.2.2, h.2⟩) (Cert.Kernel5.EncB.outcome m g),
  fun m g _ => (θ_run _ _ _).mono (fun _ h => ⟨fun c => (h.1 c).2.2.2, h.2⟩) (Cert.Kernel5Ideal.Enc.outcome m g),
  fun m g _ => (θ_run _ _ _).mono (fun _ h => ⟨fun c => (h.1 c).2.2.2, h.2⟩) (Cert.Reference5Ideal.Enc.outcome m g),
  trivial,
  algebraic,
  trivial,
  algebraic2,
  trivial,
  algebraic4,
  trivial,
  algebraic3,
  trivial,
  algebraic5⟩

end Cert.Proof

end
